-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Choose (m : (ℓ : Loc Cert.Choose.nD Cert.Choose.τ Cert.Choose.sig) → Buf (Elt Bits) ℓ) : Prop :=
  True

def Pre_ChooseIdeal (m : (ℓ : Loc Cert.ChooseIdeal.nD Cert.ChooseIdeal.τ Cert.ChooseIdeal.sig) → Buf (Elt Ideal) ℓ) : Prop :=
  True

def Pre_ChooseReferenceIdeal (m : (ℓ : Loc Cert.ChooseReferenceIdeal.nD Cert.ChooseReferenceIdeal.τ Cert.ChooseReferenceIdeal.sig) → Buf (Elt Ideal) ℓ) : Prop :=
  True

def Pre_Costs (m : (ℓ : Loc Cert.Costs.nD Cert.Costs.τ Cert.Costs.sig) → Buf (Elt Bits) ℓ) : Prop :=
  True

def Pre_CostsIdeal (m : (ℓ : Loc Cert.CostsIdeal.nD Cert.CostsIdeal.τ Cert.CostsIdeal.sig) → Buf (Elt Ideal) ℓ) : Prop :=
  True

def Pre_CostsReferenceIdeal (m : (ℓ : Loc Cert.CostsReferenceIdeal.nD Cert.CostsReferenceIdeal.τ Cert.CostsReferenceIdeal.sig) → Buf (Elt Ideal) ℓ) : Prop :=
  True

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Choose [hChoose : Cert.Choose.Facts] : Prop :=
  ∀ (m : (ℓ : Loc Cert.Choose.nD Cert.Choose.τ Cert.Choose.sig) → Buf (Elt Bits) ℓ) (g : Dev Cert.Choose.nD → PrngReg), Pre_Choose m →
    θ_run (Cert.Choose.defs (F := Bits)) (Cert.Choose.threads (F := Bits)) ⟨m, fun _ => 0, g⟩ (fun r => (∀ c : Dev Cert.Choose.nD,
      r.2.mem ((c.tc : Thread Cert.Choose.nD Cert.Choose.τ).loc Cert.Choose.main_arg0) = m ((c.tc : Thread Cert.Choose.nD Cert.Choose.τ).loc Cert.Choose.main_arg0))
      ∧ r.2.sem = fun _ => 0)

def quiescent_ChooseIdeal [hChooseIdeal : Cert.ChooseIdeal.Facts] : Prop :=
  ∀ (m : (ℓ : Loc Cert.ChooseIdeal.nD Cert.ChooseIdeal.τ Cert.ChooseIdeal.sig) → Buf (Elt Ideal) ℓ) (g : Dev Cert.ChooseIdeal.nD → PrngReg), Pre_ChooseIdeal m →
    θ_run (Cert.ChooseIdeal.defs (F := Ideal)) (Cert.ChooseIdeal.threads (F := Ideal)) ⟨m, fun _ => 0, g⟩ (fun r => (∀ c : Dev Cert.ChooseIdeal.nD,
      r.2.mem ((c.tc : Thread Cert.ChooseIdeal.nD Cert.ChooseIdeal.τ).loc Cert.ChooseIdeal.main_arg0) = m ((c.tc : Thread Cert.ChooseIdeal.nD Cert.ChooseIdeal.τ).loc Cert.ChooseIdeal.main_arg0))
      ∧ r.2.sem = fun _ => 0)

def quiescent_ChooseReferenceIdeal [hChooseReferenceIdeal : Cert.ChooseReferenceIdeal.Facts] : Prop :=
  ∀ (m : (ℓ : Loc Cert.ChooseReferenceIdeal.nD Cert.ChooseReferenceIdeal.τ Cert.ChooseReferenceIdeal.sig) → Buf (Elt Ideal) ℓ) (g : Dev Cert.ChooseReferenceIdeal.nD → PrngReg), Pre_ChooseReferenceIdeal m →
    θ_run (Cert.ChooseReferenceIdeal.defs (F := Ideal)) (onTc (τ := Cert.ChooseReferenceIdeal.τ) (Cert.ChooseReferenceIdeal.main (F := Ideal))) ⟨m, fun _ => 0, g⟩ (fun r => (∀ c : Dev Cert.ChooseReferenceIdeal.nD,
      r.2.mem ((c.tc : Thread Cert.ChooseReferenceIdeal.nD Cert.ChooseReferenceIdeal.τ).loc Cert.ChooseReferenceIdeal.main_arg0) = m ((c.tc : Thread Cert.ChooseReferenceIdeal.nD Cert.ChooseReferenceIdeal.τ).loc Cert.ChooseReferenceIdeal.main_arg0))
      ∧ r.2.sem = fun _ => 0)

def quiescent_Costs [hCosts : Cert.Costs.Facts] : Prop :=
  ∀ (m : (ℓ : Loc Cert.Costs.nD Cert.Costs.τ Cert.Costs.sig) → Buf (Elt Bits) ℓ) (g : Dev Cert.Costs.nD → PrngReg), Pre_Costs m →
    θ_run (Cert.Costs.defs (F := Bits)) (onTc (τ := Cert.Costs.τ) (Cert.Costs.main (F := Bits))) ⟨m, fun _ => 0, g⟩ (fun r => (∀ c : Dev Cert.Costs.nD,
      r.2.mem ((c.tc : Thread Cert.Costs.nD Cert.Costs.τ).loc Cert.Costs.main_arg0) = m ((c.tc : Thread Cert.Costs.nD Cert.Costs.τ).loc Cert.Costs.main_arg0)
      ∧ r.2.mem ((c.tc : Thread Cert.Costs.nD Cert.Costs.τ).loc Cert.Costs.main_arg1) = m ((c.tc : Thread Cert.Costs.nD Cert.Costs.τ).loc Cert.Costs.main_arg1)
      ∧ r.2.mem ((c.tc : Thread Cert.Costs.nD Cert.Costs.τ).loc Cert.Costs.main_arg2) = m ((c.tc : Thread Cert.Costs.nD Cert.Costs.τ).loc Cert.Costs.main_arg2)
      ∧ r.2.mem ((c.tc : Thread Cert.Costs.nD Cert.Costs.τ).loc Cert.Costs.main_arg3) = m ((c.tc : Thread Cert.Costs.nD Cert.Costs.τ).loc Cert.Costs.main_arg3)
      ∧ r.2.mem ((c.tc : Thread Cert.Costs.nD Cert.Costs.τ).loc Cert.Costs.main_arg4) = m ((c.tc : Thread Cert.Costs.nD Cert.Costs.τ).loc Cert.Costs.main_arg4))
      ∧ r.2.sem = fun _ => 0)

def quiescent_CostsIdeal [hCostsIdeal : Cert.CostsIdeal.Facts] : Prop :=
  ∀ (m : (ℓ : Loc Cert.CostsIdeal.nD Cert.CostsIdeal.τ Cert.CostsIdeal.sig) → Buf (Elt Ideal) ℓ) (g : Dev Cert.CostsIdeal.nD → PrngReg), Pre_CostsIdeal m →
    θ_run (Cert.CostsIdeal.defs (F := Ideal)) (onTc (τ := Cert.CostsIdeal.τ) (Cert.CostsIdeal.main (F := Ideal))) ⟨m, fun _ => 0, g⟩ (fun r => (∀ c : Dev Cert.CostsIdeal.nD,
      r.2.mem ((c.tc : Thread Cert.CostsIdeal.nD Cert.CostsIdeal.τ).loc Cert.CostsIdeal.main_arg0) = m ((c.tc : Thread Cert.CostsIdeal.nD Cert.CostsIdeal.τ).loc Cert.CostsIdeal.main_arg0)
      ∧ r.2.mem ((c.tc : Thread Cert.CostsIdeal.nD Cert.CostsIdeal.τ).loc Cert.CostsIdeal.main_arg1) = m ((c.tc : Thread Cert.CostsIdeal.nD Cert.CostsIdeal.τ).loc Cert.CostsIdeal.main_arg1)
      ∧ r.2.mem ((c.tc : Thread Cert.CostsIdeal.nD Cert.CostsIdeal.τ).loc Cert.CostsIdeal.main_arg2) = m ((c.tc : Thread Cert.CostsIdeal.nD Cert.CostsIdeal.τ).loc Cert.CostsIdeal.main_arg2)
      ∧ r.2.mem ((c.tc : Thread Cert.CostsIdeal.nD Cert.CostsIdeal.τ).loc Cert.CostsIdeal.main_arg3) = m ((c.tc : Thread Cert.CostsIdeal.nD Cert.CostsIdeal.τ).loc Cert.CostsIdeal.main_arg3)
      ∧ r.2.mem ((c.tc : Thread Cert.CostsIdeal.nD Cert.CostsIdeal.τ).loc Cert.CostsIdeal.main_arg4) = m ((c.tc : Thread Cert.CostsIdeal.nD Cert.CostsIdeal.τ).loc Cert.CostsIdeal.main_arg4))
      ∧ r.2.sem = fun _ => 0)

def quiescent_CostsReferenceIdeal [hCostsReferenceIdeal : Cert.CostsReferenceIdeal.Facts] : Prop :=
  ∀ (m : (ℓ : Loc Cert.CostsReferenceIdeal.nD Cert.CostsReferenceIdeal.τ Cert.CostsReferenceIdeal.sig) → Buf (Elt Ideal) ℓ) (g : Dev Cert.CostsReferenceIdeal.nD → PrngReg), Pre_CostsReferenceIdeal m →
    θ_run (Cert.CostsReferenceIdeal.defs (F := Ideal)) (onTc (τ := Cert.CostsReferenceIdeal.τ) (Cert.CostsReferenceIdeal.main (F := Ideal))) ⟨m, fun _ => 0, g⟩ (fun r => (∀ c : Dev Cert.CostsReferenceIdeal.nD,
      r.2.mem ((c.tc : Thread Cert.CostsReferenceIdeal.nD Cert.CostsReferenceIdeal.τ).loc Cert.CostsReferenceIdeal.main_arg0) = m ((c.tc : Thread Cert.CostsReferenceIdeal.nD Cert.CostsReferenceIdeal.τ).loc Cert.CostsReferenceIdeal.main_arg0)
      ∧ r.2.mem ((c.tc : Thread Cert.CostsReferenceIdeal.nD Cert.CostsReferenceIdeal.τ).loc Cert.CostsReferenceIdeal.main_arg1) = m ((c.tc : Thread Cert.CostsReferenceIdeal.nD Cert.CostsReferenceIdeal.τ).loc Cert.CostsReferenceIdeal.main_arg1)
      ∧ r.2.mem ((c.tc : Thread Cert.CostsReferenceIdeal.nD Cert.CostsReferenceIdeal.τ).loc Cert.CostsReferenceIdeal.main_arg2) = m ((c.tc : Thread Cert.CostsReferenceIdeal.nD Cert.CostsReferenceIdeal.τ).loc Cert.CostsReferenceIdeal.main_arg2)
      ∧ r.2.mem ((c.tc : Thread Cert.CostsReferenceIdeal.nD Cert.CostsReferenceIdeal.τ).loc Cert.CostsReferenceIdeal.main_arg3) = m ((c.tc : Thread Cert.CostsReferenceIdeal.nD Cert.CostsReferenceIdeal.τ).loc Cert.CostsReferenceIdeal.main_arg3)
      ∧ r.2.mem ((c.tc : Thread Cert.CostsReferenceIdeal.nD Cert.CostsReferenceIdeal.τ).loc Cert.CostsReferenceIdeal.main_arg4) = m ((c.tc : Thread Cert.CostsReferenceIdeal.nD Cert.CostsReferenceIdeal.τ).loc Cert.CostsReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Choose_ChooseIdeal : Prop :=
  True

def algebraic_ChooseIdeal_ChooseReferenceIdeal [hChooseIdeal : Cert.ChooseIdeal.Facts] [hChooseReferenceIdeal : Cert.ChooseReferenceIdeal.Facts] : Prop :=
  ∀ (m : (ℓ : Loc Cert.ChooseIdeal.nD Cert.ChooseIdeal.τ Cert.ChooseIdeal.sig) → Buf (Elt Ideal) ℓ) (g : Dev Cert.ChooseIdeal.nD → PrngReg)
    (m' : (ℓ : Loc Cert.ChooseReferenceIdeal.nD Cert.ChooseReferenceIdeal.τ Cert.ChooseReferenceIdeal.sig) → Buf (Elt Ideal) ℓ) (g' : Dev Cert.ChooseReferenceIdeal.nD → PrngReg), Pre_ChooseIdeal m →
    (∀ c : Dev Cert.ChooseIdeal.nD,
      m' ((c.tc : Thread Cert.ChooseReferenceIdeal.nD Cert.ChooseReferenceIdeal.τ).loc Cert.ChooseReferenceIdeal.main_arg0) = m ((c.tc : Thread Cert.ChooseIdeal.nD Cert.ChooseIdeal.τ).loc Cert.ChooseIdeal.main_arg0)) →
    ∃ (v0 : (c : Dev Cert.ChooseIdeal.nD) → Buf (Elt Ideal) ((c.tc : Thread Cert.ChooseIdeal.nD Cert.ChooseIdeal.τ).loc Cert.ChooseIdeal.main_v0_0)) (v1 : (c : Dev Cert.ChooseIdeal.nD) → Buf (Elt Ideal) ((c.tc : Thread Cert.ChooseIdeal.nD Cert.ChooseIdeal.τ).loc Cert.ChooseIdeal.main_v0_1)),
      θ_run (Cert.ChooseIdeal.defs (F := Ideal)) (Cert.ChooseIdeal.threads (F := Ideal)) ⟨m, fun _ => 0, g⟩ (fun r => ∀ c : Dev Cert.ChooseIdeal.nD,
          r.2.mem ((c.tc : Thread Cert.ChooseIdeal.nD Cert.ChooseIdeal.τ).loc Cert.ChooseIdeal.main_v0_0) = v0 c
          ∧ r.2.mem ((c.tc : Thread Cert.ChooseIdeal.nD Cert.ChooseIdeal.τ).loc Cert.ChooseIdeal.main_v0_1) = v1 c
          ∧ r.2.mem ((c.tc : Thread Cert.ChooseIdeal.nD Cert.ChooseIdeal.τ).loc Cert.ChooseIdeal.main_arg0) = m ((c.tc : Thread Cert.ChooseIdeal.nD Cert.ChooseIdeal.τ).loc Cert.ChooseIdeal.main_arg0))
      ∧ θ_run (Cert.ChooseReferenceIdeal.defs (F := Ideal)) (onTc (τ := Cert.ChooseReferenceIdeal.τ) (Cert.ChooseReferenceIdeal.main (F := Ideal))) ⟨m', fun _ => 0, g'⟩ (fun r => ∀ c : Dev Cert.ChooseReferenceIdeal.nD,
          r.2.mem ((c.tc : Thread Cert.ChooseReferenceIdeal.nD Cert.ChooseReferenceIdeal.τ).loc Cert.ChooseReferenceIdeal.main_v15) = v0 c
          ∧ r.2.mem ((c.tc : Thread Cert.ChooseReferenceIdeal.nD Cert.ChooseReferenceIdeal.τ).loc Cert.ChooseReferenceIdeal.main_v17) = v1 c
          ∧ r.2.mem ((c.tc : Thread Cert.ChooseReferenceIdeal.nD Cert.ChooseReferenceIdeal.τ).loc Cert.ChooseReferenceIdeal.main_arg0) = m' ((c.tc : Thread Cert.ChooseReferenceIdeal.nD Cert.ChooseReferenceIdeal.τ).loc Cert.ChooseReferenceIdeal.main_arg0))

def preserves_Costs_CostsIdeal : Prop :=
  True

def algebraic_CostsIdeal_CostsReferenceIdeal [hCostsIdeal : Cert.CostsIdeal.Facts] [hCostsReferenceIdeal : Cert.CostsReferenceIdeal.Facts] : Prop :=
  ∀ (m : (ℓ : Loc Cert.CostsIdeal.nD Cert.CostsIdeal.τ Cert.CostsIdeal.sig) → Buf (Elt Ideal) ℓ) (g : Dev Cert.CostsIdeal.nD → PrngReg)
    (m' : (ℓ : Loc Cert.CostsReferenceIdeal.nD Cert.CostsReferenceIdeal.τ Cert.CostsReferenceIdeal.sig) → Buf (Elt Ideal) ℓ) (g' : Dev Cert.CostsReferenceIdeal.nD → PrngReg), Pre_CostsIdeal m →
    (∀ c : Dev Cert.CostsIdeal.nD,
      m' ((c.tc : Thread Cert.CostsReferenceIdeal.nD Cert.CostsReferenceIdeal.τ).loc Cert.CostsReferenceIdeal.main_arg0) = m ((c.tc : Thread Cert.CostsIdeal.nD Cert.CostsIdeal.τ).loc Cert.CostsIdeal.main_arg0)
      ∧ m' ((c.tc : Thread Cert.CostsReferenceIdeal.nD Cert.CostsReferenceIdeal.τ).loc Cert.CostsReferenceIdeal.main_arg1) = m ((c.tc : Thread Cert.CostsIdeal.nD Cert.CostsIdeal.τ).loc Cert.CostsIdeal.main_arg1)
      ∧ m' ((c.tc : Thread Cert.CostsReferenceIdeal.nD Cert.CostsReferenceIdeal.τ).loc Cert.CostsReferenceIdeal.main_arg2) = m ((c.tc : Thread Cert.CostsIdeal.nD Cert.CostsIdeal.τ).loc Cert.CostsIdeal.main_arg2)
      ∧ m' ((c.tc : Thread Cert.CostsReferenceIdeal.nD Cert.CostsReferenceIdeal.τ).loc Cert.CostsReferenceIdeal.main_arg3) = m ((c.tc : Thread Cert.CostsIdeal.nD Cert.CostsIdeal.τ).loc Cert.CostsIdeal.main_arg3)
      ∧ m' ((c.tc : Thread Cert.CostsReferenceIdeal.nD Cert.CostsReferenceIdeal.τ).loc Cert.CostsReferenceIdeal.main_arg4) = m ((c.tc : Thread Cert.CostsIdeal.nD Cert.CostsIdeal.τ).loc Cert.CostsIdeal.main_arg4)) →
    ∃ (v0 : (c : Dev Cert.CostsIdeal.nD) → Buf (Elt Ideal) ((c.tc : Thread Cert.CostsIdeal.nD Cert.CostsIdeal.τ).loc Cert.CostsIdeal.main_v3)),
      θ_run (Cert.CostsIdeal.defs (F := Ideal)) (onTc (τ := Cert.CostsIdeal.τ) (Cert.CostsIdeal.main (F := Ideal))) ⟨m, fun _ => 0, g⟩ (fun r => ∀ c : Dev Cert.CostsIdeal.nD,
          r.2.mem ((c.tc : Thread Cert.CostsIdeal.nD Cert.CostsIdeal.τ).loc Cert.CostsIdeal.main_v3) = v0 c
          ∧ r.2.mem ((c.tc : Thread Cert.CostsIdeal.nD Cert.CostsIdeal.τ).loc Cert.CostsIdeal.main_arg0) = m ((c.tc : Thread Cert.CostsIdeal.nD Cert.CostsIdeal.τ).loc Cert.CostsIdeal.main_arg0)
          ∧ r.2.mem ((c.tc : Thread Cert.CostsIdeal.nD Cert.CostsIdeal.τ).loc Cert.CostsIdeal.main_arg1) = m ((c.tc : Thread Cert.CostsIdeal.nD Cert.CostsIdeal.τ).loc Cert.CostsIdeal.main_arg1)
          ∧ r.2.mem ((c.tc : Thread Cert.CostsIdeal.nD Cert.CostsIdeal.τ).loc Cert.CostsIdeal.main_arg2) = m ((c.tc : Thread Cert.CostsIdeal.nD Cert.CostsIdeal.τ).loc Cert.CostsIdeal.main_arg2)
          ∧ r.2.mem ((c.tc : Thread Cert.CostsIdeal.nD Cert.CostsIdeal.τ).loc Cert.CostsIdeal.main_arg3) = m ((c.tc : Thread Cert.CostsIdeal.nD Cert.CostsIdeal.τ).loc Cert.CostsIdeal.main_arg3)
          ∧ r.2.mem ((c.tc : Thread Cert.CostsIdeal.nD Cert.CostsIdeal.τ).loc Cert.CostsIdeal.main_arg4) = m ((c.tc : Thread Cert.CostsIdeal.nD Cert.CostsIdeal.τ).loc Cert.CostsIdeal.main_arg4))
      ∧ θ_run (Cert.CostsReferenceIdeal.defs (F := Ideal)) (onTc (τ := Cert.CostsReferenceIdeal.τ) (Cert.CostsReferenceIdeal.main (F := Ideal))) ⟨m', fun _ => 0, g'⟩ (fun r => ∀ c : Dev Cert.CostsReferenceIdeal.nD,
          r.2.mem ((c.tc : Thread Cert.CostsReferenceIdeal.nD Cert.CostsReferenceIdeal.τ).loc Cert.CostsReferenceIdeal.main_v153) = v0 c
          ∧ r.2.mem ((c.tc : Thread Cert.CostsReferenceIdeal.nD Cert.CostsReferenceIdeal.τ).loc Cert.CostsReferenceIdeal.main_arg0) = m' ((c.tc : Thread Cert.CostsReferenceIdeal.nD Cert.CostsReferenceIdeal.τ).loc Cert.CostsReferenceIdeal.main_arg0)
          ∧ r.2.mem ((c.tc : Thread Cert.CostsReferenceIdeal.nD Cert.CostsReferenceIdeal.τ).loc Cert.CostsReferenceIdeal.main_arg1) = m' ((c.tc : Thread Cert.CostsReferenceIdeal.nD Cert.CostsReferenceIdeal.τ).loc Cert.CostsReferenceIdeal.main_arg1)
          ∧ r.2.mem ((c.tc : Thread Cert.CostsReferenceIdeal.nD Cert.CostsReferenceIdeal.τ).loc Cert.CostsReferenceIdeal.main_arg2) = m' ((c.tc : Thread Cert.CostsReferenceIdeal.nD Cert.CostsReferenceIdeal.τ).loc Cert.CostsReferenceIdeal.main_arg2)
          ∧ r.2.mem ((c.tc : Thread Cert.CostsReferenceIdeal.nD Cert.CostsReferenceIdeal.τ).loc Cert.CostsReferenceIdeal.main_arg3) = m' ((c.tc : Thread Cert.CostsReferenceIdeal.nD Cert.CostsReferenceIdeal.τ).loc Cert.CostsReferenceIdeal.main_arg3)
          ∧ r.2.mem ((c.tc : Thread Cert.CostsReferenceIdeal.nD Cert.CostsReferenceIdeal.τ).loc Cert.CostsReferenceIdeal.main_arg4) = m' ((c.tc : Thread Cert.CostsReferenceIdeal.nD Cert.CostsReferenceIdeal.τ).loc Cert.CostsReferenceIdeal.main_arg4))

def Claim : Prop :=
  ∃ (hKernel : Cert.Kernel.Facts) (hKernelIdeal : Cert.KernelIdeal.Facts) (hReferenceIdeal : Cert.ReferenceIdeal.Facts) (hChoose : Cert.Choose.Facts) (hChooseIdeal : Cert.ChooseIdeal.Facts) (hChooseReferenceIdeal : Cert.ChooseReferenceIdeal.Facts) (hCosts : Cert.Costs.Facts) (hCostsIdeal : Cert.CostsIdeal.Facts) (hCostsReferenceIdeal : Cert.CostsReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ quiescent_Choose (hChoose := hChoose)
    ∧ quiescent_ChooseIdeal (hChooseIdeal := hChooseIdeal)
    ∧ quiescent_ChooseReferenceIdeal (hChooseReferenceIdeal := hChooseReferenceIdeal)
    ∧ quiescent_Costs (hCosts := hCosts)
    ∧ quiescent_CostsIdeal (hCostsIdeal := hCostsIdeal)
    ∧ quiescent_CostsReferenceIdeal (hCostsReferenceIdeal := hCostsReferenceIdeal)
    ∧ preserves_Kernel_KernelIdeal
    ∧ algebraic_KernelIdeal_ReferenceIdeal (hKernelIdeal := hKernelIdeal) (hReferenceIdeal := hReferenceIdeal) (hPre_labels_in_range := hPre_labels_in_range)
    ∧ preserves_Choose_ChooseIdeal
    ∧ algebraic_ChooseIdeal_ChooseReferenceIdeal (hChooseIdeal := hChooseIdeal) (hChooseReferenceIdeal := hChooseReferenceIdeal)
    ∧ preserves_Costs_CostsIdeal
    ∧ algebraic_CostsIdeal_CostsReferenceIdeal (hCostsIdeal := hCostsIdeal) (hCostsReferenceIdeal := hCostsReferenceIdeal)
-- ==== Pre_labels_in_range.lean ====
abbrev S64x16 : Shape := ⟨2, ![64, 16]⟩
abbrev S8400x4 : Shape := ⟨2, ![8400, 4]⟩
abbrev S64 : Shape := ⟨1, ![64]⟩
abbrev S64x4 : Shape := ⟨2, ![64, 4]⟩
abbrev S_ : Shape := ⟨0, ![]⟩

class Facts : Prop where
  bcast_S_S64 : S_.BroadcastsInDim S64 (![] : Fin 0 → Fin S64.rank)

variable [Facts]

def fn {F : FTy → Type} [FloatOps F] (main_arg0 : IVec S64x16 32) (main_arg1 : IVec S64x16 32) (main_arg2 : FVec F S8400x4 .f32) (main_arg3 : IVec S64 32) (main_arg4 : FVec F S64x4 .f32) : IVec S64 1 :=
  let main_c : IVec S_ 32 := constantI S_ 32 0#32
  let main_v0 : IVec S64 32 := broadcastInDim S64 ![] bcast_S_S64 main_c
  let main_v1 : IVec S64 1 := cmpi .sge main_arg3 main_v0
  let main_c_0 : IVec S_ 32 := constantI S_ 32 80#32
  let main_v2 : IVec S64 32 := broadcastInDim S64 ![] bcast_S_S64 main_c_0
  let main_v3 : IVec S64 1 := cmpi .slt main_arg3 main_v2
  let main_v4 : IVec S64 1 := andi main_v1 main_v3
  main_v4
-- ==== Kernel.lean ====
abbrev S64x16 : Shape := ⟨2, ![64, 16]⟩
abbrev S8400x4 : Shape := ⟨2, ![8400, 4]⟩
abbrev S64 : Shape := ⟨1, ![64]⟩
abbrev S64x4 : Shape := ⟨2, ![64, 4]⟩
abbrev S4x8400 : Shape := ⟨2, ![4, 8400]⟩
abbrev S_ : Shape := ⟨0, ![]⟩
abbrev S4x8704 : Shape := ⟨2, ![4, 8704]⟩
abbrev S4x32x272 : Shape := ⟨3, ![4, 32, 272]⟩
abbrev S32x4x272 : Shape := ⟨3, ![32, 4, 272]⟩
abbrev S4x64 : Shape := ⟨2, ![4, 64]⟩
abbrev S8704 : Shape := ⟨1, ![8704]⟩
abbrev S8704x4 : Shape := ⟨2, ![8704, 4]⟩
abbrev S8704x96 : Shape := ⟨2, ![8704, 96]⟩
abbrev S4x272 : Shape := ⟨2, ![4, 272]⟩
abbrev S272 : Shape := ⟨1, ![272]⟩
abbrev S272x4 : Shape := ⟨2, ![272, 4]⟩
abbrev S272x96 : Shape := ⟨2, ![272, 96]⟩
abbrev S16 : Shape := ⟨1, ![16]⟩
abbrev S1x4x272 : Shape := ⟨3, ![1, 4, 272]⟩
abbrev S1x16 : Shape := ⟨2, ![1, 16]⟩
abbrev S1 : Shape := ⟨1, ![1]⟩
abbrev S8400 : Shape := ⟨1, ![8400]⟩
abbrev S8400x81 : Shape := ⟨2, ![8400, 81]⟩

abbrev nBuf : Table → Nat
  | .hbm => 18
  | .local .scVector .vmem => 9
  | _ => 0

abbrev bufTy : (tb : Table) → Fin (nBuf tb) → BufTy
  | .hbm, ⟨0, _⟩ => ⟨S64x16, .i32⟩
  | .hbm, ⟨1, _⟩ => ⟨S64x16, .i32⟩
  | .hbm, ⟨2, _⟩ => ⟨S8400x4, .f32⟩
  | .hbm, ⟨3, _⟩ => ⟨S64, .i32⟩
  | .hbm, ⟨4, _⟩ => ⟨S64x4, .f32⟩
  | .hbm, ⟨5, _⟩ => ⟨S4x8400, .f32⟩
  | .hbm, ⟨6, _⟩ => ⟨S_, .i32⟩
  | .hbm, ⟨7, _⟩ => ⟨S_, .f32⟩
  | .hbm, ⟨8, _⟩ => ⟨S4x8704, .f32⟩
  | .hbm, ⟨9, _⟩ => ⟨S4x32x272, .f32⟩
  | .hbm, ⟨10, _⟩ => ⟨S32x4x272, .f32⟩
  | .hbm, ⟨11, _⟩ => ⟨S4x64, .f32⟩
  | .hbm, ⟨12, _⟩ => ⟨S8704, .i32⟩
  | .hbm, ⟨13, _⟩ => ⟨S8704x4, .f32⟩
  | .hbm, ⟨14, _⟩ => ⟨S8704x96, .f32⟩
  | .hbm, ⟨15, _⟩ => ⟨S8400, .i32⟩
  | .hbm, ⟨16, _⟩ => ⟨S8400x4, .f32⟩
  | .hbm, ⟨17, _⟩ => ⟨S8400x81, .f32⟩
  | .local .scVector .vmem, ⟨0, _⟩ => ⟨S64x16, .i32⟩
  | .local .scVector .vmem, ⟨1, _⟩ => ⟨S64x16, .i32⟩
  | .local .scVector .vmem, ⟨2, _⟩ => ⟨S64, .i32⟩
  | .local .scVector .vmem, ⟨3, _⟩ => ⟨S4x64, .f32⟩
  | .local .scVector .vmem, ⟨4, _⟩ => ⟨S4x272, .f32⟩
  | .local .scVector .vmem, ⟨5, _⟩ => ⟨S272, .i32⟩
  | .local .scVector .vmem, ⟨6, _⟩ => ⟨S272, .i32⟩
  | .local .scVector .vmem, ⟨7, _⟩ => ⟨S272x4, .f32⟩
  | .local .scVector .vmem, ⟨8, _⟩ => ⟨S272x96, .f32⟩
  | _, _ => ⟨S64x16, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_arg0_scv : Ref sig .scVector := ⟨.hbm, 0, rfl⟩
abbrev main_arg1_scv : Ref sig .scVector := ⟨.hbm, 1, rfl⟩
abbrev main_v3_scv : Ref sig .scVector := ⟨.hbm, 10, rfl⟩
abbrev main_arg3_scv : Ref sig .scVector := ⟨.hbm, 3, rfl⟩
abbrev main_v4_scv : Ref sig .scVector := ⟨.hbm, 11, rfl⟩
abbrev main_v5_0_scv : Ref sig .scVector := ⟨.hbm, 12, rfl⟩
abbrev main_v5_1_scv : Ref sig .scVector := ⟨.hbm, 13, rfl⟩
abbrev main_v5_2_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28_r4 : BitVec 32 := 0#32
  let c0_i32_29_r4 : BitVec 32 := 0#32
  ![v1.toNat, 0, 0]
@[reducible] def k0_t1_loop : Scf.Loop 32 :=
  let c0_i32_1 : BitVec 32 := 0#32
  let c272_i32_2 : BitVec 32 := 272#32
  let v5 : BitVec 32 := Scalar.addi c0_i32_1 c272_i32_2
  let c1_i32 : BitVec 32 := 1#32
  ⟨c0_i32_1, v5, c1_i32⟩
def k0_off2 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let v46 : Index := Scalar.indexCast arg19
  let c0_28 : Index := 0#32
  ![v46.toNat, 0]
def k0_off3 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let v49 : Index := Scalar.indexCast arg19
  let c16_30 : Index := 16#32
  ![v49.toNat, 16]
def k0_off4 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let v52 : Index := Scalar.indexCast arg19
  let c32_32 : Index := 32#32
  ![v52.toNat, 32]
def k0_off5 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let v55 : Index := Scalar.indexCast arg19
  let c48_34 : Index := 48#32
  ![v55.toNat, 48]
def k0_off6 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let v58 : Index := Scalar.indexCast arg19
  let c64_36 : Index := 64#32
  ![v58.toNat, 64]
def k0_off7 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let v61 : Index := Scalar.indexCast arg19
  let c80_38 : Index := 80#32
  ![v61.toNat, 80]
@[reducible] def k0_t2_loop : Scf.Loop 32 :=
  let c0_i32_21 : BitVec 32 := 0#32
  let c64_i32 : BitVec 32 := 64#32
  let v41 : BitVec 32 := Scalar.addi c0_i32_21 c64_i32
  let c1_i32_22 : BitVec 32 := 1#32
  ⟨c0_i32_21, v41, c1_i32_22⟩
def k0_off8 (k0_t2 : Fin k0_t2_loop.trips) : Fin 2 → Nat :=
  let c0_i32_21 : BitVec 32 := 0#32
  let c1_i32_22 : BitVec 32 := 1#32
  let arg19 : BitVec 32 := Scf.iv c0_i32_21 c1_i32_22 k0_t2
  let v45 : Index := Scalar.indexCast arg19
  let c0_28 : Index := 0#32
  ![v45.toNat, 0]

def k0_chk1 (v64 : IVec S16 32) : Prop :=
  (∀ a x, ((![v64] : Fin 1 → IVec S16 32) a x).toNat < S272.size a)
theorem k0_idx1_inb : ∀ (v64 : IVec S16 32) (k0_hw1 : k0_chk1 v64), ∀ a x, ((![v64] : Fin 1 → IVec S16 32) a x).toNat < S272.size a := fun v64 k0_hw1 => k0_hw1
@[reducible] def k0_t3_loop : Scf.Loop 32 :=
  let c0_i32_25 : BitVec 32 := 0#32
  let c17_i32 : BitVec 32 := 17#32
  let v43 : BitVec 32 := Scalar.addi c0_i32_25 c17_i32
  let c1_i32_26 : BitVec 32 := 1#32
  ⟨c0_i32_25, v43, c1_i32_26⟩
def k0_off9 (k0_t3 : Fin k0_t3_loop.trips) : Fin 1 → Nat :=
  let c0_i32_25 : BitVec 32 := 0#32
  let c1_i32_26 : BitVec 32 := 1#32
  let arg19 : BitVec 32 := Scf.iv c0_i32_25 c1_i32_26 k0_t3
  let c16_i32_28 : BitVec 32 := 16#32
  let v48 : BitVec 32 := Scalar.muli arg19 c16_i32_28
  let v49 : Index := Scalar.indexCast v48
  ![v49.toNat]
def k0_off10 (k0_t3 : Fin k0_t3_loop.trips) : Fin 1 → Nat :=
  let c0_i32_25 : BitVec 32 := 0#32
  let c1_i32_26 : BitVec 32 := 1#32
  let arg19 : BitVec 32 := Scf.iv c0_i32_25 c1_i32_26 k0_t3
  let c16_i32_31 : BitVec 32 := 16#32
  let v58 : BitVec 32 := Scalar.muli arg19 c16_i32_31
  let v59 : Index := Scalar.indexCast v58
  ![v59.toNat]
def k0_off11 (k0_t3 : Fin k0_t3_loop.trips) : Fin 2 → Nat :=
  let c0_i32_33 : BitVec 32 := 0#32
  let v62 : Index := Scalar.indexCast c0_i32_33
  let c0_i32_25 : BitVec 32 := 0#32
  let c1_i32_26 : BitVec 32 := 1#32
  let arg19 : BitVec 32 := Scf.iv c0_i32_25 c1_i32_26 k0_t3
  let c16_i32_32 : BitVec 32 := 16#32
  let v61 : BitVec 32 := Scalar.muli arg19 c16_i32_32
  let v63 : Index := Scalar.indexCast v61
  ![0, v63.toNat]
def k0_off12 (k0_t3 : Fin k0_t3_loop.trips) : Fin 2 → Nat :=
  let c1_i32_35 : BitVec 32 := 1#32
  let v66 : Index := Scalar.indexCast c1_i32_35
  let c0_i32_25 : BitVec 32 := 0#32
  let c1_i32_26 : BitVec 32 := 1#32
  let arg19 : BitVec 32 := Scf.iv c0_i32_25 c1_i32_26 k0_t3
  let c16_i32_34 : BitVec 32 := 16#32
  let v65 : BitVec 32 := Scalar.muli arg19 c16_i32_34
  let v67 : Index := Scalar.indexCast v65
  ![1, v67.toNat]
def k0_off13 (k0_t3 : Fin k0_t3_loop.trips) : Fin 2 → Nat :=
  let c2_i32_37 : BitVec 32 := 2#32
  let v70 : Index := Scalar.indexCast c2_i32_37
  let c0_i32_25 : BitVec 32 := 0#32
  let c1_i32_26 : BitVec 32 := 1#32
  let arg19 : BitVec 32 := Scf.iv c0_i32_25 c1_i32_26 k0_t3
  let c16_i32_36 : BitVec 32 := 16#32
  let v69 : BitVec 32 := Scalar.muli arg19 c16_i32_36
  let v71 : Index := Scalar.indexCast v69
  ![2, v71.toNat]
def k0_off14 (k0_t3 : Fin k0_t3_loop.trips) : Fin 2 → Nat :=
  let c3_i32 : BitVec 32 := 3#32
  let v74 : Index := Scalar.indexCast c3_i32
  let c0_i32_25 : BitVec 32 := 0#32
  let c1_i32_26 : BitVec 32 := 1#32
  let arg19 : BitVec 32 := Scf.iv c0_i32_25 c1_i32_26 k0_t3
  let c16_i32_38 : BitVec 32 := 16#32
  let v73 : BitVec 32 := Scalar.muli arg19 c16_i32_38
  let v75 : Index := Scalar.indexCast v73
  ![3, v75.toNat]

def k0_chk2 (v4 : IVec S16 32) (v54 : IVec S16 32) : Prop :=
  (∀ a x, ((![v54] : Fin 1 → IVec S16 32) a x).toNat < S64.size a) ∧
  (∀ a x, ((![v4, v54] : Fin 2 → IVec S16 32) a x).toNat < S4x64.size a)
theorem k0_idx2_inb : ∀ (v4 : IVec S16 32) (v54 : IVec S16 32) (k0_hw2 : k0_chk2 v4 v54), ∀ a x, ((![v54] : Fin 1 → IVec S16 32) a x).toNat < S64.size a := fun v4 v54 k0_hw2 => k0_hw2.1
theorem k0_idx3_inb : ∀ (v4 : IVec S16 32) (v54 : IVec S16 32) (k0_hw2 : k0_chk2 v4 v54), ∀ a x, ((![v4, v54] : Fin 2 → IVec S16 32) a x).toNat < S4x64.size a := fun v4 v54 k0_hw2 => k0_hw2.2

def k0_chk3 (v54 : IVec S16 32) (v79 : IVec S16 32) : Prop :=
  (∀ a x, ((![v79, v54] : Fin 2 → IVec S16 32) a x).toNat < S4x64.size a)
theorem k0_idx4_inb : ∀ (v54 : IVec S16 32) (v79 : IVec S16 32) (k0_hw3 : k0_chk3 v54 v79), ∀ a x, ((![v79, v54] : Fin 2 → IVec S16 32) a x).toNat < S4x64.size a := fun v54 v79 k0_hw3 => k0_hw3

def k0_chk4 (v54 : IVec S16 32) (v82 : IVec S16 32) : Prop :=
  (∀ a x, ((![v82, v54] : Fin 2 → IVec S16 32) a x).toNat < S4x64.size a)
theorem k0_idx5_inb : ∀ (v54 : IVec S16 32) (v82 : IVec S16 32) (k0_hw4 : k0_chk4 v54 v82), ∀ a x, ((![v82, v54] : Fin 2 → IVec S16 32) a x).toNat < S4x64.size a := fun v54 v82 k0_hw4 => k0_hw4

def k0_chk5 (v54 : IVec S16 32) (v85 : IVec S16 32) : Prop :=
  (∀ a x, ((![v85, v54] : Fin 2 → IVec S16 32) a x).toNat < S4x64.size a)
theorem k0_idx6_inb : ∀ (v54 : IVec S16 32) (v85 : IVec S16 32) (k0_hw5 : k0_chk5 v54 v85), ∀ a x, ((![v85, v54] : Fin 2 → IVec S16 32) a x).toNat < S4x64.size a := fun v54 v85 k0_hw5 => k0_hw5

def k0_chk6 (v4 : IVec S16 32) (v47 : IVec S16 32) : Prop :=
  (∀ a x, ((![v47, v4] : Fin 2 → IVec S16 32) a x).toNat < S272x4.size a)
theorem k0_idx7_inb : ∀ (v4 : IVec S16 32) (v47 : IVec S16 32) (k0_hw6 : k0_chk6 v4 v47), ∀ a x, ((![v47, v4] : Fin 2 → IVec S16 32) a x).toNat < S272x4.size a := fun v4 v47 k0_hw6 => k0_hw6

def k0_chk7 (v47 : IVec S16 32) (v117 : IVec S16 32) : Prop :=
  (∀ a x, ((![v47, v117] : Fin 2 → IVec S16 32) a x).toNat < S272x4.size a)
theorem k0_idx8_inb : ∀ (v47 : IVec S16 32) (v117 : IVec S16 32) (k0_hw7 : k0_chk7 v47 v117), ∀ a x, ((![v47, v117] : Fin 2 → IVec S16 32) a x).toNat < S272x4.size a := fun v47 v117 k0_hw7 => k0_hw7

def k0_chk8 (v47 : IVec S16 32) (v120 : IVec S16 32) : Prop :=
  (∀ a x, ((![v47, v120] : Fin 2 → IVec S16 32) a x).toNat < S272x4.size a)
theorem k0_idx9_inb : ∀ (v47 : IVec S16 32) (v120 : IVec S16 32) (k0_hw8 : k0_chk8 v47 v120), ∀ a x, ((![v47, v120] : Fin 2 → IVec S16 32) a x).toNat < S272x4.size a := fun v47 v120 k0_hw8 => k0_hw8

def k0_chk9 (v47 : IVec S16 32) (v123 : IVec S16 32) : Prop :=
  (∀ a x, ((![v47, v123] : Fin 2 → IVec S16 32) a x).toNat < S272x4.size a)
theorem k0_idx10_inb : ∀ (v47 : IVec S16 32) (v123 : IVec S16 32) (k0_hw9 : k0_chk9 v47 v123), ∀ a x, ((![v47, v123] : Fin 2 → IVec S16 32) a x).toNat < S272x4.size a := fun v47 v123 k0_hw9 => k0_hw9

def k0_chk10 (v47 : IVec S16 32) (v57 : IVec S16 32) : Prop :=
  (∀ a x, ((![v47, v57] : Fin 2 → IVec S16 32) a x).toNat < S272x96.size a)
theorem k0_idx11_inb : ∀ (v47 : IVec S16 32) (v57 : IVec S16 32) (k0_hw10 : k0_chk10 v47 v57), ∀ a x, ((![v47, v57] : Fin 2 → IVec S16 32) a x).toNat < S272x96.size a := fun v47 v57 k0_hw10 => k0_hw10
def k0_off15 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c272_i32 : BitVec 32 := 272#32
  let v2 : BitVec 32 := Scalar.muli v1 c272_i32
  ![v2.toNat]
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c272_i32 : BitVec 32 := 272#32
  let v2 : BitVec 32 := Scalar.muli v1 c272_i32
  let c0_i32_28_r6 : BitVec 32 := 0#32
  ![v2.toNat, 0]
def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c272_i32 : BitVec 32 := 272#32
  let v2 : BitVec 32 := Scalar.muli v1 c272_i32
  let c0_i32_28_r7 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x16 : Shape := ⟨2, ![64, 16]⟩
abbrev S8400x4 : Shape := ⟨2, ![8400, 4]⟩
abbrev S64 : Shape := ⟨1, ![64]⟩
abbrev S64x4 : Shape := ⟨2, ![64, 4]⟩
abbrev S1x8400x4 : Shape := ⟨3, ![1, 8400, 4]⟩
abbrev S64x1x4 : Shape := ⟨3, ![64, 1, 4]⟩
abbrev S1x8400x2 : Shape := ⟨3, ![1, 8400, 2]⟩
abbrev S64x1x2 : Shape := ⟨3, ![64, 1, 2]⟩
abbrev S64x8400x2 : Shape := ⟨3, ![64, 8400, 2]⟩
abbrev S_ : Shape := ⟨0, ![]⟩
abbrev S64x8400x1 : Shape := ⟨3, ![64, 8400, 1]⟩
abbrev S64x8400 : Shape := ⟨2, ![64, 8400]⟩
abbrev S1x8400x1 : Shape := ⟨3, ![1, 8400, 1]⟩
abbrev S1x8400 : Shape := ⟨2, ![1, 8400]⟩
abbrev S64x1x1 : Shape := ⟨3, ![64, 1, 1]⟩
abbrev S64x1 : Shape := ⟨2, ![64, 1]⟩
abbrev S16 : Shape := ⟨1, ![16]⟩
abbrev S1x16 : Shape := ⟨2, ![1, 16]⟩
abbrev S64x16x1 : Shape := ⟨3, ![64, 16, 1]⟩
abbrev S8400 : Shape := ⟨1, ![8400]⟩
abbrev S1x1x8400 : Shape := ⟨3, ![1, 1, 8400]⟩
abbrev S64x16x8400 : Shape := ⟨3, ![64, 16, 8400]⟩
abbrev S8400x1 : Shape := ⟨2, ![8400, 1]⟩
abbrev S8400x2 : Shape := ⟨2, ![8400, 2]⟩
abbrev S81 : Shape := ⟨1, ![81]⟩
abbrev S1x81 : Shape := ⟨2, ![1, 81]⟩
abbrev S8400x81 : Shape := ⟨2, ![8400, 81]⟩

abbrev nBuf : Space → Nat
  | .hbm => 151
  | .vmem => 0
  | .smem => 0
  | _ => 0

abbrev hbmTy0_0 (i : Nat) : BufTy := match i % 128 with
  | 0 => ⟨S64x16, .i32⟩
  | 1 => ⟨S64x16, .i32⟩
  | 2 => ⟨S8400x4, .f32⟩
  | 3 => ⟨S64, .i32⟩
  | 4 => ⟨S64x4, .f32⟩
  | 5 => ⟨S1x8400x4, .f32⟩
  | 6 => ⟨S64x1x4, .f32⟩
  | 7 => ⟨S1x8400x2, .f32⟩
  | 8 => ⟨S64x1x2, .f32⟩
  | 9 => ⟨S64x8400x2, .f32⟩
  | 10 => ⟨S64x8400x2, .f32⟩
  | 11 => ⟨S64x8400x2, .f32⟩
  | 12 => ⟨S1x8400x2, .f32⟩
  | 13 => ⟨S64x1x2, .f32⟩
  | 14 => ⟨S64x8400x2, .f32⟩
  | 15 => ⟨S64x8400x2, .f32⟩
  | 16 => ⟨S64x8400x2, .f32⟩
  | 17 => ⟨S64x8400x2, .f32⟩
  | 18 => ⟨S_, .f32⟩
  | 19 => ⟨S64x8400x2, .f32⟩
  | 20 => ⟨S64x8400x2, .f32⟩
  | 21 => ⟨S64x8400x1, .f32⟩
  | 22 => ⟨S64x8400, .f32⟩
  | 23 => ⟨S64x8400x1, .f32⟩
  | 24 => ⟨S64x8400, .f32⟩
  | 25 => ⟨S64x8400, .f32⟩
  | 26 => ⟨S1x8400x1, .f32⟩
  | 27 => ⟨S1x8400, .f32⟩
  | 28 => ⟨S1x8400x1, .f32⟩
  | 29 => ⟨S1x8400, .f32⟩
  | 30 => ⟨S1x8400, .f32⟩
  | 31 => ⟨S1x8400x1, .f32⟩
  | 32 => ⟨S1x8400, .f32⟩
  | 33 => ⟨S1x8400x1, .f32⟩
  | 34 => ⟨S1x8400, .f32⟩
  | 35 => ⟨S1x8400, .f32⟩
  | 36 => ⟨S1x8400, .f32⟩
  | 37 => ⟨S64x1x1, .f32⟩
  | 38 => ⟨S64x1, .f32⟩
  | 39 => ⟨S64x1x1, .f32⟩
  | 40 => ⟨S64x1, .f32⟩
  | 41 => ⟨S64x1, .f32⟩
  | 42 => ⟨S64x1x1, .f32⟩
  | 43 => ⟨S64x1, .f32⟩
  | 44 => ⟨S64x1x1, .f32⟩
  | 45 => ⟨S64x1, .f32⟩
  | 46 => ⟨S64x1, .f32⟩
  | 47 => ⟨S64x1, .f32⟩
  | 48 => ⟨S64x8400, .f32⟩
  | 49 => ⟨S64x8400, .f32⟩
  | 50 => ⟨S64x8400, .f32⟩
  | 51 => ⟨S64x8400, .f32⟩
  | 52 => ⟨S_, .f32⟩
  | 53 => ⟨S64x8400, .f32⟩
  | 54 => ⟨S64x8400, .f32⟩
  | 55 => ⟨S64x8400, .f32⟩
  | 56 => ⟨S16, .i32⟩
  | 57 => ⟨S1x16, .i32⟩
  | 58 => ⟨S64x1, .i32⟩
  | 59 => ⟨S64x16, .i32⟩
  | 60 => ⟨S64x16, .i32⟩
  | 61 => ⟨S64x16, .i1⟩
  | 62 => ⟨S64x16x1, .i1⟩
  | 63 => ⟨S64x16x1, .i32⟩
  | 64 => ⟨S8400, .i32⟩
  | 65 => ⟨S1x1x8400, .i32⟩
  | 66 => ⟨S64x16x8400, .i32⟩
  | 67 => ⟨S64x16x8400, .i32⟩
  | 68 => ⟨S64x16x8400, .i1⟩
  | 69 => ⟨S64x16x8400, .i1⟩
  | 70 => ⟨S64x16x8400, .i1⟩
  | 71 => ⟨S_, .i1⟩
  | 72 => ⟨S64x8400, .i1⟩
  | 73 => ⟨S64, .i32⟩
  | 74 => ⟨S64x1, .i32⟩
  | 75 => ⟨S_, .i32⟩
  | 76 => ⟨S_, .i32⟩
  | 77 => ⟨S64x8400, .i32⟩
  | 78 => ⟨S64x8400, .i32⟩
  | 79 => ⟨S64x8400, .i32⟩
  | 80 => ⟨S_, .i32⟩
  | 81 => ⟨S8400, .i32⟩
  | 82 => ⟨S_, .i32⟩
  | 83 => ⟨S8400, .i32⟩
  | 84 => ⟨S8400, .i1⟩
  | 85 => ⟨S_, .i32⟩
  | 86 => ⟨S8400, .i32⟩
  | 87 => ⟨S8400, .i32⟩
  | 88 => ⟨S_, .i32⟩
  | 89 => ⟨S8400, .i32⟩
  | 90 => ⟨S8400, .i1⟩
  | 91 => ⟨S_, .i32⟩
  | 92 => ⟨S8400, .i32⟩
  | 93 => ⟨S8400, .i32⟩
  | 94 => ⟨S8400, .i32⟩
  | 95 => ⟨S8400x1, .i32⟩
  | 96 => ⟨S8400, .i32⟩
  | 97 => ⟨S_, .i32⟩
  | 98 => ⟨S_, .i32⟩
  | 99 => ⟨S8400, .i32⟩
  | 100 => ⟨S8400, .i32⟩
  | 101 => ⟨S8400x1, .i1⟩
  | 102 => ⟨S_, .i32⟩
  | 103 => ⟨S8400, .i32⟩
  | 104 => ⟨S8400, .i1⟩
  | 105 => ⟨S_, .i32⟩
  | 106 => ⟨S8400, .i32⟩
  | 107 => ⟨S8400, .i32⟩
  | 108 => ⟨S8400, .i32⟩
  | 109 => ⟨S8400x1, .i32⟩
  | 110 => ⟨S8400x4, .f32⟩
  | 111 => ⟨S_, .f32⟩
  | 112 => ⟨S_, .f32⟩
  | 113 => ⟨S8400x4, .i1⟩
  | 114 => ⟨S8400x4, .f32⟩
  | 115 => ⟨S8400x4, .f32⟩
  | 116 => ⟨S8400, .i32⟩
  | 117 => ⟨S_, .i32⟩
  | 118 => ⟨S8400, .i32⟩
  | 119 => ⟨S8400, .i1⟩
  | 120 => ⟨S_, .i32⟩
  | 121 => ⟨S8400, .i32⟩
  | 122 => ⟨S8400, .i32⟩
  | 123 => ⟨S8400, .i32⟩
  | 124 => ⟨S_, .i32⟩
  | 125 => ⟨S8400, .i32⟩
  | 126 => ⟨S8400, .i1⟩
  | 127 => ⟨S_, .i32⟩
  | _ => ⟨S64x16, .i32⟩

abbrev hbmTy0_1 (i : Nat) : BufTy := match i % 128 with
  | 0 => ⟨S8400, .i32⟩
  | 1 => ⟨S8400, .i32⟩
  | 2 => ⟨S8400, .i32⟩
  | 3 => ⟨S8400x1, .i32⟩
  | 4 => ⟨S8400x1, .i32⟩
  | 5 => ⟨S8400x2, .i32⟩
  | 6 => ⟨S8400, .f32⟩
  | 7 => ⟨S8400x1, .i32⟩
  | 8 => ⟨S81, .i32⟩
  | 9 => ⟨S1x81, .i32⟩
  | 10 => ⟨S8400x81, .i32⟩
  | 11 => ⟨S8400x81, .i32⟩
  | 12 => ⟨S8400x81, .i1⟩
  | 13 => ⟨S_, .f32⟩
  | 14 => ⟨S_, .f32⟩
  | 15 => ⟨S8400, .f32⟩
  | 16 => ⟨S8400, .f32⟩
  | 17 => ⟨S8400x1, .f32⟩
  | 18 => ⟨S_, .f32⟩
  | 19 => ⟨S_, .f32⟩
  | 20 => ⟨S8400x81, .f32⟩
  | 21 => ⟨S8400x81, .f32⟩
  | 22 => ⟨S8400x81, .f32⟩
  | _ => ⟨S64x16, .i32⟩

abbrev hbmTy (i : Nat) : BufTy := match i / 128 with
  | 0 => hbmTy0_0 i
  | 1 => hbmTy0_1 i
  | _ => ⟨S64x16, .i32⟩

abbrev bufTy : (tb : Table) → Fin (tcTables nBuf tb) → BufTy
  | .hbm, ⟨i, _⟩ => hbmTy i
  | _, _ => ⟨S64x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_0 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_c : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_c_1 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v67 : Ref sig .tc := ⟨.hbm, 79, rfl⟩
abbrev main_c_2 : Ref sig .tc := ⟨.hbm, 80, rfl⟩
abbrev main_v68 : Ref sig .tc := ⟨.hbm, 81, rfl⟩
abbrev main_c_3 : Ref sig .tc := ⟨.hbm, 82, rfl⟩
abbrev main_v69 : Ref sig .tc := ⟨.hbm, 83, rfl⟩
abbrev main_v70 : Ref sig .tc := ⟨.hbm, 84, rfl⟩
abbrev main_c_4 : Ref sig .tc := ⟨.hbm, 85, rfl⟩
abbrev main_v71 : Ref sig .tc := ⟨.hbm, 86, rfl⟩
abbrev main_v72 : Ref sig .tc := ⟨.hbm, 87, rfl⟩
abbrev main_c_5 : Ref sig .tc := ⟨.hbm, 88, rfl⟩
abbrev main_v73 : Ref sig .tc := ⟨.hbm, 89, rfl⟩
abbrev main_v74 : Ref sig .tc := ⟨.hbm, 90, rfl⟩
abbrev main_c_6 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_c_7 : Ref sig .tc := ⟨.hbm, 97, rfl⟩
abbrev main_call1_v0 : Ref sig .tc := ⟨.hbm, 98, rfl⟩
abbrev main_call1_v1 : Ref sig .tc := ⟨.hbm, 99, rfl⟩
abbrev main_v80 : Ref sig .tc := ⟨.hbm, 100, rfl⟩
abbrev main_v81 : Ref sig .tc := ⟨.hbm, 101, rfl⟩
abbrev main_c_8 : Ref sig .tc := ⟨.hbm, 102, rfl⟩
abbrev main_v82 : Ref sig .tc := ⟨.hbm, 103, rfl⟩
abbrev main_v83 : Ref sig .tc := ⟨.hbm, 104, rfl⟩
abbrev main_c_9 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_10 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v89 : Ref sig .tc := ⟨.hbm, 115, rfl⟩
abbrev main_v90 : Ref sig .tc := ⟨.hbm, 116, rfl⟩
abbrev main_c_11 : Ref sig .tc := ⟨.hbm, 117, rfl⟩
abbrev main_v91 : Ref sig .tc := ⟨.hbm, 118, rfl⟩
abbrev main_v92 : Ref sig .tc := ⟨.hbm, 119, rfl⟩
abbrev main_c_12 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_13 : Ref sig .tc := ⟨.hbm, 124, rfl⟩
abbrev main_v96 : Ref sig .tc := ⟨.hbm, 125, rfl⟩
abbrev main_v97 : Ref sig .tc := ⟨.hbm, 126, rfl⟩
abbrev main_c_14 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_15 : Ref sig .tc := ⟨.hbm, 141, rfl⟩
abbrev main_call3_v0 : Ref sig .tc := ⟨.hbm, 142, rfl⟩
abbrev main_call3_v1 : Ref sig .tc := ⟨.hbm, 143, rfl⟩
abbrev main_v111 : Ref sig .tc := ⟨.hbm, 144, rfl⟩
abbrev main_v112 : Ref sig .tc := ⟨.hbm, 145, rfl⟩
abbrev main_cst_16 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_v113 : Ref sig .tc := ⟨.hbm, 150, rfl⟩

abbrev nD : Nat := 1
abbrev τ : Topo := Topo.v7x

variable {F : FTy → Type} [FloatOps F]
-- ==== Choose.lean ====
abbrev S64x8400 : Shape := ⟨2, ![64, 8400]⟩
abbrev S64x16 : Shape := ⟨2, ![64, 16]⟩
abbrev S8400 : Shape := ⟨1, ![8400]⟩
abbrev S8416 : Shape := ⟨1, ![8416]⟩
abbrev S16 : Shape := ⟨1, ![16]⟩
abbrev S_ : Shape := ⟨0, ![]⟩
abbrev S1x8400 : Shape := ⟨2, ![1, 8400]⟩
abbrev S1 : Shape := ⟨1, ![1]⟩
abbrev S1x16 : Shape := ⟨2, ![1, 16]⟩

abbrev nBuf : Table → Nat
  | .hbm => 3
  | .local .scVector .vmem => 9
  | _ => 0

abbrev bufTy : (tb : Table) → Fin (nBuf tb) → BufTy
  | .hbm, ⟨0, _⟩ => ⟨S64x8400, .f32⟩
  | .hbm, ⟨1, _⟩ => ⟨S64x16, .i32⟩
  | .hbm, ⟨2, _⟩ => ⟨S64x16, .i32⟩
  | .local .scVector .vmem, ⟨0, _⟩ => ⟨S8400, .f32⟩
  | .local .scVector .vmem, ⟨1, _⟩ => ⟨S8416, .f32⟩
  | .local .scVector .vmem, ⟨2, _⟩ => ⟨S8416, .i32⟩
  | .local .scVector .vmem, ⟨3, _⟩ => ⟨S16, .i32⟩
  | .local .scVector .vmem, ⟨4, _⟩ => ⟨S16, .i32⟩
  | .local .scVector .vmem, ⟨5, _⟩ => ⟨S16, .f32⟩
  | .local .scVector .vmem, ⟨6, _⟩ => ⟨S16, .f32⟩
  | .local .scVector .vmem, ⟨7, _⟩ => ⟨S16, .i32⟩
  | .local .scVector .vmem, ⟨8, _⟩ => ⟨S16, .i32⟩
  | _, _ => ⟨S64x8400, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v4 : BitVec 32 := Scalar.muli v1 c2_i32_0
  let c0_i32_1 : BitVec 32 := 0#32
  let v5 : BitVec 32 := Scalar.addi v4 c0_i32_1
  let c0_i32_54_r0 : BitVec 32 := 0#32
  ![v5.toNat, 0]
@[reducible] def k0_t1_loop : Scf.Loop 32 :=
  let c0_i32_3 : BitVec 32 := 0#32
  let c525_i32 : BitVec 32 := 525#32
  let v6 : BitVec 32 := Scalar.addi c0_i32_3 c525_i32
  let c1_i32 : BitVec 32 := 1#32
  ⟨c0_i32_3, v6, c1_i32⟩
def k0_off2 (k0_t1 : Fin k0_t1_loop.trips) : Fin 1 → Nat :=
  let c0_i32_3 : BitVec 32 := 0#32
  let c1_i32 : BitVec 32 := 1#32
  let arg14 : BitVec 32 := Scf.iv c0_i32_3 c1_i32 k0_t1
  let c16_i32_54 : BitVec 32 := 16#32
  let v112 : BitVec 32 := Scalar.muli arg14 c16_i32_54
  let v113 : Index := Scalar.indexCast v112
  ![v113.toNat]
@[reducible] def k0_t2_loop : Scf.Loop 32 :=
  let c0_i32_64 : BitVec 32 := 0#32
  let c16_i32_65 : BitVec 32 := 16#32
  let v135 : BitVec 32 := Scalar.addi c0_i32_64 c16_i32_65
  let c1_i32_66 : BitVec 32 := 1#32
  ⟨c0_i32_64, v135, c1_i32_66⟩
def k0_cond1 (v123 : BitVec 32) : BitVec 1 :=
  let c0_i32_58 : BitVec 32 := 0#32
  let v124 : BitVec 1 := Scalar.cmpi .sgt v123 c0_i32_58
  let v125 : BitVec 32 := Scalar.extui v124
  let c0_i32_59 : BitVec 32 := 0#32
  let v126 : BitVec 1 := Scalar.cmpi .ne v125 c0_i32_59
  v126

def k0_chk1 (v123 : BitVec 32) (v168 : IVec S16 32) : Prop :=
  (∀ (k0_h1 : k0_cond1 v123 = 1#1), ∀ a x, ((![v168] : Fin 1 → IVec S16 32) a x).toNat < S16.size a)
theorem k0_idx1_inb : ∀ (v123 : BitVec 32) (v168 : IVec S16 32) (k0_hw1 : k0_chk1 v123 v168), ∀ (k0_h1 : k0_cond1 v123 = 1#1), ∀ a x, ((![v168] : Fin 1 → IVec S16 32) a x).toNat < S16.size a := fun v123 v168 k0_hw1 k0_h1 => k0_hw1 k0_h1

def k0_chk2 (v123 : BitVec 32) (v171 : IVec S16 32) : Prop :=
  (∀ (k0_h1 : k0_cond1 v123 = 1#1), ∀ a x, ((![v171] : Fin 1 → IVec S16 32) a x).toNat < S16.size a)
theorem k0_idx2_inb : ∀ (v123 : BitVec 32) (v171 : IVec S16 32) (k0_hw2 : k0_chk2 v123 v171), ∀ (k0_h1 : k0_cond1 v123 = 1#1), ∀ a x, ((![v171] : Fin 1 → IVec S16 32) a x).toNat < S16.size a := fun v123 v171 k0_hw2 k0_h1 => k0_hw2 k0_h1

def k0_chk3 (v123 : BitVec 32) (v138 : IVec S16 32) : Prop :=
  (∀ (k0_h1 : k0_cond1 v123 = 1#1), ∀ a x, ((![v138] : Fin 1 → IVec S16 32) a x).toNat < S16.size a) ∧
  (∀ (k0_h1 : k0_cond1 v123 = 1#1), ∀ a x, ((![v138] : Fin 1 → IVec S16 32) a x).toNat < S16.size a)
theorem k0_idx3_inb : ∀ (v123 : BitVec 32) (v138 : IVec S16 32) (k0_hw3 : k0_chk3 v123 v138), ∀ (k0_h1 : k0_cond1 v123 = 1#1), ∀ a x, ((![v138] : Fin 1 → IVec S16 32) a x).toNat < S16.size a := fun v123 v138 k0_hw3 k0_h1 => k0_hw3.1 k0_h1
theorem k0_idx4_inb : ∀ (v123 : BitVec 32) (v138 : IVec S16 32) (k0_hw3 : k0_chk3 v123 v138), ∀ (k0_h1 : k0_cond1 v123 = 1#1), ∀ a x, ((![v138] : Fin 1 → IVec S16 32) a x).toNat < S16.size a := fun v123 v138 k0_hw3 k0_h1 => k0_hw3.2 k0_h1
@[reducible] def k0_t3_loop : Scf.Loop 32 :=
  let c0_i32_79 : BitVec 32 := 0#32
  let c16_i32_80 : BitVec 32 := 16#32
  let v152 : BitVec 32 := Scalar.addi c0_i32_79 c16_i32_80
  let c1_i32_81 : BitVec 32 := 1#32
  ⟨c0_i32_79, v152, c1_i32_81⟩

def k0_chk4 (v123 : BitVec 32) (v168 : IVec S16 32) : Prop :=
  (∀ (k0_h1 : k0_cond1 v123 = 1#1), ∀ a x, ((![v168] : Fin 1 → IVec S16 32) a x).toNat < S16.size a)
theorem k0_idx5_inb : ∀ (v123 : BitVec 32) (v168 : IVec S16 32) (k0_hw4 : k0_chk4 v123 v168), ∀ (k0_h1 : k0_cond1 v123 = 1#1), ∀ a x, ((![v168] : Fin 1 → IVec S16 32) a x).toNat < S16.size a := fun v123 v168 k0_hw4 k0_h1 => k0_hw4 k0_h1

def k0_chk5 (v123 : BitVec 32) (v171 : IVec S16 32) : Prop :=
  (∀ (k0_h1 : k0_cond1 v123 = 1#1), ∀ a x, ((![v171] : Fin 1 → IVec S16 32) a x).toNat < S16.size a)
theorem k0_idx6_inb : ∀ (v123 : BitVec 32) (v171 : IVec S16 32) (k0_hw5 : k0_chk5 v123 v171), ∀ (k0_h1 : k0_cond1 v123 = 1#1), ∀ a x, ((![v171] : Fin 1 → IVec S16 32) a x).toNat < S16.size a := fun v123 v171 k0_hw5 k0_h1 => k0_hw5 k0_h1

def k0_chk6 (v123 : BitVec 32) (v155 : IVec S16 32) : Prop :=
  (∀ (k0_h1 : k0_cond1 v123 = 1#1), ∀ a x, ((![v155] : Fin 1 → IVec S16 32) a x).toNat < S16.size a) ∧
  (∀ (k0_h1 : k0_cond1 v123 = 1#1), ∀ a x, ((![v155] : Fin 1 → IVec S16 32) a x).toNat < S16.size a)
theorem k0_idx7_inb : ∀ (v123 : BitVec 32) (v155 : IVec S16 32) (k0_hw6 : k0_chk6 v123 v155), ∀ (k0_h1 : k0_cond1 v123 = 1#1), ∀ a x, ((![v155] : Fin 1 → IVec S16 32) a x).toNat < S16.size a := fun v123 v155 k0_hw6 k0_h1 => k0_hw6.1 k0_h1
theorem k0_idx8_inb : ∀ (v123 : BitVec 32) (v155 : IVec S16 32) (k0_hw6 : k0_chk6 v123 v155), ∀ (k0_h1 : k0_cond1 v123 = 1#1), ∀ a x, ((![v155] : Fin 1 → IVec S16 32) a x).toNat < S16.size a := fun v123 v155 k0_hw6 k0_h1 => k0_hw6.2 k0_h1
def k0_off3 (arg15 : BitVec 32) : Fin 1 → Nat :=
  let v162 : Index := Scalar.indexCast arg15
  ![v162.toNat]

def k0_chk7 (arg15 : BitVec 32) (v123 : BitVec 32) : Prop :=
  (∀ (k0_h1 : k0_cond1 v123 = 1#1), ∀ a, (k0_off3 arg15) a + S16.size a ≤ S8416.size a)
theorem k0_off3_inb : ∀ (arg15 : BitVec 32) (v123 : BitVec 32) (k0_hw7 : k0_chk7 arg15 v123), ∀ (k0_h1 : k0_cond1 v123 = 1#1), ∀ a, (k0_off3 arg15) a + S16.size a ≤ S8416.size a := fun arg15 v123 k0_hw7 k0_h1 => k0_hw7 k0_h1

def k0_off4 (v7 : BitVec 32) : Fin 1 → Nat :=
  let v9 : Index := Scalar.indexCast v7
  ![v9.toNat]

@[reducible] def k0_t4_loop (v7 : BitVec 32) : Scf.Loop 32 :=
  let c0_i32_13 : BitVec 32 := 0#32
  let c15_i32 : BitVec 32 := 15#32
  let v14 : BitVec 32 := Scalar.addi v7 c15_i32
  let c0_i32_5 : BitVec 32 := 0#32
  let v16 : BitVec 1 := Scalar.cmpi .sgt v14 c0_i32_5
  let v17 : BitVec 32 := Scalar.extui v16
  let c0_i32_6 : BitVec 32 := 0#32
  let v18 : BitVec 1 := Scalar.cmpi .slt v14 c0_i32_6
  let v19 : BitVec 32 := Scalar.extui v18
  let v20 : BitVec 32 := Scalar.subi v17 v19
  let c16_i32 : BitVec 32 := 16#32
  let c0_i32_7 : BitVec 32 := 0#32
  let v21 : BitVec 1 := Scalar.cmpi .sgt c16_i32 c0_i32_7
  let v22 : BitVec 32 := Scalar.extui v21
  let c0_i32_8 : BitVec 32 := 0#32
  let v23 : BitVec 1 := Scalar.cmpi .slt c16_i32 c0_i32_8
  let v24 : BitVec 32 := Scalar.extui v23
  let v25 : BitVec 32 := Scalar.subi v22 v24
  let v26 : BitVec 1 := Scalar.cmpi .ne v20 v25
  let v27 : BitVec 32 := Scalar.remsi v14 c16_i32
  let c0_i32_9 : BitVec 32 := 0#32
  let v28 : BitVec 1 := Scalar.cmpi .ne v27 c0_i32_9
  let v29 : BitVec 1 := Scalar.andi v26 v28
  let v15 : BitVec 32 := Scalar.divsi v14 c16_i32
  let c1_i32_10 : BitVec 32 := 1#32
  let v30 : BitVec 32 := Scalar.subi v15 c1_i32_10
  let v31 : BitVec 32 := Scalar.select v29 v30 v15
  let v34 : BitVec 32 := Scalar.subi v31 c0_i32_13
  let c1_i32_14 : BitVec 32 := 1#32
  let v36 : BitVec 32 := Scalar.divsi v34 c1_i32_14
  let v37 : BitVec 32 := Scalar.muli v36 c1_i32_14
  let v38 : BitVec 32 := Scalar.addi c0_i32_13 v37
  let c1_i32_15 : BitVec 32 := 1#32
  ⟨c0_i32_13, v38, c1_i32_15⟩
def k0_off5 (v7 : BitVec 32) (k0_t4 : Fin (k0_t4_loop v7).trips) : Fin 1 → Nat :=
  let c0_i32_13 : BitVec 32 := 0#32
  let c1_i32_15 : BitVec 32 := 1#32
  let arg14 : BitVec 32 := Scf.iv c0_i32_13 c1_i32_15 k0_t4
  let c16_i32_54 : BitVec 32 := 16#32
  let v112 : BitVec 32 := Scalar.muli arg14 c16_i32_54
  let v113 : Index := Scalar.indexCast v112
  ![v113.toNat]
@[reducible] def k0_t5_loop : Scf.Loop 32 :=
  let c0_i32_59 : BitVec 32 := 0#32
  let c16_i32_60 : BitVec 32 := 16#32
  let v122 : BitVec 32 := Scalar.addi c0_i32_59 c16_i32_60
  let c1_i32_61 : BitVec 32 := 1#32
  ⟨c0_i32_59, v122, c1_i32_61⟩

def k0_chk9 (v160 : IVec S16 32) : Prop :=
  (∀ a x, ((![v160] : Fin 1 → IVec S16 32) a x).toNat < S16.size a)
theorem k0_idx9_inb : ∀ (v160 : IVec S16 32) (k0_hw9 : k0_chk9 v160), ∀ a x, ((![v160] : Fin 1 → IVec S16 32) a x).toNat < S16.size a := fun v160 k0_hw9 => k0_hw9

def k0_chk10 (v163 : IVec S16 32) : Prop :=
  (∀ a x, ((![v163] : Fin 1 → IVec S16 32) a x).toNat < S16.size a)
theorem k0_idx10_inb : ∀ (v163 : IVec S16 32) (k0_hw10 : k0_chk10 v163), ∀ a x, ((![v163] : Fin 1 → IVec S16 32) a x).toNat < S16.size a := fun v163 k0_hw10 => k0_hw10

def k0_chk11 (v125 : IVec S16 32) : Prop :=
  (∀ a x, ((![v125] : Fin 1 → IVec S16 32) a x).toNat < S16.size a) ∧
  (∀ a x, ((![v125] : Fin 1 → IVec S16 32) a x).toNat < S16.size a)
theorem k0_idx11_inb : ∀ (v125 : IVec S16 32) (k0_hw11 : k0_chk11 v125), ∀ a x, ((![v125] : Fin 1 → IVec S16 32) a x).toNat < S16.size a := fun v125 k0_hw11 => k0_hw11.1
theorem k0_idx12_inb : ∀ (v125 : IVec S16 32) (k0_hw11 : k0_chk11 v125), ∀ a x, ((![v125] : Fin 1 → IVec S16 32) a x).toNat < S16.size a := fun v125 k0_hw11 => k0_hw11.2

def k0_chk12 (v135 : IVec S16 32) : Prop :=
  (∀ a x, ((![v135] : Fin 1 → IVec S16 32) a x).toNat < S16.size a)
theorem k0_idx13_inb : ∀ (v135 : IVec S16 32) (k0_hw12 : k0_chk12 v135), ∀ a x, ((![v135] : Fin 1 → IVec S16 32) a x).toNat < S16.size a := fun v135 k0_hw12 => k0_hw12

def k0_chk13 (v140 : IVec S16 32) : Prop :=
  (∀ a x, ((![v140] : Fin 1 → IVec S16 32) a x).toNat < S16.size a)
theorem k0_idx14_inb : ∀ (v140 : IVec S16 32) (k0_hw13 : k0_chk13 v140), ∀ a x, ((![v140] : Fin 1 → IVec S16 32) a x).toNat < S16.size a := fun v140 k0_hw13 => k0_hw13
@[reducible] def k0_t6_loop : Scf.Loop 32 :=
  let c0_i32_77 : BitVec 32 := 0#32
  let c16_i32_78 : BitVec 32 := 16#32
  let v149 : BitVec 32 := Scalar.addi c0_i32_77 c16_i32_78
  let c1_i32_79 : BitVec 32 := 1#32
  ⟨c0_i32_77, v149, c1_i32_79⟩

def k0_chk14 (v160 : IVec S16 32) : Prop :=
  (∀ a x, ((![v160] : Fin 1 → IVec S16 32) a x).toNat < S16.size a)
theorem k0_idx15_inb : ∀ (v160 : IVec S16 32) (k0_hw14 : k0_chk14 v160), ∀ a x, ((![v160] : Fin 1 → IVec S16 32) a x).toNat < S16.size a := fun v160 k0_hw14 => k0_hw14

def k0_chk15 (v163 : IVec S16 32) : Prop :=
  (∀ a x, ((![v163] : Fin 1 → IVec S16 32) a x).toNat < S16.size a)
theorem k0_idx16_inb : ∀ (v163 : IVec S16 32) (k0_hw15 : k0_chk15 v163), ∀ a x, ((![v163] : Fin 1 → IVec S16 32) a x).toNat < S16.size a := fun v163 k0_hw15 => k0_hw15

def k0_chk16 (v152 : IVec S16 32) : Prop :=
  (∀ a x, ((![v152] : Fin 1 → IVec S16 32) a x).toNat < S16.size a) ∧
  (∀ a x, ((![v152] : Fin 1 → IVec S16 32) a x).toNat < S16.size a)
theorem k0_idx17_inb : ∀ (v152 : IVec S16 32) (k0_hw16 : k0_chk16 v152), ∀ a x, ((![v152] : Fin 1 → IVec S16 32) a x).toNat < S16.size a := fun v152 k0_hw16 => k0_hw16.1
theorem k0_idx18_inb : ∀ (v152 : IVec S16 32) (k0_hw16 : k0_chk16 v152), ∀ a x, ((![v152] : Fin 1 → IVec S16 32) a x).toNat < S16.size a := fun v152 k0_hw16 => k0_hw16.2
@[reducible] def k0_t7_loop (v7 : BitVec 32) : Scf.Loop 32 :=
  let c0_i32_13 : BitVec 32 := 0#32
  let c15_i32 : BitVec 32 := 15#32
  let v14 : BitVec 32 := Scalar.addi v7 c15_i32
  let c0_i32_5 : BitVec 32 := 0#32
  let v16 : BitVec 1 := Scalar.cmpi .sgt v14 c0_i32_5
  let v17 : BitVec 32 := Scalar.extui v16
  let c0_i32_6 : BitVec 32 := 0#32
  let v18 : BitVec 1 := Scalar.cmpi .slt v14 c0_i32_6
  let v19 : BitVec 32 := Scalar.extui v18
  let v20 : BitVec 32 := Scalar.subi v17 v19
  let c16_i32 : BitVec 32 := 16#32
  let c0_i32_7 : BitVec 32 := 0#32
  let v21 : BitVec 1 := Scalar.cmpi .sgt c16_i32 c0_i32_7
  let v22 : BitVec 32 := Scalar.extui v21
  let c0_i32_8 : BitVec 32 := 0#32
  let v23 : BitVec 1 := Scalar.cmpi .slt c16_i32 c0_i32_8
  let v24 : BitVec 32 := Scalar.extui v23
  let v25 : BitVec 32 := Scalar.subi v22 v24
  let v26 : BitVec 1 := Scalar.cmpi .ne v20 v25
  let v27 : BitVec 32 := Scalar.remsi v14 c16_i32
  let c0_i32_9 : BitVec 32 := 0#32
  let v28 : BitVec 1 := Scalar.cmpi .ne v27 c0_i32_9
  let v29 : BitVec 1 := Scalar.andi v26 v28
  let v15 : BitVec 32 := Scalar.divsi v14 c16_i32
  let c1_i32_10 : BitVec 32 := 1#32
  let v30 : BitVec 32 := Scalar.subi v15 c1_i32_10
  let v31 : BitVec 32 := Scalar.select v29 v30 v15
  let v34 : BitVec 32 := Scalar.subi v31 c0_i32_13
  let c1_i32_14 : BitVec 32 := 1#32
  let v36 : BitVec 32 := Scalar.divsi v34 c1_i32_14
  let v37 : BitVec 32 := Scalar.muli v36 c1_i32_14
  let v38 : BitVec 32 := Scalar.addi c0_i32_13 v37
  let v35 : BitVec 32 := Scalar.addi c0_i32_13 v34
  let c1_i32_16 : BitVec 32 := 1#32
  ⟨v38, v35, c1_i32_16⟩
def k0_off6 (v7 : BitVec 32) (k0_t7 : Fin (k0_t7_loop v7).trips) : Fin 1 → Nat :=
  let c0_i32_13 : BitVec 32 := 0#32
  let c15_i32 : BitVec 32 := 15#32
  let v14 : BitVec 32 := Scalar.addi v7 c15_i32
  let c0_i32_5 : BitVec 32 := 0#32
  let v16 : BitVec 1 := Scalar.cmpi .sgt v14 c0_i32_5
  let v17 : BitVec 32 := Scalar.extui v16
  let c0_i32_6 : BitVec 32 := 0#32
  let v18 : BitVec 1 := Scalar.cmpi .slt v14 c0_i32_6
  let v19 : BitVec 32 := Scalar.extui v18
  let v20 : BitVec 32 := Scalar.subi v17 v19
  let c16_i32 : BitVec 32 := 16#32
  let c0_i32_7 : BitVec 32 := 0#32
  let v21 : BitVec 1 := Scalar.cmpi .sgt c16_i32 c0_i32_7
  let v22 : BitVec 32 := Scalar.extui v21
  let c0_i32_8 : BitVec 32 := 0#32
  let v23 : BitVec 1 := Scalar.cmpi .slt c16_i32 c0_i32_8
  let v24 : BitVec 32 := Scalar.extui v23
  let v25 : BitVec 32 := Scalar.subi v22 v24
  let v26 : BitVec 1 := Scalar.cmpi .ne v20 v25
  let v27 : BitVec 32 := Scalar.remsi v14 c16_i32
  let c0_i32_9 : BitVec 32 := 0#32
  let v28 : BitVec 1 := Scalar.cmpi .ne v27 c0_i32_9
  let v29 : BitVec 1 := Scalar.andi v26 v28
  let v15 : BitVec 32 := Scalar.divsi v14 c16_i32
  let c1_i32_10 : BitVec 32 := 1#32
  let v30 : BitVec 32 := Scalar.subi v15 c1_i32_10
  let v31 : BitVec 32 := Scalar.select v29 v30 v15
  let v34 : BitVec 32 := Scalar.subi v31 c0_i32_13
  let c1_i32_14 : BitVec 32 := 1#32
  let v36 : BitVec 32 := Scalar.divsi v34 c1_i32_14
  let v37 : BitVec 32 := Scalar.muli v36 c1_i32_14
  let v38 : BitVec 32 := Scalar.addi c0_i32_13 v37
  let c1_i32_16 : BitVec 32 := 1#32
  let arg14 : BitVec 32 := Scf.iv v38 c1_i32_16 k0_t7
  let c16_i32_54 : BitVec 32 := 16#32
  let v112 : BitVec 32 := Scalar.muli arg14 c16_i32_54
  let v113 : Index := Scalar.indexCast v112
  ![v113.toNat]

def k0_chk8 (v7 : BitVec 32) : Prop :=
  (∀ a, (k0_off4 v7) a + S16.size a ≤ S8416.size a) ∧
  ((k0_t4_loop v7).OK) ∧
  (∀ k0_t4 : Fin (k0_t4_loop v7).trips, ∀ a, (k0_off5 v7 k0_t4) a + S16.size a ≤ S8416.size a) ∧
  ((k0_t7_loop v7).OK) ∧
  (∀ k0_t7 : Fin (k0_t7_loop v7).trips, ∀ a, (k0_off6 v7 k0_t7) a + S16.size a ≤ S8416.size a)
theorem k0_off4_inb : ∀ (v7 : BitVec 32) (k0_hw8 : k0_chk8 v7), ∀ a, (k0_off4 v7) a + S16.size a ≤ S8416.size a := fun v7 k0_hw8 => k0_hw8.1
theorem k0_t4_ok : ∀ (v7 : BitVec 32) (k0_hw8 : k0_chk8 v7), (k0_t4_loop v7).OK := fun v7 k0_hw8 => k0_hw8.2.1
theorem k0_off5_inb : ∀ (v7 : BitVec 32) (k0_hw8 : k0_chk8 v7) (k0_t4 : Fin (k0_t4_loop v7).trips), ∀ a, (k0_off5 v7 k0_t4) a + S16.size a ≤ S8416.size a := fun v7 k0_hw8 k0_t4 => k0_hw8.2.2.1 k0_t4
theorem k0_t7_ok : ∀ (v7 : BitVec 32) (k0_hw8 : k0_chk8 v7), (k0_t7_loop v7).OK := fun v7 k0_hw8 => k0_hw8.2.2.2.1
theorem k0_off6_inb : ∀ (v7 : BitVec 32) (k0_hw8 : k0_chk8 v7) (k0_t7 : Fin (k0_t7_loop v7).trips), ∀ a, (k0_off6 v7 k0_t7) a + S16.size a ≤ S8416.size a := fun v7 k0_hw8 k0_t7 => k0_hw8.2.2.2.2 k0_t7

@[reducible] def k0_t8_loop : Scf.Loop 32 :=
  let c0_i32_59 : BitVec 32 := 0#32
  let c16_i32_60 : BitVec 32 := 16#32
  let v122 : BitVec 32 := Scalar.addi c0_i32_59 c16_i32_60
  let c1_i32_61 : BitVec 32 := 1#32
  ⟨c0_i32_59, v122, c1_i32_61⟩

def k0_chk17 (v160 : IVec S16 32) : Prop :=
  (∀ a x, ((![v160] : Fin 1 → IVec S16 32) a x).toNat < S16.size a)
theorem k0_idx19_inb : ∀ (v160 : IVec S16 32) (k0_hw17 : k0_chk17 v160), ∀ a x, ((![v160] : Fin 1 → IVec S16 32) a x).toNat < S16.size a := fun v160 k0_hw17 => k0_hw17

def k0_chk18 (v163 : IVec S16 32) : Prop :=
  (∀ a x, ((![v163] : Fin 1 → IVec S16 32) a x).toNat < S16.size a)
theorem k0_idx20_inb : ∀ (v163 : IVec S16 32) (k0_hw18 : k0_chk18 v163), ∀ a x, ((![v163] : Fin 1 → IVec S16 32) a x).toNat < S16.size a := fun v163 k0_hw18 => k0_hw18

def k0_chk19 (v125 : IVec S16 32) : Prop :=
  (∀ a x, ((![v125] : Fin 1 → IVec S16 32) a x).toNat < S16.size a) ∧
  (∀ a x, ((![v125] : Fin 1 → IVec S16 32) a x).toNat < S16.size a)
theorem k0_idx21_inb : ∀ (v125 : IVec S16 32) (k0_hw19 : k0_chk19 v125), ∀ a x, ((![v125] : Fin 1 → IVec S16 32) a x).toNat < S16.size a := fun v125 k0_hw19 => k0_hw19.1
theorem k0_idx22_inb : ∀ (v125 : IVec S16 32) (k0_hw19 : k0_chk19 v125), ∀ a x, ((![v125] : Fin 1 → IVec S16 32) a x).toNat < S16.size a := fun v125 k0_hw19 => k0_hw19.2

def k0_chk20 (v135 : IVec S16 32) : Prop :=
  (∀ a x, ((![v135] : Fin 1 → IVec S16 32) a x).toNat < S16.size a)
theorem k0_idx23_inb : ∀ (v135 : IVec S16 32) (k0_hw20 : k0_chk20 v135), ∀ a x, ((![v135] : Fin 1 → IVec S16 32) a x).toNat < S16.size a := fun v135 k0_hw20 => k0_hw20

def k0_chk21 (v140 : IVec S16 32) : Prop :=
  (∀ a x, ((![v140] : Fin 1 → IVec S16 32) a x).toNat < S16.size a)
theorem k0_idx24_inb : ∀ (v140 : IVec S16 32) (k0_hw21 : k0_chk21 v140), ∀ a x, ((![v140] : Fin 1 → IVec S16 32) a x).toNat < S16.size a := fun v140 k0_hw21 => k0_hw21
@[reducible] def k0_t9_loop : Scf.Loop 32 :=
  let c0_i32_77 : BitVec 32 := 0#32
  let c16_i32_78 : BitVec 32 := 16#32
  let v149 : BitVec 32 := Scalar.addi c0_i32_77 c16_i32_78
  let c1_i32_79 : BitVec 32 := 1#32
  ⟨c0_i32_77, v149, c1_i32_79⟩

def k0_chk22 (v160 : IVec S16 32) : Prop :=
  (∀ a x, ((![v160] : Fin 1 → IVec S16 32) a x).toNat < S16.size a)
theorem k0_idx25_inb : ∀ (v160 : IVec S16 32) (k0_hw22 : k0_chk22 v160), ∀ a x, ((![v160] : Fin 1 → IVec S16 32) a x).toNat < S16.size a := fun v160 k0_hw22 => k0_hw22

def k0_chk23 (v163 : IVec S16 32) : Prop :=
  (∀ a x, ((![v163] : Fin 1 → IVec S16 32) a x).toNat < S16.size a)
theorem k0_idx26_inb : ∀ (v163 : IVec S16 32) (k0_hw23 : k0_chk23 v163), ∀ a x, ((![v163] : Fin 1 → IVec S16 32) a x).toNat < S16.size a := fun v163 k0_hw23 => k0_hw23

def k0_chk24 (v152 : IVec S16 32) : Prop :=
  (∀ a x, ((![v152] : Fin 1 → IVec S16 32) a x).toNat < S16.size a) ∧
  (∀ a x, ((![v152] : Fin 1 → IVec S16 32) a x).toNat < S16.size a)
theorem k0_idx27_inb : ∀ (v152 : IVec S16 32) (k0_hw24 : k0_chk24 v152), ∀ a x, ((![v152] : Fin 1 → IVec S16 32) a x).toNat < S16.size a := fun v152 k0_hw24 => k0_hw24.1
theorem k0_idx28_inb : ∀ (v152 : IVec S16 32) (k0_hw24 : k0_chk24 v152), ∀ a x, ((![v152] : Fin 1 → IVec S16 32) a x).toNat < S16.size a := fun v152 k0_hw24 => k0_hw24.2
@[reducible] def k0_t10_loop : Scf.Loop 32 :=
  let c0_i32_55 : BitVec 32 := 0#32
  let c525_i32_56 : BitVec 32 := 525#32
  let v114 : BitVec 32 := Scalar.addi c0_i32_55 c525_i32_56
  let c1_i32_57 : BitVec 32 := 1#32
  ⟨c0_i32_55, v114, c1_i32_57⟩
def k0_off7 (k0_t10 : Fin k0_t10_loop.trips) : Fin 1 → Nat :=
  let c0_i32_55 : BitVec 32 := 0#32
  let c1_i32_57 : BitVec 32 := 1#32
  let arg14 : BitVec 32 := Scf.iv c0_i32_55 c1_i32_57 k0_t10
  let c16_i32_89 : BitVec 32 := 16#32
  let v154 : BitVec 32 := Scalar.muli arg14 c16_i32_89
  let v155 : Index := Scalar.indexCast v154
  ![v155.toNat]
@[reducible] def k0_t11_loop : Scf.Loop 32 :=
  let c0_i32_62 : BitVec 32 := 0#32
  let c16_i32_63 : BitVec 32 := 16#32
  let v120 : BitVec 32 := Scalar.addi c0_i32_62 c16_i32_63
  let c1_i32_64 : BitVec 32 := 1#32
  ⟨c0_i32_62, v120, c1_i32_64⟩
def k0_cond2 (v7 : BitVec 32) : BitVec 1 :=
  let c0_i32_17 : BitVec 32 := 0#32
  let v41 : BitVec 1 := Scalar.cmpi .eq v7 c0_i32_17
  let v42 : BitVec 32 := Scalar.extui v41
  let c0_i32_19 : BitVec 32 := 0#32
  let v43 : BitVec 1 := Scalar.cmpi .ne v42 c0_i32_19
  v43

def k0_chk25 (v7 : BitVec 32) (v155 : IVec S16 32) : Prop :=
  (∀ (k0_h2 : k0_cond2 v7 = 1#1), ∀ a x, ((![v155] : Fin 1 → IVec S16 32) a x).toNat < S16.size a)
theorem k0_idx29_inb : ∀ (v7 : BitVec 32) (v155 : IVec S16 32) (k0_hw25 : k0_chk25 v7 v155), ∀ (k0_h2 : k0_cond2 v7 = 1#1), ∀ a x, ((![v155] : Fin 1 → IVec S16 32) a x).toNat < S16.size a := fun v7 v155 k0_hw25 k0_h2 => k0_hw25 k0_h2

def k0_chk26 (v7 : BitVec 32) (v158 : IVec S16 32) : Prop :=
  (∀ (k0_h2 : k0_cond2 v7 = 1#1), ∀ a x, ((![v158] : Fin 1 → IVec S16 32) a x).toNat < S16.size a)
theorem k0_idx30_inb : ∀ (v7 : BitVec 32) (v158 : IVec S16 32) (k0_hw26 : k0_chk26 v7 v158), ∀ (k0_h2 : k0_cond2 v7 = 1#1), ∀ a x, ((![v158] : Fin 1 → IVec S16 32) a x).toNat < S16.size a := fun v7 v158 k0_hw26 k0_h2 => k0_hw26 k0_h2

def k0_chk27 (v7 : BitVec 32) (v123 : IVec S16 32) : Prop :=
  (∀ (k0_h2 : k0_cond2 v7 = 1#1), ∀ a x, ((![v123] : Fin 1 → IVec S16 32) a x).toNat < S16.size a) ∧
  (∀ (k0_h2 : k0_cond2 v7 = 1#1), ∀ a x, ((![v123] : Fin 1 → IVec S16 32) a x).toNat < S16.size a)
theorem k0_idx31_inb : ∀ (v7 : BitVec 32) (v123 : IVec S16 32) (k0_hw27 : k0_chk27 v7 v123), ∀ (k0_h2 : k0_cond2 v7 = 1#1), ∀ a x, ((![v123] : Fin 1 → IVec S16 32) a x).toNat < S16.size a := fun v7 v123 k0_hw27 k0_h2 => k0_hw27.1 k0_h2
theorem k0_idx32_inb : ∀ (v7 : BitVec 32) (v123 : IVec S16 32) (k0_hw27 : k0_chk27 v7 v123), ∀ (k0_h2 : k0_cond2 v7 = 1#1), ∀ a x, ((![v123] : Fin 1 → IVec S16 32) a x).toNat < S16.size a := fun v7 v123 k0_hw27 k0_h2 => k0_hw27.2 k0_h2
@[reducible] def k0_t12_loop : Scf.Loop 32 :=
  let c0_i32_78 : BitVec 32 := 0#32
  let c16_i32_79 : BitVec 32 := 16#32
  let v142 : BitVec 32 := Scalar.addi c0_i32_78 c16_i32_79
  let c1_i32_80 : BitVec 32 := 1#32
  ⟨c0_i32_78, v142, c1_i32_80⟩

def k0_chk28 (v7 : BitVec 32) (v155 : IVec S16 32) : Prop :=
  (∀ (k0_h2 : k0_cond2 v7 = 1#1), ∀ a x, ((![v155] : Fin 1 → IVec S16 32) a x).toNat < S16.size a)
theorem k0_idx33_inb : ∀ (v7 : BitVec 32) (v155 : IVec S16 32) (k0_hw28 : k0_chk28 v7 v155), ∀ (k0_h2 : k0_cond2 v7 = 1#1), ∀ a x, ((![v155] : Fin 1 → IVec S16 32) a x).toNat < S16.size a := fun v7 v155 k0_hw28 k0_h2 => k0_hw28 k0_h2

def k0_chk29 (v7 : BitVec 32) (v158 : IVec S16 32) : Prop :=
  (∀ (k0_h2 : k0_cond2 v7 = 1#1), ∀ a x, ((![v158] : Fin 1 → IVec S16 32) a x).toNat < S16.size a)
theorem k0_idx34_inb : ∀ (v7 : BitVec 32) (v158 : IVec S16 32) (k0_hw29 : k0_chk29 v7 v158), ∀ (k0_h2 : k0_cond2 v7 = 1#1), ∀ a x, ((![v158] : Fin 1 → IVec S16 32) a x).toNat < S16.size a := fun v7 v158 k0_hw29 k0_h2 => k0_hw29 k0_h2

def k0_chk30 (v7 : BitVec 32) (v145 : IVec S16 32) : Prop :=
  (∀ (k0_h2 : k0_cond2 v7 = 1#1), ∀ a x, ((![v145] : Fin 1 → IVec S16 32) a x).toNat < S16.size a) ∧
  (∀ (k0_h2 : k0_cond2 v7 = 1#1), ∀ a x, ((![v145] : Fin 1 → IVec S16 32) a x).toNat < S16.size a)
theorem k0_idx35_inb : ∀ (v7 : BitVec 32) (v145 : IVec S16 32) (k0_hw30 : k0_chk30 v7 v145), ∀ (k0_h2 : k0_cond2 v7 = 1#1), ∀ a x, ((![v145] : Fin 1 → IVec S16 32) a x).toNat < S16.size a := fun v7 v145 k0_hw30 k0_h2 => k0_hw30.1 k0_h2
theorem k0_idx36_inb : ∀ (v7 : BitVec 32) (v145 : IVec S16 32) (k0_hw30 : k0_chk30 v7 v145), ∀ (k0_h2 : k0_cond2 v7 = 1#1), ∀ a x, ((![v145] : Fin 1 → IVec S16 32) a x).toNat < S16.size a := fun v7 v145 k0_hw30 k0_h2 => k0_hw30.2 k0_h2
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v4 : BitVec 32 := Scalar.muli v1 c2_i32_0
  let c0_i32_1 : BitVec 32 := 0#32
  let v5 : BitVec 32 := Scalar.addi v4 c0_i32_1
  let c0_i32_54_r1 : BitVec 32 := 0#32
  ![v5.toNat, 0]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_23 : BitVec 32 := 2#32
  let v58 : BitVec 32 := Scalar.muli v1 c2_i32_23
  let c1_i32_24 : BitVec 32 := 1#32
  let v59 : BitVec 32 := Scalar.addi v58 c1_i32_24
  let c0_i32_54_r3 : BitVec 32 := 0#32
  ![v59.toNat, 0]
@[reducible] def k0_t13_loop : Scf.Loop 32 :=
  let c0_i32_26 : BitVec 32 := 0#32
  let c525_i32_27 : BitVec 32 := 525#32
  let v60 : BitVec 32 := Scalar.addi c0_i32_26 c525_i32_27
  let c1_i32_28 : BitVec 32 := 1#32
  ⟨c0_i32_26, v60, c1_i32_28⟩
def k0_off10 (k0_t13 : Fin k0_t13_loop.trips) : Fin 1 → Nat :=
  let c0_i32_26 : BitVec 32 := 0#32
  let c1_i32_28 : BitVec 32 := 1#32
  let arg14 : BitVec 32 := Scf.iv c0_i32_26 c1_i32_28 k0_t13
  let c16_i32_54 : BitVec 32 := 16#32
  let v112 : BitVec 32 := Scalar.muli arg14 c16_i32_54
  let v113 : Index := Scalar.indexCast v112
  ![v113.toNat]
@[reducible] def k0_t14_loop : Scf.Loop 32 :=
  let c0_i32_64 : BitVec 32 := 0#32
  let c16_i32_65 : BitVec 32 := 16#32
  let v135 : BitVec 32 := Scalar.addi c0_i32_64 c16_i32_65
  let c1_i32_66 : BitVec 32 := 1#32
  ⟨c0_i32_64, v135, c1_i32_66⟩
def k0_cond3 (v123 : BitVec 32) : BitVec 1 :=
  let c0_i32_58 : BitVec 32 := 0#32
  let v124 : BitVec 1 := Scalar.cmpi .sgt v123 c0_i32_58
  let v125 : BitVec 32 := Scalar.extui v124
  let c0_i32_59 : BitVec 32 := 0#32
  let v126 : BitVec 1 := Scalar.cmpi .ne v125 c0_i32_59
  v126

def k0_chk31 (v123 : BitVec 32) (v168 : IVec S16 32) : Prop :=
  (∀ (k0_h3 : k0_cond3 v123 = 1#1), ∀ a x, ((![v168] : Fin 1 → IVec S16 32) a x).toNat < S16.size a)
theorem k0_idx37_inb : ∀ (v123 : BitVec 32) (v168 : IVec S16 32) (k0_hw31 : k0_chk31 v123 v168), ∀ (k0_h3 : k0_cond3 v123 = 1#1), ∀ a x, ((![v168] : Fin 1 → IVec S16 32) a x).toNat < S16.size a := fun v123 v168 k0_hw31 k0_h3 => k0_hw31 k0_h3

def k0_chk32 (v123 : BitVec 32) (v171 : IVec S16 32) : Prop :=
  (∀ (k0_h3 : k0_cond3 v123 = 1#1), ∀ a x, ((![v171] : Fin 1 → IVec S16 32) a x).toNat < S16.size a)
theorem k0_idx38_inb : ∀ (v123 : BitVec 32) (v171 : IVec S16 32) (k0_hw32 : k0_chk32 v123 v171), ∀ (k0_h3 : k0_cond3 v123 = 1#1), ∀ a x, ((![v171] : Fin 1 → IVec S16 32) a x).toNat < S16.size a := fun v123 v171 k0_hw32 k0_h3 => k0_hw32 k0_h3

def k0_chk33 (v123 : BitVec 32) (v138 : IVec S16 32) : Prop :=
  (∀ (k0_h3 : k0_cond3 v123 = 1#1), ∀ a x, ((![v138] : Fin 1 → IVec S16 32) a x).toNat < S16.size a) ∧
  (∀ (k0_h3 : k0_cond3 v123 = 1#1), ∀ a x, ((![v138] : Fin 1 → IVec S16 32) a x).toNat < S16.size a)
theorem k0_idx39_inb : ∀ (v123 : BitVec 32) (v138 : IVec S16 32) (k0_hw33 : k0_chk33 v123 v138), ∀ (k0_h3 : k0_cond3 v123 = 1#1), ∀ a x, ((![v138] : Fin 1 → IVec S16 32) a x).toNat < S16.size a := fun v123 v138 k0_hw33 k0_h3 => k0_hw33.1 k0_h3
theorem k0_idx40_inb : ∀ (v123 : BitVec 32) (v138 : IVec S16 32) (k0_hw33 : k0_chk33 v123 v138), ∀ (k0_h3 : k0_cond3 v123 = 1#1), ∀ a x, ((![v138] : Fin 1 → IVec S16 32) a x).toNat < S16.size a := fun v123 v138 k0_hw33 k0_h3 => k0_hw33.2 k0_h3
@[reducible] def k0_t15_loop : Scf.Loop 32 :=
  let c0_i32_79 : BitVec 32 := 0#32
  let c16_i32_80 : BitVec 32 := 16#32
  let v152 : BitVec 32 := Scalar.addi c0_i32_79 c16_i32_80
  let c1_i32_81 : BitVec 32 := 1#32
  ⟨c0_i32_79, v152, c1_i32_81⟩

def k0_chk34 (v123 : BitVec 32) (v168 : IVec S16 32) : Prop :=
  (∀ (k0_h3 : k0_cond3 v123 = 1#1), ∀ a x, ((![v168] : Fin 1 → IVec S16 32) a x).toNat < S16.size a)
theorem k0_idx41_inb : ∀ (v123 : BitVec 32) (v168 : IVec S16 32) (k0_hw34 : k0_chk34 v123 v168), ∀ (k0_h3 : k0_cond3 v123 = 1#1), ∀ a x, ((![v168] : Fin 1 → IVec S16 32) a x).toNat < S16.size a := fun v123 v168 k0_hw34 k0_h3 => k0_hw34 k0_h3

def k0_chk35 (v123 : BitVec 32) (v171 : IVec S16 32) : Prop :=
  (∀ (k0_h3 : k0_cond3 v123 = 1#1), ∀ a x, ((![v171] : Fin 1 → IVec S16 32) a x).toNat < S16.size a)
theorem k0_idx42_inb : ∀ (v123 : BitVec 32) (v171 : IVec S16 32) (k0_hw35 : k0_chk35 v123 v171), ∀ (k0_h3 : k0_cond3 v123 = 1#1), ∀ a x, ((![v171] : Fin 1 → IVec S16 32) a x).toNat < S16.size a := fun v123 v171 k0_hw35 k0_h3 => k0_hw35 k0_h3

def k0_chk36 (v123 : BitVec 32) (v155 : IVec S16 32) : Prop :=
  (∀ (k0_h3 : k0_cond3 v123 = 1#1), ∀ a x, ((![v155] : Fin 1 → IVec S16 32) a x).toNat < S16.size a) ∧
  (∀ (k0_h3 : k0_cond3 v123 = 1#1), ∀ a x, ((![v155] : Fin 1 → IVec S16 32) a x).toNat < S16.size a)
theorem k0_idx43_inb : ∀ (v123 : BitVec 32) (v155 : IVec S16 32) (k0_hw36 : k0_chk36 v123 v155), ∀ (k0_h3 : k0_cond3 v123 = 1#1), ∀ a x, ((![v155] : Fin 1 → IVec S16 32) a x).toNat < S16.size a := fun v123 v155 k0_hw36 k0_h3 => k0_hw36.1 k0_h3
theorem k0_idx44_inb : ∀ (v123 : BitVec 32) (v155 : IVec S16 32) (k0_hw36 : k0_chk36 v123 v155), ∀ (k0_h3 : k0_cond3 v123 = 1#1), ∀ a x, ((![v155] : Fin 1 → IVec S16 32) a x).toNat < S16.size a := fun v123 v155 k0_hw36 k0_h3 => k0_hw36.2 k0_h3
def k0_off11 (arg15 : BitVec 32) : Fin 1 → Nat :=
  let v162 : Index := Scalar.indexCast arg15
  ![v162.toNat]

def k0_chk37 (arg15 : BitVec 32) (v123 : BitVec 32) : Prop :=
  (∀ (k0_h3 : k0_cond3 v123 = 1#1), ∀ a, (k0_off11 arg15) a + S16.size a ≤ S8416.size a)
theorem k0_off11_inb : ∀ (arg15 : BitVec 32) (v123 : BitVec 32) (k0_hw37 : k0_chk37 arg15 v123), ∀ (k0_h3 : k0_cond3 v123 = 1#1), ∀ a, (k0_off11 arg15) a + S16.size a ≤ S8416.size a := fun arg15 v123 k0_hw37 k0_h3 => k0_hw37 k0_h3

def k0_off12 (v61 : BitVec 32) : Fin 1 → Nat :=
  let v63 : Index := Scalar.indexCast v61
  ![v63.toNat]

@[reducible] def k0_t16_loop (v61 : BitVec 32) : Scf.Loop 32 :=
  let c0_i32_42 : BitVec 32 := 0#32
  let c15_i32_32 : BitVec 32 := 15#32
  let v68 : BitVec 32 := Scalar.addi v61 c15_i32_32
  let c0_i32_34 : BitVec 32 := 0#32
  let v70 : BitVec 1 := Scalar.cmpi .sgt v68 c0_i32_34
  let v71 : BitVec 32 := Scalar.extui v70
  let c0_i32_35 : BitVec 32 := 0#32
  let v72 : BitVec 1 := Scalar.cmpi .slt v68 c0_i32_35
  let v73 : BitVec 32 := Scalar.extui v72
  let v74 : BitVec 32 := Scalar.subi v71 v73
  let c16_i32_33 : BitVec 32 := 16#32
  let c0_i32_36 : BitVec 32 := 0#32
  let v75 : BitVec 1 := Scalar.cmpi .sgt c16_i32_33 c0_i32_36
  let v76 : BitVec 32 := Scalar.extui v75
  let c0_i32_37 : BitVec 32 := 0#32
  let v77 : BitVec 1 := Scalar.cmpi .slt c16_i32_33 c0_i32_37
  let v78 : BitVec 32 := Scalar.extui v77
  let v79 : BitVec 32 := Scalar.subi v76 v78
  let v80 : BitVec 1 := Scalar.cmpi .ne v74 v79
  let v81 : BitVec 32 := Scalar.remsi v68 c16_i32_33
  let c0_i32_38 : BitVec 32 := 0#32
  let v82 : BitVec 1 := Scalar.cmpi .ne v81 c0_i32_38
  let v83 : BitVec 1 := Scalar.andi v80 v82
  let v69 : BitVec 32 := Scalar.divsi v68 c16_i32_33
  let c1_i32_39 : BitVec 32 := 1#32
  let v84 : BitVec 32 := Scalar.subi v69 c1_i32_39
  let v85 : BitVec 32 := Scalar.select v83 v84 v69
  let v88 : BitVec 32 := Scalar.subi v85 c0_i32_42
  let c1_i32_43 : BitVec 32 := 1#32
  let v90 : BitVec 32 := Scalar.divsi v88 c1_i32_43
  let v91 : BitVec 32 := Scalar.muli v90 c1_i32_43
  let v92 : BitVec 32 := Scalar.addi c0_i32_42 v91
  let c1_i32_44 : BitVec 32 := 1#32
  ⟨c0_i32_42, v92, c1_i32_44⟩
def k0_off13 (v61 : BitVec 32) (k0_t16 : Fin (k0_t16_loop v61).trips) : Fin 1 → Nat :=
  let c0_i32_42 : BitVec 32 := 0#32
  let c1_i32_44 : BitVec 32 := 1#32
  let arg14 : BitVec 32 := Scf.iv c0_i32_42 c1_i32_44 k0_t16
  let c16_i32_54 : BitVec 32 := 16#32
  let v112 : BitVec 32 := Scalar.muli arg14 c16_i32_54
  let v113 : Index := Scalar.indexCast v112
  ![v113.toNat]
@[reducible] def k0_t17_loop : Scf.Loop 32 :=
  let c0_i32_59 : BitVec 32 := 0#32
  let c16_i32_60 : BitVec 32 := 16#32
  let v122 : BitVec 32 := Scalar.addi c0_i32_59 c16_i32_60
  let c1_i32_61 : BitVec 32 := 1#32
  ⟨c0_i32_59, v122, c1_i32_61⟩

def k0_chk39 (v160 : IVec S16 32) : Prop :=
  (∀ a x, ((![v160] : Fin 1 → IVec S16 32) a x).toNat < S16.size a)
theorem k0_idx45_inb : ∀ (v160 : IVec S16 32) (k0_hw39 : k0_chk39 v160), ∀ a x, ((![v160] : Fin 1 → IVec S16 32) a x).toNat < S16.size a := fun v160 k0_hw39 => k0_hw39

def k0_chk40 (v163 : IVec S16 32) : Prop :=
  (∀ a x, ((![v163] : Fin 1 → IVec S16 32) a x).toNat < S16.size a)
theorem k0_idx46_inb : ∀ (v163 : IVec S16 32) (k0_hw40 : k0_chk40 v163), ∀ a x, ((![v163] : Fin 1 → IVec S16 32) a x).toNat < S16.size a := fun v163 k0_hw40 => k0_hw40

def k0_chk41 (v125 : IVec S16 32) : Prop :=
  (∀ a x, ((![v125] : Fin 1 → IVec S16 32) a x).toNat < S16.size a) ∧
  (∀ a x, ((![v125] : Fin 1 → IVec S16 32) a x).toNat < S16.size a)
theorem k0_idx47_inb : ∀ (v125 : IVec S16 32) (k0_hw41 : k0_chk41 v125), ∀ a x, ((![v125] : Fin 1 → IVec S16 32) a x).toNat < S16.size a := fun v125 k0_hw41 => k0_hw41.1
theorem k0_idx48_inb : ∀ (v125 : IVec S16 32) (k0_hw41 : k0_chk41 v125), ∀ a x, ((![v125] : Fin 1 → IVec S16 32) a x).toNat < S16.size a := fun v125 k0_hw41 => k0_hw41.2

def k0_chk42 (v135 : IVec S16 32) : Prop :=
  (∀ a x, ((![v135] : Fin 1 → IVec S16 32) a x).toNat < S16.size a)
theorem k0_idx49_inb : ∀ (v135 : IVec S16 32) (k0_hw42 : k0_chk42 v135), ∀ a x, ((![v135] : Fin 1 → IVec S16 32) a x).toNat < S16.size a := fun v135 k0_hw42 => k0_hw42

def k0_chk43 (v140 : IVec S16 32) : Prop :=
  (∀ a x, ((![v140] : Fin 1 → IVec S16 32) a x).toNat < S16.size a)
theorem k0_idx50_inb : ∀ (v140 : IVec S16 32) (k0_hw43 : k0_chk43 v140), ∀ a x, ((![v140] : Fin 1 → IVec S16 32) a x).toNat < S16.size a := fun v140 k0_hw43 => k0_hw43
@[reducible] def k0_t18_loop : Scf.Loop 32 :=
  let c0_i32_77 : BitVec 32 := 0#32
  let c16_i32_78 : BitVec 32 := 16#32
  let v149 : BitVec 32 := Scalar.addi c0_i32_77 c16_i32_78
  let c1_i32_79 : BitVec 32 := 1#32
  ⟨c0_i32_77, v149, c1_i32_79⟩

def k0_chk44 (v160 : IVec S16 32) : Prop :=
  (∀ a x, ((![v160] : Fin 1 → IVec S16 32) a x).toNat < S16.size a)
theorem k0_idx51_inb : ∀ (v160 : IVec S16 32) (k0_hw44 : k0_chk44 v160), ∀ a x, ((![v160] : Fin 1 → IVec S16 32) a x).toNat < S16.size a := fun v160 k0_hw44 => k0_hw44

def k0_chk45 (v163 : IVec S16 32) : Prop :=
  (∀ a x, ((![v163] : Fin 1 → IVec S16 32) a x).toNat < S16.size a)
theorem k0_idx52_inb : ∀ (v163 : IVec S16 32) (k0_hw45 : k0_chk45 v163), ∀ a x, ((![v163] : Fin 1 → IVec S16 32) a x).toNat < S16.size a := fun v163 k0_hw45 => k0_hw45

def k0_chk46 (v152 : IVec S16 32) : Prop :=
  (∀ a x, ((![v152] : Fin 1 → IVec S16 32) a x).toNat < S16.size a) ∧
  (∀ a x, ((![v152] : Fin 1 → IVec S16 32) a x).toNat < S16.size a)
theorem k0_idx53_inb : ∀ (v152 : IVec S16 32) (k0_hw46 : k0_chk46 v152), ∀ a x, ((![v152] : Fin 1 → IVec S16 32) a x).toNat < S16.size a := fun v152 k0_hw46 => k0_hw46.1
theorem k0_idx54_inb : ∀ (v152 : IVec S16 32) (k0_hw46 : k0_chk46 v152), ∀ a x, ((![v152] : Fin 1 → IVec S16 32) a x).toNat < S16.size a := fun v152 k0_hw46 => k0_hw46.2
@[reducible] def k0_t19_loop (v61 : BitVec 32) : Scf.Loop 32 :=
  let c0_i32_42 : BitVec 32 := 0#32
  let c15_i32_32 : BitVec 32 := 15#32
  let v68 : BitVec 32 := Scalar.addi v61 c15_i32_32
  let c0_i32_34 : BitVec 32 := 0#32
  let v70 : BitVec 1 := Scalar.cmpi .sgt v68 c0_i32_34
  let v71 : BitVec 32 := Scalar.extui v70
  let c0_i32_35 : BitVec 32 := 0#32
  let v72 : BitVec 1 := Scalar.cmpi .slt v68 c0_i32_35
  let v73 : BitVec 32 := Scalar.extui v72
  let v74 : BitVec 32 := Scalar.subi v71 v73
  let c16_i32_33 : BitVec 32 := 16#32
  let c0_i32_36 : BitVec 32 := 0#32
  let v75 : BitVec 1 := Scalar.cmpi .sgt c16_i32_33 c0_i32_36
  let v76 : BitVec 32 := Scalar.extui v75
  let c0_i32_37 : BitVec 32 := 0#32
  let v77 : BitVec 1 := Scalar.cmpi .slt c16_i32_33 c0_i32_37
  let v78 : BitVec 32 := Scalar.extui v77
  let v79 : BitVec 32 := Scalar.subi v76 v78
  let v80 : BitVec 1 := Scalar.cmpi .ne v74 v79
  let v81 : BitVec 32 := Scalar.remsi v68 c16_i32_33
  let c0_i32_38 : BitVec 32 := 0#32
  let v82 : BitVec 1 := Scalar.cmpi .ne v81 c0_i32_38
  let v83 : BitVec 1 := Scalar.andi v80 v82
  let v69 : BitVec 32 := Scalar.divsi v68 c16_i32_33
  let c1_i32_39 : BitVec 32 := 1#32
  let v84 : BitVec 32 := Scalar.subi v69 c1_i32_39
  let v85 : BitVec 32 := Scalar.select v83 v84 v69
  let v88 : BitVec 32 := Scalar.subi v85 c0_i32_42
  let c1_i32_43 : BitVec 32 := 1#32
  let v90 : BitVec 32 := Scalar.divsi v88 c1_i32_43
  let v91 : BitVec 32 := Scalar.muli v90 c1_i32_43
  let v92 : BitVec 32 := Scalar.addi c0_i32_42 v91
  let v89 : BitVec 32 := Scalar.addi c0_i32_42 v88
  let c1_i32_45 : BitVec 32 := 1#32
  ⟨v92, v89, c1_i32_45⟩
def k0_off14 (v61 : BitVec 32) (k0_t19 : Fin (k0_t19_loop v61).trips) : Fin 1 → Nat :=
  let c0_i32_42 : BitVec 32 := 0#32
  let c15_i32_32 : BitVec 32 := 15#32
  let v68 : BitVec 32 := Scalar.addi v61 c15_i32_32
  let c0_i32_34 : BitVec 32 := 0#32
  let v70 : BitVec 1 := Scalar.cmpi .sgt v68 c0_i32_34
  let v71 : BitVec 32 := Scalar.extui v70
  let c0_i32_35 : BitVec 32 := 0#32
  let v72 : BitVec 1 := Scalar.cmpi .slt v68 c0_i32_35
  let v73 : BitVec 32 := Scalar.extui v72
  let v74 : BitVec 32 := Scalar.subi v71 v73
  let c16_i32_33 : BitVec 32 := 16#32
  let c0_i32_36 : BitVec 32 := 0#32
  let v75 : BitVec 1 := Scalar.cmpi .sgt c16_i32_33 c0_i32_36
  let v76 : BitVec 32 := Scalar.extui v75
  let c0_i32_37 : BitVec 32 := 0#32
  let v77 : BitVec 1 := Scalar.cmpi .slt c16_i32_33 c0_i32_37
  let v78 : BitVec 32 := Scalar.extui v77
  let v79 : BitVec 32 := Scalar.subi v76 v78
  let v80 : BitVec 1 := Scalar.cmpi .ne v74 v79
  let v81 : BitVec 32 := Scalar.remsi v68 c16_i32_33
  let c0_i32_38 : BitVec 32 := 0#32
  let v82 : BitVec 1 := Scalar.cmpi .ne v81 c0_i32_38
  let v83 : BitVec 1 := Scalar.andi v80 v82
  let v69 : BitVec 32 := Scalar.divsi v68 c16_i32_33
  let c1_i32_39 : BitVec 32 := 1#32
  let v84 : BitVec 32 := Scalar.subi v69 c1_i32_39
  let v85 : BitVec 32 := Scalar.select v83 v84 v69
  let v88 : BitVec 32 := Scalar.subi v85 c0_i32_42
  let c1_i32_43 : BitVec 32 := 1#32
  let v90 : BitVec 32 := Scalar.divsi v88 c1_i32_43
  let v91 : BitVec 32 := Scalar.muli v90 c1_i32_43
  let v92 : BitVec 32 := Scalar.addi c0_i32_42 v91
  let c1_i32_45 : BitVec 32 := 1#32
  let arg14 : BitVec 32 := Scf.iv v92 c1_i32_45 k0_t19
  let c16_i32_54 : BitVec 32 := 16#32
  let v112 : BitVec 32 := Scalar.muli arg14 c16_i32_54
  let v113 : Index := Scalar.indexCast v112
  ![v113.toNat]

def k0_chk38 (v61 : BitVec 32) : Prop :=
  (∀ a, (k0_off12 v61) a + S16.size a ≤ S8416.size a) ∧
  ((k0_t16_loop v61).OK) ∧
  (∀ k0_t16 : Fin (k0_t16_loop v61).trips, ∀ a, (k0_off13 v61 k0_t16) a + S16.size a ≤ S8416.size a) ∧
  ((k0_t19_loop v61).OK) ∧
  (∀ k0_t19 : Fin (k0_t19_loop v61).trips, ∀ a, (k0_off14 v61 k0_t19) a + S16.size a ≤ S8416.size a)
theorem k0_off12_inb : ∀ (v61 : BitVec 32) (k0_hw38 : k0_chk38 v61), ∀ a, (k0_off12 v61) a + S16.size a ≤ S8416.size a := fun v61 k0_hw38 => k0_hw38.1
theorem k0_t16_ok : ∀ (v61 : BitVec 32) (k0_hw38 : k0_chk38 v61), (k0_t16_loop v61).OK := fun v61 k0_hw38 => k0_hw38.2.1
theorem k0_off13_inb : ∀ (v61 : BitVec 32) (k0_hw38 : k0_chk38 v61) (k0_t16 : Fin (k0_t16_loop v61).trips), ∀ a, (k0_off13 v61 k0_t16) a + S16.size a ≤ S8416.size a := fun v61 k0_hw38 k0_t16 => k0_hw38.2.2.1 k0_t16
theorem k0_t19_ok : ∀ (v61 : BitVec 32) (k0_hw38 : k0_chk38 v61), (k0_t19_loop v61).OK := fun v61 k0_hw38 => k0_hw38.2.2.2.1
theorem k0_off14_inb : ∀ (v61 : BitVec 32) (k0_hw38 : k0_chk38 v61) (k0_t19 : Fin (k0_t19_loop v61).trips), ∀ a, (k0_off14 v61 k0_t19) a + S16.size a ≤ S8416.size a := fun v61 k0_hw38 k0_t19 => k0_hw38.2.2.2.2 k0_t19

@[reducible] def k0_t20_loop : Scf.Loop 32 :=
  let c0_i32_59 : BitVec 32 := 0#32
  let c16_i32_60 : BitVec 32 := 16#32
  let v122 : BitVec 32 := Scalar.addi c0_i32_59 c16_i32_60
  let c1_i32_61 : BitVec 32 := 1#32
  ⟨c0_i32_59, v122, c1_i32_61⟩

def k0_chk47 (v160 : IVec S16 32) : Prop :=
  (∀ a x, ((![v160] : Fin 1 → IVec S16 32) a x).toNat < S16.size a)
theorem k0_idx55_inb : ∀ (v160 : IVec S16 32) (k0_hw47 : k0_chk47 v160), ∀ a x, ((![v160] : Fin 1 → IVec S16 32) a x).toNat < S16.size a := fun v160 k0_hw47 => k0_hw47

def k0_chk48 (v163 : IVec S16 32) : Prop :=
  (∀ a x, ((![v163] : Fin 1 → IVec S16 32) a x).toNat < S16.size a)
theorem k0_idx56_inb : ∀ (v163 : IVec S16 32) (k0_hw48 : k0_chk48 v163), ∀ a x, ((![v163] : Fin 1 → IVec S16 32) a x).toNat < S16.size a := fun v163 k0_hw48 => k0_hw48

def k0_chk49 (v125 : IVec S16 32) : Prop :=
  (∀ a x, ((![v125] : Fin 1 → IVec S16 32) a x).toNat < S16.size a) ∧
  (∀ a x, ((![v125] : Fin 1 → IVec S16 32) a x).toNat < S16.size a)
theorem k0_idx57_inb : ∀ (v125 : IVec S16 32) (k0_hw49 : k0_chk49 v125), ∀ a x, ((![v125] : Fin 1 → IVec S16 32) a x).toNat < S16.size a := fun v125 k0_hw49 => k0_hw49.1
theorem k0_idx58_inb : ∀ (v125 : IVec S16 32) (k0_hw49 : k0_chk49 v125), ∀ a x, ((![v125] : Fin 1 → IVec S16 32) a x).toNat < S16.size a := fun v125 k0_hw49 => k0_hw49.2

def k0_chk50 (v135 : IVec S16 32) : Prop :=
  (∀ a x, ((![v135] : Fin 1 → IVec S16 32) a x).toNat < S16.size a)
theorem k0_idx59_inb : ∀ (v135 : IVec S16 32) (k0_hw50 : k0_chk50 v135), ∀ a x, ((![v135] : Fin 1 → IVec S16 32) a x).toNat < S16.size a := fun v135 k0_hw50 => k0_hw50

def k0_chk51 (v140 : IVec S16 32) : Prop :=
  (∀ a x, ((![v140] : Fin 1 → IVec S16 32) a x).toNat < S16.size a)
theorem k0_idx60_inb : ∀ (v140 : IVec S16 32) (k0_hw51 : k0_chk51 v140), ∀ a x, ((![v140] : Fin 1 → IVec S16 32) a x).toNat < S16.size a := fun v140 k0_hw51 => k0_hw51
@[reducible] def k0_t21_loop : Scf.Loop 32 :=
  let c0_i32_77 : BitVec 32 := 0#32
  let c16_i32_78 : BitVec 32 := 16#32
  let v149 : BitVec 32 := Scalar.addi c0_i32_77 c16_i32_78
  let c1_i32_79 : BitVec 32 := 1#32
  ⟨c0_i32_77, v149, c1_i32_79⟩

def k0_chk52 (v160 : IVec S16 32) : Prop :=
  (∀ a x, ((![v160] : Fin 1 → IVec S16 32) a x).toNat < S16.size a)
theorem k0_idx61_inb : ∀ (v160 : IVec S16 32) (k0_hw52 : k0_chk52 v160), ∀ a x, ((![v160] : Fin 1 → IVec S16 32) a x).toNat < S16.size a := fun v160 k0_hw52 => k0_hw52

def k0_chk53 (v163 : IVec S16 32) : Prop :=
  (∀ a x, ((![v163] : Fin 1 → IVec S16 32) a x).toNat < S16.size a)
theorem k0_idx62_inb : ∀ (v163 : IVec S16 32) (k0_hw53 : k0_chk53 v163), ∀ a x, ((![v163] : Fin 1 → IVec S16 32) a x).toNat < S16.size a := fun v163 k0_hw53 => k0_hw53

def k0_chk54 (v152 : IVec S16 32) : Prop :=
  (∀ a x, ((![v152] : Fin 1 → IVec S16 32) a x).toNat < S16.size a) ∧
  (∀ a x, ((![v152] : Fin 1 → IVec S16 32) a x).toNat < S16.size a)
theorem k0_idx63_inb : ∀ (v152 : IVec S16 32) (k0_hw54 : k0_chk54 v152), ∀ a x, ((![v152] : Fin 1 → IVec S16 32) a x).toNat < S16.size a := fun v152 k0_hw54 => k0_hw54.1
theorem k0_idx64_inb : ∀ (v152 : IVec S16 32) (k0_hw54 : k0_chk54 v152), ∀ a x, ((![v152] : Fin 1 → IVec S16 32) a x).toNat < S16.size a := fun v152 k0_hw54 => k0_hw54.2
@[reducible] def k0_t22_loop : Scf.Loop 32 :=
  let c0_i32_55 : BitVec 32 := 0#32
  let c525_i32_56 : BitVec 32 := 525#32
  let v114 : BitVec 32 := Scalar.addi c0_i32_55 c525_i32_56
  let c1_i32_57 : BitVec 32 := 1#32
  ⟨c0_i32_55, v114, c1_i32_57⟩
def k0_off15 (k0_t22 : Fin k0_t22_loop.trips) : Fin 1 → Nat :=
  let c0_i32_55 : BitVec 32 := 0#32
  let c1_i32_57 : BitVec 32 := 1#32
  let arg14 : BitVec 32 := Scf.iv c0_i32_55 c1_i32_57 k0_t22
  let c16_i32_89 : BitVec 32 := 16#32
  let v154 : BitVec 32 := Scalar.muli arg14 c16_i32_89
  let v155 : Index := Scalar.indexCast v154
  ![v155.toNat]
@[reducible] def k0_t23_loop : Scf.Loop 32 :=
  let c0_i32_62 : BitVec 32 := 0#32
  let c16_i32_63 : BitVec 32 := 16#32
  let v120 : BitVec 32 := Scalar.addi c0_i32_62 c16_i32_63
  let c1_i32_64 : BitVec 32 := 1#32
  ⟨c0_i32_62, v120, c1_i32_64⟩
def k0_cond4 (v61 : BitVec 32) : BitVec 1 :=
  let c0_i32_46 : BitVec 32 := 0#32
  let v95 : BitVec 1 := Scalar.cmpi .eq v61 c0_i32_46
  let v96 : BitVec 32 := Scalar.extui v95
  let c0_i32_48 : BitVec 32 := 0#32
  let v97 : BitVec 1 := Scalar.cmpi .ne v96 c0_i32_48
  v97

def k0_chk55 (v61 : BitVec 32) (v155 : IVec S16 32) : Prop :=
  (∀ (k0_h4 : k0_cond4 v61 = 1#1), ∀ a x, ((![v155] : Fin 1 → IVec S16 32) a x).toNat < S16.size a)
theorem k0_idx65_inb : ∀ (v61 : BitVec 32) (v155 : IVec S16 32) (k0_hw55 : k0_chk55 v61 v155), ∀ (k0_h4 : k0_cond4 v61 = 1#1), ∀ a x, ((![v155] : Fin 1 → IVec S16 32) a x).toNat < S16.size a := fun v61 v155 k0_hw55 k0_h4 => k0_hw55 k0_h4

def k0_chk56 (v61 : BitVec 32) (v158 : IVec S16 32) : Prop :=
  (∀ (k0_h4 : k0_cond4 v61 = 1#1), ∀ a x, ((![v158] : Fin 1 → IVec S16 32) a x).toNat < S16.size a)
theorem k0_idx66_inb : ∀ (v61 : BitVec 32) (v158 : IVec S16 32) (k0_hw56 : k0_chk56 v61 v158), ∀ (k0_h4 : k0_cond4 v61 = 1#1), ∀ a x, ((![v158] : Fin 1 → IVec S16 32) a x).toNat < S16.size a := fun v61 v158 k0_hw56 k0_h4 => k0_hw56 k0_h4

def k0_chk57 (v61 : BitVec 32) (v123 : IVec S16 32) : Prop :=
  (∀ (k0_h4 : k0_cond4 v61 = 1#1), ∀ a x, ((![v123] : Fin 1 → IVec S16 32) a x).toNat < S16.size a) ∧
  (∀ (k0_h4 : k0_cond4 v61 = 1#1), ∀ a x, ((![v123] : Fin 1 → IVec S16 32) a x).toNat < S16.size a)
theorem k0_idx67_inb : ∀ (v61 : BitVec 32) (v123 : IVec S16 32) (k0_hw57 : k0_chk57 v61 v123), ∀ (k0_h4 : k0_cond4 v61 = 1#1), ∀ a x, ((![v123] : Fin 1 → IVec S16 32) a x).toNat < S16.size a := fun v61 v123 k0_hw57 k0_h4 => k0_hw57.1 k0_h4
theorem k0_idx68_inb : ∀ (v61 : BitVec 32) (v123 : IVec S16 32) (k0_hw57 : k0_chk57 v61 v123), ∀ (k0_h4 : k0_cond4 v61 = 1#1), ∀ a x, ((![v123] : Fin 1 → IVec S16 32) a x).toNat < S16.size a := fun v61 v123 k0_hw57 k0_h4 => k0_hw57.2 k0_h4
@[reducible] def k0_t24_loop : Scf.Loop 32 :=
  let c0_i32_78 : BitVec 32 := 0#32
  let c16_i32_79 : BitVec 32 := 16#32
  let v142 : BitVec 32 := Scalar.addi c0_i32_78 c16_i32_79
  let c1_i32_80 : BitVec 32 := 1#32
  ⟨c0_i32_78, v142, c1_i32_80⟩

def k0_chk58 (v61 : BitVec 32) (v155 : IVec S16 32) : Prop :=
  (∀ (k0_h4 : k0_cond4 v61 = 1#1), ∀ a x, ((![v155] : Fin 1 → IVec S16 32) a x).toNat < S16.size a)
theorem k0_idx69_inb : ∀ (v61 : BitVec 32) (v155 : IVec S16 32) (k0_hw58 : k0_chk58 v61 v155), ∀ (k0_h4 : k0_cond4 v61 = 1#1), ∀ a x, ((![v155] : Fin 1 → IVec S16 32) a x).toNat < S16.size a := fun v61 v155 k0_hw58 k0_h4 => k0_hw58 k0_h4

def k0_chk59 (v61 : BitVec 32) (v158 : IVec S16 32) : Prop :=
  (∀ (k0_h4 : k0_cond4 v61 = 1#1), ∀ a x, ((![v158] : Fin 1 → IVec S16 32) a x).toNat < S16.size a)
theorem k0_idx70_inb : ∀ (v61 : BitVec 32) (v158 : IVec S16 32) (k0_hw59 : k0_chk59 v61 v158), ∀ (k0_h4 : k0_cond4 v61 = 1#1), ∀ a x, ((![v158] : Fin 1 → IVec S16 32) a x).toNat < S16.size a := fun v61 v158 k0_hw59 k0_h4 => k0_hw59 k0_h4

def k0_chk60 (v61 : BitVec 32) (v145 : IVec S16 32) : Prop :=
  (∀ (k0_h4 : k0_cond4 v61 = 1#1), ∀ a x, ((![v145] : Fin 1 → IVec S16 32) a x).toNat < S16.size a) ∧
  (∀ (k0_h4 : k0_cond4 v61 = 1#1), ∀ a x, ((![v145] : Fin 1 → IVec S16 32) a x).toNat < S16.size a)
theorem k0_idx71_inb : ∀ (v61 : BitVec 32) (v145 : IVec S16 32) (k0_hw60 : k0_chk60 v61 v145), ∀ (k0_h4 : k0_cond4 v61 = 1#1), ∀ a x, ((![v145] : Fin 1 → IVec S16 32) a x).toNat < S16.size a := fun v61 v145 k0_hw60 k0_h4 => k0_hw60.1 k0_h4
theorem k0_idx72_inb : ∀ (v61 : BitVec 32) (v145 : IVec S16 32) (k0_hw60 : k0_chk60 v61 v145), ∀ (k0_h4 : k0_cond4 v61 = 1#1), ∀ a x, ((![v145] : Fin 1 → IVec S16 32) a x).toNat < S16.size a := fun v61 v145 k0_hw60 k0_h4 => k0_hw60.2 k0_h4
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_23 : BitVec 32 := 2#32
  let v58 : BitVec 32 := Scalar.muli v1 c2_i32_23
  let c1_i32_24 : BitVec 32 := 1#32
  let v59 : BitVec 32 := Scalar.addi v58 c1_i32_24
  let c0_i32_54_r4 : BitVec 32 := 0#32
  ![v59.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ChooseReferenceIdeal.lean ====
abbrev S64x8400 : Shape := ⟨2, ![64, 8400]⟩
abbrev S_ : Shape := ⟨0, ![]⟩
abbrev S64 : Shape := ⟨1, ![64]⟩
abbrev S64x1 : Shape := ⟨2, ![64, 1]⟩
abbrev S64x16 : Shape := ⟨2, ![64, 16]⟩
abbrev S16 : Shape := ⟨1, ![16]⟩
abbrev S1x16 : Shape := ⟨2, ![1, 16]⟩

abbrev nBuf : Space → Nat
  | .hbm => 36
  | .vmem => 0
  | .smem => 0
  | _ => 0

abbrev bufTy : (tb : Table) → Fin (tcTables nBuf tb) → BufTy
  | .hbm, ⟨0, _⟩ => ⟨S64x8400, .f32⟩
  | .hbm, ⟨1, _⟩ => ⟨S_, .f32⟩
  | .hbm, ⟨2, _⟩ => ⟨S64x8400, .f32⟩
  | .hbm, ⟨3, _⟩ => ⟨S64x8400, .i1⟩
  | .hbm, ⟨4, _⟩ => ⟨S64x8400, .i32⟩
  | .hbm, ⟨5, _⟩ => ⟨S_, .i32⟩
  | .hbm, ⟨6, _⟩ => ⟨S64, .i32⟩
  | .hbm, ⟨7, _⟩ => ⟨S64x1, .i32⟩
  | .hbm, ⟨8, _⟩ => ⟨S64x8400, .f32⟩
  | .hbm, ⟨9, _⟩ => ⟨S64x16, .f32⟩
  | .hbm, ⟨10, _⟩ => ⟨S64x16, .i32⟩
  | .hbm, ⟨11, _⟩ => ⟨S16, .i32⟩
  | .hbm, ⟨12, _⟩ => ⟨S_, .i32⟩
  | .hbm, ⟨13, _⟩ => ⟨S64x1, .i32⟩
  | .hbm, ⟨14, _⟩ => ⟨S64x1, .i1⟩
  | .hbm, ⟨15, _⟩ => ⟨S1x16, .i32⟩
  | .hbm, ⟨16, _⟩ => ⟨S64x16, .i32⟩
  | .hbm, ⟨17, _⟩ => ⟨S64x16, .i32⟩
  | .hbm, ⟨18, _⟩ => ⟨S64x16, .i1⟩
  | .hbm, ⟨19, _⟩ => ⟨S_, .i32⟩
  | .hbm, ⟨20, _⟩ => ⟨S_, .i32⟩
  | .hbm, ⟨21, _⟩ => ⟨S64x16, .i32⟩
  | .hbm, ⟨22, _⟩ => ⟨S64x16, .i32⟩
  | .hbm, ⟨23, _⟩ => ⟨S64x1, .i32⟩
  | .hbm, ⟨24, _⟩ => ⟨S64x16, .i1⟩
  | .hbm, ⟨25, _⟩ => ⟨S64x16, .i32⟩
  | .hbm, ⟨26, _⟩ => ⟨S64x16, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S64x1, .i32⟩
  | .hbm, ⟨31, _⟩ => ⟨S64x1, .i32⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S64x16, .i32⟩
  | _, _ => ⟨S64x8400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_values : Ref sig .tc := ⟨.hbm, 9, rfl⟩
abbrev main_indices : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_call1_v0 : Ref sig .tc := ⟨.hbm, 24, rfl⟩
abbrev main_call1_v1 : Ref sig .tc := ⟨.hbm, 25, rfl⟩
abbrev main_v15 : Ref sig .tc := ⟨.hbm, 26, rfl⟩
abbrev main_c_2 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== Costs.lean ====
abbrev S8400x80 : Shape := ⟨2, ![8400, 80]⟩
abbrev S8400x4 : Shape := ⟨2, ![8400, 4]⟩
abbrev S8400x2 : Shape := ⟨2, ![8400, 2]⟩
abbrev S64 : Shape := ⟨1, ![64]⟩
abbrev S64x4 : Shape := ⟨2, ![64, 4]⟩
abbrev S4x8400 : Shape := ⟨2, ![4, 8400]⟩
abbrev S2x8400 : Shape := ⟨2, ![2, 8400]⟩
abbrev S1x64 : Shape := ⟨2, ![1, 64]⟩
abbrev S64x8400 : Shape := ⟨2, ![64, 8400]⟩
abbrev S8400 : Shape := ⟨1, ![8400]⟩
abbrev S8400x1 : Shape := ⟨2, ![8400, 1]⟩
abbrev S64x1 : Shape := ⟨2, ![64, 1]⟩
abbrev S1x80 : Shape := ⟨2, ![1, 80]⟩
abbrev S64x80 : Shape := ⟨2, ![64, 80]⟩
abbrev S1x8400 : Shape := ⟨2, ![1, 8400]⟩

abbrev nBuf : Space → Nat
  | .hbm => 9
  | .vmem => 6
  | .smem => 0
  | _ => 0

abbrev bufTy : (tb : Table) → Fin (tcTables nBuf tb) → BufTy
  | .hbm, ⟨0, _⟩ => ⟨S8400x80, .f32⟩
  | .hbm, ⟨1, _⟩ => ⟨S8400x4, .f32⟩
  | .hbm, ⟨2, _⟩ => ⟨S8400x2, .f32⟩
  | .hbm, ⟨3, _⟩ => ⟨S64, .i32⟩
  | .hbm, ⟨4, _⟩ => ⟨S64x4, .f32⟩
  | .hbm, ⟨5, _⟩ => ⟨S4x8400, .f32⟩
  | .hbm, ⟨6, _⟩ => ⟨S2x8400, .f32⟩
  | .hbm, ⟨7, _⟩ => ⟨S1x64, .i32⟩
  | .hbm, ⟨8, _⟩ => ⟨S64x8400, .f32⟩
  | .local _ .vmem, ⟨0, _⟩ => ⟨S8400x80, .f32⟩
  | .local _ .vmem, ⟨1, _⟩ => ⟨S4x8400, .f32⟩
  | .local _ .vmem, ⟨2, _⟩ => ⟨S2x8400, .f32⟩
  | .local _ .vmem, ⟨3, _⟩ => ⟨S1x64, .i32⟩
  | .local _ .vmem, ⟨4, _⟩ => ⟨S64x4, .f32⟩
  | .local _ .vmem, ⟨5, _⟩ => ⟨S64x8400, .f32⟩
  | _, _ => ⟨S8400x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8400x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x8400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== CostsReferenceIdeal.lean ====
abbrev S8400x80 : Shape := ⟨2, ![8400, 80]⟩
abbrev S8400x4 : Shape := ⟨2, ![8400, 4]⟩
abbrev S8400x2 : Shape := ⟨2, ![8400, 2]⟩
abbrev S64 : Shape := ⟨1, ![64]⟩
abbrev S64x4 : Shape := ⟨2, ![64, 4]⟩
abbrev S8400x1 : Shape := ⟨2, ![8400, 1]⟩
abbrev S8400 : Shape := ⟨1, ![8400]⟩
abbrev S1x8400 : Shape := ⟨2, ![1, 8400]⟩
abbrev S64x1 : Shape := ⟨2, ![64, 1]⟩
abbrev S64x8400 : Shape := ⟨2, ![64, 8400]⟩
abbrev S_ : Shape := ⟨0, ![]⟩
abbrev S1x80 : Shape := ⟨2, ![1, 80]⟩
abbrev S64x80 : Shape := ⟨2, ![64, 80]⟩
abbrev S64x1x80 : Shape := ⟨3, ![64, 1, 80]⟩
abbrev S1x8400x80 : Shape := ⟨3, ![1, 8400, 80]⟩
abbrev S64x8400x80 : Shape := ⟨3, ![64, 8400, 80]⟩
abbrev S1x8400x4 : Shape := ⟨3, ![1, 8400, 4]⟩
abbrev S64x1x4 : Shape := ⟨3, ![64, 1, 4]⟩
abbrev S1x8400x2 : Shape := ⟨3, ![1, 8400, 2]⟩
abbrev S64x1x2 : Shape := ⟨3, ![64, 1, 2]⟩
abbrev S64x8400x2 : Shape := ⟨3, ![64, 8400, 2]⟩
abbrev S64x8400x1 : Shape := ⟨3, ![64, 8400, 1]⟩
abbrev S1x8400x1 : Shape := ⟨3, ![1, 8400, 1]⟩
abbrev S64x1x1 : Shape := ⟨3, ![64, 1, 1]⟩

abbrev nBuf : Space → Nat
  | .hbm => 184
  | .vmem => 0
  | .smem => 0
  | _ => 0

abbrev hbmTy0_0 (i : Nat) : BufTy := match i % 128 with
  | 0 => ⟨S8400x80, .f32⟩
  | 1 => ⟨S8400x4, .f32⟩
  | 2 => ⟨S8400x2, .f32⟩
  | 3 => ⟨S64, .i32⟩
  | 4 => ⟨S64x4, .f32⟩
  | 5 => ⟨S8400x1, .f32⟩
  | 6 => ⟨S8400, .f32⟩
  | 7 => ⟨S1x8400, .f32⟩
  | 8 => ⟨S8400x1, .f32⟩
  | 9 => ⟨S8400, .f32⟩
  | 10 => ⟨S1x8400, .f32⟩
  | 11 => ⟨S64x1, .f32⟩
  | 12 => ⟨S64, .f32⟩
  | 13 => ⟨S64x1, .f32⟩
  | 14 => ⟨S64x1, .f32⟩
  | 15 => ⟨S64, .f32⟩
  | 16 => ⟨S64x1, .f32⟩
  | 17 => ⟨S64x1, .f32⟩
  | 18 => ⟨S64, .f32⟩
  | 19 => ⟨S64x1, .f32⟩
  | 20 => ⟨S64x1, .f32⟩
  | 21 => ⟨S64, .f32⟩
  | 22 => ⟨S64x1, .f32⟩
  | 23 => ⟨S64x8400, .f32⟩
  | 24 => ⟨S64x8400, .f32⟩
  | 25 => ⟨S64x8400, .i1⟩
  | 26 => ⟨S64x8400, .f32⟩
  | 27 => ⟨S64x8400, .f32⟩
  | 28 => ⟨S64x8400, .i1⟩
  | 29 => ⟨S64x8400, .i1⟩
  | 30 => ⟨S64x8400, .f32⟩
  | 31 => ⟨S64x8400, .f32⟩
  | 32 => ⟨S64x8400, .i1⟩
  | 33 => ⟨S64x8400, .i1⟩
  | 34 => ⟨S64x8400, .f32⟩
  | 35 => ⟨S64x8400, .f32⟩
  | 36 => ⟨S64x8400, .i1⟩
  | 37 => ⟨S64x8400, .i1⟩
  | 38 => ⟨S64x1, .f32⟩
  | 39 => ⟨S_, .f32⟩
  | 40 => ⟨S64x1, .f32⟩
  | 41 => ⟨S64x1, .f32⟩
  | 42 => ⟨S64x1, .f32⟩
  | 43 => ⟨S_, .f32⟩
  | 44 => ⟨S64x1, .f32⟩
  | 45 => ⟨S64x1, .f32⟩
  | 46 => ⟨S64x1, .f32⟩
  | 47 => ⟨S_, .f32⟩
  | 48 => ⟨S64x1, .f32⟩
  | 49 => ⟨S64x1, .f32⟩
  | 50 => ⟨S64x1, .f32⟩
  | 51 => ⟨S_, .f32⟩
  | 52 => ⟨S64x1, .f32⟩
  | 53 => ⟨S64x1, .f32⟩
  | 54 => ⟨S64x1, .f32⟩
  | 55 => ⟨S64x8400, .f32⟩
  | 56 => ⟨S64x8400, .f32⟩
  | 57 => ⟨S64x8400, .i1⟩
  | 58 => ⟨S64x1, .f32⟩
  | 59 => ⟨S64x8400, .f32⟩
  | 60 => ⟨S64x8400, .f32⟩
  | 61 => ⟨S64x8400, .i1⟩
  | 62 => ⟨S64x8400, .i1⟩
  | 63 => ⟨S64x1, .f32⟩
  | 64 => ⟨S64x8400, .f32⟩
  | 65 => ⟨S64x8400, .f32⟩
  | 66 => ⟨S64x8400, .i1⟩
  | 67 => ⟨S64x8400, .i1⟩
  | 68 => ⟨S64x1, .f32⟩
  | 69 => ⟨S64x8400, .f32⟩
  | 70 => ⟨S64x8400, .f32⟩
  | 71 => ⟨S64x8400, .i1⟩
  | 72 => ⟨S64x8400, .i1⟩
  | 73 => ⟨S64x8400, .i1⟩
  | 74 => ⟨S8400x80, .f32⟩
  | 75 => ⟨S8400x80, .f32⟩
  | 76 => ⟨S_, .f32⟩
  | 77 => ⟨S8400x80, .f32⟩
  | 78 => ⟨S8400x80, .f32⟩
  | 79 => ⟨S_, .f32⟩
  | 80 => ⟨S8400x80, .f32⟩
  | 81 => ⟨S8400x80, .f32⟩
  | 82 => ⟨S64x1, .i32⟩
  | 83 => ⟨S1x80, .i32⟩
  | 84 => ⟨S64x80, .i32⟩
  | 85 => ⟨S64x80, .i32⟩
  | 86 => ⟨S64x80, .i1⟩
  | 87 => ⟨S64x80, .f32⟩
  | 88 => ⟨S8400x80, .f32⟩
  | 89 => ⟨S_, .f32⟩
  | 90 => ⟨S_, .f32⟩
  | 91 => ⟨S8400x80, .f32⟩
  | 92 => ⟨S8400x80, .f32⟩
  | 93 => ⟨S_, .f32⟩
  | 94 => ⟨S8400x80, .f32⟩
  | 95 => ⟨S8400x80, .f32⟩
  | 96 => ⟨S8400x80, .f32⟩
  | 97 => ⟨S_, .f32⟩
  | 98 => ⟨S_, .f32⟩
  | 99 => ⟨S8400x80, .f32⟩
  | 100 => ⟨S8400x80, .f32⟩
  | 101 => ⟨S64x1x80, .f32⟩
  | 102 => ⟨S1x8400x80, .f32⟩
  | 103 => ⟨S64x8400x80, .f32⟩
  | 104 => ⟨S64x8400x80, .f32⟩
  | 105 => ⟨S64x8400x80, .f32⟩
  | 106 => ⟨S64x1x80, .f32⟩
  | 107 => ⟨S_, .f32⟩
  | 108 => ⟨S64x1x80, .f32⟩
  | 109 => ⟨S64x1x80, .f32⟩
  | 110 => ⟨S1x8400x80, .f32⟩
  | 111 => ⟨S64x8400x80, .f32⟩
  | 112 => ⟨S64x8400x80, .f32⟩
  | 113 => ⟨S64x8400x80, .f32⟩
  | 114 => ⟨S64x8400x80, .f32⟩
  | 115 => ⟨S64x8400x80, .f32⟩
  | 116 => ⟨S_, .f32⟩
  | 117 => ⟨S64x8400, .f32⟩
  | 118 => ⟨S1x8400x4, .f32⟩
  | 119 => ⟨S64x1x4, .f32⟩
  | 120 => ⟨S1x8400x2, .f32⟩
  | 121 => ⟨S64x1x2, .f32⟩
  | 122 => ⟨S64x8400x2, .f32⟩
  | 123 => ⟨S64x8400x2, .f32⟩
  | 124 => ⟨S64x8400x2, .f32⟩
  | 125 => ⟨S1x8400x2, .f32⟩
  | 126 => ⟨S64x1x2, .f32⟩
  | 127 => ⟨S64x8400x2, .f32⟩
  | _ => ⟨S8400x80, .f32⟩

abbrev hbmTy0_1 (i : Nat) : BufTy := match i % 128 with
  | 0 => ⟨S64x8400x2, .f32⟩
  | 1 => ⟨S64x8400x2, .f32⟩
  | 2 => ⟨S64x8400x2, .f32⟩
  | 3 => ⟨S_, .f32⟩
  | 4 => ⟨S64x8400x2, .f32⟩
  | 5 => ⟨S64x8400x2, .f32⟩
  | 6 => ⟨S64x8400x1, .f32⟩
  | 7 => ⟨S64x8400, .f32⟩
  | 8 => ⟨S64x8400x1, .f32⟩
  | 9 => ⟨S64x8400, .f32⟩
  | 10 => ⟨S64x8400, .f32⟩
  | 11 => ⟨S1x8400x1, .f32⟩
  | 12 => ⟨S1x8400, .f32⟩
  | 13 => ⟨S1x8400x1, .f32⟩
  | 14 => ⟨S1x8400, .f32⟩
  | 15 => ⟨S1x8400, .f32⟩
  | 16 => ⟨S1x8400x1, .f32⟩
  | 17 => ⟨S1x8400, .f32⟩
  | 18 => ⟨S1x8400x1, .f32⟩
  | 19 => ⟨S1x8400, .f32⟩
  | 20 => ⟨S1x8400, .f32⟩
  | 21 => ⟨S1x8400, .f32⟩
  | 22 => ⟨S64x1x1, .f32⟩
  | 23 => ⟨S64x1, .f32⟩
  | 24 => ⟨S64x1x1, .f32⟩
  | 25 => ⟨S64x1, .f32⟩
  | 26 => ⟨S64x1, .f32⟩
  | 27 => ⟨S64x1x1, .f32⟩
  | 28 => ⟨S64x1, .f32⟩
  | 29 => ⟨S64x1x1, .f32⟩
  | 30 => ⟨S64x1, .f32⟩
  | 31 => ⟨S64x1, .f32⟩
  | 32 => ⟨S64x1, .f32⟩
  | 33 => ⟨S64x8400, .f32⟩
  | 34 => ⟨S64x8400, .f32⟩
  | 35 => ⟨S64x8400, .f32⟩
  | 36 => ⟨S64x8400, .f32⟩
  | 37 => ⟨S_, .f32⟩
  | 38 => ⟨S64x8400, .f32⟩
  | 39 => ⟨S64x8400, .f32⟩
  | 40 => ⟨S64x8400, .f32⟩
  | 41 => ⟨S64x8400, .f32⟩
  | 42 => ⟨S64x8400, .f32⟩
  | 43 => ⟨S_, .f32⟩
  | 44 => ⟨S64x8400, .f32⟩
  | 45 => ⟨S64x8400, .f32⟩
  | 46 => ⟨S_, .f32⟩
  | 47 => ⟨S64x8400, .f32⟩
  | 48 => ⟨S64x8400, .f32⟩
  | 49 => ⟨S64x8400, .f32⟩
  | 50 => ⟨S64x8400, .i1⟩
  | 51 => ⟨S64x8400, .f32⟩
  | 52 => ⟨S_, .f32⟩
  | 53 => ⟨S64x8400, .f32⟩
  | 54 => ⟨S64x8400, .f32⟩
  | 55 => ⟨S64x8400, .f32⟩
  | _ => ⟨S8400x80, .f32⟩

abbrev hbmTy (i : Nat) : BufTy := match i / 128 with
  | 0 => hbmTy0_0 i
  | 1 => hbmTy0_1 i
  | _ => ⟨S8400x80, .f32⟩

abbrev bufTy : (tb : Table) → Fin (tcTables nBuf tb) → BufTy
  | .hbm, ⟨i, _⟩ => hbmTy i
  | _, _ => ⟨S8400x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_0 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_3 : Ref sig .tc := ⟨.hbm, 76, rfl⟩
abbrev main_v67 : Ref sig .tc := ⟨.hbm, 77, rfl⟩
abbrev main_v68 : Ref sig .tc := ⟨.hbm, 78, rfl⟩
abbrev main_cst_4 : Ref sig .tc := ⟨.hbm, 79, rfl⟩
abbrev main_v69 : Ref sig .tc := ⟨.hbm, 80, rfl⟩
abbrev main_v70 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_v71 : Ref sig .tc := ⟨.hbm, 87, rfl⟩
abbrev main_v72 : Ref sig .tc := ⟨.hbm, 88, rfl⟩
abbrev main_cst_5 : Ref sig .tc := ⟨.hbm, 89, rfl⟩
abbrev main_call1_v0 : Ref sig .tc := ⟨.hbm, 90, rfl⟩
abbrev main_call1_v1 : Ref sig .tc := ⟨.hbm, 91, rfl⟩
abbrev main_v73 : Ref sig .tc := ⟨.hbm, 92, rfl⟩
abbrev main_cst_6 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_7 : Ref sig .tc := ⟨.hbm, 97, rfl⟩
abbrev main_call2_v0 : Ref sig .tc := ⟨.hbm, 98, rfl⟩
abbrev main_call2_v1 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_8 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_9 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_10 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_cst_11 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_cst_12 : Ref sig .tc := ⟨.hbm, 171, rfl⟩
abbrev main_v144 : Ref sig .tc := ⟨.hbm, 172, rfl⟩
abbrev main_v145 : Ref sig .tc := ⟨.hbm, 173, rfl⟩
abbrev main_cst_13 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_cst_14 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩

abbrev nD : Nat := 1
abbrev τ : Topo := Topo.v7x

variable {F : FTy → Type} [FloatOps F]
-- ==== Proof.Model.lean ====
/-
  What one SparseCore task computes, stated over whole arrays, and what an indexed store leaves at an index.
-/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.Proof.Asm

open Idealize.ShloMosaic
open Cert.KernelIdeal Cert.KernelIdeal.Gen

variable {F : FTy → Type} [FloatOps F]

/-! ## An indexed store at an index -/

section Fold
variable {α : Type} {ι : Type} [DecidableEq ι]

/-- A left fold of guarded point updates leaves alone a point that no guarded step names. -/
theorem fold_none {β : Type} (l : List β) (c : β → Prop) [∀ b, Decidable (c b)] (ix : β → ι → Prop) [∀ b j, Decidable (ix b j)] (v : β → ι → α → α)
    (g : ι → α) (j : ι) (h : ∀ b ∈ l, c b → ¬ ix b j) :
    (l.foldl (fun g b => if c b then fun j => if ix b j then v b j (g j) else g j else g) g) j = g j := by
  induction l generalizing g with
  | nil => rfl
  | cons b l ih =>
    rw [List.foldl_cons, ih _ fun b' hb' => h b' (List.mem_cons_of_mem _ hb')]
    split
    · rename_i hc; simp only [if_neg (h b List.mem_cons_self hc)]
    · rfl

/-- A left fold of guarded point writes, where every guarded step that names the point writes `y`, one of them at least, leaves `y` there. -/
theorem fold_some {β : Type} (l : List β) (c : β → Prop) [∀ b, Decidable (c b)] (ix : β → ι → Prop) [∀ b j, Decidable (ix b j)] (v : β → ι → α → α)
    (g : ι → α) (j : ι) (y : α) (h : ∀ b ∈ l, c b → ix b j → ∀ a, v b j a = y) (he : (∃ b ∈ l, c b ∧ ix b j) ∨ g j = y) :
    (l.foldl (fun g b => if c b then fun j => if ix b j then v b j (g j) else g j else g) g) j = y := by
  induction l generalizing g with
  | nil => rcases he with ⟨b, hb, _⟩ | he
           · cases hb
           · exact he
  | cons b l ih =>
    rw [List.foldl_cons]
    apply ih _ fun b' hb' => h b' (List.mem_cons_of_mem _ hb')
    by_cases hc : c b
    · by_cases hi : ix b j
      · right; simp only [if_pos hc, if_pos hi]; exact h b List.mem_cons_self hc hi _
      · rcases he with ⟨b', hb', hc', hi'⟩ | he
        · rcases List.mem_cons.mp hb' with rfl | hb'
          · exact absurd hi' hi
          · exact .inl ⟨b', hb', hc', hi'⟩
        · right; simp only [if_pos hc, if_neg hi]; exact he
    · rcases he with ⟨b', hb', hc', hi'⟩ | he
      · rcases List.mem_cons.mp hb' with rfl | hb'
        · exact absurd hc' hc
        · exact .inl ⟨b', hb', hc', hi'⟩
      · right; simp only [if_neg hc]; exact he

end Fold

section Store
variable {s : Shape} {e : EltTy} {d : Fin 1 → Nat}

/-- An element no stored lane names keeps its value. -/
theorem storeIdx_none (f : Vec F s e) (idxs : Fin s.rank → IVec ⟨1, d⟩ 32) (v : Vec F ⟨1, d⟩ e) (mask : IVec ⟨1, d⟩ 1)
    (h : ∀ a x, (idxs a x).toNat < s.size a) (j : s.Idx)
    (hn : ∀ k : Fin (d 0), mask (Shape.ofLane k) = 1#1 → ¬ ∀ a, (j a).val = (idxs a (Shape.ofLane k)).toNat) :
    storeIdx f idxs v mask false h j = f j := by
  unfold storeIdx
  simp only [Bool.false_eq_true, ↓reduceIte]
  exact fold_none (List.finRange (d 0)) (fun k => mask (Shape.ofLane k) = 1) (fun k j => ∀ a, (j a).val = (idxAt idxs h (Shape.ofLane k) a).val)
    (fun k _ _ => v (Shape.ofLane k)) f j fun k _ hk => hn k hk

/-- An element that some stored lane names holds what those lanes store, when they agree. -/
theorem storeIdx_some (f : Vec F s e) (idxs : Fin s.rank → IVec ⟨1, d⟩ 32) (v : Vec F ⟨1, d⟩ e) (mask : IVec ⟨1, d⟩ 1)
    (h : ∀ a x, (idxs a x).toNat < s.size a) (j : s.Idx) (k₀ : Fin (d 0)) (hm : mask (Shape.ofLane k₀) = 1#1)
    (hj : ∀ a, (j a).val = (idxs a (Shape.ofLane k₀)).toNat)
    (hv : ∀ k : Fin (d 0), mask (Shape.ofLane k) = 1#1 → (∀ a, (j a).val = (idxs a (Shape.ofLane k)).toNat) → v (Shape.ofLane k) = v (Shape.ofLane k₀)) :
    storeIdx f idxs v mask false h j = v (Shape.ofLane k₀) := by
  unfold storeIdx
  simp only [Bool.false_eq_true, ↓reduceIte]
  exact fold_some (List.finRange (d 0)) (fun k => mask (Shape.ofLane k) = 1) (fun k j => ∀ a, (j a).val = (idxAt idxs h (Shape.ofLane k) a).val)
    (fun k _ _ => v (Shape.ofLane k)) f j _ (fun k _ hk hi _ => hv k hk hi) (.inl ⟨k₀, List.mem_finRange _, hm, hj⟩)

end Store

section Lanes
variable {s : Shape} {e : EltTy}

theorem ofLane_eq (l : Fin 16) : (Shape.ofLane (d := ![16]) l : (⟨1, ![16]⟩ : Shape).Idx) = ix1 l := by
  funext a; rw [Fin.eq_zero a]; rfl

/-- `storeIdx_none` at sixteen lanes. -/
theorem store_none (f : Vec F s e) (idxs : Fin s.rank → IVec S16 32) (v : Vec F S16 e) (mask : IVec S16 1)
    (h : ∀ a x, (idxs a x).toNat < s.size a) (j : s.Idx)
    (hn : ∀ l : Fin 16, mask (ix1 l) = 1#1 → ¬ ∀ a, (j a).val = (idxs a (ix1 l)).toNat) :
    storeIdx f idxs v mask false h j = f j :=
  storeIdx_none f idxs v mask h j fun k hm => by
    have hk : Shape.ofLane (d := ![16]) k = ix1 (k : Fin 16) := ofLane_eq k
    rw [hk] at hm ⊢; exact hn k hm

/-- `storeIdx_some` at sixteen lanes. -/
theorem store_some (f : Vec F s e) (idxs : Fin s.rank → IVec S16 32) (v : Vec F S16 e) (mask : IVec S16 1)
    (h : ∀ a x, (idxs a x).toNat < s.size a) (j : s.Idx) (l₀ : Fin 16) (hm : mask (ix1 l₀) = 1#1)
    (hj : ∀ a, (j a).val = (idxs a (ix1 l₀)).toNat)
    (hv : ∀ l : Fin 16, mask (ix1 l) = 1#1 → (∀ a, (j a).val = (idxs a (ix1 l)).toNat) → v (ix1 l) = v (ix1 l₀)) :
    storeIdx f idxs v mask false h j = v (ix1 l₀) := by
  rw [← ofLane_eq] at hm hj hv ⊢
  refine storeIdx_some f idxs v mask h j l₀ hm hj fun k hm' hj' => ?_
  have hk : Shape.ofLane (d := ![16]) k = ix1 (k : Fin 16) := ofLane_eq k
  rw [hk] at hm' hj' ⊢; rw [ofLane_eq l₀] at hv ⊢; exact hv k hm' hj'

end Lanes

/-! ## What the tasks compute, over whole arrays -/

section Model
variable (tk kk : Vec F S64x16 .i32) (pbw : Vec F S32x4x272 .f32) (gl : Vec F S64 .i32) (gbt : Vec F S4x64 .f32)

/-- Ground truth `k` takes anchor `n`: one of its first `kk k` candidates is `n`. -/
def Takes (k : Fin 64) (n : ℕ) : Prop :=
  ∃ j : Fin 16, IntOp.cmpi .slt (BitVec.ofNat 32 j.val) (kk (ix2 k 0)) = 1#1 ∧ tk (ix2 k j) = BitVec.ofNat 32 n

instance (k : Fin 64) (n : ℕ) : Decidable (Takes (F := F) tk kk k n) := by unfold Takes; exact Fintype.decidableExistsFintype

/-- The last of the first `k` ground truths that takes anchor `n`; -1 when none does. -/
def asg : ℕ → ℕ → BitVec 32
  | 0, _ => 4294967295#32
  | k + 1, n => if h : k < 64 then (if Takes (F := F) tk kk ⟨k, h⟩ n then BitVec.ofNat 32 k else asg k n) else asg k n

theorem asg_range (k n : ℕ) : asg (F := F) tk kk k n = 4294967295#32 ∨ ∃ g : Fin 64, asg (F := F) tk kk k n = BitVec.ofNat 32 g.val := by
  induction k with
  | zero => exact .inl rfl
  | succ k ih =>
    unfold asg
    split
    · rename_i h
      split
      · exact .inr ⟨⟨k, h⟩, rfl⟩
      · exact ih
    · exact ih

/-- The assigned ground truth of anchor `n`. -/
abbrev asgF (n : ℕ) : BitVec 32 := asg (F := F) tk kk 64 n
/-- Whether anchor `n` is assigned. -/
def posF (n : ℕ) : BitVec 1 := IntOp.cmpi .sge (asgF (F := F) tk kk n) 0#32
/-- The row of the ground truth arrays that anchor `n` reads. -/
def agi (n : ℕ) : Fin 64 := ⟨(IntOp.maxsi (asgF (F := F) tk kk n) 0#32).toNat % 64, Nat.mod_lt _ (by decide)⟩

theorem agi_val (n : ℕ) : (IntOp.maxsi (asgF (F := F) tk kk n) 0#32).toNat = (agi (F := F) tk kk n).val := by
  show _ = _ % 64
  rcases asg_range (F := F) tk kk 64 n with h | ⟨g, h⟩
  · rw [asgF, h]; rfl
  · rw [asgF, h]; have := g.isLt
    rw [Nat.mod_eq_of_lt]
    unfold IntOp.maxsi
    split
    · simp; omega
    · simp

def labF (n : ℕ) : BitVec 32 := Scalar.select (posF (F := F) tk kk n) (gl (ix1 (agi (F := F) tk kk n))) 80#32
def bbF (n : ℕ) (c : Fin 4) : F .f32 := Scalar.select (posF (F := F) tk kk n) (gbt (ix2 c (agi (F := F) tk kk n))) (Scalar.ofBits .f32 0x00000000#32)

/-- The overlap of two boxes over their union, as the kernel spells it. -/
def iouS (a0 a1 a2 a3 b0 b1 b2 b3 : F .f32) : F .f32 :=
  let z : F .f32 := Scalar.ofBits .f32 0x00000000#32
  let w := FloatOps.maximumf (FloatOps.subf (FloatOps.minimumf a2 b2) (FloatOps.maximumf a0 b0)) z
  let h := FloatOps.maximumf (FloatOps.subf (FloatOps.minimumf a3 b3) (FloatOps.maximumf a1 b1)) z
  let o := FloatOps.mulf w h
  FloatOps.divf o (FloatOps.addf (FloatOps.subf (FloatOps.addf (FloatOps.mulf (FloatOps.subf a2 a0) (FloatOps.subf a3 a1))
    (FloatOps.mulf (FloatOps.subf b2 b0) (FloatOps.subf b3 b1))) o) (Scalar.ofBits .f32 0x358637BD#32))

/-- The four coordinates of predicted box `n`. -/
def pbF (c : Fin 4) (n : ℕ) : F .f32 := pbw (ix3 ⟨n / 272 % 32, Nat.mod_lt _ (by decide)⟩ c ⟨n % 272, Nat.mod_lt _ (by decide)⟩)

def iouF (n : ℕ) : F .f32 :=
  Scalar.select (posF (F := F) tk kk n)
    (iouS (pbF pbw 0 n) (pbF pbw 1 n) (pbF pbw 2 n) (pbF pbw 3 n)
      (gbt (ix2 0 (agi (F := F) tk kk n))) (gbt (ix2 1 (agi (F := F) tk kk n))) (gbt (ix2 2 (agi (F := F) tk kk n))) (gbt (ix2 3 (agi (F := F) tk kk n))))
    (Scalar.ofBits .f32 0x00000000#32)
def scF (n : ℕ) (c : ℕ) : F .f32 := if c = (labF (F := F) tk kk gl n).toNat then iouF (F := F) tk kk pbw gbt n else Scalar.ofBits .f32 0x00000000#32

end Model

end Cert.Proof.Asm
end
-- ==== Proof.Steps.lean ====
module

public import proofs.«01_k».proof.Proof.Model

@[expose] public section

set_option maxRecDepth 16384

noncomputable section

namespace Cert.Proof.Asm

open Idealize.ShloMosaic Idealize.SL.Sem
open Cert.KernelIdeal Cert.KernelIdeal.Gen

variable {F : FTy → Type} [FloatOps F]

/-! ## Words -/

/-- The word the second loop stores at: the difference clamped to 0..271. -/
def clampW (d : BitVec 32) : BitVec 32 := IntOp.minsi 271#32 (IntOp.maxsi 0#32 d)

theorem max_eq (d : BitVec 32) : IntOp.maxsi 0#32 d = if 0 ≤ d.toInt then d else 0#32 := by
  unfold IntOp.maxsi
  have h0 : (0#32).toInt = 0 := by decide
  simp only [BitVec.slt, decide_eq_true_eq, h0]
  by_cases h : 0 ≤ d.toInt
  · rw [if_pos h, if_neg (by omega)]
  · rw [if_neg h, if_pos (by omega)]

theorem clampW_lt (d : BitVec 32) : (clampW d).toNat < 272 := by
  unfold clampW
  generalize he : IntOp.maxsi 0#32 d = e
  have he' : 0 ≤ e.toInt := by
    rw [← he, max_eq]; split
    · assumption
    · decide
  have h1 : (271#32).toInt = 271 := by decide
  have hd := BitVec.toInt_eq_toNat_cond e
  unfold IntOp.minsi
  split
  · decide
  · rename_i h
    simp only [BitVec.slt, decide_eq_true_eq, h1] at h
    split at hd <;> omega

/-- The test a lane passes: the difference is in 0..271. -/
def inW (d : BitVec 32) : BitVec 1 := IntOp.andi (IntOp.cmpi .sge d 0#32) (IntOp.cmpi .slt d 272#32)

theorem inW_iff (d : BitVec 32) : inW d = 1#1 ↔ d.toNat < 272 := by
  have h1 : (272#32).toInt = 272 := by decide
  have h0 : (0#32).toInt = 0 := by decide
  have hd := BitVec.toInt_eq_toNat_cond d
  have hs : IntOp.cmpi .sge d 0#32 = BitVec.ofBool (decide (0 ≤ d.toInt)) := by
    simp [IntOp.cmpi, BitVec.sle]
  have hl : IntOp.cmpi .slt d 272#32 = BitVec.ofBool (decide (d.toInt < 272)) := by
    simp [IntOp.cmpi, BitVec.slt]
  unfold inW; rw [hs, hl]
  by_cases a : 0 ≤ d.toInt <;> by_cases b : d.toInt < 272 <;> simp [a, b, IntOp.andi] <;> split at hd <;> omega

theorem clampW_of_lt (d : BitVec 32) (h : d.toNat < 272) : clampW d = d := by
  have h1 : (271#32).toInt = 271 := by decide
  have h0 : (0#32).toInt = 0 := by decide
  have hd := BitVec.toInt_eq_toNat_cond d
  rw [if_pos (by omega)] at hd
  have hm : IntOp.maxsi 0#32 d = d := by rw [max_eq, if_pos (by omega)]
  unfold clampW; rw [hm]; unfold IntOp.minsi
  rw [if_neg]
  simp only [BitVec.slt, decide_eq_true_eq, h1]; omega

theorem sub_eq_iff (x : BitVec 32) (w r : ℕ) (hw : w < 32) (hr : r < 272) :
    (inW (x - BitVec.ofNat 32 (272 * w)) = 1#1 ∧ r = (clampW (x - BitVec.ofNat 32 (272 * w))).toNat) ↔ x = BitVec.ofNat 32 (272 * w + r) := by
  rw [inW_iff]
  constructor
  · rintro ⟨h, e⟩
    rw [clampW_of_lt _ h] at e
    apply BitVec.eq_of_toNat_eq
    rw [BitVec.toNat_sub] at e h
    simp only [BitVec.toNat_ofNat] at e h ⊢
    have := x.isLt
    omega
  · intro h
    have e : x - BitVec.ofNat 32 (272 * w) = BitVec.ofNat 32 r := by
      subst h; apply BitVec.eq_of_toNat_eq
      rw [BitVec.toNat_sub]
      simp only [BitVec.toNat_ofNat]; omega
    have l : (BitVec.ofNat 32 r).toNat = r := by simp; omega
    rw [e]
    refine ⟨by omega, ?_⟩
    rw [clampW_of_lt _ (by omega), l]

theorem and_assoc_iff (a b c : BitVec 1) : IntOp.andi (IntOp.andi a b) c = 1#1 ↔ IntOp.andi a b = 1#1 ∧ c = 1#1 := by
  unfold IntOp.andi; revert a b c; decide

/-! ## The second loop: one ground truth -/

/-- The sixteen lane numbers. -/
abbrev lanes : IVec S16 32 := iota .scVector S16 32 [0] iota_S16_d0_w32_scVector

theorem pay4_apply (v2 : BitVec 32) (ld : Vec F S1x16 .i32) (l : Fin 16) :
    k0_pay4 (F := F) v2 ld (ix1 l) = clampW (ld (ix2 0 l) - v2) := by
  unfold k0_pay4 k0_pay2 clampW
  pointwise
  rfl

theorem pay3_apply (v2 : BitVec 32) (ld ld' : Vec F S1x16 .i32) (l : Fin 16) :
    k0_pay3 (F := F) v2 lanes ld ld' (ix1 l)
      = IntOp.andi (inW (ld (ix2 0 l) - v2)) (IntOp.cmpi .slt (BitVec.ofNat 32 l.val) (ld' (ix2 0 0))) := by
  unfold k0_pay3 k0_pay2 inW lanes
  pointwise
  rfl

theorem pay5_apply (k : Fin k0_t2_loop.trips) (l : Fin 16) :
    k0_pay5 k0_pay26 k (ix1 l) = BitVec.ofNat 32 k.val := by
  unfold k0_pay5 k0_pay26
  pointwise
  unfold Scf.iv
  apply BitVec.eq_of_toNat_eq; simp [IntOp.addi]

theorem trips2 : k0_t2_loop.trips = 64 := by decide
theorem trips3 : k0_t3_loop.trips = 17 := by decide
theorem trips1 : k0_t1_loop.trips = 272 := by decide

theorem chk1_ok (v2 : BitVec 32) (ld : Vec F S1x16 .i32) : k0_chk1 (k0_pay4 (F := F) v2 ld) := by
  unfold k0_chk1
  intro a x
  rw [Fin.eq_zero a]
  obtain ⟨l, rfl⟩ : ∃ l : Fin 16, x = ix1 l := ⟨x 0, by funext a; rw [Fin.eq_zero a]; rfl⟩
  show (k0_pay4 (F := F) v2 ld (ix1 l)).toNat < 272
  rw [pay4_apply]; exact clampW_lt _

/-- One ground truth's masked store moves `asg` on by one. -/
theorem step_take (tk kk : Vec F S64x16 .i32) (w : ℕ) (hw : w < 32) (k : Fin k0_t2_loop.trips) (k' : Fin 64) (hk : k'.val = k.val)
    (ld ld' : Vec F S1x16 .i32) (h1 : ∀ l : Fin 16, ld (ix2 0 l) = tk (ix2 k' l)) (h2 : ld' (ix2 0 0) = kk (ix2 k' 0))
    (f : Vec F S272 .i32) (hf : ∀ r : Fin 272, f (ix1 r) = asg (F := F) tk kk k.val (272 * w + r.val))
    (h : ∀ a x, ((![k0_pay4 (F := F) (BitVec.ofNat 32 (272 * w)) ld] : Fin 1 → IVec S16 32) a x).toNat < S272.size a) (r : Fin 272) :
    storeIdx (F := F) f ![k0_pay4 (F := F) (BitVec.ofNat 32 (272 * w)) ld] (k0_pay5 k0_pay26 k)
      (k0_pay3 (F := F) (BitVec.ofNat 32 (272 * w)) lanes ld ld') false h (ix1 r) = asg (F := F) tk kk (k.val + 1) (272 * w + r.val) := by
  have key : ∀ l : Fin 16, (k0_pay3 (F := F) (BitVec.ofNat 32 (272 * w)) lanes ld ld' (ix1 l) = 1#1 ∧
      ∀ a, ((ix1 r : S272.Idx) a).val = ((![k0_pay4 (F := F) (BitVec.ofNat 32 (272 * w)) ld] : Fin 1 → IVec S16 32) a (ix1 l)).toNat) ↔
      (IntOp.cmpi .slt (BitVec.ofNat 32 l.val) (kk (ix2 k' 0)) = 1#1 ∧ tk (ix2 k' l) = BitVec.ofNat 32 (272 * w + r.val)) := by
    intro l
    have e : (∀ a, ((ix1 r : S272.Idx) a).val = ((![k0_pay4 (F := F) (BitVec.ofNat 32 (272 * w)) ld] : Fin 1 → IVec S16 32) a (ix1 l)).toNat) ↔
        r.val = (clampW (tk (ix2 k' l) - BitVec.ofNat 32 (272 * w))).toNat := by
      rw [← h1, ← pay4_apply]
      constructor
      · intro q; exact q 0
      · intro q a; rw [Fin.eq_zero a]; exact q
    rw [e, pay3_apply, h1, h2, inW, and_assoc_iff, ← inW, ← sub_eq_iff _ _ _ hw r.isLt]
    tauto
  have hb : k.val < 64 := lt_of_lt_of_eq k.isLt trips2
  obtain rfl : k' = ⟨k.val, hb⟩ := Fin.ext hk
  unfold asg
  rw [dif_pos hb]
  by_cases ht : Takes (F := F) tk kk ⟨k.val, hb⟩ (272 * w + r.val)
  · rw [if_pos ht]
    obtain ⟨j, hj⟩ := ht
    have := (key j).2 hj
    rw [store_some f _ _ _ h (ix1 r) j this.1 this.2, pay5_apply]
    intro l _ _; rw [pay5_apply, pay5_apply]
  · rw [if_neg ht, store_none f _ _ _ h (ix1 r), hf]
    intro l hm hc
    exact ht ⟨l, (key l).1 ⟨hm, hc⟩⟩

/-! ## The third loop: sixteen anchors -/

theorem pay8_apply (k : Fin k0_t3_loop.trips) (l : Fin 16) :
    k0_pay8 lanes 0#32 1#32 k (ix1 l) = BitVec.ofNat 32 (16 * k.val + l.val) := by
  unfold k0_pay8 lanes
  pointwise
  unfold Scf.iv
  apply BitVec.eq_of_toNat_eq
  simp [IntOp.addi, IntOp.muli, Scalar.muli]
  omega

theorem pay8_toNat (k : Fin k0_t3_loop.trips) (l : Fin 16) :
    (k0_pay8 lanes 0#32 1#32 k (ix1 l)).toNat = 16 * k.val + l.val := by
  have := lt_of_lt_of_eq k.isLt trips3; have := l.isLt
  rw [pay8_apply]; simp; omega

/-- A two-index store of sixteen rows from `16 * k`, one entry in each. -/
theorem store_rows {e : EltTy} {N : ℕ} (f : Vec F ⟨2, ![272, N]⟩ e) (k : Fin k0_t3_loop.trips) (col : IVec S16 32) (v : Vec F S16 e)
    (h : ∀ a x, ((![k0_pay8 lanes 0#32 1#32 k, col] : Fin 2 → IVec S16 32) a x).toNat < (⟨2, ![272, N]⟩ : Shape).size a) (r : Fin 272) (q : Fin N) :
    storeIdx (s := ⟨2, ![272, N]⟩) f ![k0_pay8 lanes 0#32 1#32 k, col] v (fun _ => 1#1) false h (ix2 r q)
      = if hr : 16 * k.val ≤ r.val ∧ r.val < 16 * k.val + 16 then
          (if q.val = (col (ix1 (⟨r.val - 16 * k.val, by omega⟩ : Fin 16))).toNat then v (ix1 (⟨r.val - 16 * k.val, by omega⟩ : Fin 16)) else f (ix2 r q))
        else f (ix2 r q) := by
  have key : ∀ l : Fin 16, (∀ a, ((ix2 r q : (⟨2, ![272, N]⟩ : Shape).Idx) a).val = ((![k0_pay8 lanes 0#32 1#32 k, col] : Fin 2 → IVec S16 32) a (ix1 l)).toNat) ↔
      r.val = 16 * k.val + l.val ∧ q.val = (col (ix1 l)).toNat := by
    intro l
    rw [← pay8_toNat]
    constructor
    · intro g; exact ⟨g 0, g 1⟩
    · rintro ⟨g0, g1⟩ a
      match a with
      | 0 => exact g0
      | 1 => exact g1
  by_cases hr : 16 * k.val ≤ r.val ∧ r.val < 16 * k.val + 16
  · rw [dif_pos hr]
    by_cases hq : q.val = (col (ix1 (⟨r.val - 16 * k.val, by omega⟩ : Fin 16))).toNat
    · rw [if_pos hq]
      refine store_some f _ _ _ h (ix2 r q) _ rfl ((key _).2 ⟨by simp; omega, hq⟩) fun l _ hl => ?_
      have := ((key l).1 hl).1
      congr 2; apply Fin.ext; simp; omega
    · rw [if_neg hq]
      refine store_none f _ _ _ h (ix2 r q) fun l _ hl => hq ?_
      have := (key l).1 hl
      rw [this.2]; congr 3; apply Fin.ext; simp; omega
  · rw [dif_neg hr]
    refine store_none f _ _ _ h (ix2 r q) fun l _ hl => hr ?_
    have := ((key l).1 hl).1
    omega

theorem exists_ix1 {n : ℕ} (x : (⟨1, ![n]⟩ : Shape).Idx) : ∃ l : Fin n, x = ix1 l :=
  ⟨x 0, by funext a; rw [Fin.eq_zero a]; rfl⟩

/-- A two-index access is in bounds when both lanes' words are. -/
theorem inb2 {N M : ℕ} (row col : IVec S16 32) (hr : ∀ l : Fin 16, (row (ix1 l)).toNat < N) (hc : ∀ l : Fin 16, (col (ix1 l)).toNat < M) :
    ∀ a x, ((![row, col] : Fin 2 → IVec S16 32) a x).toNat < (⟨2, ![N, M]⟩ : Shape).size a := by
  intro a x
  obtain ⟨l, rfl⟩ := exists_ix1 x
  match a with
  | 0 => exact hr l
  | 1 => exact hc l

theorem pay8_lt (k : Fin k0_t3_loop.trips) (l : Fin 16) : (k0_pay8 lanes 0#32 1#32 k (ix1 l)).toNat < 272 := by
  have := lt_of_lt_of_eq k.isLt trips3; have := l.isLt
  rw [pay8_toNat]; omega

theorem pay26_toNat (l : Fin 16) : (k0_pay26 (ix1 l)).toNat = 0 := rfl
theorem pay16_toNat (l : Fin 16) : (k0_pay16 k0_pay26 (ix1 l)).toNat = 1 := rfl
theorem pay17_toNat (l : Fin 16) : (k0_pay17 k0_pay26 (ix1 l)).toNat = 2 := rfl
theorem pay18_toNat (l : Fin 16) : (k0_pay18 k0_pay26 (ix1 l)).toNat = 3 := rfl
theorem pay22_toNat (l : Fin 16) : (k0_pay22 k0_pay26 (ix1 l)).toNat = 1 := rfl
theorem pay24_toNat (l : Fin 16) : (k0_pay24 k0_pay26 (ix1 l)).toNat = 2 := rfl
theorem pay6_toNat (l : Fin 16) : (k0_pay6 k0_pay26 (ix1 l)).toNat = 3 := rfl

theorem chk6_ok (k : Fin k0_t3_loop.trips) : k0_chk6 k0_pay26 (k0_pay8 lanes 0#32 1#32 k) :=
  inb2 _ _ (pay8_lt k) fun l => by rw [pay26_toNat]; decide
theorem chk7_ok (k : Fin k0_t3_loop.trips) : k0_chk7 (k0_pay8 lanes 0#32 1#32 k) (k0_pay22 k0_pay26) :=
  inb2 _ _ (pay8_lt k) fun l => by rw [pay22_toNat]; decide
theorem chk8_ok (k : Fin k0_t3_loop.trips) : k0_chk8 (k0_pay8 lanes 0#32 1#32 k) (k0_pay24 k0_pay26) :=
  inb2 _ _ (pay8_lt k) fun l => by rw [pay24_toNat]; decide
theorem chk9_ok (k : Fin k0_t3_loop.trips) : k0_chk9 (k0_pay8 lanes 0#32 1#32 k) (k0_pay6 k0_pay26) :=
  inb2 _ _ (pay8_lt k) fun l => by rw [pay6_toNat]; decide

section Lane
variable (tk kk : Vec F S64x16 .i32) (pbw : Vec F S32x4x272 .f32) (gl : Vec F S64 .i32) (gbt : Vec F S4x64 .f32)
variable (m : ℕ) (v50 : Vec F S16 .i32)

/-- The sixteen lanes hold the assignments of the anchors from `m`. -/
def Holds : Prop := ∀ l : Fin 16, v50 (ix1 l) = asgF (F := F) tk kk (m + l.val)

variable {tk kk m v50} (hv : Holds tk kk m v50)
include hv

theorem pay10_toNat (l : Fin 16) : (k0_pay10 (F := F) v50 (ix1 l)).toNat = (agi (F := F) tk kk (m + l.val)).val := by
  rw [← agi_val, ← hv l]
  unfold k0_pay10
  pointwise

theorem pay9_apply (l : Fin 16) : k0_pay9 (F := F) v50 (ix1 l) = posF (F := F) tk kk (m + l.val) := by
  unfold posF; rw [← hv l]
  unfold k0_pay9
  pointwise

theorem chk2_ok : k0_chk2 k0_pay26 (k0_pay10 (F := F) v50) := by
  have h10 : ∀ l : Fin 16, (k0_pay10 (F := F) v50 (ix1 l)).toNat < 64 := fun l => by rw [pay10_toNat hv]; exact (agi _ _ _).isLt
  refine ⟨fun a x => ?_, inb2 _ _ (fun l => by rw [pay26_toNat]; decide) h10⟩
  obtain ⟨l, rfl⟩ := exists_ix1 x
  rw [Fin.eq_zero a]; exact h10 l

theorem chk3_ok : k0_chk3 (k0_pay10 (F := F) v50) (k0_pay16 k0_pay26) :=
  inb2 _ _ (fun l => by rw [pay16_toNat]; decide) fun l => by rw [pay10_toNat hv]; exact (agi _ _ _).isLt
theorem chk4_ok : k0_chk4 (k0_pay10 (F := F) v50) (k0_pay17 k0_pay26) :=
  inb2 _ _ (fun l => by rw [pay17_toNat]; decide) fun l => by rw [pay10_toNat hv]; exact (agi _ _ _).isLt
theorem chk5_ok : k0_chk5 (k0_pay10 (F := F) v50) (k0_pay18 k0_pay26) :=
  inb2 _ _ (fun l => by rw [pay18_toNat]; decide) fun l => by rw [pay10_toNat hv]; exact (agi _ _ _).isLt

theorem gl_apply (h : ∀ a x, ((![k0_pay10 (F := F) v50] : Fin 1 → IVec S16 32) a x).toNat < S64.size a) (l : Fin 16) :
    loadIdx (F := F) gl ![k0_pay10 (F := F) v50] h (ix1 l) = gl (ix1 (agi (F := F) tk kk (m + l.val))) := by
  unfold loadIdx
  congr 1
  funext a; rw [Fin.eq_zero a]
  exact Fin.ext (pay10_toNat hv l)

theorem gb_apply (q : Fin 4) (col : IVec S16 32) (hq : ∀ l : Fin 16, (col (ix1 l)).toNat = q.val)
    (h : ∀ a x, ((![col, k0_pay10 (F := F) v50] : Fin 2 → IVec S16 32) a x).toNat < S4x64.size a) (l : Fin 16) :
    loadIdx (F := F) gbt ![col, k0_pay10 (F := F) v50] h (ix1 l) = gbt (ix2 q (agi (F := F) tk kk (m + l.val))) := by
  unfold loadIdx
  congr 1
  funext a
  match a with
  | 0 => exact Fin.ext (hq l)
  | 1 => exact Fin.ext (pay10_toNat hv l)

theorem lab_apply (v55 : Vec F S16 .i32) (h55 : ∀ l : Fin 16, v55 (ix1 l) = gl (ix1 (agi (F := F) tk kk (m + l.val)))) (l : Fin 16) :
    k0_pay11 (F := F) v50 v55 (ix1 l) = labF (F := F) tk kk gl (m + l.val) := by
  unfold labF
  rw [← h55, ← pay9_apply hv]
  unfold k0_pay11
  pointwise

omit hv in
theorem lab_lt (hgl : ∀ g : Fin 64, (gl (ix1 g)).toNat < 80) (n : ℕ) : (labF (F := F) tk kk gl n).toNat ≤ 80 := by
  unfold labF Scalar.select
  split
  · exact (hgl _).le
  · decide

theorem chk10_ok (hgl : ∀ g : Fin 64, (gl (ix1 g)).toNat < 80) (v55 : Vec F S16 .i32)
    (h55 : ∀ l : Fin 16, v55 (ix1 l) = gl (ix1 (agi (F := F) tk kk (m + l.val)))) (k : Fin k0_t3_loop.trips) :
    k0_chk10 (k0_pay8 lanes 0#32 1#32 k) (k0_pay11 (F := F) v50 v55) :=
  inb2 _ _ (pay8_lt k) fun l => by
    rw [lab_apply gl hv v55 h55]; exact lt_of_le_of_lt (lab_lt gl hgl _) (by decide)

theorem box_apply (q : Fin 4) (v77 : Vec F S16 .f32) (h77 : ∀ l : Fin 16, v77 (ix1 l) = gbt (ix2 q (agi (F := F) tk kk (m + l.val)))) (l : Fin 16) :
    select (k0_pay9 (F := F) v50) v77 (k0_pay20 (F := F)) (ix1 l) = bbF (F := F) tk kk gbt (m + l.val) q := by
  unfold bbF
  rw [← h77, ← pay9_apply hv]
  unfold k0_pay20
  pointwise

theorem iou_apply (p0 p1 p2 p3 : Vec F S1x16 .f32) (b0 b1 b2 b3 : Vec F S16 .f32)
    (hp0 : ∀ l : Fin 16, p0 (ix2 0 l) = pbF pbw 0 (m + l.val)) (hp1 : ∀ l : Fin 16, p1 (ix2 0 l) = pbF pbw 1 (m + l.val))
    (hp2 : ∀ l : Fin 16, p2 (ix2 0 l) = pbF pbw 2 (m + l.val)) (hp3 : ∀ l : Fin 16, p3 (ix2 0 l) = pbF pbw 3 (m + l.val))
    (hb0 : ∀ l : Fin 16, b0 (ix1 l) = gbt (ix2 0 (agi (F := F) tk kk (m + l.val)))) (hb1 : ∀ l : Fin 16, b1 (ix1 l) = gbt (ix2 1 (agi (F := F) tk kk (m + l.val))))
    (hb2 : ∀ l : Fin 16, b2 (ix1 l) = gbt (ix2 2 (agi (F := F) tk kk (m + l.val)))) (hb3 : ∀ l : Fin 16, b3 (ix1 l) = gbt (ix2 3 (agi (F := F) tk kk (m + l.val))))
    (l : Fin 16) :
    k0_pay19 (k0_pay9 (F := F) v50) (k0_pay12 p0) (k0_pay13 p1) (k0_pay14 p2) (k0_pay15 p3) b0 b1 b2 b3 (ix1 l)
      = iouF (F := F) tk kk pbw gbt (m + l.val) := by
  unfold iouF iouS
  rw [← hb0, ← hb1, ← hb2, ← hb3, ← hp0, ← hp1, ← hp2, ← hp3, ← pay9_apply hv]
  unfold k0_pay19 k0_pay12 k0_pay13 k0_pay14 k0_pay15
  pointwise

end Lane

theorem pbF_at (pbw : Vec F S32x4x272 .f32) (w : Fin 32) (c : Fin 4) (r : Fin 272) :
    pbF (F := F) pbw c (272 * w.val + r.val) = pbw (ix3 w c r) := by
  have := w.isLt; have := r.isLt
  unfold pbF
  congr 2
  · exact Fin.ext (show (272 * w.val + r.val) / 272 % 32 = w.val by omega)
  · exact Fin.ext (show (272 * w.val + r.val) % 272 = r.val by omega)

end Cert.Proof.Asm
end
-- ==== Proof.Setup.lean ====
module

public import proofs.«01_k».proof.Defs
public import proofs.«01_k».proof.Proof.Steps
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Asm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

local notation "tkV" => (Memref.whole Cert.KernelIdeal.main_arg0_scv : Memref Cert.KernelIdeal.sig Kind.scVector Space.hbm Cert.KernelIdeal.S64x16 EltTy.i32)
local notation "kkV" => (Memref.whole Cert.KernelIdeal.main_arg1_scv : Memref Cert.KernelIdeal.sig Kind.scVector Space.hbm Cert.KernelIdeal.S64x16 EltTy.i32)
local notation "pbV" => (Memref.whole Cert.KernelIdeal.main_v3_scv : Memref Cert.KernelIdeal.sig Kind.scVector Space.hbm Cert.KernelIdeal.S32x4x272 EltTy.f32)
local notation "glV" => (Memref.whole Cert.KernelIdeal.main_arg3_scv : Memref Cert.KernelIdeal.sig Kind.scVector Space.hbm Cert.KernelIdeal.S64 EltTy.i32)
local notation "gbV" => (Memref.whole Cert.KernelIdeal.main_v4_scv : Memref Cert.KernelIdeal.sig Kind.scVector Space.hbm Cert.KernelIdeal.S4x64 EltTy.f32)
local notation "labV" => (Memref.whole Cert.KernelIdeal.main_v5_0_scv : Memref Cert.KernelIdeal.sig Kind.scVector Space.hbm Cert.KernelIdeal.S8704 EltTy.i32)
local notation "bbV" => (Memref.whole Cert.KernelIdeal.main_v5_1_scv : Memref Cert.KernelIdeal.sig Kind.scVector Space.hbm Cert.KernelIdeal.S8704x4 EltTy.f32)
local notation "scV" => (Memref.whole Cert.KernelIdeal.main_v5_2_scv : Memref Cert.KernelIdeal.sig Kind.scVector Space.hbm Cert.KernelIdeal.S8704x96 EltTy.f32)
local notation "b0" => (Memref.whole Cert.KernelIdeal.cc0_scratch0 : Memref Cert.KernelIdeal.sig Kind.scVector Space.vmem Cert.KernelIdeal.S64x16 EltTy.i32)
local notation "b1" => (Memref.whole Cert.KernelIdeal.cc0_scratch1 : Memref Cert.KernelIdeal.sig Kind.scVector Space.vmem Cert.KernelIdeal.S64x16 EltTy.i32)
local notation "b2" => (Memref.whole Cert.KernelIdeal.cc0_scratch2 : Memref Cert.KernelIdeal.sig Kind.scVector Space.vmem Cert.KernelIdeal.S64 EltTy.i32)
local notation "b3" => (Memref.whole Cert.KernelIdeal.cc0_scratch3 : Memref Cert.KernelIdeal.sig Kind.scVector Space.vmem Cert.KernelIdeal.S4x64 EltTy.f32)
local notation "b4" => (Memref.whole Cert.KernelIdeal.cc0_scratch4 : Memref Cert.KernelIdeal.sig Kind.scVector Space.vmem Cert.KernelIdeal.S4x272 EltTy.f32)
local notation "b5" => (Memref.whole Cert.KernelIdeal.cc0_scratch5 : Memref Cert.KernelIdeal.sig Kind.scVector Space.vmem Cert.KernelIdeal.S272 EltTy.i32)
local notation "b6" => (Memref.whole Cert.KernelIdeal.cc0_scratch6 : Memref Cert.KernelIdeal.sig Kind.scVector Space.vmem Cert.KernelIdeal.S272 EltTy.i32)
local notation "b7" => (Memref.whole Cert.KernelIdeal.cc0_scratch7 : Memref Cert.KernelIdeal.sig Kind.scVector Space.vmem Cert.KernelIdeal.S272x4 EltTy.f32)
local notation "b8" => (Memref.whole Cert.KernelIdeal.cc0_scratch8 : Memref Cert.KernelIdeal.sig Kind.scVector Space.vmem Cert.KernelIdeal.S272x96 EltTy.f32)

abbrev tkLoc (d : Dev nD) : Loc nD τ sig := (SparseCore.T d).loc main_arg0
abbrev kkLoc (d : Dev nD) : Loc nD τ sig := (SparseCore.T d).loc main_arg1
abbrev pbLoc (d : Dev nD) : Loc nD τ sig := (SparseCore.T d).loc main_v3
abbrev glLoc (d : Dev nD) : Loc nD τ sig := (SparseCore.T d).loc main_arg3
abbrev gbLoc (d : Dev nD) : Loc nD τ sig := (SparseCore.T d).loc main_v4
abbrev labLoc (d : Dev nD) : Loc nD τ sig := (SparseCore.T d).loc main_v5_0
abbrev bbLoc (d : Dev nD) : Loc nD τ sig := (SparseCore.T d).loc main_v5_1
abbrev scLoc (d : Dev nD) : Loc nD τ sig := (SparseCore.T d).loc main_v5_2

theorem hdivP : 32 ∣ S32x4x272.size 0 := ⟨1, rfl⟩
theorem hdivL : 32 ∣ S8704.size 0 := ⟨272, rfl⟩
theorem hdivB : 32 ∣ S8704x4.size 0 := ⟨272, rfl⟩
theorem hdivS : 32 ∣ S8704x96.size 0 := ⟨272, rfl⟩
/-- Part `w` of the 32 parts along axis 0. -/
abbrev partP (w : Fin 32) : Rect S32x4x272 := Rect.part (s := S32x4x272) (a₀ := 0) hdivP w
abbrev setP (w : Fin 32) : Finset S32x4x272.Idx := ((pbV).view.slice (partP w)).set
/-- Part `w` of the 32 parts along axis 0. -/
abbrev partL (w : Fin 32) : Rect S8704 := Rect.part (s := S8704) (a₀ := 0) hdivL w
abbrev setL (w : Fin 32) : Finset S8704.Idx := ((labV).view.slice (partL w)).set
/-- Part `w` of the 32 parts along axis 0. -/
abbrev partB (w : Fin 32) : Rect S8704x4 := Rect.part (s := S8704x4) (a₀ := 0) hdivB w
abbrev setB (w : Fin 32) : Finset S8704x4.Idx := ((bbV).view.slice (partB w)).set
/-- Part `w` of the 32 parts along axis 0. -/
abbrev partS (w : Fin 32) : Rect S8704x96 := Rect.part (s := S8704x96) (a₀ := 0) hdivS w
abbrev setS (w : Fin 32) : Finset S8704x96.Idx := ((scV).view.slice (partS w)).set

variable (A : Dev nD → Valuation τ sig (Elt F))

/-- What the call's operands hold. -/
abbrev tkA (d : Dev nD) : Vec F S64x16 .i32 := A d (Proc.devRef .tc (main_arg0 : Ref sig .tc))
abbrev kkA (d : Dev nD) : Vec F S64x16 .i32 := A d (Proc.devRef .tc (main_arg1 : Ref sig .tc))
abbrev pbA (d : Dev nD) : Vec F S32x4x272 .f32 := A d (Proc.devRef .tc (main_v3 : Ref sig .tc))
abbrev glA (d : Dev nD) : Vec F S64 .i32 := A d (Proc.devRef .tc (main_arg3 : Ref sig .tc))
abbrev gbA (d : Dev nD) : Vec F S4x64 .f32 := A d (Proc.devRef .tc (main_v4 : Ref sig .tc))

variable [FloatOps F]

/-- The three arrays the call leaves. -/
def labG (d : Dev nD) : Vec F S8704 .i32 := fun i => labF (F := F) (tkA A d) (kkA A d) (glA A d) (i 0).val
def bbG (d : Dev nD) : Vec F S8704x4 .f32 := fun i => bbF (F := F) (tkA A d) (kkA A d) (gbA A d) (i 0).val (i 1)
def scG (d : Dev nD) : Vec F S8704x96 .f32 := fun i => scF (F := F) (tkA A d) (kkA A d) (pbA A d) (glA A d) (gbA A d) (i 0).val (i 1).val

/-! ## What one task is handed and hands back -/

/-- The operands task `w` reads: a read share of four whole arrays and its own block of the fifth. -/
def ins (d : Dev nD) (w : Fin 32) : sProp 𝕄 :=
  iprop((tkLoc d ↦{ShareLeaves.leaf 5 fullShare w} tkA A d) ∗ (kkLoc d ↦{ShareLeaves.leaf 5 fullShare w} kkA A d)
    ∗ (pbLoc d ↦[setP w]{fullShare} pbA A d)
    ∗ (glLoc d ↦{ShareLeaves.leaf 5 fullShare w} glA A d) ∗ (gbLoc d ↦{ShareLeaves.leaf 5 fullShare w} gbA A d))
/-- The blocks of the results task `w` is handed. -/
def outs0 (d : Dev nD) (w : Fin 32) : sProp 𝕄 :=
  iprop((labLoc d ↦[setL w]{fullShare} A d (Proc.devRef .tc (main_v5_0 : Ref sig .tc))) ∗ (bbLoc d ↦[setB w]{fullShare} A d (Proc.devRef .tc (main_v5_1 : Ref sig .tc)))
    ∗ (scLoc d ↦[setS w]{fullShare} A d (Proc.devRef .tc (main_v5_2 : Ref sig .tc))))
/-- The blocks of the results as task `w` leaves them. -/
def outs1 (d : Dev nD) (w : Fin 32) : sProp 𝕄 :=
  iprop((labLoc d ↦[setL w]{fullShare} labG A d) ∗ (bbLoc d ↦[setB w]{fullShare} bbG A d) ∗ (scLoc d ↦[setS w]{fullShare} scG A d))

theorem wid_lt (c : Fin 2) (i : Fin 16) : 2 * i.val + c.val < 32 := by omega
/-- Core `c`'s task `i` is number `2 i + c`. -/
abbrev wid (c : Fin 2) (i : Fin 16) : Fin 32 := ⟨2 * i.val + c.val, wid_lt c i⟩

abbrev goP (d : Dev nD) (w : Fin 32) : sProp 𝕄 := iprop(ins A d w ∗ outs0 A d w)
abbrev tdP (d : Dev nD) (w : Fin 32) : sProp 𝕄 := iprop(ins A d w ∗ outs1 A d w)

instance goP_storable (d : Dev nD) (w : Fin 32) : BI.Storable (upEmb : UEmb _ 𝕄) (goP A d w) := by unfold goP ins outs0; infer_instance
instance tdP_storable (d : Dev nD) (w : Fin 32) : BI.Storable (upEmb : UEmb _ 𝕄) (tdP A d w) := by unfold tdP ins outs1; infer_instance

theorem nCore_zero : (K (F := F)).nCore 0 = 2 := rfl

/-- The call hands each core its sixteen tasks' pieces. -/
def P : (K (F := F)).Pay (nD := nD) (Val := Elt F) (Name := ℕ) (U := UU) where
  st := fun q d c => match q with | 0 => bigSep Finset.univ fun i : Fin 16 => goP A d (wid (Fin.cast nCore_zero c) i)
  dn := fun q d c => match q with | 0 => bigSep Finset.univ fun i : Fin 16 => tdP A d (wid (Fin.cast nCore_zero c) i)
  go := fun q d c i => match q with | 0 => goP A d (wid (Fin.cast nCore_zero c) (Fin.cast nSub_zero i))
  td := fun q d c i => match q with | 0 => tdP A d (wid (Fin.cast nCore_zero c) (Fin.cast nSub_zero i))
  x := fun _ _ => iprop(emp)

instance P_storable : (P (F := F) A).IsStorable where
  st q d c := match q with
    | 0 => (inferInstance : BI.Storable (upEmb : UEmb _ 𝕄) (bigSep Finset.univ fun i : Fin 16 => goP A d (wid (Fin.cast nCore_zero c) i)))
  dn q d c := match q with
    | 0 => (inferInstance : BI.Storable (upEmb : UEmb _ 𝕄) (bigSep Finset.univ fun i : Fin 16 => tdP A d (wid (Fin.cast nCore_zero c) i)))
  go q d c i := match q with
    | 0 => (inferInstance : BI.Storable (upEmb : UEmb _ 𝕄) (goP A d (wid (Fin.cast nCore_zero c) (Fin.cast nSub_zero i))))
  td q d c i := match q with
    | 0 => (inferInstance : BI.Storable (upEmb : UEmb _ 𝕄) (tdP A d (wid (Fin.cast nCore_zero c) (Fin.cast nSub_zero i))))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The number of the task at `L`. -/
abbrev wL (L : grid0.Coords) : Fin 32 := ⟨2 * (L 1).val + (L 0).val, wid_lt (Fin.cast bound_zero (L 0)) (Fin.cast bound_one (L 1))⟩

abbrev rectP (L : grid0.Coords) : Rect S32x4x272 := Rect.unit (s := S32x4x272) (k0_off1 L) S1x4x272.size (k0_off1_inb L)
abbrev memP (L : grid0.Coords) : Memref sig .scVector .hbm S4x272 .f32 := ((pbV).slice (rectP L) (fun _ => rfl)).squeeze S4x272 squeezes_S1x4x272_S4x272
abbrev rectL (L : grid0.Coords) : Rect S8704 := Rect.unit (s := S8704) (k0_off15 L) S272.size (k0_off15_inb L)
abbrev memL (L : grid0.Coords) : Memref sig .scVector .hbm S272 .i32 := (labV).slice (rectL L) (fun _ => rfl)
abbrev rectB (L : grid0.Coords) : Rect S8704x4 := Rect.unit (s := S8704x4) (k0_off16 L) S272x4.size (k0_off16_inb L)
abbrev memB (L : grid0.Coords) : Memref sig .scVector .hbm S272x4 .f32 := (bbV).slice (rectB L) (fun _ => rfl)
abbrev rectS (L : grid0.Coords) : Rect S8704x96 := Rect.unit (s := S8704x96) (k0_off17 L) S272x96.size (k0_off17_inb L)
abbrev memS (L : grid0.Coords) : Memref sig .scVector .hbm S272x96 .f32 := (scV).slice (rectS L) (fun _ => rfl)
omit [FloatOps F] in
theorem rectP_eq : rectP L = partP (wL L) := by
  unfold rectP partP Rect.part Rect.block
  congr 1 <;> funext a
  · rw [k0_off1_eq]
    match a with
    | 0 => simp [Shape.partIx, Shape.partSize] <;> omega
    | 1 => simp [Shape.partIx, Shape.partSize] <;> omega
    | 2 => simp [Shape.partIx, Shape.partSize] <;> omega
  · match a with
    | 0 => simp [Shape.partSize]
    | 1 => simp [Shape.partSize]
    | 2 => simp [Shape.partSize]
omit [FloatOps F] in
theorem rectL_eq : rectL L = partL (wL L) := by
  unfold rectL partL Rect.part Rect.block
  congr 1 <;> funext a
  · rw [k0_off15_eq]
    match a with
    | 0 => simp [Shape.partIx, Shape.partSize] <;> omega
  · match a with
    | 0 => simp [Shape.partSize]
omit [FloatOps F] in
theorem rectB_eq : rectB L = partB (wL L) := by
  unfold rectB partB Rect.part Rect.block
  congr 1 <;> funext a
  · rw [k0_off16_eq]
    match a with
    | 0 => simp [Shape.partIx, Shape.partSize] <;> omega
    | 1 => simp [Shape.partIx, Shape.partSize] <;> omega
  · match a with
    | 0 => simp [Shape.partSize]
    | 1 => simp [Shape.partSize]
omit [FloatOps F] in
theorem rectS_eq : rectS L = partS (wL L) := by
  unfold rectS partS Rect.part Rect.block
  congr 1 <;> funext a
  · rw [k0_off17_eq]
    match a with
    | 0 => simp [Shape.partIx, Shape.partSize] <;> omega
    | 1 => simp [Shape.partIx, Shape.partSize] <;> omega
  · match a with
    | 0 => simp [Shape.partSize]
    | 1 => simp [Shape.partSize]
omit [FloatOps F] in
theorem set_memP : (memP L).view.set = setP (wL L) := by
  show (((pbV).view.slice (rectP L)).reshape S4x272 squeezes_S1x4x272_S4x272.numel_eq).set = ((pbV).view.slice (partP (wL L))).set
  rw [View.set_reshape]
  exact rectP_eq L ▸ rfl
omit [FloatOps F] in
theorem pts_memP (f : Buf (Elt F) (pbLoc d)) :
    ((memP L).view.loc (V d (cV L) (jV L)) ↦[(memP L).view.set]{fullShare} f : sProp 𝕄) = pbLoc d ↦[setP (wL L)]{fullShare} f := by
  rw [set_memP]
omit [FloatOps F] in
theorem set_memL : (memL L).view.set = setL (wL L) := by
  show ((labV).view.slice (rectL L)).set = ((labV).view.slice (partL (wL L))).set
  exact rectL_eq L ▸ rfl
omit [FloatOps F] in
theorem pts_memL (f : Buf (Elt F) (labLoc d)) :
    ((memL L).view.loc (V d (cV L) (jV L)) ↦[(memL L).view.set]{fullShare} f : sProp 𝕄) = labLoc d ↦[setL (wL L)]{fullShare} f := by
  rw [set_memL]
omit [FloatOps F] in
theorem set_memB : (memB L).view.set = setB (wL L) := by
  show ((bbV).view.slice (rectB L)).set = ((bbV).view.slice (partB (wL L))).set
  exact rectB_eq L ▸ rfl
omit [FloatOps F] in
theorem pts_memB (f : Buf (Elt F) (bbLoc d)) :
    ((memB L).view.loc (V d (cV L) (jV L)) ↦[(memB L).view.set]{fullShare} f : sProp 𝕄) = bbLoc d ↦[setB (wL L)]{fullShare} f := by
  rw [set_memB]
omit [FloatOps F] in
theorem set_memS : (memS L).view.set = setS (wL L) := by
  show ((scV).view.slice (rectS L)).set = ((scV).view.slice (partS (wL L))).set
  exact rectS_eq L ▸ rfl
omit [FloatOps F] in
theorem pts_memS (f : Buf (Elt F) (scLoc d)) :
    ((memS L).view.loc (V d (cV L) (jV L)) ↦[(memS L).view.set]{fullShare} f : sProp 𝕄) = scLoc d ↦[setS (wL L)]{fullShare} f := by
  rw [set_memS]
omit [FloatOps F] in
theorem pts_tkV (w : Fin 32) (f : Buf (Elt F) (tkLoc d)) :
    ((tkV).view.loc (V d (cV L) (jV L)) ↦[(tkV).view.set]{ShareLeaves.leaf 5 fullShare w} f : sProp 𝕄) = tkLoc d ↦{ShareLeaves.leaf 5 fullShare w} f := by
  simp only [Memref.view_whole, View.set_whole]
omit [FloatOps F] in
theorem pts_kkV (w : Fin 32) (f : Buf (Elt F) (kkLoc d)) :
    ((kkV).view.loc (V d (cV L) (jV L)) ↦[(kkV).view.set]{ShareLeaves.leaf 5 fullShare w} f : sProp 𝕄) = kkLoc d ↦{ShareLeaves.leaf 5 fullShare w} f := by
  simp only [Memref.view_whole, View.set_whole]
omit [FloatOps F] in
theorem pts_glV (w : Fin 32) (f : Buf (Elt F) (glLoc d)) :
    ((glV).view.loc (V d (cV L) (jV L)) ↦[(glV).view.set]{ShareLeaves.leaf 5 fullShare w} f : sProp 𝕄) = glLoc d ↦{ShareLeaves.leaf 5 fullShare w} f := by
  simp only [Memref.view_whole, View.set_whole]
omit [FloatOps F] in
theorem pts_gbV (w : Fin 32) (f : Buf (Elt F) (gbLoc d)) :
    ((gbV).view.loc (V d (cV L) (jV L)) ↦[(gbV).view.set]{ShareLeaves.leaf 5 fullShare w} f : sProp 𝕄) = gbLoc d ↦{ShareLeaves.leaf 5 fullShare w} f := by
  simp only [Memref.view_whole, View.set_whole]
omit [FloatOps F] in
theorem pts_b0 (f : Buf (Elt F) ((V d (cV L) (jV L)).loc cc0_scratch0)) :
    ((b0).view.loc (V d (cV L) (jV L)) ↦{fullShare} f : sProp 𝕄) = (V d (cV L) (jV L)).loc cc0_scratch0 ↦{fullShare} f := rfl
omit [FloatOps F] in
theorem pts_b1 (f : Buf (Elt F) ((V d (cV L) (jV L)).loc cc0_scratch1)) :
    ((b1).view.loc (V d (cV L) (jV L)) ↦{fullShare} f : sProp 𝕄) = (V d (cV L) (jV L)).loc cc0_scratch1 ↦{fullShare} f := rfl
omit [FloatOps F] in
theorem pts_b2 (f : Buf (Elt F) ((V d (cV L) (jV L)).loc cc0_scratch2)) :
    ((b2).view.loc (V d (cV L) (jV L)) ↦{fullShare} f : sProp 𝕄) = (V d (cV L) (jV L)).loc cc0_scratch2 ↦{fullShare} f := rfl
omit [FloatOps F] in
theorem pts_b3 (f : Buf (Elt F) ((V d (cV L) (jV L)).loc cc0_scratch3)) :
    ((b3).view.loc (V d (cV L) (jV L)) ↦{fullShare} f : sProp 𝕄) = (V d (cV L) (jV L)).loc cc0_scratch3 ↦{fullShare} f := rfl
omit [FloatOps F] in
theorem pts_b4 (f : Buf (Elt F) ((V d (cV L) (jV L)).loc cc0_scratch4)) :
    ((b4).view.loc (V d (cV L) (jV L)) ↦{fullShare} f : sProp 𝕄) = (V d (cV L) (jV L)).loc cc0_scratch4 ↦{fullShare} f := rfl
omit [FloatOps F] in
theorem pts_b5 (f : Buf (Elt F) ((V d (cV L) (jV L)).loc cc0_scratch5)) :
    ((b5).view.loc (V d (cV L) (jV L)) ↦{fullShare} f : sProp 𝕄) = (V d (cV L) (jV L)).loc cc0_scratch5 ↦{fullShare} f := rfl
omit [FloatOps F] in
theorem pts_b6 (f : Buf (Elt F) ((V d (cV L) (jV L)).loc cc0_scratch6)) :
    ((b6).view.loc (V d (cV L) (jV L)) ↦{fullShare} f : sProp 𝕄) = (V d (cV L) (jV L)).loc cc0_scratch6 ↦{fullShare} f := rfl
omit [FloatOps F] in
theorem pts_b7 (f : Buf (Elt F) ((V d (cV L) (jV L)).loc cc0_scratch7)) :
    ((b7).view.loc (V d (cV L) (jV L)) ↦{fullShare} f : sProp 𝕄) = (V d (cV L) (jV L)).loc cc0_scratch7 ↦{fullShare} f := rfl
omit [FloatOps F] in
theorem pts_b8 (f : Buf (Elt F) ((V d (cV L) (jV L)).loc cc0_scratch8)) :
    ((b8).view.loc (V d (cV L) (jV L)) ↦{fullShare} f : sProp 𝕄) = (V d (cV L) (jV L)).loc cc0_scratch8 ↦{fullShare} f := rfl

/-- The eight transfer cells. -/
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)
abbrev cell4 (d : Dev nD) (c : Fin τ.nSC) (i : Fin τ.nSub) : GSem nD τ sig := (V d c i, .dma cc0_scoped4.sem)
abbrev cell5 (d : Dev nD) (c : Fin τ.nSC) (i : Fin τ.nSub) : GSem nD τ sig := (V d c i, .dma cc0_scoped5.sem)
abbrev cell6 (d : Dev nD) (c : Fin τ.nSC) (i : Fin τ.nSub) : GSem nD τ sig := (V d c i, .dma cc0_scoped6.sem)
abbrev cell7 (d : Dev nD) (c : Fin τ.nSC) (i : Fin τ.nSub) : GSem nD τ sig := (V d c i, .dma cc0_scoped7.sem)

omit [FloatOps F] in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0
          ∗ bigSep (((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))) fun g => semVal g 0) := by
  unfold SparseCore.Cfg.ownSems0
  rw [SparseCore.bigSep_erase' ((mem_ownCells (g := (cell0 d (cV L) (jV L)))).mpr ⟨rfl, by show (SemLoc.dma cc0_scoped0.sem : SemLoc sig).isScoped .scVector = true; decide⟩),
    SparseCore.bigSep_erase' (Finset.mem_erase.mpr ⟨by simp [cell0, cell1]; decide, (mem_ownCells (g := (cell1 d (cV L) (jV L)))).mpr ⟨rfl, by show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := (cell2 d (cV L) (jV L)))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := (cell3 d (cV L) (jV L)))).mpr ⟨rfl, by show (SemLoc.dma cc0_scoped3.sem : SemLoc sig).isScoped .scVector = true; decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := (cell4 d (cV L) (jV L)))).mpr ⟨rfl, by show (SemLoc.dma cc0_scoped4.sem : SemLoc sig).isScoped .scVector = true; decide⟩⟩⟩⟩⟩),
    SparseCore.bigSep_erase' (Finset.mem_erase.mpr ⟨by simp [cell4, cell5]; decide, Finset.mem_erase.mpr ⟨by simp [cell3, cell5]; decide, Finset.mem_erase.mpr ⟨by simp [cell2, cell5]; decide, Finset.mem_erase.mpr ⟨by simp [cell1, cell5]; decide, Finset.mem_erase.mpr ⟨by simp [cell0, cell5]; decide, (mem_ownCells (g := (cell5 d (cV L) (jV L)))).mpr ⟨rfl, by show (SemLoc.dma cc0_scoped5.sem : SemLoc sig).isScoped .scVector = true; decide⟩⟩⟩⟩⟩⟩),
    SparseCore.bigSep_erase' (Finset.mem_erase.mpr ⟨by simp [cell5, cell6]; decide, Finset.mem_erase.mpr ⟨by simp [cell4, cell6]; decide, Finset.mem_erase.mpr ⟨by simp [cell3, cell6]; decide, Finset.mem_erase.mpr ⟨by simp [cell2, cell6]; decide, Finset.mem_erase.mpr ⟨by simp [cell1, cell6]; decide, Finset.mem_erase.mpr ⟨by simp [cell0, cell6]; decide, (mem_ownCells (g := (cell6 d (cV L) (jV L)))).mpr ⟨rfl, by show (SemLoc.dma cc0_scoped6.sem : SemLoc sig).isScoped .scVector = true; decide⟩⟩⟩⟩⟩⟩⟩),
    SparseCore.bigSep_erase' (Finset.mem_erase.mpr ⟨by simp [cell6, cell7]; decide, Finset.mem_erase.mpr ⟨by simp [cell5, cell7]; decide, Finset.mem_erase.mpr ⟨by simp [cell4, cell7]; decide, Finset.mem_erase.mpr ⟨by simp [cell3, cell7]; decide, Finset.mem_erase.mpr ⟨by simp [cell2, cell7]; decide, Finset.mem_erase.mpr ⟨by simp [cell1, cell7]; decide, Finset.mem_erase.mpr ⟨by simp [cell0, cell7]; decide, (mem_ownCells (g := (cell7 d (cV L) (jV L)))).mpr ⟨rfl, by show (SemLoc.dma cc0_scoped7.sem : SemLoc sig).isScoped .scVector = true; decide⟩⟩⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := ((Proc.scVector (cV L) (jV L)).devRef cc0_scratch8)) rfl⟩⟩⟩⟩⟩⟩⟩⟩)]

end Tile

end Cert.Proof.Asm
end
-- ==== Proof.Trips.lean ====
module

public import proofs.«01_k».proof.Proof.Setup
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Asm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tkV" => (Memref.whole Cert.KernelIdeal.main_arg0_scv : Memref Cert.KernelIdeal.sig Kind.scVector Space.hbm Cert.KernelIdeal.S64x16 EltTy.i32)
local notation "kkV" => (Memref.whole Cert.KernelIdeal.main_arg1_scv : Memref Cert.KernelIdeal.sig Kind.scVector Space.hbm Cert.KernelIdeal.S64x16 EltTy.i32)
local notation "pbV" => (Memref.whole Cert.KernelIdeal.main_v3_scv : Memref Cert.KernelIdeal.sig Kind.scVector Space.hbm Cert.KernelIdeal.S32x4x272 EltTy.f32)
local notation "glV" => (Memref.whole Cert.KernelIdeal.main_arg3_scv : Memref Cert.KernelIdeal.sig Kind.scVector Space.hbm Cert.KernelIdeal.S64 EltTy.i32)
local notation "gbV" => (Memref.whole Cert.KernelIdeal.main_v4_scv : Memref Cert.KernelIdeal.sig Kind.scVector Space.hbm Cert.KernelIdeal.S4x64 EltTy.f32)
local notation "labV" => (Memref.whole Cert.KernelIdeal.main_v5_0_scv : Memref Cert.KernelIdeal.sig Kind.scVector Space.hbm Cert.KernelIdeal.S8704 EltTy.i32)
local notation "bbV" => (Memref.whole Cert.KernelIdeal.main_v5_1_scv : Memref Cert.KernelIdeal.sig Kind.scVector Space.hbm Cert.KernelIdeal.S8704x4 EltTy.f32)
local notation "scV" => (Memref.whole Cert.KernelIdeal.main_v5_2_scv : Memref Cert.KernelIdeal.sig Kind.scVector Space.hbm Cert.KernelIdeal.S8704x96 EltTy.f32)
local notation "b0" => (Memref.whole Cert.KernelIdeal.cc0_scratch0 : Memref Cert.KernelIdeal.sig Kind.scVector Space.vmem Cert.KernelIdeal.S64x16 EltTy.i32)
local notation "b1" => (Memref.whole Cert.KernelIdeal.cc0_scratch1 : Memref Cert.KernelIdeal.sig Kind.scVector Space.vmem Cert.KernelIdeal.S64x16 EltTy.i32)
local notation "b2" => (Memref.whole Cert.KernelIdeal.cc0_scratch2 : Memref Cert.KernelIdeal.sig Kind.scVector Space.vmem Cert.KernelIdeal.S64 EltTy.i32)
local notation "b3" => (Memref.whole Cert.KernelIdeal.cc0_scratch3 : Memref Cert.KernelIdeal.sig Kind.scVector Space.vmem Cert.KernelIdeal.S4x64 EltTy.f32)
local notation "b4" => (Memref.whole Cert.KernelIdeal.cc0_scratch4 : Memref Cert.KernelIdeal.sig Kind.scVector Space.vmem Cert.KernelIdeal.S4x272 EltTy.f32)
local notation "b5" => (Memref.whole Cert.KernelIdeal.cc0_scratch5 : Memref Cert.KernelIdeal.sig Kind.scVector Space.vmem Cert.KernelIdeal.S272 EltTy.i32)
local notation "b6" => (Memref.whole Cert.KernelIdeal.cc0_scratch6 : Memref Cert.KernelIdeal.sig Kind.scVector Space.vmem Cert.KernelIdeal.S272 EltTy.i32)
local notation "b7" => (Memref.whole Cert.KernelIdeal.cc0_scratch7 : Memref Cert.KernelIdeal.sig Kind.scVector Space.vmem Cert.KernelIdeal.S272x4 EltTy.f32)
local notation "b8" => (Memref.whole Cert.KernelIdeal.cc0_scratch8 : Memref Cert.KernelIdeal.sig Kind.scVector Space.vmem Cert.KernelIdeal.S272x96 EltTy.f32)

variable [FloatOps F] (A : Dev nD → Valuation τ sig (Elt F)) (d : Dev nD) (L : grid0.Coords)

/-- After stores of one constant, an element under one of them, or one that held the constant before, holds it. -/
theorem read_writes_const {κ : Kind} {sp : Space} {s : Shape} {e : EltTy} (v : View sig κ sp s e) (f : v.ty.Contents (Elt F)) (z : Elt F e)
    (Ps : List (View.Piece (Elt F) s e)) (hz : ∀ p ∈ Ps, ∀ x : p.1.shape.Idx, p.2 x = z) (y : s.Idx)
    (h : (∃ p ∈ Ps, y ∈ p.1.set) ∨ v.read (Elt F) f y = z) : v.read (Elt F) (v.writes (Elt F) f Ps) y = z := by
  by_cases hc : ∃ p ∈ Ps, y ∈ p.1.set
  · exact View.read_writes_apply_of_pieces v f (fun _ => z) Ps (fun p hp x => hz p hp x) y hc
  · rw [View.read_writes_apply_of_forall_not_mem v f y Ps fun p hp hy => hc ⟨p, hp, hy⟩]
    exact h.resolve_left hc

/-- A row of zeros stored in six pieces. -/
theorem zero_row (f : Vec F S272x96 .f32) (k : Fin k0_t1_loop.trips)
    (hf : ∀ (r : Fin 272) (c : Fin 96), r.val < k.val → f (ix2 r c) = Scalar.ofBits .f32 0x00000000#32) (r : Fin 272) (c : Fin 96) (hr : r.val < k.val + 1) :
    (b8).view.read (Elt F) ((b8).view.writes (Elt F) f
      [⟨Rect.unit (s := S272x96) (k0_off7 k) S1x16.size (k0_off7_inb k), shapeCast S1x16 (k0_pay32 (F := F)) shapeCasts_S16_S1x16⟩,
       ⟨Rect.unit (s := S272x96) (k0_off6 k) S1x16.size (k0_off6_inb k), shapeCast S1x16 (k0_pay31 (F := F)) shapeCasts_S16_S1x16⟩,
       ⟨Rect.unit (s := S272x96) (k0_off5 k) S1x16.size (k0_off5_inb k), shapeCast S1x16 (k0_pay30 (F := F)) shapeCasts_S16_S1x16⟩,
       ⟨Rect.unit (s := S272x96) (k0_off4 k) S1x16.size (k0_off4_inb k), shapeCast S1x16 (k0_pay29 (F := F)) shapeCasts_S16_S1x16⟩,
       ⟨Rect.unit (s := S272x96) (k0_off3 k) S1x16.size (k0_off3_inb k), shapeCast S1x16 (k0_pay28 (F := F)) shapeCasts_S16_S1x16⟩,
       ⟨Rect.unit (s := S272x96) (k0_off2 k) S1x16.size (k0_off2_inb k), shapeCast S1x16 (k0_pay27 (F := F)) shapeCasts_S16_S1x16⟩]) (ix2 r c)
      = Scalar.ofBits .f32 0x00000000#32 := by
  have hin : ∀ (off : Fin 2 → ℕ) (inb : ∀ a, off a + S1x16.size a ≤ S272x96.size a) (o : ℕ), off = ![k.val, o] → r.val = k.val → o ≤ c.val → c.val < o + 16 →
      (ix2 r c : S272x96.Idx) ∈ (Rect.unit (s := S272x96) off S1x16.size inb).set := by
    intro off inb o ho h1 h2 h3
    subst ho
    rw [Rect.mem_set_unit]
    intro a
    match a with
    | 0 => exact ⟨show k.val ≤ r.val by omega, show r.val < k.val + 1 by omega⟩
    | 1 => exact ⟨h2, h3⟩
  refine read_writes_const (b8).view f _ _ ?_ (ix2 r c) ?_
  · intro p hp x
    simp only [List.mem_cons, List.not_mem_nil, or_false] at hp
    rcases hp with rfl | rfl | rfl | rfl | rfl | rfl <;> rfl
  · by_cases h : r.val < k.val
    · exact .inr (hf r c h)
    · left
      have hk : r.val = k.val := by omega
      have hc := c.isLt
      by_cases h1 : c.val < 16
      · exact ⟨_, .tail _ (.tail _ (.tail _ (.tail _ (.tail _ (.head _))))), hin _ (k0_off2_inb k) 0 (k0_off2_eq k) hk (by omega) (by omega)⟩
      by_cases h2 : c.val < 32
      · exact ⟨_, .tail _ (.tail _ (.tail _ (.tail _ (.head _)))), hin _ (k0_off3_inb k) 16 (k0_off3_eq k) hk (by omega) (by omega)⟩
      by_cases h3 : c.val < 48
      · exact ⟨_, .tail _ (.tail _ (.tail _ (.head _))), hin _ (k0_off4_inb k) 32 (k0_off4_eq k) hk (by omega) (by omega)⟩
      by_cases h4 : c.val < 64
      · exact ⟨_, .tail _ (.tail _ (.head _)), hin _ (k0_off5_inb k) 48 (k0_off5_eq k) hk (by omega) (by omega)⟩
      by_cases h5 : c.val < 80
      · exact ⟨_, .tail _ (.head _), hin _ (k0_off6_inb k) 64 (k0_off6_eq k) hk (by omega) (by omega)⟩
      · exact ⟨_, .head _, hin _ (k0_off7_inb k) 80 (k0_off7_eq k) hk (by omega) (by omega)⟩

/-- Seventeen stores of sixteen -1s fill the assignments. -/
theorem init_asg (f : Vec F S272 .i32) (Ps : List (View.Piece (Elt F) S272 .i32)) (hz : ∀ p ∈ Ps, ∀ x : p.1.shape.Idx, p.2 x = 4294967295#32)
    (hc : View.Piece.tiled Ps ![16] = true) (r : Fin 272) :
    (b5).view.read (Elt F) ((b5).view.writes (Elt F) f Ps) (ix1 r) = 4294967295#32 :=
  read_writes_const (b5).view f _ Ps hz (ix1 r) (.inl (View.cover_of_tiled Ps ![16] hc (ix1 r)))

/-- A load of sixteen in a row of a two-axis array. -/
theorem load_row {e : EltTy} {N M : ℕ} {κ : Kind} {sp : Space} (v : View sig κ sp ⟨2, ![N, M]⟩ e) (f : v.ty.Contents (Elt F)) (off : Fin 2 → ℕ) (inb : ∀ a, off a + S1x16.size a ≤ (⟨2, ![N, M]⟩ : Shape).size a)
    (r : Fin N) (o : ℕ) (ho : off = ![r.val, o]) (l : Fin 16) (q : Fin M) (hq : q.val = o + l.val) :
    (v.readAt (Elt F) (Rect.unit (s := ⟨2, ![N, M]⟩) off S1x16.size inb).toLoadRect f : Vec F S1x16 e) (ix2 0 l) = v.read (Elt F) f (ix2 r q) := by
  subst ho
  show v.read (Elt F) f _ = _
  congr 1
  funext a
  apply Fin.ext
  match a with
  | 0 => show r.val + 1 * 0 = r.val; omega
  | 1 => show o + 1 * l.val = q.val; omega

/-- A load of sixteen in a one-axis array. -/
theorem load_lanes {e : EltTy} {N : ℕ} {κ : Kind} {sp : Space} (v : View sig κ sp ⟨1, ![N]⟩ e) (f : v.ty.Contents (Elt F)) (off : Fin 1 → ℕ) (inb : ∀ a, off a + S16.size a ≤ (⟨1, ![N]⟩ : Shape).size a)
    (o : ℕ) (ho : off = ![o]) (l : Fin 16) (q : Fin N) (hq : q.val = o + l.val) :
    (v.readAt (Elt F) (Rect.unit (s := ⟨1, ![N]⟩) off S16.size inb).toLoadRect f : Vec F S16 e) (ix1 l) = v.read (Elt F) f (ix1 q) := by
  subst ho
  show v.read (Elt F) f _ = _
  congr 1
  funext a
  apply Fin.ext
  match a with
  | 0 => show o + 1 * l.val = q.val; omega

/-- A store of sixteen in a one-axis array. -/
theorem store_lanes {e : EltTy} {N : ℕ} {κ : Kind} {sp : Space} (v : View sig κ sp ⟨1, ![N]⟩ e) (f : v.ty.Contents (Elt F)) (off : Fin 1 → ℕ) (inb : ∀ a, off a + S16.size a ≤ (⟨1, ![N]⟩ : Shape).size a)
    (w : Vec F S16 e) (o : ℕ) (ho : off = ![o]) (q : Fin N) :
    v.read (Elt F) (v.writes (Elt F) f [⟨Rect.unit (s := ⟨1, ![N]⟩) off S16.size inb, w⟩]) (ix1 q)
      = if h : o ≤ q.val ∧ q.val < o + 16 then w (ix1 (⟨q.val - o, by omega⟩ : Fin 16)) else v.read (Elt F) f (ix1 q) := by
  by_cases h : o ≤ q.val ∧ q.val < o + 16
  · rw [dif_pos h]
    exact View.read_writes_cons_unit_of_mem v f inb w [] (ix1 q) (ix1 (⟨q.val - o, by omega⟩ : Fin 16)) ho fun a => by
      match a with
      | 0 => show q.val = o + (q.val - o); omega
  · rw [dif_neg h]
    exact View.read_writes_cons_unit_of_not_mem v f inb w [] (ix1 q) ho 0 (show q.val < o ∨ o + 16 ≤ q.val by omega)

/-- The first anchor of the task at `L`, as the program's words spell it. -/
theorem word_task : Scalar.muli (Scalar.addi (Scalar.muli (BitVec.ofNat 32 (L 1).val) 2#32) (BitVec.ofNat 32 (L 0).val)) 272#32 = BitVec.ofNat 32 (272 * (wL L).val) := by
  have h0 : (L 0).val < 2 := (L 0).isLt
  have h1 : (L 1).val < 16 := (L 1).isLt
  apply BitVec.eq_of_toNat_eq
  simp [Scalar.muli, Scalar.addi, IntOp.muli, IntOp.addi]
  omega

/-! ## Indexed accesses of whole buffers -/

/-- An indexed store to scratch buffer 5, held whole. -/
theorem st_b5 {α : Type} {Q : α → sProp 𝕄} {idxs : Fin S272.rank → IVec S16 32} {w : Vec F S16 .i32} {mask : IVec S16 1} {add : Bool} {h : ∀ a x, (idxs a x).toNat < S272.size a}
    {hs : ((b5).access (.whole S272)).Stores Finset.univ}
    {kk : PUnit → Prog (TpuEff nD τ sig (Elt F) Λ₀ (.scVector (cV L) (jV L))) α} {f : Vec F S272 .i32} :
    ((b5).view.loc (V d (cV L) (jV L)) ↦{fullShare} f : sProp 𝕄)
      ⊢ iprop((((b5).view.loc (V d (cV L) (jV L)) ↦{fullShare} (storeIdx f idxs w mask add h : Vec F S272 .i32))
          -∗ wp frame (wpE (defs₀ (F := F)) 𝒱₀ (V d (cV L) (jV L)) none) Set.univ (kk ⟨⟩) Q)
        -∗ wp frame (wpE (defs₀ (F := F)) 𝒱₀ (V d (cV L) (jV L)) none) Set.univ (SparseCore.vectorStoreIdx b5 idxs w mask add h hs >>= kk) Q) := by
  have key := SparseCore.wp_vectorStoreIdx (defs := defs₀ (F := F)) 𝒱₀ (V d (cV L) (jV L)) none Set.univ (Q := Q) (base := b5) (idxs := idxs) (v := w) (mask := mask) (add := add) (h := h) (hs := hs) (k := kk) (f := f)
  rw [Memref.set_access_whole (cc0_scratch5 : Ref sig .scVector), Memref.write_access_whole_univ (Elt F) (cc0_scratch5 : Ref sig .scVector), Memref.read_access_whole (Elt F) (cc0_scratch5 : Ref sig .scVector)] at key
  exact key

/-- An indexed store to scratch buffer 7, held whole. -/
theorem st_b7 {α : Type} {Q : α → sProp 𝕄} {idxs : Fin S272x4.rank → IVec S16 32} {w : Vec F S16 .f32} {mask : IVec S16 1} {add : Bool} {h : ∀ a x, (idxs a x).toNat < S272x4.size a}
    {hs : ((b7).access (.whole S272x4)).Stores Finset.univ}
    {kk : PUnit → Prog (TpuEff nD τ sig (Elt F) Λ₀ (.scVector (cV L) (jV L))) α} {f : Vec F S272x4 .f32} :
    ((b7).view.loc (V d (cV L) (jV L)) ↦{fullShare} f : sProp 𝕄)
      ⊢ iprop((((b7).view.loc (V d (cV L) (jV L)) ↦{fullShare} (storeIdx f idxs w mask add h : Vec F S272x4 .f32))
          -∗ wp frame (wpE (defs₀ (F := F)) 𝒱₀ (V d (cV L) (jV L)) none) Set.univ (kk ⟨⟩) Q)
        -∗ wp frame (wpE (defs₀ (F := F)) 𝒱₀ (V d (cV L) (jV L)) none) Set.univ (SparseCore.vectorStoreIdx b7 idxs w mask add h hs >>= kk) Q) := by
  have key := SparseCore.wp_vectorStoreIdx (defs := defs₀ (F := F)) 𝒱₀ (V d (cV L) (jV L)) none Set.univ (Q := Q) (base := b7) (idxs := idxs) (v := w) (mask := mask) (add := add) (h := h) (hs := hs) (k := kk) (f := f)
  rw [Memref.set_access_whole (cc0_scratch7 : Ref sig .scVector), Memref.write_access_whole_univ (Elt F) (cc0_scratch7 : Ref sig .scVector), Memref.read_access_whole (Elt F) (cc0_scratch7 : Ref sig .scVector)] at key
  exact key

/-- An indexed store to scratch buffer 8, held whole. -/
theorem st_b8 {α : Type} {Q : α → sProp 𝕄} {idxs : Fin S272x96.rank → IVec S16 32} {w : Vec F S16 .f32} {mask : IVec S16 1} {add : Bool} {h : ∀ a x, (idxs a x).toNat < S272x96.size a}
    {hs : ((b8).access (.whole S272x96)).Stores Finset.univ}
    {kk : PUnit → Prog (TpuEff nD τ sig (Elt F) Λ₀ (.scVector (cV L) (jV L))) α} {f : Vec F S272x96 .f32} :
    ((b8).view.loc (V d (cV L) (jV L)) ↦{fullShare} f : sProp 𝕄)
      ⊢ iprop((((b8).view.loc (V d (cV L) (jV L)) ↦{fullShare} (storeIdx f idxs w mask add h : Vec F S272x96 .f32))
          -∗ wp frame (wpE (defs₀ (F := F)) 𝒱₀ (V d (cV L) (jV L)) none) Set.univ (kk ⟨⟩) Q)
        -∗ wp frame (wpE (defs₀ (F := F)) 𝒱₀ (V d (cV L) (jV L)) none) Set.univ (SparseCore.vectorStoreIdx b8 idxs w mask add h hs >>= kk) Q) := by
  have key := SparseCore.wp_vectorStoreIdx (defs := defs₀ (F := F)) 𝒱₀ (V d (cV L) (jV L)) none Set.univ (Q := Q) (base := b8) (idxs := idxs) (v := w) (mask := mask) (add := add) (h := h) (hs := hs) (k := kk) (f := f)
  rw [Memref.set_access_whole (cc0_scratch8 : Ref sig .scVector), Memref.write_access_whole_univ (Elt F) (cc0_scratch8 : Ref sig .scVector), Memref.read_access_whole (Elt F) (cc0_scratch8 : Ref sig .scVector)] at key
  exact key

/-- An indexed load of scratch buffer 2, held whole. -/
theorem ld_b2 {α : Type} {Q : α → sProp 𝕄} {idxs : Fin S64.rank → IVec S16 32} {h : ∀ a x, (idxs a x).toNat < S64.size a}
    {hl : (b2).view.Loads}
    {kk : Vec F S16 .i32 → Prog (TpuEff nD τ sig (Elt F) Λ₀ (.scVector (cV L) (jV L))) α} {f : Vec F S64 .i32} :
    ((b2).view.loc (V d (cV L) (jV L)) ↦{fullShare} f : sProp 𝕄)
      ⊢ iprop((((b2).view.loc (V d (cV L) (jV L)) ↦{fullShare} f)
          -∗ wp frame (wpE (defs₀ (F := F)) 𝒱₀ (V d (cV L) (jV L)) none) Set.univ (kk (loadIdx f idxs h)) Q)
        -∗ wp frame (wpE (defs₀ (F := F)) 𝒱₀ (V d (cV L) (jV L)) none) Set.univ (SparseCore.vectorLoadIdx b2 idxs h hl >>= kk) Q) := by
  have key := SparseCore.wp_vectorLoadIdx (defs := defs₀ (F := F)) 𝒱₀ (V d (cV L) (jV L)) none Set.univ (Q := Q) (base := b2) (idxs := idxs) (h := h) (hl := hl) (k := kk) (f := f) (q := fullShare) (S := Finset.univ) (Finset.subset_univ _)
  rw [Memref.read_access_whole (Elt F) (cc0_scratch2 : Ref sig .scVector)] at key
  exact key

/-- An indexed load of scratch buffer 3, held whole. -/
theorem ld_b3 {α : Type} {Q : α → sProp 𝕄} {idxs : Fin S4x64.rank → IVec S16 32} {h : ∀ a x, (idxs a x).toNat < S4x64.size a}
    {hl : (b3).view.Loads}
    {kk : Vec F S16 .f32 → Prog (TpuEff nD τ sig (Elt F) Λ₀ (.scVector (cV L) (jV L))) α} {f : Vec F S4x64 .f32} :
    ((b3).view.loc (V d (cV L) (jV L)) ↦{fullShare} f : sProp 𝕄)
      ⊢ iprop((((b3).view.loc (V d (cV L) (jV L)) ↦{fullShare} f)
          -∗ wp frame (wpE (defs₀ (F := F)) 𝒱₀ (V d (cV L) (jV L)) none) Set.univ (kk (loadIdx f idxs h)) Q)
        -∗ wp frame (wpE (defs₀ (F := F)) 𝒱₀ (V d (cV L) (jV L)) none) Set.univ (SparseCore.vectorLoadIdx b3 idxs h hl >>= kk) Q) := by
  have key := SparseCore.wp_vectorLoadIdx (defs := defs₀ (F := F)) 𝒱₀ (V d (cV L) (jV L)) none Set.univ (Q := Q) (base := b3) (idxs := idxs) (h := h) (hl := hl) (k := kk) (f := f) (q := fullShare) (S := Finset.univ) (Finset.subset_univ _)
  rw [Memref.read_access_whole (Elt F) (cc0_scratch3 : Ref sig .scVector)] at key
  exact key

/-! ## Blocks written out -/

omit [FloatOps F] in
/-- A block written whole holds what it was written, element by element. -/
theorem block_congr {κ : Kind} {sp : Space} {s : Shape} {e : EltTy} (v : View sig κ sp s e) (f G : v.ty.Contents (Elt F)) (w : s.Idx → Elt F e)
    (h : ∀ y : s.Idx, w y = v.read (Elt F) G y) : ∀ x ∈ v.set, v.writes (Elt F) f [⟨Rect.whole s, w⟩] x = G x := by
  intro x hx
  obtain ⟨y, -, rfl⟩ := Finset.mem_map.mp hx
  have key : v.read (Elt F) (v.writes (Elt F) f [⟨Rect.whole s, w⟩]) y = v.read (Elt F) G y := by
    rw [← h y]
    exact View.read_writes_cons_hit v f (Rect.whole s) w [] y y (Rect.emb_whole_apply _ y)
  exact (cast_inj _).mp key

/-- A two-axis index from its parts. -/
theorem exists_ix2 {n m : ℕ} (x : (⟨2, ![n, m]⟩ : Shape).Idx) : ∃ (r : Fin n) (c : Fin m), x = ix2 r c :=
  ⟨x 0, x 1, by funext a; match a with | 0 => rfl | 1 => rfl⟩

theorem read_labG (r : Fin 272) : (memL L).view.read (Elt F) (labG A d) (ix1 r) = labF (F := F) (tkA A d) (kkA A d) (glA A d) (272 * (wL L).val + r.val) := by
  show labF (F := F) (tkA A d) (kkA A d) (glA A d) ((k0_off15 L) 0 + 1 * r.val) = _
  rw [k0_off15_eq]
  congr 1
  show 544 * (L 1).val + 272 * (L 0).val + 1 * r.val = 272 * (2 * (L 1).val + (L 0).val) + r.val
  omega

theorem read_bbG (r : Fin 272) (c : Fin 4) : (memB L).view.read (Elt F) (bbG A d) (ix2 r c) = bbF (F := F) (tkA A d) (kkA A d) (gbA A d) (272 * (wL L).val + r.val) c := by
  show bbF (F := F) (tkA A d) (kkA A d) (gbA A d) ((k0_off16 L) 0 + 1 * r.val) _ = _
  congr 1
  · rw [k0_off16_eq]
    show 544 * (L 1).val + 272 * (L 0).val + 1 * r.val = 272 * (2 * (L 1).val + (L 0).val) + r.val
    omega
  · apply Fin.ext
    show (k0_off16 L) 1 + 1 * c.val = c.val
    rw [k0_off16_eq]
    show 0 + 1 * c.val = c.val
    omega

theorem read_scG (r : Fin 272) (c : Fin 96) : (memS L).view.read (Elt F) (scG A d) (ix2 r c) = scF (F := F) (tkA A d) (kkA A d) (pbA A d) (glA A d) (gbA A d) (272 * (wL L).val + r.val) c.val := by
  show scF (F := F) (tkA A d) (kkA A d) (pbA A d) (glA A d) (gbA A d) ((k0_off17 L) 0 + 1 * r.val) ((k0_off17 L) 1 + 1 * c.val) = _
  congr 1
  · rw [k0_off17_eq]
    show 544 * (L 1).val + 272 * (L 0).val + 1 * r.val = 272 * (2 * (L 1).val + (L 0).val) + r.val
    omega
  · rw [k0_off17_eq]
    show 0 + 1 * c.val = c.val
    omega

end Cert.Proof.Asm
end
-- ==== Proof.Trip2.lean ====
module

public import proofs.«01_k».proof.Proof.Trips
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Asm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tkV" => (Memref.whole Cert.KernelIdeal.main_arg0_scv : Memref Cert.KernelIdeal.sig Kind.scVector Space.hbm Cert.KernelIdeal.S64x16 EltTy.i32)
local notation "kkV" => (Memref.whole Cert.KernelIdeal.main_arg1_scv : Memref Cert.KernelIdeal.sig Kind.scVector Space.hbm Cert.KernelIdeal.S64x16 EltTy.i32)
local notation "pbV" => (Memref.whole Cert.KernelIdeal.main_v3_scv : Memref Cert.KernelIdeal.sig Kind.scVector Space.hbm Cert.KernelIdeal.S32x4x272 EltTy.f32)
local notation "glV" => (Memref.whole Cert.KernelIdeal.main_arg3_scv : Memref Cert.KernelIdeal.sig Kind.scVector Space.hbm Cert.KernelIdeal.S64 EltTy.i32)
local notation "gbV" => (Memref.whole Cert.KernelIdeal.main_v4_scv : Memref Cert.KernelIdeal.sig Kind.scVector Space.hbm Cert.KernelIdeal.S4x64 EltTy.f32)
local notation "labV" => (Memref.whole Cert.KernelIdeal.main_v5_0_scv : Memref Cert.KernelIdeal.sig Kind.scVector Space.hbm Cert.KernelIdeal.S8704 EltTy.i32)
local notation "bbV" => (Memref.whole Cert.KernelIdeal.main_v5_1_scv : Memref Cert.KernelIdeal.sig Kind.scVector Space.hbm Cert.KernelIdeal.S8704x4 EltTy.f32)
local notation "scV" => (Memref.whole Cert.KernelIdeal.main_v5_2_scv : Memref Cert.KernelIdeal.sig Kind.scVector Space.hbm Cert.KernelIdeal.S8704x96 EltTy.f32)
local notation "b0" => (Memref.whole Cert.KernelIdeal.cc0_scratch0 : Memref Cert.KernelIdeal.sig Kind.scVector Space.vmem Cert.KernelIdeal.S64x16 EltTy.i32)
local notation "b1" => (Memref.whole Cert.KernelIdeal.cc0_scratch1 : Memref Cert.KernelIdeal.sig Kind.scVector Space.vmem Cert.KernelIdeal.S64x16 EltTy.i32)
local notation "b2" => (Memref.whole Cert.KernelIdeal.cc0_scratch2 : Memref Cert.KernelIdeal.sig Kind.scVector Space.vmem Cert.KernelIdeal.S64 EltTy.i32)
local notation "b3" => (Memref.whole Cert.KernelIdeal.cc0_scratch3 : Memref Cert.KernelIdeal.sig Kind.scVector Space.vmem Cert.KernelIdeal.S4x64 EltTy.f32)
local notation "b4" => (Memref.whole Cert.KernelIdeal.cc0_scratch4 : Memref Cert.KernelIdeal.sig Kind.scVector Space.vmem Cert.KernelIdeal.S4x272 EltTy.f32)
local notation "b5" => (Memref.whole Cert.KernelIdeal.cc0_scratch5 : Memref Cert.KernelIdeal.sig Kind.scVector Space.vmem Cert.KernelIdeal.S272 EltTy.i32)
local notation "b6" => (Memref.whole Cert.KernelIdeal.cc0_scratch6 : Memref Cert.KernelIdeal.sig Kind.scVector Space.vmem Cert.KernelIdeal.S272 EltTy.i32)
local notation "b7" => (Memref.whole Cert.KernelIdeal.cc0_scratch7 : Memref Cert.KernelIdeal.sig Kind.scVector Space.vmem Cert.KernelIdeal.S272x4 EltTy.f32)
local notation "b8" => (Memref.whole Cert.KernelIdeal.cc0_scratch8 : Memref Cert.KernelIdeal.sig Kind.scVector Space.vmem Cert.KernelIdeal.S272x96 EltTy.f32)

variable [FloatOps F] (A : Dev nD → Valuation τ sig (Elt F)) (d : Dev nD) (L : grid0.Coords)

/-- The task's block of the boxes, as the transfer reads it. -/
theorem read_memP (f : Vec F S32x4x272 .f32) (c : Fin 4) (r : Fin 272) :
    ((memP L).view.read (Elt F) f : Vec F S4x272 .f32) (ix2 c r) = f (ix3 (wL L) c r) := by
  have hc : (rectP L).shape.ShapeCasts S4x272 := (show S1x4x272.ShapeCasts S4x272 by decide)
  rw [Memref.read_squeeze_slice (pbV) (rectP L) (fun _ => rfl) squeezes_S1x4x272_S4x272 hc f]
  have : shapeCast (s := ⟨3, ![1, 4, 272]⟩) S4x272 ((pbV).view.readAt (Elt F) (rectP L).toLoadRect f) hc (ix2 c r) = (pbV).view.readAt (Elt F) (rectP L).toLoadRect f (ix3 0 c r) := by
    pointwise
  refine this.trans ?_
  show f _ = f _
  congr 1
  funext a
  apply Fin.ext
  match a with
  | 0 => show (k0_off1 L) 0 + 1 * 0 = _; rw [k0_off1_eq]; rfl
  | 1 => show (k0_off1 L) 1 + 1 * c.val = _; rw [k0_off1_eq]; show 0 + 1 * c.val = c.val; omega
  | 2 => show (k0_off1 L) 2 + 1 * r.val = _; rw [k0_off1_eq]; show 0 + 1 * r.val = r.val; omega

/-- After `k` rows of the first loop: rows before `k` hold zeros. -/
def inv1 (k : Nat) (_ : BitVec 32) : sProp 𝕄 :=
  iprop(∃ f : Buf (Elt F) ((b8).view.loc (V d (cV L) (jV L))), ⌜∀ (r : Fin 272) (c : Fin 96), r.val < k → (f : Vec F S272x96 .f32) (ix2 r c) = Scalar.ofBits .f32 0x00000000#32⌝
    ∗ (b8).view.loc (V d (cV L) (jV L)) ↦{fullShare} f)

/-- After `k` ground truths: the second loop's assignments. -/
def inv2 (k : Nat) (_ : BitVec 32) : sProp 𝕄 :=
  iprop(((b0).view.loc (V d (cV L) (jV L)) ↦{fullShare} tkA A d) ∗ ((b1).view.loc (V d (cV L) (jV L)) ↦{fullShare} kkA A d)
    ∗ ∃ f : Buf (Elt F) ((b5).view.loc (V d (cV L) (jV L))), ⌜∀ r : Fin 272, (f : Vec F S272 .i32) (ix1 r) = asg (F := F) (tkA A d) (kkA A d) k (272 * (wL L).val + r.val)⌝
      ∗ (b5).view.loc (V d (cV L) (jV L)) ↦{fullShare} f)

/-- After `k` groups of sixteen anchors: the three results of the anchors before. -/
def inv3 (z4 : Vec F S4x272 .f32) (y5 : Vec F S272 .i32) (k : Nat) (_ : BitVec 32) : sProp 𝕄 :=
  iprop(((b2).view.loc (V d (cV L) (jV L)) ↦{fullShare} glA A d) ∗ ((b3).view.loc (V d (cV L) (jV L)) ↦{fullShare} gbA A d)
    ∗ ((b4).view.loc (V d (cV L) (jV L)) ↦{fullShare} z4) ∗ ((b5).view.loc (V d (cV L) (jV L)) ↦{fullShare} y5)
    ∗ (∃ f : Buf (Elt F) ((b6).view.loc (V d (cV L) (jV L))),
        ⌜∀ r : Fin 272, r.val < 16 * k → (f : Vec F S272 .i32) (ix1 r) = labF (F := F) (tkA A d) (kkA A d) (glA A d) (272 * (wL L).val + r.val)⌝
        ∗ (b6).view.loc (V d (cV L) (jV L)) ↦{fullShare} f)
    ∗ (∃ f : Buf (Elt F) ((b7).view.loc (V d (cV L) (jV L))),
        ⌜∀ (r : Fin 272) (c : Fin 4), r.val < 16 * k → (f : Vec F S272x4 .f32) (ix2 r c) = bbF (F := F) (tkA A d) (kkA A d) (gbA A d) (272 * (wL L).val + r.val) c⌝
        ∗ (b7).view.loc (V d (cV L) (jV L)) ↦{fullShare} f)
    ∗ (∃ f : Buf (Elt F) ((b8).view.loc (V d (cV L) (jV L))),
        ⌜∀ (r : Fin 272) (c : Fin 96), (f : Vec F S272x96 .f32) (ix2 r c)
          = if r.val < 16 * k then scF (F := F) (tkA A d) (kkA A d) (pbA A d) (glA A d) (gbA A d) (272 * (wL L).val + r.val) c.val else Scalar.ofBits .f32 0x00000000#32⌝
        ∗ (b8).view.loc (V d (cV L) (jV L)) ↦{fullShare} f))

set_option maxHeartbeats 4000000 in
theorem trip2 (k : Fin k0_t2_loop.trips) (acc : BitVec 32) :
    inv2 A d L k.val acc
      ⊢ wp frame (wpE (defs₀ (F := F)) 𝒱₀ (V d (cV L) (jV L)) none) Set.univ
          (k0_t2_body L tkV (Memref.isWhole_whole _) kkV (Memref.isWhole_whole _) pbV (Memref.isWhole_whole _) glV (Memref.isWhole_whole _) gbV (Memref.isWhole_whole _) labV (Memref.isWhole_whole _) bbV (Memref.isWhole_whole _) scV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 cc0_scoped6 cc0_scoped7 (BitVec.ofNat 32 (272 * (wL L).val)) lanes k0_pay26 k acc)
          fun acc' => inv2 A d L (k.val + 1) acc' := by
  unfold inv2
  iintro ⟨H0, H1, ⟨%f, %hf, H5⟩⟩
  sl_unfold [k0_t2_body]
  sl_exec
  sl_unfold_words
  rw [wp_assume_of _ _ _ _ (chk1_ok _ _)]
  iapply (st_b5 d L) $$ H5
  iintro H5
  sl_step
  iframe H0 H1
  iexists _
  isplitr [H5]
  rotate_left
  · iexact H5
  · ipureintro
    intro r
    have hk : k.val < 64 := lt_of_lt_of_eq k.isLt trips2
    exact step_take (tkA A d) (kkA A d) (wL L).val (wL L).isLt k ⟨k.val, hk⟩ rfl _ _
      (fun l => load_row (b0).view (tkA A d) (k0_off8 k) (k0_off8_inb k) ⟨k.val, hk⟩ 0 (k0_off8_eq k) l l (by omega))
      (load_row (b1).view (kkA A d) (k0_off8 k) (k0_off8_inb k) ⟨k.val, hk⟩ 0 (k0_off8_eq k) 0 0 (by simp)) f hf _ r

end Cert.Proof.Asm
end
-- ==== Proof.Trip3.lean ====
module

public import proofs.«01_k».proof.Proof.Trip2
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Asm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tkV" => (Memref.whole Cert.KernelIdeal.main_arg0_scv : Memref Cert.KernelIdeal.sig Kind.scVector Space.hbm Cert.KernelIdeal.S64x16 EltTy.i32)
local notation "kkV" => (Memref.whole Cert.KernelIdeal.main_arg1_scv : Memref Cert.KernelIdeal.sig Kind.scVector Space.hbm Cert.KernelIdeal.S64x16 EltTy.i32)
local notation "pbV" => (Memref.whole Cert.KernelIdeal.main_v3_scv : Memref Cert.KernelIdeal.sig Kind.scVector Space.hbm Cert.KernelIdeal.S32x4x272 EltTy.f32)
local notation "glV" => (Memref.whole Cert.KernelIdeal.main_arg3_scv : Memref Cert.KernelIdeal.sig Kind.scVector Space.hbm Cert.KernelIdeal.S64 EltTy.i32)
local notation "gbV" => (Memref.whole Cert.KernelIdeal.main_v4_scv : Memref Cert.KernelIdeal.sig Kind.scVector Space.hbm Cert.KernelIdeal.S4x64 EltTy.f32)
local notation "labV" => (Memref.whole Cert.KernelIdeal.main_v5_0_scv : Memref Cert.KernelIdeal.sig Kind.scVector Space.hbm Cert.KernelIdeal.S8704 EltTy.i32)
local notation "bbV" => (Memref.whole Cert.KernelIdeal.main_v5_1_scv : Memref Cert.KernelIdeal.sig Kind.scVector Space.hbm Cert.KernelIdeal.S8704x4 EltTy.f32)
local notation "scV" => (Memref.whole Cert.KernelIdeal.main_v5_2_scv : Memref Cert.KernelIdeal.sig Kind.scVector Space.hbm Cert.KernelIdeal.S8704x96 EltTy.f32)
local notation "b0" => (Memref.whole Cert.KernelIdeal.cc0_scratch0 : Memref Cert.KernelIdeal.sig Kind.scVector Space.vmem Cert.KernelIdeal.S64x16 EltTy.i32)
local notation "b1" => (Memref.whole Cert.KernelIdeal.cc0_scratch1 : Memref Cert.KernelIdeal.sig Kind.scVector Space.vmem Cert.KernelIdeal.S64x16 EltTy.i32)
local notation "b2" => (Memref.whole Cert.KernelIdeal.cc0_scratch2 : Memref Cert.KernelIdeal.sig Kind.scVector Space.vmem Cert.KernelIdeal.S64 EltTy.i32)
local notation "b3" => (Memref.whole Cert.KernelIdeal.cc0_scratch3 : Memref Cert.KernelIdeal.sig Kind.scVector Space.vmem Cert.KernelIdeal.S4x64 EltTy.f32)
local notation "b4" => (Memref.whole Cert.KernelIdeal.cc0_scratch4 : Memref Cert.KernelIdeal.sig Kind.scVector Space.vmem Cert.KernelIdeal.S4x272 EltTy.f32)
local notation "b5" => (Memref.whole Cert.KernelIdeal.cc0_scratch5 : Memref Cert.KernelIdeal.sig Kind.scVector Space.vmem Cert.KernelIdeal.S272 EltTy.i32)
local notation "b6" => (Memref.whole Cert.KernelIdeal.cc0_scratch6 : Memref Cert.KernelIdeal.sig Kind.scVector Space.vmem Cert.KernelIdeal.S272 EltTy.i32)
local notation "b7" => (Memref.whole Cert.KernelIdeal.cc0_scratch7 : Memref Cert.KernelIdeal.sig Kind.scVector Space.vmem Cert.KernelIdeal.S272x4 EltTy.f32)
local notation "b8" => (Memref.whole Cert.KernelIdeal.cc0_scratch8 : Memref Cert.KernelIdeal.sig Kind.scVector Space.vmem Cert.KernelIdeal.S272x96 EltTy.f32)

variable [FloatOps F] (A : Dev nD → Valuation τ sig (Elt F)) (d : Dev nD) (L : grid0.Coords)

/-! ## What the trip's stores leave -/

section Stores
variable {tk kk : Vec F S64x16 .i32} {w : ℕ} {k : Fin k0_t3_loop.trips} {v50 : Vec F S16 .i32} (hv : Holds (F := F) tk kk (272 * w + 16 * k.val) v50)
include hv

theorem lab_rows (gl : Vec F S64 .i32) (v55 : Vec F S16 .i32) (h55 : ∀ l : Fin 16, v55 (ix1 l) = gl (ix1 (agi (F := F) tk kk (272 * w + 16 * k.val + l.val))))
    (f : Vec F S272 .i32) (hf : ∀ r : Fin 272, r.val < 16 * k.val → f (ix1 r) = labF (F := F) tk kk gl (272 * w + r.val)) (r : Fin 272) (hr : r.val < 16 * (k.val + 1)) :
    (b6).view.read (Elt F) ((b6).view.writes (Elt F) f [⟨Rect.unit (s := S272) (k0_off10 k) S16.size (k0_off10_inb k), k0_pay11 (F := F) v50 v55⟩]) (ix1 r)
      = labF (F := F) tk kk gl (272 * w + r.val) := by
  rw [store_lanes (b6).view f (k0_off10 k) (k0_off10_inb k) _ (16 * k.val) (k0_off10_eq k) r]
  by_cases h : 16 * k.val ≤ r.val ∧ r.val < 16 * k.val + 16
  · rw [dif_pos h, lab_apply gl hv v55 h55]
    congr 1; show 272 * w + 16 * k.val + (r.val - 16 * k.val) = _; omega
  · rw [dif_neg h]; exact hf r (by omega)

theorem box_rows (gbt : Vec F S4x64 .f32) (v0 v1 v2 v3 : Vec F S16 .f32)
    (h0 : ∀ l : Fin 16, v0 (ix1 l) = gbt (ix2 0 (agi (F := F) tk kk (272 * w + 16 * k.val + l.val)))) (h1 : ∀ l : Fin 16, v1 (ix1 l) = gbt (ix2 1 (agi (F := F) tk kk (272 * w + 16 * k.val + l.val))))
    (h2 : ∀ l : Fin 16, v2 (ix1 l) = gbt (ix2 2 (agi (F := F) tk kk (272 * w + 16 * k.val + l.val)))) (h3 : ∀ l : Fin 16, v3 (ix1 l) = gbt (ix2 3 (agi (F := F) tk kk (272 * w + 16 * k.val + l.val))))
    (f : Vec F S272x4 .f32) (hf : ∀ (r : Fin 272) (c : Fin 4), r.val < 16 * k.val → f (ix2 r c) = bbF (F := F) tk kk gbt (272 * w + r.val) c)
    (i0 : ∀ a x, ((![k0_pay8 lanes 0#32 1#32 k, k0_pay26] : Fin 2 → IVec S16 32) a x).toNat < S272x4.size a)
    (i1 : ∀ a x, ((![k0_pay8 lanes 0#32 1#32 k, k0_pay22 k0_pay26] : Fin 2 → IVec S16 32) a x).toNat < S272x4.size a)
    (i2 : ∀ a x, ((![k0_pay8 lanes 0#32 1#32 k, k0_pay24 k0_pay26] : Fin 2 → IVec S16 32) a x).toNat < S272x4.size a)
    (i3 : ∀ a x, ((![k0_pay8 lanes 0#32 1#32 k, k0_pay6 k0_pay26] : Fin 2 → IVec S16 32) a x).toNat < S272x4.size a)
    (r : Fin 272) (c : Fin 4) (hr : r.val < 16 * (k.val + 1)) :
    storeIdx (F := F) (s := S272x4) (storeIdx (s := S272x4) (storeIdx (s := S272x4) (storeIdx (s := S272x4) f ![k0_pay8 lanes 0#32 1#32 k, k0_pay26] (k0_pay21 (k0_pay9 (F := F) v50) v0) (fun _ => 1#1) false i0)
      ![k0_pay8 lanes 0#32 1#32 k, k0_pay22 k0_pay26] (k0_pay23 (k0_pay9 (F := F) v50) v1) (fun _ => 1#1) false i1)
      ![k0_pay8 lanes 0#32 1#32 k, k0_pay24 k0_pay26] (k0_pay25 (k0_pay9 (F := F) v50) v2) (fun _ => 1#1) false i2)
      ![k0_pay8 lanes 0#32 1#32 k, k0_pay6 k0_pay26] (k0_pay7 (k0_pay9 (F := F) v50) v3 k0_pay20) (fun _ => 1#1) false i3 (ix2 r c) = bbF (F := F) tk kk gbt (272 * w + r.val) c := by
  rw [store_rows, store_rows, store_rows, store_rows]
  by_cases h : 16 * k.val ≤ r.val ∧ r.val < 16 * k.val + 16
  · have e : 272 * w + 16 * k.val + (r.val - 16 * k.val) = 272 * w + r.val := by omega
    simp only [dif_pos h, pay26_toNat, pay22_toNat, pay24_toNat, pay6_toNat]
    match c with
    | 0 => exact (box_apply gbt hv 0 v0 h0 _).trans (by rw [e])
    | 1 => exact (box_apply gbt hv 1 v1 h1 _).trans (by rw [e])
    | 2 => exact (box_apply gbt hv 2 v2 h2 _).trans (by rw [e])
    | 3 => exact (box_apply gbt hv 3 v3 h3 _).trans (by rw [e])
  · simp only [dif_neg h]; exact hf r c (by omega)

theorem score_rows (pbw : Vec F S32x4x272 .f32) (gl : Vec F S64 .i32) (gbt : Vec F S4x64 .f32) (v55 : Vec F S16 .i32) (h55 : ∀ l : Fin 16, v55 (ix1 l) = gl (ix1 (agi (F := F) tk kk (272 * w + 16 * k.val + l.val))))
    (v110 : Vec F S16 .f32) (h110 : ∀ l : Fin 16, v110 (ix1 l) = iouF (F := F) tk kk pbw gbt (272 * w + 16 * k.val + l.val))
    (f : Vec F S272x96 .f32) (hf : ∀ (r : Fin 272) (c : Fin 96), f (ix2 r c) = if r.val < 16 * k.val then scF (F := F) tk kk pbw gl gbt (272 * w + r.val) c.val else Scalar.ofBits .f32 0x00000000#32)
    (i : ∀ a x, ((![k0_pay8 lanes 0#32 1#32 k, k0_pay11 (F := F) v50 v55] : Fin 2 → IVec S16 32) a x).toNat < S272x96.size a) (r : Fin 272) (c : Fin 96) :
    storeIdx (F := F) (s := S272x96) f ![k0_pay8 lanes 0#32 1#32 k, k0_pay11 (F := F) v50 v55] v110 (fun _ => 1#1) false i (ix2 r c)
      = if r.val < 16 * (k.val + 1) then scF (F := F) tk kk pbw gl gbt (272 * w + r.val) c.val else Scalar.ofBits .f32 0x00000000#32 := by
  rw [store_rows, hf]
  by_cases h : 16 * k.val ≤ r.val ∧ r.val < 16 * k.val + 16
  · have e : 272 * w + 16 * k.val + (r.val - 16 * k.val) = 272 * w + r.val := by omega
    rw [dif_pos h, lab_apply gl hv v55 h55, h110, if_pos (show r.val < 16 * (k.val + 1) by omega), if_neg (show ¬ r.val < 16 * k.val by omega)]
    show (if c.val = (labF (F := F) tk kk gl (272 * w + 16 * k.val + (r.val - 16 * k.val))).toNat then iouF (F := F) tk kk pbw gbt (272 * w + 16 * k.val + (r.val - 16 * k.val)) else _) = _
    rw [e]; rfl
  · rw [dif_neg h]
    by_cases h' : r.val < 16 * k.val
    · rw [if_pos h', if_pos (by omega)]
    · rw [if_neg h', if_neg (by omega)]

end Stores

set_option maxHeartbeats 8000000 in
theorem trip3 (hgl : ∀ g : Fin 64, (glA A d (ix1 g)).toNat < 80) (z4 : Vec F S4x272 .f32) (e4 : ∀ (c : Fin 4) (r : Fin 272), z4 (ix2 c r) = pbA A d (ix3 (wL L) c r))
    (y5 : Vec F S272 .i32) (e5 : ∀ r : Fin 272, y5 (ix1 r) = asg (F := F) (tkA A d) (kkA A d) 64 (272 * (wL L).val + r.val)) (k : Fin k0_t3_loop.trips) (acc : BitVec 32) :
    inv3 A d L z4 y5 k.val acc
      ⊢ wp frame (wpE (defs₀ (F := F)) 𝒱₀ (V d (cV L) (jV L)) none) Set.univ
          (k0_t3_body L tkV (Memref.isWhole_whole _) kkV (Memref.isWhole_whole _) pbV (Memref.isWhole_whole _) glV (Memref.isWhole_whole _) gbV (Memref.isWhole_whole _) labV (Memref.isWhole_whole _) bbV (Memref.isWhole_whole _) scV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 cc0_scoped6 cc0_scoped7 lanes k0_pay26 k acc)
          fun acc' => inv3 A d L z4 y5 (k.val + 1) acc' := by
  unfold inv3
  iintro ⟨H2, H3, H4, H5, ⟨%y6, %hy6, H6⟩, ⟨%y7, %hy7, H7⟩, ⟨%y8, %hy8, H8⟩⟩
  sl_unfold [k0_t3_body]
  sl_open_parts
  have hk : k.val < 17 := lt_of_lt_of_eq k.isLt trips3
  have hv : Holds (F := F) (tkA A d) (kkA A d) (272 * (wL L).val + 16 * k.val) (View.readAt (Elt F) (b5).view (Rect.unit (s := S272) (k0_off9 k) S16.size (k0_off9_inb k)).toLoadRect y5) := by
    intro l
    rw [load_lanes (b5).view y5 (k0_off9 k) (k0_off9_inb k) (16 * k.val) (k0_off9_eq k) l ⟨16 * k.val + l.val, by omega⟩ rfl]
    exact (e5 _).trans (by rw [Nat.add_assoc])
  have a2 := chk2_ok hv
  have a3 := chk3_ok hv
  have a4 := chk4_ok hv
  have a5 := chk5_ok hv
  have a6 := chk6_ok k
  have a7 := chk7_ok k
  have a8 := chk8_ok k
  have a9 := chk9_ok k
  rw [wp_bind]
  sl_exec
  iapply (ld_b2 d L) $$ H2
  iintro H2
  have h55 := gl_apply (glA A d) hv a2.1
  have a10 := chk10_ok (glA A d) hv hgl _ h55 k
  sl_exec
  iapply (ld_b3 d L) $$ H3
  iintro H3
  sl_exec
  sl_unfold_words
  rw [wp_bind]
  iapply (ld_b3 d L) $$ H3
  iintro H3
  sl_exec
  iapply (ld_b3 d L) $$ H3
  iintro H3
  sl_exec
  iapply (ld_b3 d L) $$ H3
  iintro H3
  iapply (st_b7 d L) $$ H7
  iintro H7
  sl_exec
  iapply (st_b7 d L) $$ H7
  iintro H7
  sl_exec
  iapply (st_b7 d L) $$ H7
  iintro H7
  sl_exec
  iapply (st_b7 d L) $$ H7
  iintro H7
  iapply (st_b8 d L) $$ H8
  iintro H8
  sl_unfold_words
  sl_step
  have hb0 := gb_apply (gbA A d) hv 0 k0_pay26 pay26_toNat a2.2
  have hb1 := gb_apply (gbA A d) hv 1 (k0_pay16 k0_pay26) pay16_toNat a3
  have hb2 := gb_apply (gbA A d) hv 2 (k0_pay17 k0_pay26) pay17_toNat a4
  have hb3 := gb_apply (gbA A d) hv 3 (k0_pay18 k0_pay26) pay18_toNat a5
  have hp : ∀ (q : Fin 4) (off : Fin 2 → ℕ) (inb : ∀ a, off a + S1x16.size a ≤ S4x272.size a), off = ![q.val, 16 * k.val] → ∀ l : Fin 16,
      ((b4).view.readAt (Elt F) (Rect.unit (s := S4x272) off S1x16.size inb).toLoadRect z4 : Vec F S1x16 .f32) (ix2 0 l) = pbF (pbA A d) q (272 * (wL L).val + 16 * k.val + l.val) := by
    intro q off inb ho l
    rw [load_row (b4).view z4 off inb q (16 * k.val) ho l ⟨16 * k.val + l.val, by omega⟩ rfl, Nat.add_assoc]
    exact (e4 q _).trans (pbF_at (pbA A d) (wL L) q ⟨16 * k.val + l.val, by omega⟩).symm
  iframe H2 H3 H4 H5
  isplitl [H6]
  · iexists _
    isplitr [H6]
    rotate_left
    · iexact H6
    · ipureintro
      intro r hr
      exact lab_rows hv (glA A d) _ h55 y6 hy6 r hr
  isplitl [H7]
  · iexists _
    isplitr [H7]
    rotate_left
    · iexact H7
    · ipureintro
      intro r c hr
      exact box_rows hv (gbA A d) _ _ _ _ hb0 hb1 hb2 hb3 y7 hy7 a6 a7 a8 a9 r c hr
  · iexists _
    isplitr [H8]
    rotate_left
    · iexact H8
    · ipureintro
      intro r c
      exact score_rows hv (pbA A d) (glA A d) (gbA A d) _ h55 _ (iou_apply (pbA A d) (gbA A d) hv _ _ _ _ _ _ _ _ (hp 0 _ _ (k0_off11_eq k)) (hp 1 _ _ (k0_off12_eq k)) (hp 2 _ _ (k0_off13_eq k)) (hp 3 _ _ (k0_off14_eq k)) hb0 hb1 hb2 hb3) y8 hy8 a10 r c

end Cert.Proof.Asm
end
-- ==== Proof.Body.lean ====
module

public import proofs.«01_k».proof.Proof.Setup
public import proofs.«01_k».proof.Proof.Trip3
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Asm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tkV" => (Memref.whole Cert.KernelIdeal.main_arg0_scv : Memref Cert.KernelIdeal.sig Kind.scVector Space.hbm Cert.KernelIdeal.S64x16 EltTy.i32)
local notation "kkV" => (Memref.whole Cert.KernelIdeal.main_arg1_scv : Memref Cert.KernelIdeal.sig Kind.scVector Space.hbm Cert.KernelIdeal.S64x16 EltTy.i32)
local notation "pbV" => (Memref.whole Cert.KernelIdeal.main_v3_scv : Memref Cert.KernelIdeal.sig Kind.scVector Space.hbm Cert.KernelIdeal.S32x4x272 EltTy.f32)
local notation "glV" => (Memref.whole Cert.KernelIdeal.main_arg3_scv : Memref Cert.KernelIdeal.sig Kind.scVector Space.hbm Cert.KernelIdeal.S64 EltTy.i32)
local notation "gbV" => (Memref.whole Cert.KernelIdeal.main_v4_scv : Memref Cert.KernelIdeal.sig Kind.scVector Space.hbm Cert.KernelIdeal.S4x64 EltTy.f32)
local notation "labV" => (Memref.whole Cert.KernelIdeal.main_v5_0_scv : Memref Cert.KernelIdeal.sig Kind.scVector Space.hbm Cert.KernelIdeal.S8704 EltTy.i32)
local notation "bbV" => (Memref.whole Cert.KernelIdeal.main_v5_1_scv : Memref Cert.KernelIdeal.sig Kind.scVector Space.hbm Cert.KernelIdeal.S8704x4 EltTy.f32)
local notation "scV" => (Memref.whole Cert.KernelIdeal.main_v5_2_scv : Memref Cert.KernelIdeal.sig Kind.scVector Space.hbm Cert.KernelIdeal.S8704x96 EltTy.f32)
local notation "b0" => (Memref.whole Cert.KernelIdeal.cc0_scratch0 : Memref Cert.KernelIdeal.sig Kind.scVector Space.vmem Cert.KernelIdeal.S64x16 EltTy.i32)
local notation "b1" => (Memref.whole Cert.KernelIdeal.cc0_scratch1 : Memref Cert.KernelIdeal.sig Kind.scVector Space.vmem Cert.KernelIdeal.S64x16 EltTy.i32)
local notation "b2" => (Memref.whole Cert.KernelIdeal.cc0_scratch2 : Memref Cert.KernelIdeal.sig Kind.scVector Space.vmem Cert.KernelIdeal.S64 EltTy.i32)
local notation "b3" => (Memref.whole Cert.KernelIdeal.cc0_scratch3 : Memref Cert.KernelIdeal.sig Kind.scVector Space.vmem Cert.KernelIdeal.S4x64 EltTy.f32)
local notation "b4" => (Memref.whole Cert.KernelIdeal.cc0_scratch4 : Memref Cert.KernelIdeal.sig Kind.scVector Space.vmem Cert.KernelIdeal.S4x272 EltTy.f32)
local notation "b5" => (Memref.whole Cert.KernelIdeal.cc0_scratch5 : Memref Cert.KernelIdeal.sig Kind.scVector Space.vmem Cert.KernelIdeal.S272 EltTy.i32)
local notation "b6" => (Memref.whole Cert.KernelIdeal.cc0_scratch6 : Memref Cert.KernelIdeal.sig Kind.scVector Space.vmem Cert.KernelIdeal.S272 EltTy.i32)
local notation "b7" => (Memref.whole Cert.KernelIdeal.cc0_scratch7 : Memref Cert.KernelIdeal.sig Kind.scVector Space.vmem Cert.KernelIdeal.S272x4 EltTy.f32)
local notation "b8" => (Memref.whole Cert.KernelIdeal.cc0_scratch8 : Memref Cert.KernelIdeal.sig Kind.scVector Space.vmem Cert.KernelIdeal.S272x96 EltTy.f32)

variable [FloatOps F] (A : Dev nD → Valuation τ sig (Elt F)) (d : Dev nD) (L : grid0.Coords)

set_option maxHeartbeats 4000000 in
theorem tile_body (hgl : ∀ g : Fin 64, (glA A d (ix1 g)).toNat < 80) (hF : (K (F := F)).Facts) (O : CellTallies nD τ sig (HIx 1)) (W : Waits sig (HIx 1)) (hO : ∀ g, O g none = 0) :
    iprop(levAts (K (F := F)).L (K (F := F)).lev ∗ emp ∗ goP A d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__asm_body L tkV (Memref.isWhole_whole _) kkV (Memref.isWhole_whole _) pbV (Memref.isWhole_whole _) glV (Memref.isWhole_whole _) gbV (Memref.isWhole_whole _) labV (Memref.isWhole_whole _) bbV (Memref.isWhole_whole _) scV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 cc0_scoped6 cc0_scoped7)
          fun _ => iprop(tdP A d (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold goP tdP ins outs0 outs1
  iintro ⟨#Hlv, -, ⟨⟨Htk, Hkk, Hpb, Hgl, Hgb⟩, ⟨Hla, Hbb, Hsc⟩⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, Hbufs⟩, ⟨G0, G1, G2, G3, G4, G5, G6, G7, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Htk := (Entails.of_eq (pts_tkV (F := F) d L (wL L) _).symm) $$ Htk
  ihave Hkk := (Entails.of_eq (pts_kkV (F := F) d L (wL L) _).symm) $$ Hkk
  ihave Hgl := (Entails.of_eq (pts_glV (F := F) d L (wL L) _).symm) $$ Hgl
  ihave Hgb := (Entails.of_eq (pts_gbV (F := F) d L (wL L) _).symm) $$ Hgb
  ihave Hpb := (Entails.of_eq (pts_memP (F := F) d L _).symm) $$ Hpb
  ihave Hla := (Entails.of_eq (pts_memL (F := F) d L _).symm) $$ Hla
  ihave Hbb := (Entails.of_eq (pts_memB (F := F) d L _).symm) $$ Hbb
  ihave Hsc := (Entails.of_eq (pts_memS (F := F) d L _).symm) $$ Hsc
  ihave H0 := (Entails.of_eq (pts_b0 (F := F) d L _).symm) $$ H0
  ihave H1 := (Entails.of_eq (pts_b1 (F := F) d L _).symm) $$ H1
  ihave H2 := (Entails.of_eq (pts_b2 (F := F) d L _).symm) $$ H2
  ihave H3 := (Entails.of_eq (pts_b3 (F := F) d L _).symm) $$ H3
  ihave H4 := (Entails.of_eq (pts_b4 (F := F) d L _).symm) $$ H4
  ihave H5 := (Entails.of_eq (pts_b5 (F := F) d L _).symm) $$ H5
  ihave H6 := (Entails.of_eq (pts_b6 (F := F) d L _).symm) $$ H6
  ihave H7 := (Entails.of_eq (pts_b7 (F := F) d L _).symm) $$ H7
  ihave H8 := (Entails.of_eq (pts_b8 (F := F) d L _).symm) $$ H8
  sl_unfold [cc0__asm_body]
  sl_open_parts
  clear hF hO
  sl_exec (disch := exact View.amount_pos _ _ (show 0 < S4x272.numel by decide))
  rw [wp_bind]
  sl_for (inv1 d L) $$ [H8]
  case region =>
    intro k _
    unfold inv1
    iintro ⟨%f, %hf, H8⟩
    sl_exec
    sl_step
    iexists _
    isplitr [H8]
    · ipureintro
      intro r c hr
      exact zero_row f k hf r c hr
    · iexact H8
  · unfold inv1
    iexists f8
    isplitr [H8]
    · ipureintro
      intro r c hr
      exact absurd hr (by omega)
    · iexact H8
  unfold inv1
  iintro %v6 ⟨%z8, %hz8, H8⟩
  sl_exec
  have e0 : View.write (Elt F) (b0).view f0 (tile_body.sl.dma0 A d) Finset.univ = tkA A d := by sl_unfold_words; simp
  have e1 : View.write (Elt F) (b1).view f1 (tile_body.sl.dma0_1 A d) Finset.univ = kkA A d := by sl_unfold_words; simp
  have e2 : View.write (Elt F) (b2).view f2 (tile_body.sl.dma0_2 A d) Finset.univ = glA A d := by sl_unfold_words; simp
  have e3 : View.write (Elt F) (b3).view f3 (tile_body.sl.dma0_3 A d) Finset.univ = gbA A d := by sl_unfold_words; simp
  have e4 : ∀ (c : Fin 4) (r : Fin 272), (View.write (Elt F) (b4).view f4 (tile_body.sl.dma0_4 A d L) Finset.univ : Vec F S4x272 .f32) (ix2 c r) = pbA A d (ix3 (wL L) c r) := by
    intro c r
    sl_unfold_words
    simp only [Memref.view_whole, View.write_whole_univ]
    exact read_memP L (pbA A d) c r
  have e5 : ∀ r : Fin 272, ((b5).view.writes (Elt F) (b5).view.junk tile_body.sl.H5_17 : Vec F S272 .i32) (ix1 r) = asg (F := F) (tkA A d) (kkA A d) 0 (272 * (wL L).val + r.val) := by
    intro r
    show (b5).view.read (Elt F) ((b5).view.writes (Elt F) (b5).view.junk tile_body.sl.H5_17) (ix1 r) = 4294967295#32
    refine init_asg (F := F) _ _ ?_ ?_ r
    · sl_unfold_words
      intro p hp x
      simp only [List.mem_cons, List.not_mem_nil, or_false] at hp
      rcases hp with rfl | rfl | rfl | rfl | rfl | rfl | rfl | rfl | rfl | rfl | rfl | rfl | rfl | rfl | rfl | rfl | rfl <;> rfl
    · sl_unfold_words; rfl
  generalize View.write (Elt F) (b4).view f4 (tile_body.sl.dma0_4 A d L) Finset.univ = z4 at e4 ⊢
  generalize (b5).view.writes (Elt F) (b5).view.junk tile_body.sl.H5_17 = z5 at e5 ⊢
  rw [e0, e1, e2, e3]
  clear e0 e1 e2 e3
  have hr : tile_body.sl.r L = BitVec.ofNat 32 (272 * (wL L).val) := by
    sl_unfold_words
    exact word_task L
  have hr1 : tile_body.sl.r_1 = lanes := by
    sl_unfold_words
    rfl
  rw [hr, hr1]
  clear hr hr1
  sl_for (inv2 A d L) $$ [H0 H1 H5]
  case region =>
    intro k acc
    exact trip2 A d L k acc
  · unfold inv2
    iframe H0 H1
    iexists z5
    isplitr [H5]
    · ipureintro
      exact e5
    · iexact H5
  unfold inv2
  iintro %v38 ⟨H0, H1, ⟨%y5, %hy5, H5⟩⟩
  rw [show Scf.trips k0_t2_loop.lb k0_t2_loop.ub k0_t2_loop.st = 64 from trips2] at hy5
  sl_for (inv3 A d L z4 y5) $$ [H2 H3 H4 H5 H6 H7 H8]
  case region =>
    intro k acc
    exact trip3 A d L hgl z4 e4 y5 hy5 k acc
  · unfold inv3
    iframe H2 H3 H4 H5
    isplitl [H6]
    · iexists f6; isplitr [H6]
      · ipureintro; intro r hr; exact absurd hr (by omega)
      · iexact H6
    isplitl [H7]
    · iexists f7; isplitr [H7]
      · ipureintro; intro r c hr; exact absurd hr (by omega)
      · iexact H7
    · iexists z8; isplitr [H8]
      · ipureintro; intro r c
        rw [if_neg (by omega)]
        exact hz8 r c (lt_of_lt_of_eq r.isLt trips1.symm)
      · iexact H8
  unfold inv3
  iintro %v39 ⟨H2, H3, H4, H5, ⟨%y6, %hy6, H6⟩, ⟨%y7, %hy7, H7⟩, ⟨%y8, %hy8, H8⟩⟩
  rw [show Scf.trips k0_t3_loop.lb k0_t3_loop.ub k0_t3_loop.st = 17 from trips3] at hy6 hy7 hy8
  sl_exec (disch := first | exact View.amount_pos _ _ (show 0 < S272.numel by decide) | exact View.amount_pos _ _ (show 0 < S272x4.numel by decide) | exact View.amount_pos _ _ (show 0 < S272x96.numel by decide))
  sl_step
  ihave Hla := (Entails.of_eq ((pointsTo_congr (block_congr (memL L).view _ (labG A d) _ fun y => by
    obtain ⟨r, rfl⟩ := exists_ix1 y
    sl_unfold_words
    rw [read_labG]
    exact hy6 r r.isLt)).trans (pts_memL (F := F) d L (labG A d)))) $$ Hla
  ihave Hbb := (Entails.of_eq ((pointsTo_congr (block_congr (memB L).view _ (bbG A d) _ fun y => by
    obtain ⟨r, c, rfl⟩ := exists_ix2 y
    sl_unfold_words
    rw [read_bbG]
    exact hy7 r c r.isLt)).trans (pts_memB (F := F) d L (bbG A d)))) $$ Hbb
  ihave Hsc := (Entails.of_eq ((pointsTo_congr (block_congr (memS L).view _ (scG A d) _ fun y => by
    obtain ⟨r, c, rfl⟩ := exists_ix2 y
    sl_unfold_words
    rw [read_scG]
    exact (hy8 r c).trans (if_pos r.isLt))).trans (pts_memS (F := F) d L (scG A d)))) $$ Hsc
  ihave Htk := (Entails.of_eq (pts_tkV (F := F) d L (wL L) _)) $$ Htk
  ihave Hkk := (Entails.of_eq (pts_kkV (F := F) d L (wL L) _)) $$ Hkk
  ihave Hgl := (Entails.of_eq (pts_glV (F := F) d L (wL L) _)) $$ Hgl
  ihave Hgb := (Entails.of_eq (pts_gbV (F := F) d L (wL L) _)) $$ Hgb
  ihave Hpb := (Entails.of_eq (pts_memP (F := F) d L _)) $$ Hpb
  isplitl [Htk Hkk Hpb Hgl Hgb Hla Hbb Hsc]
  · iframe Htk Hkk Hpb Hgl Hgb Hla Hbb Hsc
  isplitl [H0 H1 H2 H3 H4 H5 H6 H7 H8 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexact Hbufs
  isplitl [G0 G1 G2 G3 G4 G5 G6 G7 Hsems]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact Hsems
  iexists _
  isplitr [HO]
  rotate_left
  · iexact HO
  · ipureintro
    intro p hp
    simp only [Finset.mem_insert] at hp
    rcases hp with rfl | rfl | rfl | rfl | rfl | rfl | rfl | rfl | hp
    all_goals first | exact .inl hp | exact .inr (.inl rfl)

end Cert.Proof.Asm
end
-- ==== Proof.Launch.lean ====
module

public import proofs.«01_k».proof.Proof.Body
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Claim
public import Idealize.ShloMosaic.Lib.Tactic

@[expose] public section

set_option maxRecDepth 16384

noncomputable section

namespace Cert.Proof.Asm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within after)

variable {F : FTy → Type}

local notation "𝕄" => MT nD τ sig (HIx 1) (Elt F) ℕ UU ℕ

local notation "tkV" => (Memref.whole Cert.KernelIdeal.main_arg0_scv : Memref Cert.KernelIdeal.sig Kind.scVector Space.hbm Cert.KernelIdeal.S64x16 EltTy.i32)
local notation "kkV" => (Memref.whole Cert.KernelIdeal.main_arg1_scv : Memref Cert.KernelIdeal.sig Kind.scVector Space.hbm Cert.KernelIdeal.S64x16 EltTy.i32)
local notation "pbV" => (Memref.whole Cert.KernelIdeal.main_v3_scv : Memref Cert.KernelIdeal.sig Kind.scVector Space.hbm Cert.KernelIdeal.S32x4x272 EltTy.f32)
local notation "glV" => (Memref.whole Cert.KernelIdeal.main_arg3_scv : Memref Cert.KernelIdeal.sig Kind.scVector Space.hbm Cert.KernelIdeal.S64 EltTy.i32)
local notation "gbV" => (Memref.whole Cert.KernelIdeal.main_v4_scv : Memref Cert.KernelIdeal.sig Kind.scVector Space.hbm Cert.KernelIdeal.S4x64 EltTy.f32)
local notation "labV" => (Memref.whole Cert.KernelIdeal.main_v5_0_scv : Memref Cert.KernelIdeal.sig Kind.scVector Space.hbm Cert.KernelIdeal.S8704 EltTy.i32)
local notation "bbV" => (Memref.whole Cert.KernelIdeal.main_v5_1_scv : Memref Cert.KernelIdeal.sig Kind.scVector Space.hbm Cert.KernelIdeal.S8704x4 EltTy.f32)
local notation "scV" => (Memref.whole Cert.KernelIdeal.main_v5_2_scv : Memref Cert.KernelIdeal.sig Kind.scVector Space.hbm Cert.KernelIdeal.S8704x96 EltTy.f32)
local notation "b0" => (Memref.whole Cert.KernelIdeal.cc0_scratch0 : Memref Cert.KernelIdeal.sig Kind.scVector Space.vmem Cert.KernelIdeal.S64x16 EltTy.i32)
local notation "b1" => (Memref.whole Cert.KernelIdeal.cc0_scratch1 : Memref Cert.KernelIdeal.sig Kind.scVector Space.vmem Cert.KernelIdeal.S64x16 EltTy.i32)
local notation "b2" => (Memref.whole Cert.KernelIdeal.cc0_scratch2 : Memref Cert.KernelIdeal.sig Kind.scVector Space.vmem Cert.KernelIdeal.S64 EltTy.i32)
local notation "b3" => (Memref.whole Cert.KernelIdeal.cc0_scratch3 : Memref Cert.KernelIdeal.sig Kind.scVector Space.vmem Cert.KernelIdeal.S4x64 EltTy.f32)
local notation "b4" => (Memref.whole Cert.KernelIdeal.cc0_scratch4 : Memref Cert.KernelIdeal.sig Kind.scVector Space.vmem Cert.KernelIdeal.S4x272 EltTy.f32)
local notation "b5" => (Memref.whole Cert.KernelIdeal.cc0_scratch5 : Memref Cert.KernelIdeal.sig Kind.scVector Space.vmem Cert.KernelIdeal.S272 EltTy.i32)
local notation "b6" => (Memref.whole Cert.KernelIdeal.cc0_scratch6 : Memref Cert.KernelIdeal.sig Kind.scVector Space.vmem Cert.KernelIdeal.S272 EltTy.i32)
local notation "b7" => (Memref.whole Cert.KernelIdeal.cc0_scratch7 : Memref Cert.KernelIdeal.sig Kind.scVector Space.vmem Cert.KernelIdeal.S272x4 EltTy.f32)
local notation "b8" => (Memref.whole Cert.KernelIdeal.cc0_scratch8 : Memref Cert.KernelIdeal.sig Kind.scVector Space.vmem Cert.KernelIdeal.S272x96 EltTy.f32)

variable [FloatOps F]

/-! ## The task's obligation -/

section Task

variable (A : Dev nD → Valuation τ sig (Elt F))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__asm_body (coordsV c s)
          tkV (Memref.isWhole_whole _) kkV (Memref.isWhole_whole _) pbV (Memref.isWhole_whole _) glV (Memref.isWhole_whole _) gbV (Memref.isWhole_whole _) labV (Memref.isWhole_whole _) bbV (Memref.isWhole_whole _) scV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 cc0_scoped6 cc0_scoped7) ⟨⟩ c s := rfl

theorem tileObl (hgl : ∀ (d : Dev nD) (g : Fin 64), (glA A d (ix1 g)).toNat < 80) (hF : (K (F := F)).Facts) :
    (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (coordsV ⟨_, hci.1⟩ ⟨_, hci.2⟩) (hgl d) hF O W hO

/-! ## The arrays dealt out and gathered again -/

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P A) 0 := by
  intro d c
  show (bigSep Finset.univ fun i : Fin 16 => goP A d (wid (Fin.cast nCore_zero c) i)) ⊢ |={Set.univ}=> iprop(
      (bigSep Finset.univ fun i : Fin ((K (F := F)).nSub 0) => goP A d (wid (Fin.cast nCore_zero c) (Fin.cast nSub_zero i)))
      ∗ ((bigSep Finset.univ fun i : Fin ((K (F := F)).nSub 0) => tdP A d (wid (Fin.cast nCore_zero c) (Fin.cast nSub_zero i)))
          -∗ bigSep Finset.univ fun i : Fin 16 => tdP A d (wid (Fin.cast nCore_zero c) i)))
  rw [bigSep_subs (F := F) (fun i => goP A d (wid (Fin.cast nCore_zero c) i)),
    bigSep_subs (F := F) (fun i => tdP A d (wid (Fin.cast nCore_zero c) i))]
  iintro H; imodintro
  isplitl [H]; · iexact H
  iintro H; iexact H

/-- The task numbers are the pairs of a core and a subcore. -/
def widEquiv : Fin 2 × Fin 16 ≃ Fin 32 where
  toFun p := wid p.1 p.2
  invFun w := (⟨w.val % 2, Nat.mod_lt _ (by decide)⟩, ⟨w.val / 2, by omega⟩)
  left_inv p := by ext <;> simp <;> omega
  right_inv w := by ext; simp; omega

omit [FloatOps F] in
theorem bigSep_wid (Φ : Fin 32 → sProp 𝕄) :
    (bigSep Finset.univ fun c : Fin 2 => bigSep Finset.univ fun i : Fin 16 => Φ (wid c i)) = bigSep Finset.univ Φ := by
  rw [bigSep_univ_equiv widEquiv Φ, bigSep_univ_prod]; rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P A).st 0 d c) = bigSep Finset.univ fun w : Fin 32 => goP A d w :=
  (bigSep_cores (F := F) fun c => bigSep Finset.univ fun i : Fin 16 => goP A d (wid c i)).trans (bigSep_wid (fun w => goP A d w))
theorem dn0_eq (d : Dev nD) :
    (bigSep Finset.univ fun c : Fin ((K (F := F)).nCore 0) => (P A).dn 0 d c) = bigSep Finset.univ fun w : Fin 32 => tdP A d w :=
  (bigSep_cores (F := F) fun c => bigSep Finset.univ fun i : Fin 16 => tdP A d (wid c i)).trans (bigSep_wid (fun w => tdP A d w))

omit [FloatOps F] in
theorem pb_parts (d : Dev nD) (f : Buf (Elt F) (pbLoc d)) :
    (pbLoc d ↦{fullShare} f : sProp 𝕄) = bigSep Finset.univ fun w : Fin 32 => pbLoc d ↦[setP w]{fullShare} f := by
  have hs : ∀ w, setP w = (partP w).set := fun w => by
    show ((View.whole (main_v3_scv : Ref sig .scVector)).slice (partP w)).set = _
    rw [View.set_slice]; exact Finset.map_refl
  rw [← pointsTo_biUnion Finset.univ (ℓ := pbLoc d) setP (fun i _ j _ h => by rw [hs, hs]; exact Rect.part_disjoint hdivP h),
    show (Finset.univ : Finset (Fin 32)).biUnion setP = Finset.univ from (Finset.biUnion_congr rfl fun i _ => hs i).trans (Rect.biUnion_part hdivP)]
omit [FloatOps F] in
theorem lab_parts (d : Dev nD) (f : Buf (Elt F) (labLoc d)) :
    (labLoc d ↦{fullShare} f : sProp 𝕄) = bigSep Finset.univ fun w : Fin 32 => labLoc d ↦[setL w]{fullShare} f := by
  have hs : ∀ w, setL w = (partL w).set := fun w => by
    show ((View.whole (main_v5_0_scv : Ref sig .scVector)).slice (partL w)).set = _
    rw [View.set_slice]; exact Finset.map_refl
  rw [← pointsTo_biUnion Finset.univ (ℓ := labLoc d) setL (fun i _ j _ h => by rw [hs, hs]; exact Rect.part_disjoint hdivL h),
    show (Finset.univ : Finset (Fin 32)).biUnion setL = Finset.univ from (Finset.biUnion_congr rfl fun i _ => hs i).trans (Rect.biUnion_part hdivL)]
omit [FloatOps F] in
theorem bb_parts (d : Dev nD) (f : Buf (Elt F) (bbLoc d)) :
    (bbLoc d ↦{fullShare} f : sProp 𝕄) = bigSep Finset.univ fun w : Fin 32 => bbLoc d ↦[setB w]{fullShare} f := by
  have hs : ∀ w, setB w = (partB w).set := fun w => by
    show ((View.whole (main_v5_1_scv : Ref sig .scVector)).slice (partB w)).set = _
    rw [View.set_slice]; exact Finset.map_refl
  rw [← pointsTo_biUnion Finset.univ (ℓ := bbLoc d) setB (fun i _ j _ h => by rw [hs, hs]; exact Rect.part_disjoint hdivB h),
    show (Finset.univ : Finset (Fin 32)).biUnion setB = Finset.univ from (Finset.biUnion_congr rfl fun i _ => hs i).trans (Rect.biUnion_part hdivB)]
omit [FloatOps F] in
theorem sc_parts (d : Dev nD) (f : Buf (Elt F) (scLoc d)) :
    (scLoc d ↦{fullShare} f : sProp 𝕄) = bigSep Finset.univ fun w : Fin 32 => scLoc d ↦[setS w]{fullShare} f := by
  have hs : ∀ w, setS w = (partS w).set := fun w => by
    show ((View.whole (main_v5_2_scv : Ref sig .scVector)).slice (partS w)).set = _
    rw [View.set_slice]; exact Finset.map_refl
  rw [← pointsTo_biUnion Finset.univ (ℓ := scLoc d) setS (fun i _ j _ h => by rw [hs, hs]; exact Rect.part_disjoint hdivS h),
    show (Finset.univ : Finset (Fin 32)).biUnion setS = Finset.univ from (Finset.biUnion_congr rfl fun i _ => hs i).trans (Rect.biUnion_part hdivS)]

theorem ins_all (d : Dev nD) :
    (bigSep Finset.univ fun w : Fin 32 => ins A d w : sProp 𝕄)
      = iprop((tkLoc d ↦{fullShare} tkA A d) ∗ (kkLoc d ↦{fullShare} kkA A d) ∗ (pbLoc d ↦{fullShare} pbA A d)
        ∗ (glLoc d ↦{fullShare} glA A d) ∗ (gbLoc d ↦{fullShare} gbA A d)) := by
  unfold ins
  rw [bigSep_sep', bigSep_sep', bigSep_sep', bigSep_sep', pb_parts,
    ShareLeaves.pointsTo_leaves (ℓ := tkLoc d) Finset.univ (tkA A d) 5 fullShare, ShareLeaves.pointsTo_leaves (ℓ := kkLoc d) Finset.univ (kkA A d) 5 fullShare,
    ShareLeaves.pointsTo_leaves (ℓ := glLoc d) Finset.univ (glA A d) 5 fullShare, ShareLeaves.pointsTo_leaves (ℓ := gbLoc d) Finset.univ (gbA A d) 5 fullShare]
  rfl

theorem go_all (d : Dev nD) :
    (bigSep Finset.univ fun w : Fin 32 => goP A d w : sProp 𝕄)
      = iprop(((tkLoc d ↦{fullShare} tkA A d) ∗ (kkLoc d ↦{fullShare} kkA A d) ∗ (pbLoc d ↦{fullShare} pbA A d)
        ∗ (glLoc d ↦{fullShare} glA A d) ∗ (gbLoc d ↦{fullShare} gbA A d))
        ∗ ((labLoc d ↦{fullShare} A d (Proc.devRef .tc (main_v5_0 : Ref sig .tc))) ∗ (bbLoc d ↦{fullShare} A d (Proc.devRef .tc (main_v5_1 : Ref sig .tc)))
          ∗ (scLoc d ↦{fullShare} A d (Proc.devRef .tc (main_v5_2 : Ref sig .tc))))) := by
  unfold goP
  rw [bigSep_sep', ins_all]
  unfold outs0
  rw [bigSep_sep', bigSep_sep', ← lab_parts, ← bb_parts, ← sc_parts]
theorem td_all (d : Dev nD) :
    (bigSep Finset.univ fun w : Fin 32 => tdP A d w : sProp 𝕄)
      = iprop(((tkLoc d ↦{fullShare} tkA A d) ∗ (kkLoc d ↦{fullShare} kkA A d) ∗ (pbLoc d ↦{fullShare} pbA A d)
        ∗ (glLoc d ↦{fullShare} glA A d) ∗ (gbLoc d ↦{fullShare} gbA A d))
        ∗ ((labLoc d ↦{fullShare} labG A d) ∗ (bbLoc d ↦{fullShare} bbG A d) ∗ (scLoc d ↦{fullShare} scG A d))) := by
  unfold tdP
  rw [bigSep_sep', ins_all]
  unfold outs1
  rw [bigSep_sep', bigSep_sep', ← lab_parts, ← bb_parts, ← sc_parts]

/-! ## The launch element -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_nothing]
  iempintro

end Task

/-! ## The host's operations -/

section Host

variable (m : (ℓ : Loc nD τ sig) → Buf (Elt F) ℓ) (ρ : Dev nD → PrngReg)

abbrev op0 : HloOp τ sig (Elt F) := StableHlo.unary main_arg2 main_v0 ((transpose S4x8400 [1, 0] · transposes_S8400x4_S4x8400_1_0) : (⟨S8400x4, .f32⟩ : BufTy).Contents (Elt F) → (⟨S4x8400, .f32⟩ : BufTy).Contents (Elt F))
abbrev op1 : HloOp τ sig (Elt F) := StableHlo.nullary main_c (constantI S_ 32 0#32)
abbrev op2 : HloOp τ sig (Elt F) := StableHlo.TRef.unary (.of main_c : StableHlo.TRef sig ⟨S_, .i32⟩) main_call0.v0 (sitofp .f32)
abbrev op3 : HloOp τ sig (Elt F) := StableHlo.TRef.binary (.of main_v0 : StableHlo.TRef sig ⟨S4x8400, .f32⟩) main_call0.v0 main_call0.v1 (fun x v => pad S4x8704 ![0, 0] ![0, 304] ![0, 0] x v pads_S4x8400_S4x8704_000_03040 h_S_)
abbrev op4 : HloOp τ sig (Elt F) := StableHlo.reshape main_v1 main_v2 (rfl : (.f32 : EltTy) = .f32) shapeCasts_S4x8704_S4x32x272
abbrev op5 : HloOp τ sig (Elt F) := StableHlo.unary main_v2 main_v3 ((transpose S32x4x272 [1, 0, 2] · transposes_S4x32x272_S32x4x272_1_0_2) : (⟨S4x32x272, .f32⟩ : BufTy).Contents (Elt F) → (⟨S32x4x272, .f32⟩ : BufTy).Contents (Elt F))
abbrev op6 : HloOp τ sig (Elt F) := StableHlo.unary main_arg4 main_v4 ((transpose S4x64 [1, 0] · transposes_S64x4_S4x64_1_0) : (⟨S64x4, .f32⟩ : BufTy).Contents (Elt F) → (⟨S4x64, .f32⟩ : BufTy).Contents (Elt F))
abbrev op7 : HloOp τ sig (Elt F) := StableHlo.unary main_v5_0 main_v6 ((extractStridedSlice S8400 ![0] · slices_S8704_S8400_0) : (⟨S8704, .i32⟩ : BufTy).Contents (Elt F) → (⟨S8400, .i32⟩ : BufTy).Contents (Elt F))
abbrev op8 : HloOp τ sig (Elt F) := StableHlo.unary main_v5_1 main_v7 ((extractStridedSlice S8400x4 ![0, 0] · slices_S8704x4_S8400x4_0_0) : (⟨S8704x4, .f32⟩ : BufTy).Contents (Elt F) → (⟨S8400x4, .f32⟩ : BufTy).Contents (Elt F))
abbrev op9 : HloOp τ sig (Elt F) := StableHlo.unary main_v5_2 main_v8 ((extractStridedSlice S8400x81 ![0, 0] · slices_S8704x96_S8400x81_0_0) : (⟨S8704x96, .f32⟩ : BufTy).Contents (Elt F) → (⟨S8400x81, .f32⟩ : BufTy).Contents (Elt F))

/-- The memory a device starts at. -/
def V0 (d : Dev nD) : Valuation τ sig (Elt F) := fun b => m (d, b)
/-- What the arrays hold when the call is made. -/
def pre (d : Dev nD) : Valuation τ sig (Elt F) :=
  op6.result (op5.result (op4.result (op3.result (op2.result (op1.result (op0.result (V0 m d)))))))
/-- What they hold after it. -/
def mid (d : Dev nD) : Valuation τ sig (Elt F) :=
  Function.update (Function.update (Function.update (pre m d) (Proc.devRef .tc (main_v5_0 : Ref sig .tc)) (labG (pre m) d))
    (Proc.devRef .tc (main_v5_1 : Ref sig .tc)) (bbG (pre m) d)) (Proc.devRef .tc (main_v5_2 : Ref sig .tc)) (scG (pre m) d)
/-- What they hold at the end. -/
def fin (d : Dev nD) : Valuation τ sig (Elt F) := op9.result (op8.result (op7.result (mid m d)))

abbrev arrays : Finset (DevRef τ sig) := Pipeline.ucRefs τ sig

theorem sub_arrays (b : Ref sig .tc) (h : b.isScoped = false) : ({Proc.devRef .tc b} : Finset (DevRef τ sig)) ⊆ arrays :=
  Finset.singleton_subset_iff.mpr (Pipeline.devRef_mem_ucRefs h)
theorem sub_arrays₂ (b c : Ref sig .tc) (h : b.isScoped = false) (h' : c.isScoped = false) : ({Proc.devRef .tc b, Proc.devRef .tc c} : Finset (DevRef τ sig)) ⊆ arrays :=
  Finset.insert_subset (Pipeline.devRef_mem_ucRefs h) (sub_arrays c h')
theorem sub_arrays₃ (a b c : Ref sig .tc) (g : a.isScoped = false) (h : b.isScoped = false) (h' : c.isScoped = false) :
    ({Proc.devRef .tc a, Proc.devRef .tc b, Proc.devRef .tc c} : Finset (DevRef τ sig)) ⊆ arrays :=
  Finset.insert_subset (Pipeline.devRef_mem_ucRefs g) (sub_arrays₂ b c h h')

/-- The arrays the call is handed. -/
abbrev callRefs : Finset (DevRef τ sig) :=
  {Proc.devRef .tc (main_arg0 : Ref sig .tc), Proc.devRef .tc (main_arg1 : Ref sig .tc), Proc.devRef .tc (main_v3 : Ref sig .tc),
    Proc.devRef .tc (main_arg3 : Ref sig .tc), Proc.devRef .tc (main_v4 : Ref sig .tc), Proc.devRef .tc (main_v5_0 : Ref sig .tc),
    Proc.devRef .tc (main_v5_1 : Ref sig .tc), Proc.devRef .tc (main_v5_2 : Ref sig .tc)}

theorem callRefs_sub : callRefs ⊆ arrays :=
  Finset.insert_subset (Pipeline.devRef_mem_ucRefs rfl) <| Finset.insert_subset (Pipeline.devRef_mem_ucRefs rfl) <|
  Finset.insert_subset (Pipeline.devRef_mem_ucRefs rfl) <| Finset.insert_subset (Pipeline.devRef_mem_ucRefs rfl) <|
  Finset.insert_subset (Pipeline.devRef_mem_ucRefs rfl) <| sub_arrays₃ main_v5_0 main_v5_1 main_v5_2 rfl rfl rfl

omit [FloatOps F] in
theorem held_call (d : Dev nD) (W : Valuation τ sig (Elt F)) :
    (held (T d) callRefs W : sProp 𝕄)
      = iprop((tkLoc d ↦{fullShare} W (Proc.devRef .tc (main_arg0 : Ref sig .tc))) ∗ (kkLoc d ↦{fullShare} W (Proc.devRef .tc (main_arg1 : Ref sig .tc)))
        ∗ (pbLoc d ↦{fullShare} W (Proc.devRef .tc (main_v3 : Ref sig .tc))) ∗ (glLoc d ↦{fullShare} W (Proc.devRef .tc (main_arg3 : Ref sig .tc)))
        ∗ (gbLoc d ↦{fullShare} W (Proc.devRef .tc (main_v4 : Ref sig .tc))) ∗ (labLoc d ↦{fullShare} W (Proc.devRef .tc (main_v5_0 : Ref sig .tc)))
        ∗ (bbLoc d ↦{fullShare} W (Proc.devRef .tc (main_v5_1 : Ref sig .tc))) ∗ (scLoc d ↦{fullShare} W (Proc.devRef .tc (main_v5_2 : Ref sig .tc)))) := by
  unfold held callRefs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem mid_lab (d : Dev nD) : mid m d (Proc.devRef .tc (main_v5_0 : Ref sig .tc)) = labG (pre m) d := by
  unfold mid; rw [Function.update_of_ne (by decide), Function.update_of_ne (by decide), Function.update_self]
theorem mid_bb (d : Dev nD) : mid m d (Proc.devRef .tc (main_v5_1 : Ref sig .tc)) = bbG (pre m) d := by
  unfold mid; rw [Function.update_of_ne (by decide), Function.update_self]
theorem mid_sc (d : Dev nD) : mid m d (Proc.devRef .tc (main_v5_2 : Ref sig .tc)) = scG (pre m) d := by
  unfold mid; rw [Function.update_self]
theorem mid_ne (d : Dev nD) (b : DevRef τ sig) (h0 : b ≠ Proc.devRef .tc (main_v5_0 : Ref sig .tc)) (h1 : b ≠ Proc.devRef .tc (main_v5_1 : Ref sig .tc))
    (h2 : b ≠ Proc.devRef .tc (main_v5_2 : Ref sig .tc)) : mid m d b = pre m d b := by
  unfold mid; rw [Function.update_of_ne h2, Function.update_of_ne h1, Function.update_of_ne h0]

theorem held_rest (d : Dev nD) : (held (T d) (arrays \ callRefs) (pre m d) : sProp 𝕄) = held (T d) (arrays \ callRefs) (mid m d) :=
  held_congr (T d) fun b hb => (mid_ne m d b
    (fun h => (Finset.mem_sdiff.mp hb).2 (h ▸ by simp [callRefs]))
    (fun h => (Finset.mem_sdiff.mp hb).2 (h ▸ by simp [callRefs]))
    (fun h => (Finset.mem_sdiff.mp hb).2 (h ▸ by simp [callRefs]))).symm

/-- What the call is handed, apart from the rest. -/
theorem held_pre (d : Dev nD) :
    (held (T d) arrays (op6.result (op5.result (op4.result (op3.result (op2.result (op1.result (op0.result (V0 m d)))))))) : sProp 𝕄)
      = iprop(held (T d) callRefs (pre m d) ∗ held (T d) (arrays \ callRefs) (mid m d)) := by
  rw [← held_rest m d]; exact held_sub_split (T d) callRefs_sub (pre m d)

/-- The arrays, every one at its last contents. -/
abbrev FIN (d : Dev nD) : sProp 𝕄 := held (T d) arrays (fin m d)

theorem hmain (κ : GSem nD τ sig → ℕ) (d : Dev nD) :
    iprop((K (F := F)).ctx EH (P (pre m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) arrays (V0 m d) from Pipeline.unscopedBufs_held d (V0 m d)]
  simp only [main, fn_pad.body, wp_bind, wp_pure]
  iintro ⟨#Hctx, Hst, ⟨Hb, Hheld, Hts, -⟩, -⟩
  iapply (wp_hlo_within 𝒱 (SparseCore.T d) none Set.univ (op := op0) (S := arrays) (sub_arrays₂ main_arg2 main_v0 rfl rfl) (V := V0 m d)) $$ [Hb Hheld]
  · isplitl [Hb] <;> iassumption
  iintro ⟨Hb, Hheld⟩
  rw [wp_ret]; imodintro
  iapply (wp_hlo_within 𝒱 (SparseCore.T d) none Set.univ (op := op1) (S := arrays) (sub_arrays main_c rfl)) $$ [Hb Hheld]
  · isplitl [Hb] <;> iassumption
  iintro ⟨Hb, Hheld⟩
  rw [wp_ret]; imodintro
  iapply (wp_hlo_within 𝒱 (SparseCore.T d) none Set.univ (op := op2) (S := arrays) (sub_arrays₂ main_c main_call0_v0 rfl rfl)) $$ [Hb Hheld]
  · isplitl [Hb] <;> iassumption
  iintro ⟨Hb, Hheld⟩
  rw [wp_ret]; imodintro
  iapply (wp_hlo_within 𝒱 (SparseCore.T d) none Set.univ (op := op3) (S := arrays) (sub_arrays₃ main_v0 main_call0_v0 main_v1 rfl rfl rfl)) $$ [Hb Hheld]
  · isplitl [Hb] <;> iassumption
  iintro ⟨Hb, Hheld⟩
  rw [wp_ret]; imodintro; imodintro
  iapply (wp_hlo_within 𝒱 (SparseCore.T d) none Set.univ (op := op4) (S := arrays) (sub_arrays₂ main_v1 main_v2 rfl rfl)) $$ [Hb Hheld]
  · isplitl [Hb] <;> iassumption
  iintro ⟨Hb, Hheld⟩
  rw [wp_ret]; imodintro
  iapply (wp_hlo_within 𝒱 (SparseCore.T d) none Set.univ (op := op5) (S := arrays) (sub_arrays₂ main_v2 main_v3 rfl rfl)) $$ [Hb Hheld]
  · isplitl [Hb] <;> iassumption
  iintro ⟨Hb, Hheld⟩
  rw [wp_ret]; imodintro
  iapply (wp_hlo_within 𝒱 (SparseCore.T d) none Set.univ (op := op6) (S := arrays) (sub_arrays₂ main_arg4 main_v4 rfl rfl)) $$ [Hb Hheld]
  · isplitl [Hb] <;> iassumption
  iintro ⟨Hb, Hheld⟩
  rw [wp_ret]; imodintro
  ihave Hh := (Entails.of_eq (held_pre m d)) $$ Hheld
  icases Hh with ⟨Hcall, Hrest⟩
  ihave Hcall := (Entails.of_eq (held_call d (pre m d))) $$ Hcall
  icases Hcall with ⟨Htk, Hkk, Hpb, Hgl, Hgb, Hla, Hbb, Hsc⟩
  iapply ((K (F := F)).wp_run (D (F := F)) 𝒱 (EH := EH) (P := P (pre m)) κ d 0) $$ [Hst Htk Hkk Hpb Hgl Hgb Hla Hbb Hsc Hrest Hb Hts]
  isplitr; · iexact Hctx
  isplitl [Hst]; · iexact Hst
  isplitl [Htk Hkk Hpb Hgl Hgb Hla Hbb Hsc]
  · rw [st0_eq, go_all]
    isplitl [Htk Hkk Hpb Hgl Hgb]
    · isplitl [Htk]; · iexact Htk
      isplitl [Hkk]; · iexact Hkk
      isplitl [Hpb]; · iexact Hpb
      isplitl [Hgl]; · iexact Hgl
      iexact Hgb
    isplitl [Hla]; · iexact Hla
    isplitl [Hbb]; · iexact Hbb
    iexact Hsc
  iintro ⟨Hst, Hdn⟩
  ihave Hdn' := (Entails.of_eq ((dn0_eq (pre m) d).trans (td_all (pre m) d))) $$ Hdn
  icases Hdn' with ⟨⟨Htk, Hkk, Hpb, Hgl, Hgb⟩, Hla, Hbb, Hsc⟩
  iapply (wp_hlo_within 𝒱 (SparseCore.T d) none Set.univ (op := op7) (S := arrays) (sub_arrays₂ main_v5_0 main_v6 rfl rfl) (V := mid m d))
    $$ [Hb Htk Hkk Hpb Hgl Hgb Hla Hbb Hsc Hrest]
  · isplitl [Hb]; · iexact Hb
    rw [held_sub_split (T d) callRefs_sub (mid m d)]
    isplitr [Hrest]
    · rw [held_call, mid_lab, mid_bb, mid_sc, mid_ne m d _ (by decide) (by decide) (by decide), mid_ne m d _ (by decide) (by decide) (by decide),
        mid_ne m d _ (by decide) (by decide) (by decide), mid_ne m d _ (by decide) (by decide) (by decide), mid_ne m d _ (by decide) (by decide) (by decide)]
      isplitl [Htk]; · iexact Htk
      isplitl [Hkk]; · iexact Hkk
      isplitl [Hpb]; · iexact Hpb
      isplitl [Hgl]; · iexact Hgl
      isplitl [Hgb]; · iexact Hgb
      isplitl [Hla]; · iexact Hla
      isplitl [Hbb]; · iexact Hbb
      iexact Hsc
    iexact Hrest
  iintro ⟨Hb, Hheld⟩
  rw [wp_ret]; imodintro
  iapply (wp_hlo_within 𝒱 (SparseCore.T d) none Set.univ (op := op8) (S := arrays) (sub_arrays₂ main_v5_1 main_v7 rfl rfl)) $$ [Hb Hheld]
  · isplitl [Hb] <;> iassumption
  iintro ⟨Hb, Hheld⟩
  rw [wp_ret]; imodintro
  iapply (wp_hlo_within 𝒱 (SparseCore.T d) none Set.univ (op := op9) (S := arrays) (sub_arrays₂ main_v5_2 main_v8 rfl rfl)) $$ [Hb Hheld]
  · isplitl [Hb] <;> iassumption
  iintro ⟨Hb, Hheld⟩
  rw [wp_ret]; imodintro; imodintro
  isplitl [Hst]; · iexact Hst
  isplitl [Hheld]; · iexact Hheld
  isplitl [Hb] <;> iassumption

def fq (d : Dev nD) (s' : Phys nD τ sig (Elt F)) : Prop := ∀ b ∈ arrays, s'.mem.mem (d, b) = fin m d b

theorem hfin (d : Dev nD) (s' : Phys nD τ sig (Elt F)) : iprop(FIN m d ∗ SI s') ⊢ (⌜fq m d s'⌝ : sProp 𝕄) := by
  unfold FIN held fq
  iintro ⟨H, HSI⟩
  iapply (SI_pointsTo_bufs_agree (st := s') (c := d) (B := arrays) (qs := fun _ => fullShare) (F := fin m d)) $$ [H HSI]
  isplitl [HSI]; · iexact HSI
  iexact H

/-! ## The program's run -/

def QC : PUnit × MemSt nD τ sig (Elt F) → Prop := fun r => (∀ c : Dev nD, ∀ b ∈ arrays, r.2.mem (c, b) = fin m c b) ∧ r.2.sem = fun _ => 0

theorem run_main [∀ e, Nonempty (Elt F e)] (hgl : ∀ (d : Dev nD) (g : Fin 64), (glA (pre m) d (ix1 g)).toNat < 80) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (pre m)) (A := ∅) facts v₀
    (fun q hq => match q with | 0 => nomatch hq)
    (fun q _ => match q with | 0 => tileObl (pre m) hgl facts)
    (fun q _ => match q with | 0 => SparseCore.Cfg.VecSplit.of_plain (vecSplit (pre m)))
    m ρ main (fun _ => iprop(emp)) (FIN m) (u₀ (F := F)) (sep_elim_left.trans (hu₀ (pre m))) (hmain m ρ) (fq m) (hfin m) (QC m) (fun _ h hz => ⟨h, hz⟩)

end Host

end Cert.Proof.Asm
end
-- ==== Proof.RefFacts.lean ====
/- The relations between shapes which the reference and the precondition state, each decided. -/
module

public import proofs.«01_k».proof.Defs

@[expose] public section

set_option maxRecDepth 16384

namespace Cert.Proof.RefFacts

open Idealize.ShloMosaic

section
open Cert.ReferenceIdeal

theorem bcast_S8400x4_S1x8400x4_1_2 : S8400x4.BroadcastsInDim S1x8400x4 (![1, 2] : Fin 2 → Fin S1x8400x4.rank) := by decide
theorem bcast_S64x4_S64x1x4_0_2 : S64x4.BroadcastsInDim S64x1x4 (![0, 2] : Fin 2 → Fin S64x1x4.rank) := by decide
theorem slices_S1x8400x4_S1x8400x2_0_0_0 : S1x8400x4.Slices ![0, 0, 0] S1x8400x2 := by decide
theorem slices_S64x1x4_S64x1x2_0_0_0 : S64x1x4.Slices ![0, 0, 0] S64x1x2 := by decide
theorem bcast_S1x8400x2_S64x8400x2_0_1_2 : S1x8400x2.BroadcastsInDim S64x8400x2 (![0, 1, 2] : Fin 3 → Fin S64x8400x2.rank) := by decide
theorem bcast_S64x1x2_S64x8400x2_0_1_2 : S64x1x2.BroadcastsInDim S64x8400x2 (![0, 1, 2] : Fin 3 → Fin S64x8400x2.rank) := by decide
theorem slices_S1x8400x4_S1x8400x2_0_0_2 : S1x8400x4.Slices ![0, 0, 2] S1x8400x2 := by decide
theorem slices_S64x1x4_S64x1x2_0_0_2 : S64x1x4.Slices ![0, 0, 2] S64x1x2 := by decide
theorem bcast_S_S64x8400x2 : S_.BroadcastsInDim S64x8400x2 (![] : Fin 0 → Fin S64x8400x2.rank) := by decide
theorem slices_S64x8400x2_S64x8400x1_0_0_0 : S64x8400x2.Slices ![0, 0, 0] S64x8400x1 := by decide
theorem shapeCasts_S64x8400x1_S64x8400 : S64x8400x1.ShapeCasts S64x8400 := by decide
theorem slices_S64x8400x2_S64x8400x1_0_0_1 : S64x8400x2.Slices ![0, 0, 1] S64x8400x1 := by decide
theorem slices_S1x8400x4_S1x8400x1_0_0_2 : S1x8400x4.Slices ![0, 0, 2] S1x8400x1 := by decide
theorem shapeCasts_S1x8400x1_S1x8400 : S1x8400x1.ShapeCasts S1x8400 := by decide
theorem slices_S1x8400x4_S1x8400x1_0_0_0 : S1x8400x4.Slices ![0, 0, 0] S1x8400x1 := by decide
theorem slices_S1x8400x4_S1x8400x1_0_0_3 : S1x8400x4.Slices ![0, 0, 3] S1x8400x1 := by decide
theorem slices_S1x8400x4_S1x8400x1_0_0_1 : S1x8400x4.Slices ![0, 0, 1] S1x8400x1 := by decide
theorem slices_S64x1x4_S64x1x1_0_0_2 : S64x1x4.Slices ![0, 0, 2] S64x1x1 := by decide
theorem shapeCasts_S64x1x1_S64x1 : S64x1x1.ShapeCasts S64x1 := by decide
theorem slices_S64x1x4_S64x1x1_0_0_0 : S64x1x4.Slices ![0, 0, 0] S64x1x1 := by decide
theorem slices_S64x1x4_S64x1x1_0_0_3 : S64x1x4.Slices ![0, 0, 3] S64x1x1 := by decide
theorem slices_S64x1x4_S64x1x1_0_0_1 : S64x1x4.Slices ![0, 0, 1] S64x1x1 := by decide
theorem bcast_S1x8400_S64x8400_0_1 : S1x8400.BroadcastsInDim S64x8400 (![0, 1] : Fin 2 → Fin S64x8400.rank) := by decide
theorem bcast_S64x1_S64x8400_0_1 : S64x1.BroadcastsInDim S64x8400 (![0, 1] : Fin 2 → Fin S64x8400.rank) := by decide
theorem bcast_S_S64x8400 : S_.BroadcastsInDim S64x8400 (![] : Fin 0 → Fin S64x8400.rank) := by decide
theorem bcast_S16_S1x16_1 : S16.BroadcastsInDim S1x16 (![1] : Fin 1 → Fin S1x16.rank) := by decide
theorem slices_S64x16_S64x1_0_0 : S64x16.Slices ![0, 0] S64x1 := by decide
theorem bcast_S1x16_S64x16_0_1 : S1x16.BroadcastsInDim S64x16 (![0, 1] : Fin 2 → Fin S64x16.rank) := by decide
theorem bcast_S64x1_S64x16_0_1 : S64x1.BroadcastsInDim S64x16 (![0, 1] : Fin 2 → Fin S64x16.rank) := by decide
theorem bcast_S64x16_S64x16x1_0_1 : S64x16.BroadcastsInDim S64x16x1 (![0, 1] : Fin 2 → Fin S64x16x1.rank) := by decide
theorem bcast_S8400_S1x1x8400_2 : S8400.BroadcastsInDim S1x1x8400 (![2] : Fin 1 → Fin S1x1x8400.rank) := by decide
theorem bcast_S64x16x1_S64x16x8400_0_1_2 : S64x16x1.BroadcastsInDim S64x16x8400 (![0, 1, 2] : Fin 3 → Fin S64x16x8400.rank) := by decide
theorem bcast_S1x1x8400_S64x16x8400_0_1_2 : S1x1x8400.BroadcastsInDim S64x16x8400 (![0, 1, 2] : Fin 3 → Fin S64x16x8400.rank) := by decide
theorem reducesTo_S64x16x8400_S64x8400_d1 : S64x16x8400.ReducesTo [1] S64x8400 := by decide
theorem h_S_ : 0 < S_.numel := by decide
theorem bcast_S64_S64x1_0 : S64.BroadcastsInDim S64x1 (![0] : Fin 1 → Fin S64x1.rank) := by decide
theorem reducesTo_S64x8400_S8400_d0 : S64x8400.ReducesTo [0] S8400 := by decide
theorem bcast_S_S8400 : S_.BroadcastsInDim S8400 (![] : Fin 0 → Fin S8400.rank) := by decide
theorem bcast_S8400_S8400x1_0 : S8400.BroadcastsInDim S8400x1 (![0] : Fin 1 → Fin S8400x1.rank) := by decide
theorem bcast_S8400x1_S8400x4_0_1 : S8400x1.BroadcastsInDim S8400x4 (![0, 1] : Fin 2 → Fin S8400x4.rank) := by decide
theorem bcast_S_S8400x4 : S_.BroadcastsInDim S8400x4 (![] : Fin 0 → Fin S8400x4.rank) := by decide
theorem concatenates_S8400x1_S8400x1_S8400x2_d1 : Shape.Concatenates [S8400x1, S8400x1] S8400x2 1 := by decide
theorem bcast_S81_S1x81_1 : S81.BroadcastsInDim S1x81 (![1] : Fin 1 → Fin S1x81.rank) := by decide
theorem bcast_S8400x1_S8400x81_0_1 : S8400x1.BroadcastsInDim S8400x81 (![0, 1] : Fin 2 → Fin S8400x81.rank) := by decide
theorem bcast_S1x81_S8400x81_0_1 : S1x81.BroadcastsInDim S8400x81 (![0, 1] : Fin 2 → Fin S8400x81.rank) := by decide
theorem bcast_S_S8400x81 : S_.BroadcastsInDim S8400x81 (![] : Fin 0 → Fin S8400x81.rank) := by decide
theorem gather_S64_S8400x1_S8400_n_0_n_n_0_1_1_wf : GatherDims.WF S64 S8400x1 S8400 [] [0] [] [0] [] 1 ![1] := by decide
theorem gather_S64x4_S8400x1_S8400x4_1_0_n_n_0_1_14_wf : GatherDims.WF S64x4 S8400x1 S8400x4 [1] [0] [] [0] [] 1 ![1, 4] := by decide
theorem gather_S64x8400_S8400x2_S8400_n_01_n_n_01_1_11_wf : GatherDims.WF S64x8400 S8400x2 S8400 [] [0, 1] [] [0, 1] [] 1 ![1, 1] := by decide

instance refFacts₀ : Cert.ReferenceIdeal.Facts₀ where
  bcast_S8400x4_S1x8400x4_1_2 := bcast_S8400x4_S1x8400x4_1_2
  bcast_S64x4_S64x1x4_0_2 := bcast_S64x4_S64x1x4_0_2
  slices_S1x8400x4_S1x8400x2_0_0_0 := slices_S1x8400x4_S1x8400x2_0_0_0
  slices_S64x1x4_S64x1x2_0_0_0 := slices_S64x1x4_S64x1x2_0_0_0
  bcast_S1x8400x2_S64x8400x2_0_1_2 := bcast_S1x8400x2_S64x8400x2_0_1_2
  bcast_S64x1x2_S64x8400x2_0_1_2 := bcast_S64x1x2_S64x8400x2_0_1_2
  slices_S1x8400x4_S1x8400x2_0_0_2 := slices_S1x8400x4_S1x8400x2_0_0_2
  slices_S64x1x4_S64x1x2_0_0_2 := slices_S64x1x4_S64x1x2_0_0_2
  bcast_S_S64x8400x2 := bcast_S_S64x8400x2
  slices_S64x8400x2_S64x8400x1_0_0_0 := slices_S64x8400x2_S64x8400x1_0_0_0
  shapeCasts_S64x8400x1_S64x8400 := shapeCasts_S64x8400x1_S64x8400
  slices_S64x8400x2_S64x8400x1_0_0_1 := slices_S64x8400x2_S64x8400x1_0_0_1
  slices_S1x8400x4_S1x8400x1_0_0_2 := slices_S1x8400x4_S1x8400x1_0_0_2
  shapeCasts_S1x8400x1_S1x8400 := shapeCasts_S1x8400x1_S1x8400
  slices_S1x8400x4_S1x8400x1_0_0_0 := slices_S1x8400x4_S1x8400x1_0_0_0
  slices_S1x8400x4_S1x8400x1_0_0_3 := slices_S1x8400x4_S1x8400x1_0_0_3
  slices_S1x8400x4_S1x8400x1_0_0_1 := slices_S1x8400x4_S1x8400x1_0_0_1
  slices_S64x1x4_S64x1x1_0_0_2 := slices_S64x1x4_S64x1x1_0_0_2
  shapeCasts_S64x1x1_S64x1 := shapeCasts_S64x1x1_S64x1
  slices_S64x1x4_S64x1x1_0_0_0 := slices_S64x1x4_S64x1x1_0_0_0
  slices_S64x1x4_S64x1x1_0_0_3 := slices_S64x1x4_S64x1x1_0_0_3
  slices_S64x1x4_S64x1x1_0_0_1 := slices_S64x1x4_S64x1x1_0_0_1
  bcast_S1x8400_S64x8400_0_1 := bcast_S1x8400_S64x8400_0_1
  bcast_S64x1_S64x8400_0_1 := bcast_S64x1_S64x8400_0_1
  bcast_S_S64x8400 := bcast_S_S64x8400
  bcast_S16_S1x16_1 := bcast_S16_S1x16_1
  slices_S64x16_S64x1_0_0 := slices_S64x16_S64x1_0_0
  bcast_S1x16_S64x16_0_1 := bcast_S1x16_S64x16_0_1
  bcast_S64x1_S64x16_0_1 := bcast_S64x1_S64x16_0_1
  bcast_S64x16_S64x16x1_0_1 := bcast_S64x16_S64x16x1_0_1
  bcast_S8400_S1x1x8400_2 := bcast_S8400_S1x1x8400_2
  bcast_S64x16x1_S64x16x8400_0_1_2 := bcast_S64x16x1_S64x16x8400_0_1_2
  bcast_S1x1x8400_S64x16x8400_0_1_2 := bcast_S1x1x8400_S64x16x8400_0_1_2
  reducesTo_S64x16x8400_S64x8400_d1 := reducesTo_S64x16x8400_S64x8400_d1
  h_S_ := h_S_
  bcast_S64_S64x1_0 := bcast_S64_S64x1_0
  reducesTo_S64x8400_S8400_d0 := reducesTo_S64x8400_S8400_d0
  bcast_S_S8400 := bcast_S_S8400
  bcast_S8400_S8400x1_0 := bcast_S8400_S8400x1_0
  bcast_S8400x1_S8400x4_0_1 := bcast_S8400x1_S8400x4_0_1
  bcast_S_S8400x4 := bcast_S_S8400x4
  concatenates_S8400x1_S8400x1_S8400x2_d1 := concatenates_S8400x1_S8400x1_S8400x2_d1
  bcast_S81_S1x81_1 := bcast_S81_S1x81_1
  bcast_S8400x1_S8400x81_0_1 := bcast_S8400x1_S8400x81_0_1
  bcast_S1x81_S8400x81_0_1 := bcast_S1x81_S8400x81_0_1
  bcast_S_S8400x81 := bcast_S_S8400x81
  gather_S64_S8400x1_S8400_n_0_n_n_0_1_1_wf := gather_S64_S8400x1_S8400_n_0_n_n_0_1_1_wf
  gather_S64x4_S8400x1_S8400x4_1_0_n_n_0_1_14_wf := gather_S64x4_S8400x1_S8400x4_1_0_n_n_0_1_14_wf
  gather_S64x8400_S8400x2_S8400_n_01_n_n_01_1_11_wf := gather_S64x8400_S8400x2_S8400_n_01_n_n_01_1_11_wf

instance refFacts : Cert.ReferenceIdeal.Facts where

end

instance preFacts : Cert.Pre_labels_in_range.Facts where
  bcast_S_S64 := by decide

end Cert.Proof.RefFacts
-- ==== Proof.Result.lean ====
/-
  What the arrays hold at the program's end, in terms of what they hold at its start.
-/
module

public import proofs.«01_k».proof.Proof.Launch
public import proofs.«01_k».proof.Proof.RefFacts
public import Idealize.ShloMosaic.Lib.StableHlo.RunRead
public import Idealize.ShloMosaic.Lib.Claim

@[expose] public section

set_option maxRecDepth 16384

noncomputable section

namespace Cert.Proof.Asm

open Idealize.ShloMosaic Idealize.SL.Sem
open Cert.KernelIdeal Cert.KernelIdeal.Gen

variable {F : FTy → Type} [FloatOps F] (m : (ℓ : Loc nD τ sig) → Buf (Elt F) ℓ)

abbrev preOps : List (HloOp τ sig (Elt F)) := [op0, op1, op2, op3, op4, op5, op6]
abbrev preW : List (Ref sig .tc) := [main_v0, main_c, main_call0_v0, main_v1, main_v2, main_v3, main_v4]
abbrev finOps : List (HloOp τ sig (Elt F)) := [op7, op8, op9]

theorem pre_keep (d : Dev nD) {r : Ref sig .tc} (hr : r ∉ preW) : pre m d (Proc.devRef .tc r) = m (d, Proc.devRef .tc r) :=
  StableHlo.after_unwritten (ops := preOps) preW rfl hr (V0 m d)

theorem fin_keep (d : Dev nD) {r : Ref sig .tc} (hr : r ∉ ([main_v6, main_v7, main_v8] : List (Ref sig .tc))) :
    fin m d (Proc.devRef .tc r) = mid m d (Proc.devRef .tc r) :=
  StableHlo.after_unwritten (ops := finOps) [main_v6, main_v7, main_v8] rfl hr (mid m d)

/-- The predicted boxes as the tasks read them. -/
def boxes (pb : Vec F S8400x4 .f32) : Vec F S32x4x272 .f32 :=
  transpose S32x4x272 [1, 0, 2] (shapeCast S4x32x272 (pad S4x8704 ![0, 0] ![0, 304] ![0, 0] (transpose S4x8400 [1, 0] pb transposes_S8400x4_S4x8400_1_0)
    (sitofp .f32 (constantI S_ 32 0#32)) pads_S4x8400_S4x8704_000_03040 h_S_) shapeCasts_S4x8704_S4x32x272) transposes_S4x32x272_S32x4x272_1_0_2

theorem pre_v3 (d : Dev nD) : pre m d (Proc.devRef .tc (main_v3 : Ref sig .tc)) = boxes (F := F) (m (d, Proc.devRef .tc (main_arg2 : Ref sig .tc))) := by
  rw [show pre m d = StableHlo.after preOps (V0 m d) from rfl]
  after_results_simp
  try simp -implicitDefEqProofs only [StableHlo.TRef.toBuf, StableHlo.TRef.ofBuf, cast_cast, cast_eq]
  rfl

theorem pre_v4 (d : Dev nD) :
    pre m d (Proc.devRef .tc (main_v4 : Ref sig .tc)) = transpose S4x64 [1, 0] (m (d, Proc.devRef .tc (main_arg4 : Ref sig .tc)) : Vec F S64x4 .f32) transposes_S64x4_S4x64_1_0 := by
  rw [show pre m d = StableHlo.after preOps (V0 m d) from rfl]
  after_results_simp
  try rfl

theorem fin_arg (d : Dev nD) {r : Ref sig .tc} (hr : r ∉ preW ++ [main_v5_0, main_v5_1, main_v5_2, main_v6, main_v7, main_v8]) :
    fin m d (Proc.devRef .tc r) = m (d, Proc.devRef .tc r) := by
  simp only [List.mem_append, not_or, List.mem_cons, List.not_mem_nil, not_false_eq_true, and_true] at hr
  obtain ⟨h0, h1, h2, h3, h4, h5, h6⟩ := hr
  rw [fin_keep m d (by simp [h4, h5, h6]), mid_ne, pre_keep m d (by simp [h0])]
  · exact fun h => h1 (Proc.devRef_injective _ h)
  · exact fun h => h2 (Proc.devRef_injective _ h)
  · exact fun h => h3 (Proc.devRef_injective _ h)

theorem fin_v6 (d : Dev nD) : fin m d (Proc.devRef .tc (main_v6 : Ref sig .tc)) = extractStridedSlice S8400 ![0] (labG (pre m) d) slices_S8704_S8400_0 := by
  rw [show fin m d = StableHlo.after finOps (mid m d) from rfl]
  after_results_simp
  rw [mid_lab]
theorem fin_v7 (d : Dev nD) : fin m d (Proc.devRef .tc (main_v7 : Ref sig .tc)) = extractStridedSlice S8400x4 ![0, 0] (bbG (pre m) d) slices_S8704x4_S8400x4_0_0 := by
  rw [show fin m d = StableHlo.after finOps (mid m d) from rfl]
  after_results_simp
  rw [mid_bb]
theorem fin_v8 (d : Dev nD) : fin m d (Proc.devRef .tc (main_v8 : Ref sig .tc)) = extractStridedSlice S8400x81 ![0, 0] (scG (pre m) d) slices_S8704x96_S8400x81_0_0 := by
  rw [show fin m d = StableHlo.after finOps (mid m d) from rfl]
  after_results_simp
  rw [mid_sc]

/-- A label between 0 and 80 as the precondition says it. -/
theorem label_lt (a b : IVec S64x16 32) (p : FVec F S8400x4 .f32) (gl : IVec S64 32) (q : FVec F S64x4 .f32)
    (h : Cert.Pre_labels_in_range.fn (F := F) a b p gl q = fun _ => 1#1) (g : Fin 64) : (gl (ix1 g)).toNat < 80 := by
  have hg : IntOp.andi (IntOp.cmpi .sge (gl (ix1 g)) 0#32) (IntOp.cmpi .slt (gl (ix1 g)) 80#32) = 1#1 := congrFun h (ix1 g)
  generalize gl (ix1 g) = x at hg ⊢
  have two : ∀ c d : BitVec 1, IntOp.andi c d = 1#1 → c = 1#1 ∧ d = 1#1 := by decide
  obtain ⟨h0, h1⟩ := two _ _ hg
  rw [show IntOp.cmpi .sge x 0#32 = BitVec.ofBool (decide ((0#32 : BitVec 32).toInt ≤ x.toInt)) from rfl] at h0
  rw [show IntOp.cmpi .slt x 80#32 = BitVec.ofBool (decide (x.toInt < (80#32 : BitVec 32).toInt)) from rfl] at h1
  have b0 : (0#32).toInt ≤ x.toInt := by
    by_contra hn; rw [decide_eq_false hn] at h0; exact absurd h0 (by decide)
  have b1 : x.toInt < (80#32).toInt := by
    by_contra hn; rw [decide_eq_false hn] at h1; exact absurd h1 (by decide)
  have e0 : (0#32 : BitVec 32).toInt = 0 := rfl
  have e1 : (80#32 : BitVec 32).toInt = 80 := rfl
  have e2 := BitVec.toInt_eq_toNat_cond x
  have := x.isLt
  split at e2 <;> omega

theorem glA_lt (h : ∀ c : Dev nD, Cert.Pre_labels_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)
    (d : Dev nD) (g : Fin 64) : (glA (pre m) d (ix1 g)).toNat < 80 := by
  show ((pre m d (Proc.devRef .tc (main_arg3 : Ref sig .tc)) : Vec F S64 .i32) (ix1 g)).toNat < 80
  rw [pre_keep m d (by decide)]
  exact label_lt _ _ _ _ _ (h d) g

/-- The program runs, its arguments end unchanged and every counter reads zero. -/
theorem frame [∀ e, Nonempty (Elt F e)] (ρ : Dev nD → PrngReg) (hgl : ∀ (d : Dev nD) (g : Fin 64), (glA (pre m) d (ix1 g)).toNat < 80) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run _ _ _).mono ?_ (run_main m ρ hgl)
  intro r h
  refine ⟨fun c => ?_, h.2⟩
  have hr : ∀ b : Ref sig .tc, b.isScoped = false → b ∉ preW ++ [main_v5_0, main_v5_1, main_v5_2, main_v6, main_v7, main_v8]
      → r.2.mem ((c.tc : Thread nD τ).loc b) = m ((c.tc : Thread nD τ).loc b) :=
    fun b hb hn => (h.1 c _ (Pipeline.devRef_mem_ucRefs hb)).trans (fin_arg m c hn)
  exact ⟨hr main_arg0 rfl (by decide), hr main_arg1 rfl (by decide), hr main_arg2 rfl (by decide), hr main_arg3 rfl (by decide), hr main_arg4 rfl (by decide)⟩

/-- The three results at the program's end. -/
theorem results [∀ e, Nonempty (Elt F e)] (ρ : Dev nD → PrngReg) (hgl : ∀ (d : Dev nD) (g : Fin 64), (glA (pre m) d (ix1 g)).toNat < 80) :
    θ_run (Cert.KernelIdeal.defs (F := F)) (Cert.KernelIdeal.threads (F := F)) ⟨m, fun _ => 0, ρ⟩ (fun r => ∀ c : Dev nD,
      r.2.mem ((c.tc : Thread nD τ).loc main_v6) = extractStridedSlice S8400 ![0] (labG (pre m) c) slices_S8704_S8400_0
      ∧ r.2.mem ((c.tc : Thread nD τ).loc main_v7) = extractStridedSlice S8400x4 ![0, 0] (bbG (pre m) c) slices_S8704x4_S8400x4_0_0
      ∧ r.2.mem ((c.tc : Thread nD τ).loc main_v8) = extractStridedSlice S8400x81 ![0, 0] (scG (pre m) c) slices_S8704x96_S8400x81_0_0) := by
  refine (θ_run _ _ _).mono ?_ (run_main m ρ hgl)
  intro r h c
  exact ⟨(h.1 c _ (Pipeline.devRef_mem_ucRefs rfl)).trans (fin_v6 m c), (h.1 c _ (Pipeline.devRef_mem_ucRefs rfl)).trans (fin_v7 m c),
    (h.1 c _ (Pipeline.devRef_mem_ucRefs rfl)).trans (fin_v8 m c)⟩

end Cert.Proof.Asm
end
-- ==== Proof.Ref.lean ====
/-
  The reference's three results, spelled as its own operations leave them.
-/
module

public import proofs.«01_k».proof.Proof.RefFacts
public import Idealize.ShloMosaic.Lib.Claim
public import Idealize.ShloMosaic.Lib.StableHlo.RunRead

@[expose] public section

set_option maxRecDepth 16384

noncomputable section

namespace Cert.Proof.Ref
open Idealize.ShloMosaic Idealize.SL.Sem Cert.ReferenceIdeal
open Cert.Proof.RefFacts

variable {F : FTy → Type} [FloatOps F]

section Values
variable (tk kk : IVec S64x16 32) (pb : FVec F S8400x4 .f32) (gl : IVec S64 32) (gb : FVec F S64x4 .f32) (t : IVec S64x8400 1)
  (l c lr : IVec S8400 32) (ps : IVec S8400 1) (p : FVec F S1x8400x4 .f32) (q : FVec F S64x1x4 .f32) (s : FVec F S64x8400x2 .f32)
  (u : FVec F S64x8400 .f32) (v : FVec F S8400 .f32)

/-- Which candidate of which ground truth is which anchor and counts. -/
def hits : IVec S64x16x8400 1 :=
    andi (broadcastInDim S64x16x8400 ![0, 1, 2] bcast_S64x16x1_S64x16x8400_0_1_2 (broadcastInDim S64x16x1 ![0, 1] bcast_S64x16_S64x16x1_0_1
        (cmpi .slt (broadcastInDim S64x16 ![0, 1] bcast_S1x16_S64x16_0_1 (broadcastInDim S1x16 ![1] bcast_S16_S1x16_1 (iotaInDim S16 32 0)))
          (broadcastInDim S64x16 ![0, 1] bcast_S64x1_S64x16_0_1 (extractStridedSlice S64x1 ![0, 0] kk slices_S64x16_S64x1_0_0)))))
      (cmpi .eq (broadcastInDim S64x16x8400 ![0, 1, 2] bcast_S64x16x1_S64x16x8400_0_1_2 (broadcastInDim S64x16x1 ![0, 1] bcast_S64x16_S64x16x1_0_1 tk))
        (broadcastInDim S64x16x8400 ![0, 1, 2] bcast_S1x1x8400_S64x16x8400_0_1_2 (broadcastInDim S1x1x8400 ![2] bcast_S8400_S1x1x8400_2 (iotaInDim S8400 32 0))))

/-- Which ground truth takes which anchor. -/
def takes : IVec S64x8400 1 :=
  Host.reduce IntOp.ori (hits tk kk) (constantI S_ 1 0#1) reducesTo_S64x16x8400_S64x8400_d1 h_S_

/-- Each ground truth where it takes an anchor, -1 where not. -/
def named : IVec S64x8400 32 :=
  select t (broadcastInDim S64x8400 ![0, 1] bcast_S64x1_S64x8400_0_1 (broadcastInDim S64x1 ![0] bcast_S64_S64x1_0 (iotaInDim S64 32 0)))
    (broadcastInDim S64x8400 ![] bcast_S_S64x8400 (constantI S_ 32 4294967295#32))
/-- The last ground truth that takes each anchor. -/
def last : IVec S8400 32 :=
  Host.reduce IntOp.maxsi (named t) (constantI S_ 32 2147483648#32) reducesTo_S64x8400_S8400_d0 h_S_

def isPos : IVec S8400 1 := cmpi .sge l (broadcastInDim S8400 ![] bcast_S_S8400 (constantI S_ 32 0#32))
def clip : IVec S8400 32 := maxsi l (broadcastInDim S8400 ![] bcast_S_S8400 (constantI S_ 32 0#32))
/-- The row indices as a column, an index below zero counted from the end. -/
def rowCol : IVec S8400x1 32 :=
  broadcastInDim S8400x1 ![0] bcast_S8400_S8400x1_0
    (select (cmpi .slt c (broadcastInDim S8400 ![] bcast_S_S8400 (constantI S_ 32 0#32)))
      (addi c (broadcastInDim S8400 ![] bcast_S_S8400 (constantI S_ 32 64#32))) c)
def labRow : IVec S8400 32 := Host.gather gather_S64_S8400x1_S8400_n_0_n_n_0_1_1 gl (rowCol c)

def labSel : IVec S8400 32 := select ps lr (broadcastInDim S8400 ![] bcast_S_S8400 (constantI S_ 32 80#32))

def boxSel : FVec F S8400x4 .f32 :=
  select (broadcastInDim S8400x4 ![0, 1] bcast_S8400x1_S8400x4_0_1 (broadcastInDim S8400x1 ![0] bcast_S8400_S8400x1_0 ps))
    (Host.gather gather_S64x4_S8400x1_S8400x4_1_0_n_n_0_1_14 gb (rowCol c))
    (broadcastInDim S8400x4 ![] bcast_S_S8400x4 (constant S_ .f32 0x00000000#32))

def pb1 : FVec F S1x8400x4 .f32 := broadcastInDim S1x8400x4 ![1, 2] bcast_S8400x4_S1x8400x4_1_2 pb
def gb1 : FVec F S64x1x4 .f32 := broadcastInDim S64x1x4 ![0, 2] bcast_S64x4_S64x1x4_0_2 gb
def sides : FVec F S64x8400x2 .f32 :=
  maximumf
    (subf
      (minimumf (broadcastInDim S64x8400x2 ![0, 1, 2] bcast_S1x8400x2_S64x8400x2_0_1_2 (extractStridedSlice S1x8400x2 ![0, 0, 2] p slices_S1x8400x4_S1x8400x2_0_0_2))
        (broadcastInDim S64x8400x2 ![0, 1, 2] bcast_S64x1x2_S64x8400x2_0_1_2 (extractStridedSlice S64x1x2 ![0, 0, 2] q slices_S64x1x4_S64x1x2_0_0_2)))
      (maximumf (broadcastInDim S64x8400x2 ![0, 1, 2] bcast_S1x8400x2_S64x8400x2_0_1_2 (extractStridedSlice S1x8400x2 ![0, 0, 0] p slices_S1x8400x4_S1x8400x2_0_0_0))
        (broadcastInDim S64x8400x2 ![0, 1, 2] bcast_S64x1x2_S64x8400x2_0_1_2 (extractStridedSlice S64x1x2 ![0, 0, 0] q slices_S64x1x4_S64x1x2_0_0_0))))
    (broadcastInDim S64x8400x2 ![] bcast_S_S64x8400x2 (constant S_ .f32 0x00000000#32))
def meet : FVec F S64x8400 .f32 :=
  mulf (shapeCast S64x8400 (extractStridedSlice S64x8400x1 ![0, 0, 0] s slices_S64x8400x2_S64x8400x1_0_0_0) shapeCasts_S64x8400x1_S64x8400)
    (shapeCast S64x8400 (extractStridedSlice S64x8400x1 ![0, 0, 1] s slices_S64x8400x2_S64x8400x1_0_0_1) shapeCasts_S64x8400x1_S64x8400)
def pbArea : FVec F S1x8400 .f32 :=
  mulf (subf (shapeCast S1x8400 (extractStridedSlice S1x8400x1 ![0, 0, 2] p slices_S1x8400x4_S1x8400x1_0_0_2) shapeCasts_S1x8400x1_S1x8400)
      (shapeCast S1x8400 (extractStridedSlice S1x8400x1 ![0, 0, 0] p slices_S1x8400x4_S1x8400x1_0_0_0) shapeCasts_S1x8400x1_S1x8400))
    (subf (shapeCast S1x8400 (extractStridedSlice S1x8400x1 ![0, 0, 3] p slices_S1x8400x4_S1x8400x1_0_0_3) shapeCasts_S1x8400x1_S1x8400)
      (shapeCast S1x8400 (extractStridedSlice S1x8400x1 ![0, 0, 1] p slices_S1x8400x4_S1x8400x1_0_0_1) shapeCasts_S1x8400x1_S1x8400))
def gbArea : FVec F S64x1 .f32 :=
  mulf (subf (shapeCast S64x1 (extractStridedSlice S64x1x1 ![0, 0, 2] q slices_S64x1x4_S64x1x1_0_0_2) shapeCasts_S64x1x1_S64x1)
      (shapeCast S64x1 (extractStridedSlice S64x1x1 ![0, 0, 0] q slices_S64x1x4_S64x1x1_0_0_0) shapeCasts_S64x1x1_S64x1))
    (subf (shapeCast S64x1 (extractStridedSlice S64x1x1 ![0, 0, 3] q slices_S64x1x4_S64x1x1_0_0_3) shapeCasts_S64x1x1_S64x1)
      (shapeCast S64x1 (extractStridedSlice S64x1x1 ![0, 0, 1] q slices_S64x1x4_S64x1x1_0_0_1) shapeCasts_S64x1x1_S64x1))
/-- The overlap of every box with every ground truth, over their union. -/
def ratio : FVec F S64x8400 .f32 :=
  Host.divf (meet s)
    (addf (subf (addf (broadcastInDim S64x8400 ![0, 1] bcast_S1x8400_S64x8400_0_1 (pbArea p)) (broadcastInDim S64x8400 ![0, 1] bcast_S64x1_S64x8400_0_1 (gbArea q)))
      (meet s)) (broadcastInDim S64x8400 ![] bcast_S_S64x8400 (constant S_ .f32 0x358637BD#32)))
def iou : FVec F S64x8400 .f32 := ratio (pb1 pb) (gb1 gb) (sides (pb1 pb) (gb1 gb))

/-- The anchor index, an index below zero counted from the end. -/
def anchor : IVec S8400 32 :=
  select (cmpi .slt (iotaInDim S8400 32 0) (broadcastInDim S8400 ![] bcast_S_S8400 (constantI S_ 32 0#32)))
    (addi (iotaInDim S8400 32 0) (broadcastInDim S8400 ![] bcast_S_S8400 (constantI S_ 32 8400#32))) (iotaInDim S8400 32 0)
def pairs : IVec S8400x2 32 :=
  concatenate S8400x2 1 [⟨S8400x1, rowCol c⟩, ⟨S8400x1, broadcastInDim S8400x1 ![0] bcast_S8400_S8400x1_0 anchor⟩] concatenates_S8400x1_S8400x1_S8400x2_d1
def iouAt : FVec F S8400 .f32 := Host.gather gather_S64x8400_S8400x2_S8400_n_01_n_n_01_1_11 u (pairs c)
def hot : IVec S8400x81 1 :=
  cmpi .eq (broadcastInDim S8400x81 ![0, 1] bcast_S8400x1_S8400x81_0_1 (broadcastInDim S8400x1 ![0] bcast_S8400_S8400x1_0 lr))
    (broadcastInDim S8400x81 ![0, 1] bcast_S1x81_S8400x81_0_1 (broadcastInDim S1x81 ![1] bcast_S81_S1x81_1 (iotaInDim S81 32 0)))
def iouSel : FVec F S8400 .f32 := select ps v (broadcastInDim S8400 ![] bcast_S_S8400 (constant S_ .f32 0x00000000#32))
def spread (h : IVec S8400x81 1) : FVec F S8400x81 .f32 :=
  select h (broadcastInDim S8400x81 ![0, 1] bcast_S8400x1_S8400x81_0_1 (broadcastInDim S8400x1 ![0] bcast_S8400_S8400x1_0 v))
    (broadcastInDim S8400x81 ![] bcast_S_S8400x81 (constant S_ .f32 0x00000000#32))

def lastOf : IVec S8400 32 := last (takes tk kk)
def labels : IVec S8400 32 := labSel (labRow gl (clip (lastOf tk kk))) (isPos (lastOf tk kk))
def bboxes : FVec F S8400x4 .f32 := boxSel gb (clip (lastOf tk kk)) (isPos (lastOf tk kk))
def scores : FVec F S8400x81 .f32 :=
  spread (iouSel (isPos (lastOf tk kk)) (iouAt (clip (lastOf tk kk)) (iou pb gb))) (hot (labRow gl (clip (lastOf tk kk))))

end Values

section Run
open StableHlo

private theorem after_app {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Part 1 of the reference's operations. -/
abbrev ops1 : List (HloOp τ sig (Elt F)) := [
  StableHlo.unary main_arg2 main_v0 (broadcastInDim S1x8400x4 ![1, 2] bcast_S8400x4_S1x8400x4_1_2 : (⟨S8400x4, .f32⟩ : BufTy).Contents (Elt F) → (⟨S1x8400x4, .f32⟩ : BufTy).Contents (Elt F)),
  StableHlo.unary main_arg4 main_v1 (broadcastInDim S64x1x4 ![0, 2] bcast_S64x4_S64x1x4_0_2 : (⟨S64x4, .f32⟩ : BufTy).Contents (Elt F) → (⟨S64x1x4, .f32⟩ : BufTy).Contents (Elt F)),
  StableHlo.unary main_v0 main_v2 ((extractStridedSlice S1x8400x2 ![0, 0, 0] · slices_S1x8400x4_S1x8400x2_0_0_0) : (⟨S1x8400x4, .f32⟩ : BufTy).Contents (Elt F) → (⟨S1x8400x2, .f32⟩ : BufTy).Contents (Elt F)),
  StableHlo.unary main_v1 main_v3 ((extractStridedSlice S64x1x2 ![0, 0, 0] · slices_S64x1x4_S64x1x2_0_0_0) : (⟨S64x1x4, .f32⟩ : BufTy).Contents (Elt F) → (⟨S64x1x2, .f32⟩ : BufTy).Contents (Elt F)),
  StableHlo.unary main_v2 main_v4 (broadcastInDim S64x8400x2 ![0, 1, 2] bcast_S1x8400x2_S64x8400x2_0_1_2 : (⟨S1x8400x2, .f32⟩ : BufTy).Contents (Elt F) → (⟨S64x8400x2, .f32⟩ : BufTy).Contents (Elt F)),
  StableHlo.unary main_v3 main_v5 (broadcastInDim S64x8400x2 ![0, 1, 2] bcast_S64x1x2_S64x8400x2_0_1_2 : (⟨S64x1x2, .f32⟩ : BufTy).Contents (Elt F) → (⟨S64x8400x2, .f32⟩ : BufTy).Contents (Elt F)),
  StableHlo.binary main_v4 main_v5 main_v6 (maximumf : (⟨S64x8400x2, .f32⟩ : BufTy).Contents (Elt F) → (⟨S64x8400x2, .f32⟩ : BufTy).Contents (Elt F) → (⟨S64x8400x2, .f32⟩ : BufTy).Contents (Elt F)),
  StableHlo.unary main_v0 main_v7 ((extractStridedSlice S1x8400x2 ![0, 0, 2] · slices_S1x8400x4_S1x8400x2_0_0_2) : (⟨S1x8400x4, .f32⟩ : BufTy).Contents (Elt F) → (⟨S1x8400x2, .f32⟩ : BufTy).Contents (Elt F)),
  StableHlo.unary main_v1 main_v8 ((extractStridedSlice S64x1x2 ![0, 0, 2] · slices_S64x1x4_S64x1x2_0_0_2) : (⟨S64x1x4, .f32⟩ : BufTy).Contents (Elt F) → (⟨S64x1x2, .f32⟩ : BufTy).Contents (Elt F)),
  StableHlo.unary main_v7 main_v9 (broadcastInDim S64x8400x2 ![0, 1, 2] bcast_S1x8400x2_S64x8400x2_0_1_2 : (⟨S1x8400x2, .f32⟩ : BufTy).Contents (Elt F) → (⟨S64x8400x2, .f32⟩ : BufTy).Contents (Elt F)),
  StableHlo.unary main_v8 main_v10 (broadcastInDim S64x8400x2 ![0, 1, 2] bcast_S64x1x2_S64x8400x2_0_1_2 : (⟨S64x1x2, .f32⟩ : BufTy).Contents (Elt F) → (⟨S64x8400x2, .f32⟩ : BufTy).Contents (Elt F)),
  StableHlo.binary main_v9 main_v10 main_v11 (minimumf : (⟨S64x8400x2, .f32⟩ : BufTy).Contents (Elt F) → (⟨S64x8400x2, .f32⟩ : BufTy).Contents (Elt F) → (⟨S64x8400x2, .f32⟩ : BufTy).Contents (Elt F)),
  StableHlo.binary main_v11 main_v6 main_v12 (subf : (⟨S64x8400x2, .f32⟩ : BufTy).Contents (Elt F) → (⟨S64x8400x2, .f32⟩ : BufTy).Contents (Elt F) → (⟨S64x8400x2, .f32⟩ : BufTy).Contents (Elt F)),
  StableHlo.nullary main_cst (constant S_ .f32 0x00000000#32),
  StableHlo.unary main_cst main_v13 (broadcastInDim S64x8400x2 ![] bcast_S_S64x8400x2 : (⟨S_, .f32⟩ : BufTy).Contents (Elt F) → (⟨S64x8400x2, .f32⟩ : BufTy).Contents (Elt F)),
  StableHlo.binary main_v12 main_v13 main_v14 (maximumf : (⟨S64x8400x2, .f32⟩ : BufTy).Contents (Elt F) → (⟨S64x8400x2, .f32⟩ : BufTy).Contents (Elt F) → (⟨S64x8400x2, .f32⟩ : BufTy).Contents (Elt F))]
abbrev wr1 : List (Ref sig .tc) := [main_v0, main_v1, main_v2, main_v3, main_v4, main_v5, main_v6, main_v7, main_v8, main_v9, main_v10, main_v11, main_v12, main_cst, main_v13, main_v14]
theorem keep1 (V : Valuation τ sig (Elt F)) {r : Ref sig .tc} (hr : r ∉ wr1) : after ops1 V (Proc.devRef .tc r) = V (Proc.devRef .tc r) :=
  after_unwritten wr1 rfl hr V

/-- Part 2 of the reference's operations. -/
abbrev ops2 : List (HloOp τ sig (Elt F)) := [
  StableHlo.unary main_v14 main_v15 ((extractStridedSlice S64x8400x1 ![0, 0, 0] · slices_S64x8400x2_S64x8400x1_0_0_0) : (⟨S64x8400x2, .f32⟩ : BufTy).Contents (Elt F) → (⟨S64x8400x1, .f32⟩ : BufTy).Contents (Elt F)),
  StableHlo.reshape main_v15 main_v16 (rfl : (.f32 : EltTy) = .f32) shapeCasts_S64x8400x1_S64x8400,
  StableHlo.unary main_v14 main_v17 ((extractStridedSlice S64x8400x1 ![0, 0, 1] · slices_S64x8400x2_S64x8400x1_0_0_1) : (⟨S64x8400x2, .f32⟩ : BufTy).Contents (Elt F) → (⟨S64x8400x1, .f32⟩ : BufTy).Contents (Elt F)),
  StableHlo.reshape main_v17 main_v18 (rfl : (.f32 : EltTy) = .f32) shapeCasts_S64x8400x1_S64x8400,
  StableHlo.binary main_v16 main_v18 main_v19 (mulf : (⟨S64x8400, .f32⟩ : BufTy).Contents (Elt F) → (⟨S64x8400, .f32⟩ : BufTy).Contents (Elt F) → (⟨S64x8400, .f32⟩ : BufTy).Contents (Elt F)),
  StableHlo.unary main_v0 main_v20 ((extractStridedSlice S1x8400x1 ![0, 0, 2] · slices_S1x8400x4_S1x8400x1_0_0_2) : (⟨S1x8400x4, .f32⟩ : BufTy).Contents (Elt F) → (⟨S1x8400x1, .f32⟩ : BufTy).Contents (Elt F)),
  StableHlo.reshape main_v20 main_v21 (rfl : (.f32 : EltTy) = .f32) shapeCasts_S1x8400x1_S1x8400,
  StableHlo.unary main_v0 main_v22 ((extractStridedSlice S1x8400x1 ![0, 0, 0] · slices_S1x8400x4_S1x8400x1_0_0_0) : (⟨S1x8400x4, .f32⟩ : BufTy).Contents (Elt F) → (⟨S1x8400x1, .f32⟩ : BufTy).Contents (Elt F)),
  StableHlo.reshape main_v22 main_v23 (rfl : (.f32 : EltTy) = .f32) shapeCasts_S1x8400x1_S1x8400,
  StableHlo.binary main_v21 main_v23 main_v24 (subf : (⟨S1x8400, .f32⟩ : BufTy).Contents (Elt F) → (⟨S1x8400, .f32⟩ : BufTy).Contents (Elt F) → (⟨S1x8400, .f32⟩ : BufTy).Contents (Elt F)),
  StableHlo.unary main_v0 main_v25 ((extractStridedSlice S1x8400x1 ![0, 0, 3] · slices_S1x8400x4_S1x8400x1_0_0_3) : (⟨S1x8400x4, .f32⟩ : BufTy).Contents (Elt F) → (⟨S1x8400x1, .f32⟩ : BufTy).Contents (Elt F)),
  StableHlo.reshape main_v25 main_v26 (rfl : (.f32 : EltTy) = .f32) shapeCasts_S1x8400x1_S1x8400,
  StableHlo.unary main_v0 main_v27 ((extractStridedSlice S1x8400x1 ![0, 0, 1] · slices_S1x8400x4_S1x8400x1_0_0_1) : (⟨S1x8400x4, .f32⟩ : BufTy).Contents (Elt F) → (⟨S1x8400x1, .f32⟩ : BufTy).Contents (Elt F)),
  StableHlo.reshape main_v27 main_v28 (rfl : (.f32 : EltTy) = .f32) shapeCasts_S1x8400x1_S1x8400,
  StableHlo.binary main_v26 main_v28 main_v29 (subf : (⟨S1x8400, .f32⟩ : BufTy).Contents (Elt F) → (⟨S1x8400, .f32⟩ : BufTy).Contents (Elt F) → (⟨S1x8400, .f32⟩ : BufTy).Contents (Elt F)),
  StableHlo.binary main_v24 main_v29 main_v30 (mulf : (⟨S1x8400, .f32⟩ : BufTy).Contents (Elt F) → (⟨S1x8400, .f32⟩ : BufTy).Contents (Elt F) → (⟨S1x8400, .f32⟩ : BufTy).Contents (Elt F)),
  StableHlo.unary main_v1 main_v31 ((extractStridedSlice S64x1x1 ![0, 0, 2] · slices_S64x1x4_S64x1x1_0_0_2) : (⟨S64x1x4, .f32⟩ : BufTy).Contents (Elt F) → (⟨S64x1x1, .f32⟩ : BufTy).Contents (Elt F)),
  StableHlo.reshape main_v31 main_v32 (rfl : (.f32 : EltTy) = .f32) shapeCasts_S64x1x1_S64x1,
  StableHlo.unary main_v1 main_v33 ((extractStridedSlice S64x1x1 ![0, 0, 0] · slices_S64x1x4_S64x1x1_0_0_0) : (⟨S64x1x4, .f32⟩ : BufTy).Contents (Elt F) → (⟨S64x1x1, .f32⟩ : BufTy).Contents (Elt F)),
  StableHlo.reshape main_v33 main_v34 (rfl : (.f32 : EltTy) = .f32) shapeCasts_S64x1x1_S64x1,
  StableHlo.binary main_v32 main_v34 main_v35 (subf : (⟨S64x1, .f32⟩ : BufTy).Contents (Elt F) → (⟨S64x1, .f32⟩ : BufTy).Contents (Elt F) → (⟨S64x1, .f32⟩ : BufTy).Contents (Elt F)),
  StableHlo.unary main_v1 main_v36 ((extractStridedSlice S64x1x1 ![0, 0, 3] · slices_S64x1x4_S64x1x1_0_0_3) : (⟨S64x1x4, .f32⟩ : BufTy).Contents (Elt F) → (⟨S64x1x1, .f32⟩ : BufTy).Contents (Elt F)),
  StableHlo.reshape main_v36 main_v37 (rfl : (.f32 : EltTy) = .f32) shapeCasts_S64x1x1_S64x1,
  StableHlo.unary main_v1 main_v38 ((extractStridedSlice S64x1x1 ![0, 0, 1] · slices_S64x1x4_S64x1x1_0_0_1) : (⟨S64x1x4, .f32⟩ : BufTy).Contents (Elt F) → (⟨S64x1x1, .f32⟩ : BufTy).Contents (Elt F)),
  StableHlo.reshape main_v38 main_v39 (rfl : (.f32 : EltTy) = .f32) shapeCasts_S64x1x1_S64x1,
  StableHlo.binary main_v37 main_v39 main_v40 (subf : (⟨S64x1, .f32⟩ : BufTy).Contents (Elt F) → (⟨S64x1, .f32⟩ : BufTy).Contents (Elt F) → (⟨S64x1, .f32⟩ : BufTy).Contents (Elt F)),
  StableHlo.binary main_v35 main_v40 main_v41 (mulf : (⟨S64x1, .f32⟩ : BufTy).Contents (Elt F) → (⟨S64x1, .f32⟩ : BufTy).Contents (Elt F) → (⟨S64x1, .f32⟩ : BufTy).Contents (Elt F)),
  StableHlo.unary main_v30 main_v42 (broadcastInDim S64x8400 ![0, 1] bcast_S1x8400_S64x8400_0_1 : (⟨S1x8400, .f32⟩ : BufTy).Contents (Elt F) → (⟨S64x8400, .f32⟩ : BufTy).Contents (Elt F)),
  StableHlo.unary main_v41 main_v43 (broadcastInDim S64x8400 ![0, 1] bcast_S64x1_S64x8400_0_1 : (⟨S64x1, .f32⟩ : BufTy).Contents (Elt F) → (⟨S64x8400, .f32⟩ : BufTy).Contents (Elt F)),
  StableHlo.binary main_v42 main_v43 main_v44 (addf : (⟨S64x8400, .f32⟩ : BufTy).Contents (Elt F) → (⟨S64x8400, .f32⟩ : BufTy).Contents (Elt F) → (⟨S64x8400, .f32⟩ : BufTy).Contents (Elt F)),
  StableHlo.binary main_v44 main_v19 main_v45 (subf : (⟨S64x8400, .f32⟩ : BufTy).Contents (Elt F) → (⟨S64x8400, .f32⟩ : BufTy).Contents (Elt F) → (⟨S64x8400, .f32⟩ : BufTy).Contents (Elt F)),
  StableHlo.nullary main_cst_0 (constant S_ .f32 0x358637BD#32),
  StableHlo.unary main_cst_0 main_v46 (broadcastInDim S64x8400 ![] bcast_S_S64x8400 : (⟨S_, .f32⟩ : BufTy).Contents (Elt F) → (⟨S64x8400, .f32⟩ : BufTy).Contents (Elt F)),
  StableHlo.binary main_v45 main_v46 main_v47 (addf : (⟨S64x8400, .f32⟩ : BufTy).Contents (Elt F) → (⟨S64x8400, .f32⟩ : BufTy).Contents (Elt F) → (⟨S64x8400, .f32⟩ : BufTy).Contents (Elt F)),
  StableHlo.binary main_v19 main_v47 main_v48 (Host.divf : (⟨S64x8400, .f32⟩ : BufTy).Contents (Elt F) → (⟨S64x8400, .f32⟩ : BufTy).Contents (Elt F) → (⟨S64x8400, .f32⟩ : BufTy).Contents (Elt F))]
abbrev wr2 : List (Ref sig .tc) := [main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_cst_0, main_v46, main_v47, main_v48]
theorem keep2 (V : Valuation τ sig (Elt F)) {r : Ref sig .tc} (hr : r ∉ wr2) : after ops2 V (Proc.devRef .tc r) = V (Proc.devRef .tc r) :=
  after_unwritten wr2 rfl hr V

/-- Part 3 of the reference's operations. -/
abbrev ops3 : List (HloOp τ sig (Elt F)) := [
  StableHlo.nullary main_v49 (iotaInDim S16 32 0),
  StableHlo.unary main_v49 main_v50 (broadcastInDim S1x16 ![1] bcast_S16_S1x16_1 : (⟨S16, .i32⟩ : BufTy).Contents (Elt F) → (⟨S1x16, .i32⟩ : BufTy).Contents (Elt F)),
  StableHlo.unary main_arg1 main_v51 ((extractStridedSlice S64x1 ![0, 0] · slices_S64x16_S64x1_0_0) : (⟨S64x16, .i32⟩ : BufTy).Contents (Elt F) → (⟨S64x1, .i32⟩ : BufTy).Contents (Elt F)),
  StableHlo.unary main_v50 main_v52 (broadcastInDim S64x16 ![0, 1] bcast_S1x16_S64x16_0_1 : (⟨S1x16, .i32⟩ : BufTy).Contents (Elt F) → (⟨S64x16, .i32⟩ : BufTy).Contents (Elt F)),
  StableHlo.unary main_v51 main_v53 (broadcastInDim S64x16 ![0, 1] bcast_S64x1_S64x16_0_1 : (⟨S64x1, .i32⟩ : BufTy).Contents (Elt F) → (⟨S64x16, .i32⟩ : BufTy).Contents (Elt F)),
  StableHlo.binary main_v52 main_v53 main_v54 (cmpi .slt : (⟨S64x16, .i32⟩ : BufTy).Contents (Elt F) → (⟨S64x16, .i32⟩ : BufTy).Contents (Elt F) → (⟨S64x16, .i1⟩ : BufTy).Contents (Elt F)),
  StableHlo.unary main_v54 main_v55 (broadcastInDim S64x16x1 ![0, 1] bcast_S64x16_S64x16x1_0_1 : (⟨S64x16, .i1⟩ : BufTy).Contents (Elt F) → (⟨S64x16x1, .i1⟩ : BufTy).Contents (Elt F)),
  StableHlo.unary main_arg0 main_v56 (broadcastInDim S64x16x1 ![0, 1] bcast_S64x16_S64x16x1_0_1 : (⟨S64x16, .i32⟩ : BufTy).Contents (Elt F) → (⟨S64x16x1, .i32⟩ : BufTy).Contents (Elt F)),
  StableHlo.nullary main_v57 (iotaInDim S8400 32 0),
  StableHlo.unary main_v57 main_v58 (broadcastInDim S1x1x8400 ![2] bcast_S8400_S1x1x8400_2 : (⟨S8400, .i32⟩ : BufTy).Contents (Elt F) → (⟨S1x1x8400, .i32⟩ : BufTy).Contents (Elt F)),
  StableHlo.unary main_v56 main_v59 (broadcastInDim S64x16x8400 ![0, 1, 2] bcast_S64x16x1_S64x16x8400_0_1_2 : (⟨S64x16x1, .i32⟩ : BufTy).Contents (Elt F) → (⟨S64x16x8400, .i32⟩ : BufTy).Contents (Elt F)),
  StableHlo.unary main_v58 main_v60 (broadcastInDim S64x16x8400 ![0, 1, 2] bcast_S1x1x8400_S64x16x8400_0_1_2 : (⟨S1x1x8400, .i32⟩ : BufTy).Contents (Elt F) → (⟨S64x16x8400, .i32⟩ : BufTy).Contents (Elt F)),
  StableHlo.binary main_v59 main_v60 main_v61 (cmpi .eq : (⟨S64x16x8400, .i32⟩ : BufTy).Contents (Elt F) → (⟨S64x16x8400, .i32⟩ : BufTy).Contents (Elt F) → (⟨S64x16x8400, .i1⟩ : BufTy).Contents (Elt F)),
  StableHlo.unary main_v55 main_v62 (broadcastInDim S64x16x8400 ![0, 1, 2] bcast_S64x16x1_S64x16x8400_0_1_2 : (⟨S64x16x1, .i1⟩ : BufTy).Contents (Elt F) → (⟨S64x16x8400, .i1⟩ : BufTy).Contents (Elt F)),
  StableHlo.binary main_v62 main_v61 main_v63 (andi : (⟨S64x16x8400, .i1⟩ : BufTy).Contents (Elt F) → (⟨S64x16x8400, .i1⟩ : BufTy).Contents (Elt F) → (⟨S64x16x8400, .i1⟩ : BufTy).Contents (Elt F)),
  StableHlo.nullary main_c (constantI S_ 1 0#1),
  StableHlo.binary main_v63 main_c main_v64 ((fun x v => Host.reduce IntOp.ori x v reducesTo_S64x16x8400_S64x8400_d1 h_S_) : (⟨S64x16x8400, .i1⟩ : BufTy).Contents (Elt F) → (⟨S_, .i1⟩ : BufTy).Contents (Elt F) → (⟨S64x8400, .i1⟩ : BufTy).Contents (Elt F))]
abbrev wr3 : List (Ref sig .tc) := [main_v49, main_v50, main_v51, main_v52, main_v53, main_v54, main_v55, main_v56, main_v57, main_v58, main_v59, main_v60, main_v61, main_v62, main_v63, main_c, main_v64]
theorem keep3 (V : Valuation τ sig (Elt F)) {r : Ref sig .tc} (hr : r ∉ wr3) : after ops3 V (Proc.devRef .tc r) = V (Proc.devRef .tc r) :=
  after_unwritten wr3 rfl hr V

/-- Part 4 of the reference's operations. -/
abbrev ops4 : List (HloOp τ sig (Elt F)) := [
  StableHlo.nullary main_v65 (iotaInDim S64 32 0),
  StableHlo.unary main_v65 main_v66 (broadcastInDim S64x1 ![0] bcast_S64_S64x1_0 : (⟨S64, .i32⟩ : BufTy).Contents (Elt F) → (⟨S64x1, .i32⟩ : BufTy).Contents (Elt F)),
  StableHlo.nullary main_c_1 (constantI S_ 32 4294967295#32),
  StableHlo.TRef.unary (.of main_c_1 : StableHlo.TRef sig ⟨S_, .i32⟩) (.of main_call0_v0 : StableHlo.TRef sig ⟨S_, .i32⟩) id,
  StableHlo.TRef.unary (.of main_v66 : StableHlo.TRef sig ⟨S64x1, .i32⟩) (.of main_call0_v1 : StableHlo.TRef sig ⟨S64x8400, .i32⟩) (broadcastInDim S64x8400 ![0, 1] bcast_S64x1_S64x8400_0_1),
  StableHlo.TRef.unary (.of main_call0_v0 : StableHlo.TRef sig ⟨S_, .i32⟩) (.of main_call0_v2 : StableHlo.TRef sig ⟨S64x8400, .i32⟩) (broadcastInDim S64x8400 ![] bcast_S_S64x8400),
  StableHlo.TRef.ternary (.of main_v64 : StableHlo.TRef sig ⟨S64x8400, .i1⟩) (.of main_call0_v1 : StableHlo.TRef sig ⟨S64x8400, .i32⟩) (.of main_call0_v2 : StableHlo.TRef sig ⟨S64x8400, .i32⟩) (.of main_v67 : StableHlo.TRef sig ⟨S64x8400, .i32⟩) select,
  StableHlo.nullary main_c_2 (constantI S_ 32 2147483648#32),
  StableHlo.binary main_v67 main_c_2 main_v68 ((fun x v => Host.reduce IntOp.maxsi x v reducesTo_S64x8400_S8400_d0 h_S_) : (⟨S64x8400, .i32⟩ : BufTy).Contents (Elt F) → (⟨S_, .i32⟩ : BufTy).Contents (Elt F) → (⟨S8400, .i32⟩ : BufTy).Contents (Elt F))]
abbrev wr4 : List (Ref sig .tc) := [main_v65, main_v66, main_c_1, main_call0_v0, main_call0_v1, main_call0_v2, main_v67, main_c_2, main_v68]
theorem keep4 (V : Valuation τ sig (Elt F)) {r : Ref sig .tc} (hr : r ∉ wr4) : after ops4 V (Proc.devRef .tc r) = V (Proc.devRef .tc r) :=
  after_unwritten wr4 rfl hr V

/-- Part 5 of the reference's operations. -/
abbrev ops5 : List (HloOp τ sig (Elt F)) := [
  StableHlo.nullary main_c_3 (constantI S_ 32 0#32),
  StableHlo.unary main_c_3 main_v69 (broadcastInDim S8400 ![] bcast_S_S8400 : (⟨S_, .i32⟩ : BufTy).Contents (Elt F) → (⟨S8400, .i32⟩ : BufTy).Contents (Elt F)),
  StableHlo.binary main_v68 main_v69 main_v70 (cmpi .sge : (⟨S8400, .i32⟩ : BufTy).Contents (Elt F) → (⟨S8400, .i32⟩ : BufTy).Contents (Elt F) → (⟨S8400, .i1⟩ : BufTy).Contents (Elt F)),
  StableHlo.nullary main_c_4 (constantI S_ 32 0#32),
  StableHlo.unary main_c_4 main_v71 (broadcastInDim S8400 ![] bcast_S_S8400 : (⟨S_, .i32⟩ : BufTy).Contents (Elt F) → (⟨S8400, .i32⟩ : BufTy).Contents (Elt F)),
  StableHlo.binary main_v68 main_v71 main_v72 (maxsi : (⟨S8400, .i32⟩ : BufTy).Contents (Elt F) → (⟨S8400, .i32⟩ : BufTy).Contents (Elt F) → (⟨S8400, .i32⟩ : BufTy).Contents (Elt F))]
abbrev wr5 : List (Ref sig .tc) := [main_c_3, main_v69, main_v70, main_c_4, main_v71, main_v72]
theorem keep5 (V : Valuation τ sig (Elt F)) {r : Ref sig .tc} (hr : r ∉ wr5) : after ops5 V (Proc.devRef .tc r) = V (Proc.devRef .tc r) :=
  after_unwritten wr5 rfl hr V

/-- Part 6 of the reference's operations. -/
abbrev ops6 : List (HloOp τ sig (Elt F)) := [
  StableHlo.nullary main_c_5 (constantI S_ 32 0#32),
  StableHlo.unary main_c_5 main_v73 (broadcastInDim S8400 ![] bcast_S_S8400 : (⟨S_, .i32⟩ : BufTy).Contents (Elt F) → (⟨S8400, .i32⟩ : BufTy).Contents (Elt F)),
  StableHlo.binary main_v72 main_v73 main_v74 (cmpi .slt : (⟨S8400, .i32⟩ : BufTy).Contents (Elt F) → (⟨S8400, .i32⟩ : BufTy).Contents (Elt F) → (⟨S8400, .i1⟩ : BufTy).Contents (Elt F)),
  StableHlo.nullary main_c_6 (constantI S_ 32 64#32),
  StableHlo.unary main_c_6 main_v75 (broadcastInDim S8400 ![] bcast_S_S8400 : (⟨S_, .i32⟩ : BufTy).Contents (Elt F) → (⟨S8400, .i32⟩ : BufTy).Contents (Elt F)),
  StableHlo.binary main_v72 main_v75 main_v76 (addi : (⟨S8400, .i32⟩ : BufTy).Contents (Elt F) → (⟨S8400, .i32⟩ : BufTy).Contents (Elt F) → (⟨S8400, .i32⟩ : BufTy).Contents (Elt F)),
  StableHlo.ternary main_v74 main_v76 main_v72 main_v77 (select : (⟨S8400, .i1⟩ : BufTy).Contents (Elt F) → (⟨S8400, .i32⟩ : BufTy).Contents (Elt F) → (⟨S8400, .i32⟩ : BufTy).Contents (Elt F) → (⟨S8400, .i32⟩ : BufTy).Contents (Elt F)),
  StableHlo.unary main_v77 main_v78 (broadcastInDim S8400x1 ![0] bcast_S8400_S8400x1_0 : (⟨S8400, .i32⟩ : BufTy).Contents (Elt F) → (⟨S8400x1, .i32⟩ : BufTy).Contents (Elt F)),
  StableHlo.binary main_arg3 main_v78 main_v79 ((fun x i => Host.gather gather_S64_S8400x1_S8400_n_0_n_n_0_1_1 x i) : (⟨S64, .i32⟩ : BufTy).Contents (Elt F) → (⟨S8400x1, .i32⟩ : BufTy).Contents (Elt F) → (⟨S8400, .i32⟩ : BufTy).Contents (Elt F))]
abbrev wr6 : List (Ref sig .tc) := [main_c_5, main_v73, main_v74, main_c_6, main_v75, main_v76, main_v77, main_v78, main_v79]
theorem keep6 (V : Valuation τ sig (Elt F)) {r : Ref sig .tc} (hr : r ∉ wr6) : after ops6 V (Proc.devRef .tc r) = V (Proc.devRef .tc r) :=
  after_unwritten wr6 rfl hr V

/-- Part 7 of the reference's operations. -/
abbrev ops7 : List (HloOp τ sig (Elt F)) := [
  StableHlo.nullary main_c_7 (constantI S_ 32 80#32),
  StableHlo.TRef.unary (.of main_c_7 : StableHlo.TRef sig ⟨S_, .i32⟩) (.of main_call1_v0 : StableHlo.TRef sig ⟨S_, .i32⟩) id,
  StableHlo.TRef.unary (.of main_call1_v0 : StableHlo.TRef sig ⟨S_, .i32⟩) (.of main_call1_v1 : StableHlo.TRef sig ⟨S8400, .i32⟩) (broadcastInDim S8400 ![] bcast_S_S8400),
  StableHlo.TRef.ternary (.of main_v70 : StableHlo.TRef sig ⟨S8400, .i1⟩) (.of main_v79 : StableHlo.TRef sig ⟨S8400, .i32⟩) (.of main_call1_v1 : StableHlo.TRef sig ⟨S8400, .i32⟩) (.of main_v80 : StableHlo.TRef sig ⟨S8400, .i32⟩) select]
abbrev wr7 : List (Ref sig .tc) := [main_c_7, main_call1_v0, main_call1_v1, main_v80]
theorem keep7 (V : Valuation τ sig (Elt F)) {r : Ref sig .tc} (hr : r ∉ wr7) : after ops7 V (Proc.devRef .tc r) = V (Proc.devRef .tc r) :=
  after_unwritten wr7 rfl hr V

/-- Part 8 of the reference's operations. -/
abbrev ops8 : List (HloOp τ sig (Elt F)) := [
  StableHlo.unary main_v70 main_v81 (broadcastInDim S8400x1 ![0] bcast_S8400_S8400x1_0 : (⟨S8400, .i1⟩ : BufTy).Contents (Elt F) → (⟨S8400x1, .i1⟩ : BufTy).Contents (Elt F)),
  StableHlo.nullary main_c_8 (constantI S_ 32 0#32),
  StableHlo.unary main_c_8 main_v82 (broadcastInDim S8400 ![] bcast_S_S8400 : (⟨S_, .i32⟩ : BufTy).Contents (Elt F) → (⟨S8400, .i32⟩ : BufTy).Contents (Elt F)),
  StableHlo.binary main_v72 main_v82 main_v83 (cmpi .slt : (⟨S8400, .i32⟩ : BufTy).Contents (Elt F) → (⟨S8400, .i32⟩ : BufTy).Contents (Elt F) → (⟨S8400, .i1⟩ : BufTy).Contents (Elt F)),
  StableHlo.nullary main_c_9 (constantI S_ 32 64#32),
  StableHlo.unary main_c_9 main_v84 (broadcastInDim S8400 ![] bcast_S_S8400 : (⟨S_, .i32⟩ : BufTy).Contents (Elt F) → (⟨S8400, .i32⟩ : BufTy).Contents (Elt F)),
  StableHlo.binary main_v72 main_v84 main_v85 (addi : (⟨S8400, .i32⟩ : BufTy).Contents (Elt F) → (⟨S8400, .i32⟩ : BufTy).Contents (Elt F) → (⟨S8400, .i32⟩ : BufTy).Contents (Elt F)),
  StableHlo.ternary main_v83 main_v85 main_v72 main_v86 (select : (⟨S8400, .i1⟩ : BufTy).Contents (Elt F) → (⟨S8400, .i32⟩ : BufTy).Contents (Elt F) → (⟨S8400, .i32⟩ : BufTy).Contents (Elt F) → (⟨S8400, .i32⟩ : BufTy).Contents (Elt F)),
  StableHlo.unary main_v86 main_v87 (broadcastInDim S8400x1 ![0] bcast_S8400_S8400x1_0 : (⟨S8400, .i32⟩ : BufTy).Contents (Elt F) → (⟨S8400x1, .i32⟩ : BufTy).Contents (Elt F)),
  StableHlo.binary main_arg4 main_v87 main_v88 ((fun x i => Host.gather gather_S64x4_S8400x1_S8400x4_1_0_n_n_0_1_14 x i) : (⟨S64x4, .f32⟩ : BufTy).Contents (Elt F) → (⟨S8400x1, .i32⟩ : BufTy).Contents (Elt F) → (⟨S8400x4, .f32⟩ : BufTy).Contents (Elt F)),
  StableHlo.nullary main_cst_10 (constant S_ .f32 0x00000000#32),
  StableHlo.TRef.unary (.of main_cst_10 : StableHlo.TRef sig ⟨S_, .f32⟩) (.of main_call2_v0 : StableHlo.TRef sig ⟨S_, .f32⟩) id,
  StableHlo.TRef.unary (.of main_v81 : StableHlo.TRef sig ⟨S8400x1, .i1⟩) (.of main_call2_v1 : StableHlo.TRef sig ⟨S8400x4, .i1⟩) (broadcastInDim S8400x4 ![0, 1] bcast_S8400x1_S8400x4_0_1),
  StableHlo.TRef.unary (.of main_call2_v0 : StableHlo.TRef sig ⟨S_, .f32⟩) (.of main_call2_v2 : StableHlo.TRef sig ⟨S8400x4, .f32⟩) (broadcastInDim S8400x4 ![] bcast_S_S8400x4),
  StableHlo.TRef.ternary (.of main_call2_v1 : StableHlo.TRef sig ⟨S8400x4, .i1⟩) (.of main_v88 : StableHlo.TRef sig ⟨S8400x4, .f32⟩) (.of main_call2_v2 : StableHlo.TRef sig ⟨S8400x4, .f32⟩) (.of main_v89 : StableHlo.TRef sig ⟨S8400x4, .f32⟩) select]
abbrev wr8 : List (Ref sig .tc) := [main_v81, main_c_8, main_v82, main_v83, main_c_9, main_v84, main_v85, main_v86, main_v87, main_v88, main_cst_10, main_call2_v0, main_call2_v1, main_call2_v2, main_v89]
theorem keep8 (V : Valuation τ sig (Elt F)) {r : Ref sig .tc} (hr : r ∉ wr8) : after ops8 V (Proc.devRef .tc r) = V (Proc.devRef .tc r) :=
  after_unwritten wr8 rfl hr V

/-- Part 9 of the reference's operations. -/
abbrev ops9 : List (HloOp τ sig (Elt F)) := [
  StableHlo.nullary main_v90 (iotaInDim S8400 32 0),
  StableHlo.nullary main_c_11 (constantI S_ 32 0#32),
  StableHlo.unary main_c_11 main_v91 (broadcastInDim S8400 ![] bcast_S_S8400 : (⟨S_, .i32⟩ : BufTy).Contents (Elt F) → (⟨S8400, .i32⟩ : BufTy).Contents (Elt F)),
  StableHlo.binary main_v72 main_v91 main_v92 (cmpi .slt : (⟨S8400, .i32⟩ : BufTy).Contents (Elt F) → (⟨S8400, .i32⟩ : BufTy).Contents (Elt F) → (⟨S8400, .i1⟩ : BufTy).Contents (Elt F)),
  StableHlo.nullary main_c_12 (constantI S_ 32 64#32),
  StableHlo.unary main_c_12 main_v93 (broadcastInDim S8400 ![] bcast_S_S8400 : (⟨S_, .i32⟩ : BufTy).Contents (Elt F) → (⟨S8400, .i32⟩ : BufTy).Contents (Elt F)),
  StableHlo.binary main_v72 main_v93 main_v94 (addi : (⟨S8400, .i32⟩ : BufTy).Contents (Elt F) → (⟨S8400, .i32⟩ : BufTy).Contents (Elt F) → (⟨S8400, .i32⟩ : BufTy).Contents (Elt F)),
  StableHlo.ternary main_v92 main_v94 main_v72 main_v95 (select : (⟨S8400, .i1⟩ : BufTy).Contents (Elt F) → (⟨S8400, .i32⟩ : BufTy).Contents (Elt F) → (⟨S8400, .i32⟩ : BufTy).Contents (Elt F) → (⟨S8400, .i32⟩ : BufTy).Contents (Elt F)),
  StableHlo.nullary main_c_13 (constantI S_ 32 0#32),
  StableHlo.unary main_c_13 main_v96 (broadcastInDim S8400 ![] bcast_S_S8400 : (⟨S_, .i32⟩ : BufTy).Contents (Elt F) → (⟨S8400, .i32⟩ : BufTy).Contents (Elt F)),
  StableHlo.binary main_v90 main_v96 main_v97 (cmpi .slt : (⟨S8400, .i32⟩ : BufTy).Contents (Elt F) → (⟨S8400, .i32⟩ : BufTy).Contents (Elt F) → (⟨S8400, .i1⟩ : BufTy).Contents (Elt F)),
  StableHlo.nullary main_c_14 (constantI S_ 32 8400#32),
  StableHlo.unary main_c_14 main_v98 (broadcastInDim S8400 ![] bcast_S_S8400 : (⟨S_, .i32⟩ : BufTy).Contents (Elt F) → (⟨S8400, .i32⟩ : BufTy).Contents (Elt F)),
  StableHlo.binary main_v90 main_v98 main_v99 (addi : (⟨S8400, .i32⟩ : BufTy).Contents (Elt F) → (⟨S8400, .i32⟩ : BufTy).Contents (Elt F) → (⟨S8400, .i32⟩ : BufTy).Contents (Elt F)),
  StableHlo.ternary main_v97 main_v99 main_v90 main_v100 (select : (⟨S8400, .i1⟩ : BufTy).Contents (Elt F) → (⟨S8400, .i32⟩ : BufTy).Contents (Elt F) → (⟨S8400, .i32⟩ : BufTy).Contents (Elt F) → (⟨S8400, .i32⟩ : BufTy).Contents (Elt F)),
  StableHlo.unary main_v95 main_v101 (broadcastInDim S8400x1 ![0] bcast_S8400_S8400x1_0 : (⟨S8400, .i32⟩ : BufTy).Contents (Elt F) → (⟨S8400x1, .i32⟩ : BufTy).Contents (Elt F)),
  StableHlo.unary main_v100 main_v102 (broadcastInDim S8400x1 ![0] bcast_S8400_S8400x1_0 : (⟨S8400, .i32⟩ : BufTy).Contents (Elt F) → (⟨S8400x1, .i32⟩ : BufTy).Contents (Elt F)),
  StableHlo.binary main_v101 main_v102 main_v103 ((fun a b => concatenate S8400x2 1 [⟨S8400x1, a⟩, ⟨S8400x1, b⟩] concatenates_S8400x1_S8400x1_S8400x2_d1) : (⟨S8400x1, .i32⟩ : BufTy).Contents (Elt F) → (⟨S8400x1, .i32⟩ : BufTy).Contents (Elt F) → (⟨S8400x2, .i32⟩ : BufTy).Contents (Elt F)),
  StableHlo.binary main_v48 main_v103 main_v104 ((fun x i => Host.gather gather_S64x8400_S8400x2_S8400_n_01_n_n_01_1_11 x i) : (⟨S64x8400, .f32⟩ : BufTy).Contents (Elt F) → (⟨S8400x2, .i32⟩ : BufTy).Contents (Elt F) → (⟨S8400, .f32⟩ : BufTy).Contents (Elt F))]
abbrev wr9 : List (Ref sig .tc) := [main_v90, main_c_11, main_v91, main_v92, main_c_12, main_v93, main_v94, main_v95, main_c_13, main_v96, main_v97, main_c_14, main_v98, main_v99, main_v100, main_v101, main_v102, main_v103, main_v104]
theorem keep9 (V : Valuation τ sig (Elt F)) {r : Ref sig .tc} (hr : r ∉ wr9) : after ops9 V (Proc.devRef .tc r) = V (Proc.devRef .tc r) :=
  after_unwritten wr9 rfl hr V

/-- Part 10 of the reference's operations. -/
abbrev ops10 : List (HloOp τ sig (Elt F)) := [
  StableHlo.unary main_v79 main_v105 (broadcastInDim S8400x1 ![0] bcast_S8400_S8400x1_0 : (⟨S8400, .i32⟩ : BufTy).Contents (Elt F) → (⟨S8400x1, .i32⟩ : BufTy).Contents (Elt F)),
  StableHlo.nullary main_v106 (iotaInDim S81 32 0),
  StableHlo.unary main_v106 main_v107 (broadcastInDim S1x81 ![1] bcast_S81_S1x81_1 : (⟨S81, .i32⟩ : BufTy).Contents (Elt F) → (⟨S1x81, .i32⟩ : BufTy).Contents (Elt F)),
  StableHlo.unary main_v105 main_v108 (broadcastInDim S8400x81 ![0, 1] bcast_S8400x1_S8400x81_0_1 : (⟨S8400x1, .i32⟩ : BufTy).Contents (Elt F) → (⟨S8400x81, .i32⟩ : BufTy).Contents (Elt F)),
  StableHlo.unary main_v107 main_v109 (broadcastInDim S8400x81 ![0, 1] bcast_S1x81_S8400x81_0_1 : (⟨S1x81, .i32⟩ : BufTy).Contents (Elt F) → (⟨S8400x81, .i32⟩ : BufTy).Contents (Elt F)),
  StableHlo.binary main_v108 main_v109 main_v110 (cmpi .eq : (⟨S8400x81, .i32⟩ : BufTy).Contents (Elt F) → (⟨S8400x81, .i32⟩ : BufTy).Contents (Elt F) → (⟨S8400x81, .i1⟩ : BufTy).Contents (Elt F)),
  StableHlo.nullary main_cst_15 (constant S_ .f32 0x00000000#32),
  StableHlo.TRef.unary (.of main_cst_15 : StableHlo.TRef sig ⟨S_, .f32⟩) (.of main_call3_v0 : StableHlo.TRef sig ⟨S_, .f32⟩) id,
  StableHlo.TRef.unary (.of main_call3_v0 : StableHlo.TRef sig ⟨S_, .f32⟩) (.of main_call3_v1 : StableHlo.TRef sig ⟨S8400, .f32⟩) (broadcastInDim S8400 ![] bcast_S_S8400),
  StableHlo.TRef.ternary (.of main_v70 : StableHlo.TRef sig ⟨S8400, .i1⟩) (.of main_v104 : StableHlo.TRef sig ⟨S8400, .f32⟩) (.of main_call3_v1 : StableHlo.TRef sig ⟨S8400, .f32⟩) (.of main_v111 : StableHlo.TRef sig ⟨S8400, .f32⟩) select]
abbrev wr10 : List (Ref sig .tc) := [main_v105, main_v106, main_v107, main_v108, main_v109, main_v110, main_cst_15, main_call3_v0, main_call3_v1, main_v111]
theorem keep10 (V : Valuation τ sig (Elt F)) {r : Ref sig .tc} (hr : r ∉ wr10) : after ops10 V (Proc.devRef .tc r) = V (Proc.devRef .tc r) :=
  after_unwritten wr10 rfl hr V

/-- Part 11 of the reference's operations. -/
abbrev ops11 : List (HloOp τ sig (Elt F)) := [
  StableHlo.unary main_v111 main_v112 (broadcastInDim S8400x1 ![0] bcast_S8400_S8400x1_0 : (⟨S8400, .f32⟩ : BufTy).Contents (Elt F) → (⟨S8400x1, .f32⟩ : BufTy).Contents (Elt F)),
  StableHlo.nullary main_cst_16 (constant S_ .f32 0x00000000#32),
  StableHlo.TRef.unary (.of main_cst_16 : StableHlo.TRef sig ⟨S_, .f32⟩) (.of main_call4_v0 : StableHlo.TRef sig ⟨S_, .f32⟩) id,
  StableHlo.TRef.unary (.of main_v112 : StableHlo.TRef sig ⟨S8400x1, .f32⟩) (.of main_call4_v1 : StableHlo.TRef sig ⟨S8400x81, .f32⟩) (broadcastInDim S8400x81 ![0, 1] bcast_S8400x1_S8400x81_0_1),
  StableHlo.TRef.unary (.of main_call4_v0 : StableHlo.TRef sig ⟨S_, .f32⟩) (.of main_call4_v2 : StableHlo.TRef sig ⟨S8400x81, .f32⟩) (broadcastInDim S8400x81 ![] bcast_S_S8400x81),
  StableHlo.TRef.ternary (.of main_v110 : StableHlo.TRef sig ⟨S8400x81, .i1⟩) (.of main_call4_v1 : StableHlo.TRef sig ⟨S8400x81, .f32⟩) (.of main_call4_v2 : StableHlo.TRef sig ⟨S8400x81, .f32⟩) (.of main_v113 : StableHlo.TRef sig ⟨S8400x81, .f32⟩) select]
abbrev wr11 : List (Ref sig .tc) := [main_v112, main_cst_16, main_call4_v0, main_call4_v1, main_call4_v2, main_v113]
theorem keep11 (V : Valuation τ sig (Elt F)) {r : Ref sig .tc} (hr : r ∉ wr11) : after ops11 V (Proc.devRef .tc r) = V (Proc.devRef .tc r) :=
  after_unwritten wr11 rfl hr V

theorem at_v0 (V : Valuation τ sig (Elt F)) :
    after ops1 V (Proc.devRef .tc main_v0) = pb1 (F := F) (V (Proc.devRef .tc main_arg2)) := by
  after_results_simp
  try simp -implicitDefEqProofs only [StableHlo.TRef.toBuf, StableHlo.TRef.ofBuf, cast_cast, cast_eq]
  try simp only [pb1]
  try rfl

theorem at_v1 (V : Valuation τ sig (Elt F)) :
    after ops1 V (Proc.devRef .tc main_v1) = gb1 (F := F) (V (Proc.devRef .tc main_arg4)) := by
  after_results_simp
  try simp -implicitDefEqProofs only [StableHlo.TRef.toBuf, StableHlo.TRef.ofBuf, cast_cast, cast_eq]
  try simp only [gb1]
  try rfl

theorem at_v14 (V : Valuation τ sig (Elt F)) :
    after ops1 V (Proc.devRef .tc main_v14) = sides (F := F) (pb1 (F := F) (V (Proc.devRef .tc main_arg2))) (gb1 (F := F) (V (Proc.devRef .tc main_arg4))) := by
  after_results_simp
  try simp -implicitDefEqProofs only [StableHlo.TRef.toBuf, StableHlo.TRef.ofBuf, cast_cast, cast_eq]
  try simp only [sides, pb1, gb1]
  try rfl

theorem at_v48 (V : Valuation τ sig (Elt F)) :
    after ops2 V (Proc.devRef .tc main_v48) = ratio (F := F) (V (Proc.devRef .tc main_v0)) (V (Proc.devRef .tc main_v1)) (V (Proc.devRef .tc main_v14)) := by
  after_results_simp
  try simp -implicitDefEqProofs only [StableHlo.TRef.toBuf, StableHlo.TRef.ofBuf, cast_cast, cast_eq]
  try simp only [ratio, meet, pbArea, gbArea]
  try rfl

theorem at_v64 (V : Valuation τ sig (Elt F)) :
    after ops3 V (Proc.devRef .tc main_v64) = takes (V (Proc.devRef .tc main_arg0)) (V (Proc.devRef .tc main_arg1)) := by
  after_results_simp
  try simp -implicitDefEqProofs only [StableHlo.TRef.toBuf, StableHlo.TRef.ofBuf, cast_cast, cast_eq]
  try simp only [takes, hits]
  try rfl

theorem at_v68 (V : Valuation τ sig (Elt F)) :
    after ops4 V (Proc.devRef .tc main_v68) = last (V (Proc.devRef .tc main_v64)) := by
  after_results_simp
  try simp -implicitDefEqProofs only [StableHlo.TRef.toBuf, StableHlo.TRef.ofBuf, cast_cast, cast_eq]
  try simp only [last, named]
  try rfl

theorem at_v70 (V : Valuation τ sig (Elt F)) :
    after ops5 V (Proc.devRef .tc main_v70) = isPos (V (Proc.devRef .tc main_v68)) := by
  after_results_simp
  try simp -implicitDefEqProofs only [StableHlo.TRef.toBuf, StableHlo.TRef.ofBuf, cast_cast, cast_eq]
  try simp only [isPos]
  try rfl

theorem at_v72 (V : Valuation τ sig (Elt F)) :
    after ops5 V (Proc.devRef .tc main_v72) = clip (V (Proc.devRef .tc main_v68)) := by
  after_results_simp
  try simp -implicitDefEqProofs only [StableHlo.TRef.toBuf, StableHlo.TRef.ofBuf, cast_cast, cast_eq]
  try simp only [clip]
  try rfl

theorem at_v79 (V : Valuation τ sig (Elt F)) :
    after ops6 V (Proc.devRef .tc main_v79) = labRow (V (Proc.devRef .tc main_arg3)) (V (Proc.devRef .tc main_v72)) := by
  after_results_simp
  try simp -implicitDefEqProofs only [StableHlo.TRef.toBuf, StableHlo.TRef.ofBuf, cast_cast, cast_eq]
  try simp only [labRow, rowCol]
  try rfl

theorem at_v80 (V : Valuation τ sig (Elt F)) :
    after ops7 V (Proc.devRef .tc main_v80) = labSel (V (Proc.devRef .tc main_v79)) (V (Proc.devRef .tc main_v70)) := by
  after_results_simp
  try simp -implicitDefEqProofs only [StableHlo.TRef.toBuf, StableHlo.TRef.ofBuf, cast_cast, cast_eq]
  try simp only [labSel]
  try rfl

theorem at_v89 (V : Valuation τ sig (Elt F)) :
    after ops8 V (Proc.devRef .tc main_v89) = boxSel (F := F) (V (Proc.devRef .tc main_arg4)) (V (Proc.devRef .tc main_v72)) (V (Proc.devRef .tc main_v70)) := by
  after_results_simp
  try simp -implicitDefEqProofs only [StableHlo.TRef.toBuf, StableHlo.TRef.ofBuf, cast_cast, cast_eq]
  try simp only [boxSel, rowCol]
  try rfl

theorem at_v104 (V : Valuation τ sig (Elt F)) :
    after ops9 V (Proc.devRef .tc main_v104) = iouAt (F := F) (V (Proc.devRef .tc main_v72)) (V (Proc.devRef .tc main_v48)) := by
  after_results_simp
  try simp -implicitDefEqProofs only [StableHlo.TRef.toBuf, StableHlo.TRef.ofBuf, cast_cast, cast_eq]
  try simp only [iouAt, pairs, anchor, rowCol]
  try rfl

theorem at_v110 (V : Valuation τ sig (Elt F)) :
    after ops10 V (Proc.devRef .tc main_v110) = hot (V (Proc.devRef .tc main_v79)) := by
  after_results_simp
  try simp -implicitDefEqProofs only [StableHlo.TRef.toBuf, StableHlo.TRef.ofBuf, cast_cast, cast_eq]
  try simp only [hot]
  try rfl

theorem at_v111 (V : Valuation τ sig (Elt F)) :
    after ops10 V (Proc.devRef .tc main_v111) = iouSel (F := F) (V (Proc.devRef .tc main_v70)) (V (Proc.devRef .tc main_v104)) := by
  after_results_simp
  try simp -implicitDefEqProofs only [StableHlo.TRef.toBuf, StableHlo.TRef.ofBuf, cast_cast, cast_eq]
  try simp only [iouSel]
  try rfl

theorem at_v113 (V : Valuation τ sig (Elt F)) :
    after ops11 V (Proc.devRef .tc main_v113) = spread (F := F) (V (Proc.devRef .tc main_v111)) (V (Proc.devRef .tc main_v110)) := by
  after_results_simp
  try simp -implicitDefEqProofs only [StableHlo.TRef.toBuf, StableHlo.TRef.ofBuf, cast_cast, cast_eq]
  try simp only [spread]
  try rfl

/-- All the operations. -/
abbrev allOps : List (HloOp τ sig (Elt F)) := ops1 ++ (ops2 ++ (ops3 ++ (ops4 ++ (ops5 ++ (ops6 ++ (ops7 ++ (ops8 ++ (ops9 ++ (ops10 ++ ops11)))))))))

theorem keepAll (V : Valuation τ sig (Elt F)) {r : Ref sig .tc}
    (hr : r ∉ wr1 ++ (wr2 ++ (wr3 ++ (wr4 ++ (wr5 ++ (wr6 ++ (wr7 ++ (wr8 ++ (wr9 ++ (wr10 ++ wr11)))))))))) :
    after allOps V (Proc.devRef .tc r) = V (Proc.devRef .tc r) := by
  simp only [List.mem_append, not_or] at hr
  obtain ⟨h1, h2, h3, h4, h5, h6, h7, h8, h9, h10, h11⟩ := hr
  simp only [allOps, after_app]
  rw [keep11 _ h11, keep10 _ h10, keep9 _ h9, keep8 _ h8, keep7 _ h7, keep6 _ h6, keep5 _ h5, keep4 _ h4, keep3 _ h3, keep2 _ h2, keep1 _ h1]

theorem at_labels (V : Valuation τ sig (Elt F)) :
    after allOps V (Proc.devRef .tc main_v80) = labels (V (Proc.devRef .tc main_arg0)) (V (Proc.devRef .tc main_arg1)) (V (Proc.devRef .tc main_arg3)) := by
  simp only [allOps, after_app]
  rw [keep11 _ (by decide), keep10 _ (by decide), keep9 _ (by decide), keep8 _ (by decide), at_v80, keep6 _ (by decide : main_v70 ∉ wr6), at_v79, at_v70, at_v72, keep5 _ (by decide), keep4 _ (by decide), keep3 _ (by decide), keep2 _ (by decide), keep1 _ (by decide), at_v68, at_v64]
  rw [keep2 _ (by decide : main_arg0 ∉ wr2), keep1 _ (by decide : main_arg0 ∉ wr1), keep2 _ (by decide : main_arg1 ∉ wr2), keep1 _ (by decide : main_arg1 ∉ wr1)]
  rfl

theorem at_bboxes (V : Valuation τ sig (Elt F)) :
    after allOps V (Proc.devRef .tc main_v89) = bboxes (F := F) (V (Proc.devRef .tc main_arg0)) (V (Proc.devRef .tc main_arg1)) (V (Proc.devRef .tc main_arg4)) := by
  simp only [allOps, after_app]
  rw [keep11 _ (by decide), keep10 _ (by decide), keep9 _ (by decide), at_v89]
  rw [keep7 _ (by decide : main_v70 ∉ wr7), keep6 _ (by decide : main_v70 ∉ wr6), keep7 _ (by decide : main_v72 ∉ wr7), keep6 _ (by decide : main_v72 ∉ wr6), at_v70, at_v72, at_v68, at_v64]
  rw [keep7 _ (by decide : main_arg4 ∉ wr7), keep6 _ (by decide : main_arg4 ∉ wr6), keep5 _ (by decide : main_arg4 ∉ wr5), keep4 _ (by decide : main_arg4 ∉ wr4), keep3 _ (by decide : main_arg4 ∉ wr3), keep2 _ (by decide : main_arg4 ∉ wr2), keep1 _ (by decide : main_arg4 ∉ wr1)]
  rw [keep2 _ (by decide : main_arg0 ∉ wr2), keep1 _ (by decide : main_arg0 ∉ wr1), keep2 _ (by decide : main_arg1 ∉ wr2), keep1 _ (by decide : main_arg1 ∉ wr1)]
  rfl

theorem at_scores (V : Valuation τ sig (Elt F)) :
    after allOps V (Proc.devRef .tc main_v113) = scores (F := F) (V (Proc.devRef .tc main_arg0)) (V (Proc.devRef .tc main_arg1)) (V (Proc.devRef .tc main_arg2)) (V (Proc.devRef .tc main_arg3)) (V (Proc.devRef .tc main_arg4)) := by
  simp only [allOps, after_app]
  rw [at_v113, at_v111, at_v110, at_v104]
  rw [keep9 _ (by decide : main_v79 ∉ wr9), keep8 _ (by decide : main_v79 ∉ wr8), keep7 _ (by decide : main_v79 ∉ wr7)]
  rw [keep9 _ (by decide : main_v70 ∉ wr9), keep8 _ (by decide : main_v70 ∉ wr8), keep7 _ (by decide : main_v70 ∉ wr7), keep6 _ (by decide : main_v70 ∉ wr6)]
  rw [keep8 _ (by decide : main_v72 ∉ wr8), keep7 _ (by decide : main_v72 ∉ wr7), keep6 _ (by decide : main_v72 ∉ wr6)]
  rw [keep8 _ (by decide : main_v48 ∉ wr8), keep7 _ (by decide : main_v48 ∉ wr7), keep6 _ (by decide : main_v48 ∉ wr6), keep5 _ (by decide : main_v48 ∉ wr5), keep4 _ (by decide : main_v48 ∉ wr4), keep3 _ (by decide : main_v48 ∉ wr3)]
  rw [at_v79, at_v70, at_v72, at_v68, at_v64, at_v48, at_v14, at_v0, at_v1]
  rw [keep5 _ (by decide : main_arg3 ∉ wr5), keep4 _ (by decide : main_arg3 ∉ wr4), keep3 _ (by decide : main_arg3 ∉ wr3), keep2 _ (by decide : main_arg3 ∉ wr2), keep1 _ (by decide : main_arg3 ∉ wr1)]
  rw [keep2 _ (by decide : main_arg0 ∉ wr2), keep1 _ (by decide : main_arg0 ∉ wr1), keep2 _ (by decide : main_arg1 ∉ wr2), keep1 _ (by decide : main_arg1 ∉ wr1)]
  rfl

end Run

set_option maxHeartbeats 4000000 in
/-- The reference's run. -/
theorem run (m : (ℓ : Loc nD τ sig) → Buf (Elt Ideal) ℓ) (g : Dev nD → PrngReg) :
    θ_run (Cert.ReferenceIdeal.defs (F := Ideal)) (onTc (τ := τ) (Cert.ReferenceIdeal.main (F := Ideal))) ⟨m, fun _ => 0, g⟩ (fun r => ∀ c : Dev nD,
      r.2.mem ((c.tc : Thread nD τ).loc main_v80)
          = labels (m ((c.tc : Thread nD τ).loc main_arg0)) (m ((c.tc : Thread nD τ).loc main_arg1)) (m ((c.tc : Thread nD τ).loc main_arg3))
      ∧ r.2.mem ((c.tc : Thread nD τ).loc main_v89)
          = bboxes (F := Ideal) (m ((c.tc : Thread nD τ).loc main_arg0)) (m ((c.tc : Thread nD τ).loc main_arg1)) (m ((c.tc : Thread nD τ).loc main_arg4))
      ∧ r.2.mem ((c.tc : Thread nD τ).loc main_v113)
          = scores (F := Ideal) (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono ?_ (StableHlo.run_hlo _ _ (by hlo_seq) (by decide) (by decide) (by simp)
    (by intro _ h; (repeat (cases h with | head => rfl | tail _ h => ?_)); exact nomatch h) m g)
  intro r h c
  have h' : ∀ b : Ref sig .tc, r.2.mem ((c.tc : Thread nD τ).loc b)
      = StableHlo.after allOps (StableHlo.launchContents m c) (Proc.devRef .tc b) := fun b => h c b
  refine ⟨(h' _).trans (at_labels _), (h' _).trans (at_bboxes _), (h' _).trans (at_scores _), (h' _).trans (keepAll _ (by decide : main_arg0 ∉ _)),
    (h' _).trans (keepAll _ (by decide : main_arg1 ∉ _)), (h' _).trans (keepAll _ (by decide : main_arg2 ∉ _)), (h' _).trans (keepAll _ (by decide : main_arg3 ∉ _)), (h' _).trans (keepAll _ (by decide : main_arg4 ∉ _))⟩

end Cert.Proof.Ref
end
-- ==== Proof.Equation.lean ====
/-
  The reference's three results at an index are what the tasks compute there.
-/
module

public import proofs.«01_k».proof.Proof.Model
public import proofs.«01_k».proof.Proof.Ref
public import Idealize.ShloMosaic.Lib.Pointwise
public import Idealize.ShloMosaic.Lib.StableHlo.Predicate
public import Idealize.ShloMosaic.Lib.Routing.Ops

@[expose] public section

set_option maxRecDepth 16384

noncomputable section

namespace Cert.Proof.Eqn

open Idealize.ShloMosaic Cert.ReferenceIdeal Cert.Proof.RefFacts
open Cert.Proof.Asm (Takes asg asgF posF agi agi_val asg_range labF bbF iouS pbF iouF scF)

variable {F : FTy → Type} [FloatOps F]

/-! ## Two folds -/

/-- A fold of `or` from zero is one exactly where some entry is. -/
theorem fold_or {ι : Type} [DecidableEq ι] (s : Finset ι) (f : ι → BitVec 1) :
    s.fold IntOp.ori 0#1 f = 1#1 ↔ ∃ i ∈ s, f i = 1#1 := by
  have two : ∀ c d : BitVec 1, IntOp.ori c d = 1#1 ↔ c = 1#1 ∨ d = 1#1 := by decide
  induction s using Finset.induction_on with
  | empty => simp
  | insert a s ha ih => rw [Finset.fold_insert ha]; refine (two _ _).trans ((or_congr Iff.rfl ih).trans ?_); simp

theorem maxsi_cases (x y : BitVec 32) : (IntOp.maxsi x y = x ∧ y.toInt ≤ x.toInt) ∨ (IntOp.maxsi x y = y ∧ x.toInt ≤ y.toInt) := by
  unfold IntOp.maxsi
  split
  · rename_i h
    have := (BitVec.slt_iff_toInt_lt).mp h
    first | exact .inr ⟨rfl, by omega⟩ | exact .inl ⟨rfl, by omega⟩
  · rename_i h
    have : ¬ _ := fun e => h ((BitVec.slt_iff_toInt_lt).mpr e)
    first | exact .inl ⟨rfl, by omega⟩ | exact .inr ⟨rfl, by omega⟩

/-- A fold of the signed maximum is its start or some entry. -/
theorem fold_max_mem {ι : Type} [DecidableEq ι] (s : Finset ι) (b : BitVec 32) (f : ι → BitVec 32) :
    s.fold IntOp.maxsi b f = b ∨ ∃ i ∈ s, s.fold IntOp.maxsi b f = f i := by
  induction s using Finset.induction_on with
  | empty => exact .inl rfl
  | insert a s ha ih =>
    rw [Finset.fold_insert ha]
    rcases maxsi_cases (f a) (s.fold IntOp.maxsi b f) with ⟨h, _⟩ | ⟨h, _⟩
    · exact .inr ⟨a, Finset.mem_insert_self _ _, h⟩
    · rw [h]; rcases ih with ih | ⟨i, hi, ih⟩
      · exact .inl ih
      · exact .inr ⟨i, Finset.mem_insert_of_mem hi, ih⟩

/-- A fold of the signed maximum is at least each entry. -/
theorem fold_max_le {ι : Type} [DecidableEq ι] (s : Finset ι) (b : BitVec 32) (f : ι → BitVec 32) (i : ι) (hi : i ∈ s) :
    (f i).toInt ≤ (s.fold IntOp.maxsi b f).toInt := by
  induction s using Finset.induction_on with
  | empty => exact absurd hi (Finset.notMem_empty i)
  | insert a s ha ih =>
    rw [Finset.fold_insert ha]
    rcases Finset.mem_insert.mp hi with rfl | hi
    · rcases maxsi_cases (f i) (s.fold IntOp.maxsi b f) with ⟨h, h'⟩ | ⟨h, h'⟩ <;> rw [h]
      exact h'
    · have := ih hi
      rcases maxsi_cases (f a) (s.fold IntOp.maxsi b f) with ⟨h, h'⟩ | ⟨h, h'⟩ <;> rw [h] <;> omega

variable (tk kk : IVec S64x16 32) (pb : FVec F S8400x4 .f32) (gl : IVec S64 32) (gb : FVec F S64x4 .f32)

/-- The last of the first `k` ground truths that takes an anchor. -/
theorem asg_spec (k : ℕ) (hk : k ≤ 64) (n : ℕ) :
    (asg (F := F) tk kk k n = 4294967295#32 ∧ ∀ g : Fin 64, g.val < k → ¬ Takes (F := F) tk kk g n)
    ∨ ∃ g : Fin 64, asg (F := F) tk kk k n = BitVec.ofNat 32 g.val ∧ Takes (F := F) tk kk g n ∧ ∀ g' : Fin 64, g.val < g'.val → g'.val < k → ¬ Takes (F := F) tk kk g' n := by
  induction k with
  | zero => exact .inl ⟨rfl, fun g h => absurd h (Nat.not_lt_zero _)⟩
  | succ k ih =>
    have hk' : k < 64 := hk
    unfold asg
    rw [dif_pos hk']
    by_cases ht : Takes (F := F) tk kk ⟨k, hk'⟩ n
    · rw [if_pos ht]
      exact .inr ⟨⟨k, hk'⟩, rfl, ht, fun g' h h' => by simp only at h; omega⟩
    · rw [if_neg ht]
      have last : ∀ g : Fin 64, g.val < k + 1 → ¬ g.val < k → ¬ Takes (F := F) tk kk g n := fun g h h' => by
        rwa [show g = ⟨k, hk'⟩ from Fin.ext (by simp only; omega)]
      rcases ih (by omega) with ⟨h, hn⟩ | ⟨g, h, hg, hn⟩
      · exact .inl ⟨h, fun g hg => if hl : g.val < k then hn g hl else last g hg hl⟩
      · exact .inr ⟨g, h, hg, fun g' h1 h2 => if hl : g'.val < k then hn g' h1 hl else last g' h2 hl⟩

theorem red1 : S64x16x8400.Reduces [1] S64x8400 := by decide
theorem red0 : S64x8400.Reduces [0] S8400 := by decide

theorem hits_at (k : Fin 64) (j : Fin 16) (n : Fin 8400) : Ref.hits tk kk (ix3 k j n)
    = IntOp.andi (IntOp.cmpi .slt (BitVec.ofNat 32 j.val) (kk (ix2 k 0))) (IntOp.cmpi .eq (tk (ix2 k j)) (BitVec.ofNat 32 n.val)) := by
  unfold Ref.hits
  pointwise

theorem named_at (t : IVec S64x8400 1) (g : Fin 64) (n : Fin 8400) :
    Ref.named t (ix2 g n) = Scalar.select (t (ix2 g n)) (BitVec.ofNat 32 g.val) 4294967295#32 := by
  unfold Ref.named
  pointwise

/-- Which ground truth takes which anchor, at an index. -/
theorem takes_iff (k : Fin 64) (n : Fin 8400) : Ref.takes tk kk (ix2 k n) = 1#1 ↔ Takes (F := F) tk kk k n.val := by
  unfold Ref.takes
  rw [Host.reduce_eq_fold_single IntOp.ori _ _ reducesTo_S64x16x8400_S64x8400_d1 red1]
  show Finset.univ.fold IntOp.ori 0#1 _ = 1#1 ↔ _
  rw [fold_or]
  have two : ∀ c d : BitVec 1, IntOp.andi c d = 1#1 ↔ c = 1#1 ∧ d = 1#1 := by decide
  have hl : ∀ j : Fin 16, red1.lift (ix2 k n) j = ix3 k j n := fun j => by
    funext a; apply Fin.ext
    match a with
    | ⟨0, _⟩ => rfl
    | ⟨1, _⟩ => rfl
    | ⟨2, _⟩ => rfl
  have he : ∀ x y : BitVec 32, IntOp.cmpi .eq x y = 1#1 ↔ x = y := fun x y => by
    rw [WordCmp.cmpi_eq_eq]; by_cases h : x = y <;> simp [h]
  unfold Takes
  constructor
  · rintro ⟨j, _, hj⟩
    refine ⟨j, ?_⟩
    have hj := (hits_at tk kk k j n).symm.trans ((congrArg (Ref.hits tk kk) (hl j)).symm.trans hj)
    obtain ⟨h0, h1⟩ := (two _ _).mp hj
    exact ⟨h0, (he _ _).mp h1⟩
  · rintro ⟨j, h0, h1⟩
    refine ⟨j, Finset.mem_univ _, ?_⟩
    refine (congrArg (Ref.hits tk kk) (hl j)).trans ?_
    rw [hits_at]
    exact (two _ _).mpr ⟨h0, (he _ _).mpr h1⟩

/-- The last ground truth that takes an anchor. -/
theorem last_of (t : IVec S64x8400 1) (n : Fin 8400) (ht : ∀ g : Fin 64, t (ix2 g n) = 1#1 ↔ Takes (F := F) tk kk g n.val) :
    Ref.last t (ix1 n) = asgF (F := F) tk kk n.val := by
  unfold Ref.last
  rw [Host.reduce_eq_fold_single IntOp.maxsi _ _ reducesTo_S64x8400_S8400_d0 red0]
  have hl : ∀ j : Fin 64, red0.lift (ix1 n) j = ix2 j n := fun j => by
    funext a; apply Fin.ext
    match a with
    | ⟨0, _⟩ => rfl
    | ⟨1, _⟩ => rfl
  let f : Fin (S64x8400.size 0) → BitVec 32 := Ref.named t ∘ red0.lift (ix1 n)
  have fe : ∀ g : Fin 64, f g = Scalar.select (t (ix2 g n)) (BitVec.ofNat 32 g.val) 4294967295#32 := fun g =>
    (congrArg (Ref.named t) (hl g)).trans (named_at t g n)
  have hf : ∀ b : BitVec 32, b.toInt = -2147483648 → (Finset.univ.fold IntOp.maxsi b f : BitVec 32) = asgF (F := F) tk kk n.val := by
    intro b tb
    have hy : ∀ g : Fin 64, Takes (F := F) tk kk g n.val → f g = BitVec.ofNat 32 g.val := fun g h => by
      rw [fe]; exact if_pos ((ht g).mpr h)
    have hn : ∀ g : Fin 64, ¬ Takes (F := F) tk kk g n.val → f g = 4294967295#32 := fun g h => by
      rw [fe]; exact if_neg fun e => h ((ht g).mp e)
    have ti : ∀ g : Fin 64, (BitVec.ofNat 32 g.val).toInt = g.val := by decide
    have tm : (4294967295#32 : BitVec 32).toInt = -1 := rfl
    have hm := fold_max_mem Finset.univ b f
    have hg := fun g : Fin 64 => fold_max_le Finset.univ b f g (Finset.mem_univ _)
    generalize Finset.univ.fold IntOp.maxsi b f = r at hm hg ⊢
    rcases asg_spec (F := F) tk kk 64 (le_refl _) n.val with ⟨h, hno⟩ | ⟨g, h, ht, hno⟩
    · rw [asgF, h]
      rcases hm with hm | ⟨(i : Fin 64), _, hm⟩
      · have := hg 0; rw [hn 0 (hno 0 (by decide)), hm, tm, tb] at this; omega
      · rw [hm, hn i (hno i i.isLt)]
    · rw [asgF, h]
      have h0 := hg g
      rw [hy g ht, ti] at h0
      rcases hm with hm | ⟨(i : Fin 64), _, hm⟩
      · rw [hm, tb] at h0; omega
      · by_cases hi : Takes (F := F) tk kk i n.val
        · rw [hm, hy i hi] at h0 ⊢
          rw [ti] at h0
          have : ¬ g.val < i.val := fun hlt => hno i hlt i.isLt hi
          rw [show i = g from Fin.ext (by omega)]
        · rw [hm, hn i hi, tm] at h0; omega
  exact hf _ (by show (2147483648#32 : BitVec 32).toInt = _; decide)

theorem last_eq (n : Fin 8400) : Ref.lastOf tk kk (ix1 n) = asgF (F := F) tk kk n.val := by
  unfold Ref.lastOf
  exact last_of tk kk (Ref.takes tk kk) n fun g => takes_iff tk kk g n

end Cert.Proof.Eqn
end
-- ==== Proof.Equation2.lean ====
/-
  The reference's gathers and its overlaps at an index.
-/
module

public import proofs.«01_k».proof.Proof.Equation

@[expose] public section

set_option maxRecDepth 16384

noncomputable section

namespace Cert.Proof.Eqn

open Idealize.ShloMosaic Cert.ReferenceIdeal Cert.Proof.RefFacts
open Cert.Proof.Asm (Takes asg asgF posF agi agi_val asg_range labF bbF iouS pbF iouF scF)

variable {F : FTy → Type} [FloatOps F]

theorem clip_at (l : IVec S8400 32) (n : Fin 8400) : Ref.clip l (ix1 n) = IntOp.maxsi (l (ix1 n)) 0#32 := by
  unfold Ref.clip; pointwise
theorem isPos_at (l : IVec S8400 32) (n : Fin 8400) : Ref.isPos l (ix1 n) = IntOp.cmpi .sge (l (ix1 n)) 0#32 := by
  unfold Ref.isPos; pointwise
theorem rowCol_at (c : IVec S8400 32) (n : Fin 8400) : Ref.rowCol c (ix2 n (0 : Fin 1))
    = Scalar.select (IntOp.cmpi .slt (c (ix1 n)) 0#32) (IntOp.addi (c (ix1 n)) 64#32) (c (ix1 n)) := by
  unfold Ref.rowCol; pointwise

/-- A word holding a small natural number is not below zero. -/
theorem select_nonneg (a : ℕ) (ha : a < 2 ^ 31) (y : BitVec 32) :
    Scalar.select (IntOp.cmpi .slt (BitVec.ofNat 32 a) 0#32) y (BitVec.ofNat 32 a) = BitVec.ofNat 32 a := by
  have h : IntOp.cmpi .slt (BitVec.ofNat 32 a) 0#32 = 0#1 := by
    rw [WordCmp.cmpi_slt_eq]
    have e := BitVec.toInt_eq_toNat_cond (BitVec.ofNat 32 a)
    rw [BitVec.toNat_ofNat, Nat.mod_eq_of_lt (by omega), if_pos (by omega)] at e
    rw [e]
    have : ¬ ((a : ℤ) < (0#32 : BitVec 32).toInt) := by
      have : (0#32 : BitVec 32).toInt = 0 := rfl
      omega
    rw [decide_eq_false this]; rfl
  rw [h]; rfl

theorem rowCol_of (c : IVec S8400 32) (n : Fin 8400) (a : Fin 64) (hc : c (ix1 n) = BitVec.ofNat 32 a.val) :
    Ref.rowCol c (ix2 n (0 : Fin 1)) = BitVec.ofNat 32 a.val := by
  rw [rowCol_at, hc, select_nonneg _ (by have := a.isLt; omega)]

theorem labRow_of (gl : IVec S64 32) (c : IVec S8400 32) (n : Fin 8400) (a : Fin 64) (hc : c (ix1 n) = BitVec.ofNat 32 a.val) :
    Ref.labRow gl c (ix1 n) = gl (ix1 a) := by
  unfold Ref.labRow
  have h := StableHlo.Predicate.gather_take gather_S64_S8400x1_S8400_n_0_n_n_0_1_1 rfl rfl rfl rfl gl (Ref.rowCol c) n (by decide)
  have h1 : (Shape.Idx.ofFin n : S8400.Idx) = ix1 n := by funext i; rw [Fin.eq_zero i]; rfl
  have h2 : (StableHlo.Predicate.ixP n : S8400x1.Idx) = ix2 n (0 : Fin 1) := by
    funext i
    match i with
    | ⟨0, _⟩ => rfl
    | ⟨1, _⟩ => rfl
  rw [h1] at h
  rw [h]
  congr 1
  funext i
  rw [Fin.eq_zero i]
  apply Fin.ext
  show min ((Ref.rowCol c (StableHlo.Predicate.ixP n)).toInt.toNat) (64 - 1) = a.val
  rw [h2, rowCol_of c n a hc]
  have : ∀ a : Fin 64, min ((BitVec.ofNat 32 a.val).toInt.toNat) (64 - 1) = a.val := by decide
  exact this a

theorem boxRow_of (gb : FVec F S64x4 .f32) (c : IVec S8400 32) (n : Fin 8400) (j : Fin 4) (a : Fin 64) (hc : c (ix1 n) = BitVec.ofNat 32 a.val) :
    Host.gather gather_S64x4_S8400x1_S8400x4_1_0_n_n_0_1_14 gb (Ref.rowCol c) (ix2 n j) = gb (ix2 a j) :=
  Routing.gather_row gather_S64x4_S8400x1_S8400x4_1_0_n_n_0_1_14 rfl rfl rfl rfl rfl gb (Ref.rowCol c) n j a (rowCol_of c n a hc) (by decide)

theorem anchor_at (n : Fin 8400) : Ref.anchor (ix1 n) = BitVec.ofNat 32 n.val := by
  have h : Ref.anchor (ix1 n) = Scalar.select (IntOp.cmpi .slt (BitVec.ofNat 32 n.val) 0#32) (IntOp.addi (BitVec.ofNat 32 n.val) 8400#32) (BitVec.ofNat 32 n.val) := by
    unfold Ref.anchor; pointwise
  rw [h, select_nonneg _ (by have := n.isLt; omega)]

theorem pairs_0 (c : IVec S8400 32) (n : Fin 8400) : Ref.pairs c (ix2 n (0 : Fin 2)) = Ref.rowCol c (ix2 n (0 : Fin 1)) := by
  unfold Ref.pairs; pointwise
theorem pairs_1 (c : IVec S8400 32) (n : Fin 8400) : Ref.pairs c (ix2 n (1 : Fin 2)) = Ref.anchor (ix1 n) := by
  unfold Ref.pairs; pointwise

theorem iouAt_of (u : FVec F S64x8400 .f32) (c : IVec S8400 32) (n : Fin 8400) (a : Fin 64) (hc : c (ix1 n) = BitVec.ofNat 32 a.val) :
    Ref.iouAt c u (ix1 n) = u (ix2 a n) := by
  unfold Ref.iouAt Host.gather
  refine congrArg u (funext fun i => Fin.ext ?_)
  have h0 : Ref.pairs c (ix2 n (0 : Fin 2)) = BitVec.ofNat 32 a.val := (pairs_0 c n).trans (rowCol_of c n a hc)
  have h1 : Ref.pairs c (ix2 n (1 : Fin 2)) = BitVec.ofNat 32 n.val := (pairs_1 c n).trans (anchor_at n)
  generalize Ref.pairs c = q at h0 h1 ⊢
  let d : GatherDims S64x8400 S8400x2 S8400 := gather_S64x8400_S8400x2_S8400_n_01_n_n_01_1_11
  have hall : ∀ i : Fin 2, i ∈ ([0, 1] : List (Fin 2)) := by decide
  have hmem : i ∈ d.startIndexMap := hall i
  show d.start (ix1 n) q i + d.batchCoord (ix1 n) i + d.offCoord (ix1 n) i = _
  rw [GatherDims.batchCoord_eq_zero _ _ _ (fun h => by exact absurd h List.not_mem_nil),
    GatherDims.offCoord_eq_zero _ _ _ (fun h => ((GatherDims.mem_sKept _ _).mp h).1 (hall i))]
  simp only [Nat.add_zero]
  unfold GatherDims.start
  rw [dif_pos hmem]
  match i with
  | ⟨0, _⟩ =>
    have hsi : d.siIdx (ix1 n) ⟨List.idxOf (0 : Fin 2) d.startIndexMap, List.idxOf_lt_length_iff.2 (hall 0)⟩ = ix2 n (0 : Fin 2) := by
      funext b; refine Fin.ext ?_
      match b with
      | ⟨0, _⟩ => rfl
      | ⟨1, _⟩ => rfl
    refine (congrArg (fun z => min (q z).toInt.toNat 63) hsi).trans ?_
    show min (q (ix2 n (0 : Fin 2))).toInt.toNat 63 = a.val
    rw [h0]
    have : ∀ a : Fin 64, min ((BitVec.ofNat 32 a.val).toInt.toNat) 63 = a.val := by decide
    exact this a
  | ⟨1, _⟩ =>
    have hsi : d.siIdx (ix1 n) ⟨List.idxOf (1 : Fin 2) d.startIndexMap, List.idxOf_lt_length_iff.2 (hall 1)⟩ = ix2 n (1 : Fin 2) := by
      funext b; refine Fin.ext ?_
      match b with
      | ⟨0, _⟩ => rfl
      | ⟨1, _⟩ => rfl
    refine (congrArg (fun z => min (q z).toInt.toNat 8399) hsi).trans ?_
    show min (q (ix2 n (1 : Fin 2))).toInt.toNat 8399 = n.val
    rw [h1]
    have e := BitVec.toInt_eq_toNat_cond (BitVec.ofNat 32 n.val)
    have := n.isLt
    rw [BitVec.toNat_ofNat, Nat.mod_eq_of_lt (by omega), if_pos (by omega)] at e
    rw [e]; omega

/-! ## The overlaps -/

section Iou
variable (p : FVec F S1x8400x4 .f32) (q : FVec F S64x1x4 .f32) (s : FVec F S64x8400x2 .f32) (g : Fin 64) (n : Fin 8400)

theorem sides_0 : Ref.sides p q (ix3 g n (0 : Fin 2)) = FloatOps.maximumf (FloatOps.subf (FloatOps.minimumf (p (ix3 (0 : Fin 1) n (2 : Fin 4))) (q (ix3 g (0 : Fin 1) (2 : Fin 4))))
    (FloatOps.maximumf (p (ix3 (0 : Fin 1) n (0 : Fin 4))) (q (ix3 g (0 : Fin 1) (0 : Fin 4))))) (Scalar.ofBits .f32 0x00000000#32) := by
  unfold Ref.sides; pointwise
theorem sides_1 : Ref.sides p q (ix3 g n (1 : Fin 2)) = FloatOps.maximumf (FloatOps.subf (FloatOps.minimumf (p (ix3 (0 : Fin 1) n (3 : Fin 4))) (q (ix3 g (0 : Fin 1) (3 : Fin 4))))
    (FloatOps.maximumf (p (ix3 (0 : Fin 1) n (1 : Fin 4))) (q (ix3 g (0 : Fin 1) (1 : Fin 4))))) (Scalar.ofBits .f32 0x00000000#32) := by
  unfold Ref.sides; pointwise
theorem meet_at : Ref.meet s (ix2 g n) = FloatOps.mulf (s (ix3 g n (0 : Fin 2))) (s (ix3 g n (1 : Fin 2))) := by
  unfold Ref.meet; pointwise
theorem pbArea_at : Ref.pbArea p (ix2 (0 : Fin 1) n) = FloatOps.mulf (FloatOps.subf (p (ix3 (0 : Fin 1) n (2 : Fin 4))) (p (ix3 (0 : Fin 1) n (0 : Fin 4))))
    (FloatOps.subf (p (ix3 (0 : Fin 1) n (3 : Fin 4))) (p (ix3 (0 : Fin 1) n (1 : Fin 4)))) := by
  unfold Ref.pbArea; pointwise
theorem gbArea_at : Ref.gbArea q (ix2 g (0 : Fin 1)) = FloatOps.mulf (FloatOps.subf (q (ix3 g (0 : Fin 1) (2 : Fin 4))) (q (ix3 g (0 : Fin 1) (0 : Fin 4))))
    (FloatOps.subf (q (ix3 g (0 : Fin 1) (3 : Fin 4))) (q (ix3 g (0 : Fin 1) (1 : Fin 4)))) := by
  unfold Ref.gbArea; pointwise
theorem ratio_at : Ref.ratio p q s (ix2 g n) = FloatOps.hostDivf (Ref.meet s (ix2 g n))
    (FloatOps.addf (FloatOps.subf (FloatOps.addf (Ref.pbArea p (ix2 (0 : Fin 1) n)) (Ref.gbArea q (ix2 g (0 : Fin 1)))) (Ref.meet s (ix2 g n))) (Scalar.ofBits .f32 0x358637BD#32)) := by
  unfold Ref.ratio; pointwise
theorem pb1_at (pb : FVec F S8400x4 .f32) (j : Fin 4) : Ref.pb1 pb (ix3 (0 : Fin 1) n j) = pb (ix2 n j) := by
  unfold Ref.pb1; pointwise
theorem gb1_at (gb : FVec F S64x4 .f32) (j : Fin 4) : Ref.gb1 gb (ix3 g (0 : Fin 1) j) = gb (ix2 g j) := by
  unfold Ref.gb1; pointwise
end Iou

theorem iou_at (pb : FVec Ideal S8400x4 .f32) (gb : FVec Ideal S64x4 .f32) (g : Fin 64) (n : Fin 8400) :
    Ref.iou pb gb (ix2 g n) = iouS (pb (ix2 n 0)) (pb (ix2 n 1)) (pb (ix2 n 2)) (pb (ix2 n 3)) (gb (ix2 g 0)) (gb (ix2 g 1)) (gb (ix2 g 2)) (gb (ix2 g 3)) := by
  unfold Ref.iou
  rw [ratio_at, meet_at, sides_0, sides_1, pbArea_at, gbArea_at]
  simp only [pb1_at, gb1_at]
  rfl

end Cert.Proof.Eqn
end
-- ==== Proof.Equation3.lean ====
/-
  The program's three results are the reference's.
-/
module

public import proofs.«01_k».proof.Proof.Equation2
public import proofs.«01_k».proof.Proof.Result
public import Idealize.ShloMosaic.Lib.KernelVsHost

@[expose] public section

set_option maxRecDepth 16384

noncomputable section

namespace Cert.Proof.Eqn

open Idealize.ShloMosaic Cert.ReferenceIdeal Cert.Proof.RefFacts
open Cert.Proof.Asm (Takes asg asgF posF agi agi_val asg_range labF bbF iouS pbF iouF scF)

/-- A predicted box as the tasks read it. -/
theorem boxes_at {F : FTy → Type} [FloatOps F] (pb : FVec F S8400x4 .f32) (c : Fin 4) (n : Fin 8400) : pbF (Asm.boxes (F := F) pb) c n.val = pb (ix2 n c) := by
  have hn := n.isLt
  unfold pbF Asm.boxes
  have ht : ∀ (x : FVec F Cert.KernelIdeal.S4x32x272 .f32) (w : Fin 32) (r : Fin 272),
      transpose Cert.KernelIdeal.S32x4x272 [1, 0, 2] x Cert.KernelIdeal.Gen.facts₀.transposes_S4x32x272_S32x4x272_1_0_2 (ix3 w c r) = x (ix3 c w r) := fun x w r => by
    pointwise
  rw [ht]
  refine (shapeCast_apply _ _ _ (ix2 c (⟨n.val, by omega⟩ : Fin 8704)) ?_).trans ?_
  · rw [Shape.rowMajor_val_three, Shape.rowMajor_val_two]
    show c.val * 8704 + n.val = (c.val * 32 + n.val / 272 % 32) * 272 + n.val % 272
    omega
  refine (pad_apply_of_inside _ _ _ _ _ _ _ _ (ix2 c n) fun a => ?_).trans ?_
  · match a with
    | ⟨0, _⟩ => show c.val = 0 + c.val * (0 + 1); omega
    | ⟨1, _⟩ => show n.val = 0 + n.val * (0 + 1); omega
  · pointwise

variable (tk kk : IVec S64x16 32) (pb : FVec Ideal S8400x4 .f32) (gl : IVec S64 32) (gb : FVec Ideal S64x4 .f32)

theorem clip_of (n : Fin 8400) : Ref.clip (Ref.lastOf tk kk) (ix1 n) = BitVec.ofNat 32 (agi (F := Ideal) tk kk n.val).val := by
  rw [clip_at, last_eq (F := Ideal)]
  apply BitVec.eq_of_toNat_eq
  rw [agi_val, BitVec.toNat_ofNat, Nat.mod_eq_of_lt (by have := (agi (F := Ideal) tk kk n.val).isLt; omega)]

theorem pos_of (n : Fin 8400) : Ref.isPos (Ref.lastOf tk kk) (ix1 n) = posF (F := Ideal) tk kk n.val := by
  rw [isPos_at, last_eq (F := Ideal)]; rfl

theorem labels_at (n : Fin 8400) : Ref.labels tk kk gl (ix1 n) = labF (F := Ideal) tk kk gl n.val := by
  have h : Ref.labels tk kk gl (ix1 n) = Scalar.select (Ref.isPos (Ref.lastOf tk kk) (ix1 n)) (Ref.labRow gl (Ref.clip (Ref.lastOf tk kk)) (ix1 n)) 80#32 := by
    unfold Ref.labels Ref.labSel
    generalize Ref.isPos (Ref.lastOf tk kk) = a; generalize Ref.labRow gl (Ref.clip (Ref.lastOf tk kk)) = b
    pointwise
  rw [h, pos_of, labRow_of gl _ n _ (clip_of tk kk n)]; rfl

theorem bboxes_at (n : Fin 8400) (j : Fin 4) : Ref.bboxes tk kk gb (ix2 n j)
    = Scalar.select (posF (F := Ideal) tk kk n.val) (gb (ix2 (agi (F := Ideal) tk kk n.val) j)) (Scalar.ofBits .f32 0x00000000#32) := by
  have h : Ref.bboxes tk kk gb (ix2 n j) = Scalar.select (Ref.isPos (Ref.lastOf tk kk) (ix1 n))
      (Host.gather gather_S64x4_S8400x1_S8400x4_1_0_n_n_0_1_14 gb (Ref.rowCol (Ref.clip (Ref.lastOf tk kk))) (ix2 n j)) (Scalar.ofBits .f32 0x00000000#32) := by
    unfold Ref.bboxes Ref.boxSel
    generalize Ref.isPos (Ref.lastOf tk kk) = a
    generalize Host.gather gather_S64x4_S8400x1_S8400x4_1_0_n_n_0_1_14 gb (Ref.rowCol (Ref.clip (Ref.lastOf tk kk))) = b
    pointwise
  rw [h, pos_of, boxRow_of gb _ n j _ (clip_of tk kk n)]

theorem scores_at (hgl : ∀ g : Fin 64, (gl (ix1 g)).toNat < 80) (n : Fin 8400) (c : Fin 81) : Ref.scores tk kk pb gl gb (ix2 n c)
    = if c.val = (labF (F := Ideal) tk kk gl n.val).toNat then
        Scalar.select (posF (F := Ideal) tk kk n.val) (Ref.iou pb gb (ix2 (agi (F := Ideal) tk kk n.val) n)) (Scalar.ofBits .f32 0x00000000#32)
      else Scalar.ofBits .f32 0x00000000#32 := by
  have h : Ref.scores tk kk pb gl gb (ix2 n c) = Scalar.select (IntOp.cmpi .eq (Ref.labRow gl (Ref.clip (Ref.lastOf tk kk)) (ix1 n)) (BitVec.ofNat 32 c.val))
      (Scalar.select (Ref.isPos (Ref.lastOf tk kk) (ix1 n)) (Ref.iouAt (Ref.clip (Ref.lastOf tk kk)) (Ref.iou pb gb) (ix1 n)) (Scalar.ofBits .f32 0x00000000#32))
      (Scalar.ofBits .f32 0x00000000#32) := by
    unfold Ref.scores Ref.spread Ref.hot Ref.iouSel
    generalize Ref.isPos (Ref.lastOf tk kk) = a
    generalize Ref.labRow gl (Ref.clip (Ref.lastOf tk kk)) = b
    generalize Ref.iouAt (Ref.clip (Ref.lastOf tk kk)) (Ref.iou pb gb) = w
    pointwise
  rw [h, pos_of, labRow_of gl _ n _ (clip_of tk kk n), iouAt_of _ _ n _ (clip_of tk kk n)]
  unfold labF
  have hc := c.isLt
  have hg := hgl (agi (F := Ideal) tk kk n.val)
  generalize gl (ix1 (agi (F := Ideal) tk kk n.val)) = x at hg ⊢
  generalize Ref.iou pb gb (ix2 (agi (F := Ideal) tk kk n.val) n) = y
  have hp : posF (F := Ideal) tk kk n.val = 1#1 ∨ posF (F := Ideal) tk kk n.val = 0#1 := by
    generalize posF (F := Ideal) tk kk n.val = z; revert z; decide
  have he : IntOp.cmpi .eq x (BitVec.ofNat 32 c.val) = BitVec.ofBool (decide (x.toNat = c.val)) := by
    rw [WordCmp.cmpi_eq_eq_toNat, BitVec.toNat_ofNat, Nat.mod_eq_of_lt (by omega)]
  rw [he]
  rcases hp with hp | hp <;> rw [hp]
  · show Scalar.select _ y _ = if c.val = x.toNat then y else _
    by_cases hx : x.toNat = c.val
    · rw [if_pos hx.symm, decide_eq_true hx]; rfl
    · rw [if_neg (fun e => hx e.symm), decide_eq_false hx]; rfl
  · show Scalar.select _ (Scalar.ofBits .f32 0x00000000#32) (Scalar.ofBits .f32 0x00000000#32) = if _ then (Scalar.ofBits .f32 0x00000000#32 : Ideal .f32) else _
    unfold Scalar.select
    rw [ite_self, ite_self]

theorem gbt_at {F : FTy → Type} [FloatOps F] (gb : FVec F S64x4 .f32) (j : Fin 4) (a : Fin 64) :
    transpose Cert.KernelIdeal.S4x64 [1, 0] gb Cert.KernelIdeal.Gen.facts₀.transposes_S64x4_S4x64_1_0 (ix2 j a) = gb (ix2 a j) := by
  pointwise

/-- The three results, whole. -/
theorem labels_eq : extractStridedSlice Cert.KernelIdeal.S8400 ![0] (fun i => labF (F := Ideal) tk kk gl (i 0).val : IVec Cert.KernelIdeal.S8704 32)
    Cert.KernelIdeal.Gen.facts₀.slices_S8704_S8400_0 = Ref.labels tk kk gl := by
  funext i
  obtain ⟨n, rfl⟩ : ∃ n : Fin 8400, i = ix1 n := ⟨i 0, by funext a; rw [Fin.eq_zero a]; rfl⟩
  rw [labels_at]
  pointwise

theorem bboxes_eq : extractStridedSlice Cert.KernelIdeal.S8400x4 ![0, 0]
      (fun i => bbF (F := Ideal) tk kk (transpose Cert.KernelIdeal.S4x64 [1, 0] gb Cert.KernelIdeal.Gen.facts₀.transposes_S64x4_S4x64_1_0) (i 0).val (i 1) : FVec Ideal Cert.KernelIdeal.S8704x4 .f32)
      Cert.KernelIdeal.Gen.facts₀.slices_S8704x4_S8400x4_0_0 = Ref.bboxes tk kk gb := by
  funext i
  obtain ⟨n, j, rfl⟩ : ∃ (n : Fin 8400) (j : Fin 4), i = ix2 n j := ⟨i 0, i 1, by
    funext a
    match a with
    | ⟨0, _⟩ => rfl
    | ⟨1, _⟩ => rfl⟩
  rw [bboxes_at, ← gbt_at gb j]
  generalize transpose Cert.KernelIdeal.S4x64 [1, 0] gb Cert.KernelIdeal.Gen.facts₀.transposes_S64x4_S4x64_1_0 = q
  unfold bbF
  pointwise

theorem scores_eq (hgl : ∀ g : Fin 64, (gl (ix1 g)).toNat < 80) : extractStridedSlice Cert.KernelIdeal.S8400x81 ![0, 0]
      (fun i => scF (F := Ideal) tk kk (Asm.boxes (F := Ideal) pb) gl (transpose Cert.KernelIdeal.S4x64 [1, 0] gb Cert.KernelIdeal.Gen.facts₀.transposes_S64x4_S4x64_1_0) (i 0).val (i 1).val
        : FVec Ideal Cert.KernelIdeal.S8704x96 .f32)
      Cert.KernelIdeal.Gen.facts₀.slices_S8704x96_S8400x81_0_0 = Ref.scores tk kk pb gl gb := by
  funext i
  obtain ⟨n, j, rfl⟩ : ∃ (n : Fin 8400) (j : Fin 81), i = ix2 n j := ⟨i 0, i 1, by
    funext a
    match a with
    | ⟨0, _⟩ => rfl
    | ⟨1, _⟩ => rfl⟩
  rw [scores_at tk kk pb gl gb hgl, iou_at]
  simp only [← boxes_at pb _ n, ← gbt_at gb]
  generalize transpose Cert.KernelIdeal.S4x64 [1, 0] gb Cert.KernelIdeal.Gen.facts₀.transposes_S64x4_S4x64_1_0 = q
  generalize Asm.boxes (F := Ideal) pb = p
  unfold scF iouF
  pointwise

theorem labels_of (t k : IVec S64x16 32) (l : IVec S64 32) (ht : t = tk) (hk : k = kk) (hl : l = gl) :
    extractStridedSlice Cert.KernelIdeal.S8400 ![0] (fun i => labF (F := Ideal) t k l (i 0).val : IVec Cert.KernelIdeal.S8704 32)
      Cert.KernelIdeal.Gen.facts₀.slices_S8704_S8400_0 = Ref.labels tk kk gl := by
  subst ht hk hl
  exact labels_eq _ _ _

theorem bboxes_of (t k : IVec S64x16 32) (q : FVec Ideal Cert.KernelIdeal.S4x64 .f32) (ht : t = tk) (hk : k = kk)
    (hq : q = transpose Cert.KernelIdeal.S4x64 [1, 0] gb Cert.KernelIdeal.Gen.facts₀.transposes_S64x4_S4x64_1_0) :
    extractStridedSlice Cert.KernelIdeal.S8400x4 ![0, 0] (fun i => bbF (F := Ideal) t k q (i 0).val (i 1) : FVec Ideal Cert.KernelIdeal.S8704x4 .f32)
      Cert.KernelIdeal.Gen.facts₀.slices_S8704x4_S8400x4_0_0 = Ref.bboxes tk kk gb := by
  subst ht hk hq
  exact bboxes_eq _ _ _

theorem scores_of (hgl : ∀ g : Fin 64, (gl (ix1 g)).toNat < 80) (t k : IVec S64x16 32) (p : Vec Ideal Cert.KernelIdeal.S32x4x272 .f32) (l : IVec S64 32)
    (q : FVec Ideal Cert.KernelIdeal.S4x64 .f32) (ht : t = tk) (hk : k = kk) (hp : p = Asm.boxes (F := Ideal) pb) (hl : l = gl)
    (hq : q = transpose Cert.KernelIdeal.S4x64 [1, 0] gb Cert.KernelIdeal.Gen.facts₀.transposes_S64x4_S4x64_1_0) :
    extractStridedSlice Cert.KernelIdeal.S8400x81 ![0, 0] (fun i => scF (F := Ideal) t k p l q (i 0).val (i 1).val : FVec Ideal Cert.KernelIdeal.S8704x96 .f32)
      Cert.KernelIdeal.Gen.facts₀.slices_S8704x96_S8400x81_0_0 = Ref.scores tk kk pb gl gb := by
  subst ht hk hp hl hq
  exact scores_eq _ _ _ _ _ hgl

end Cert.Proof.Eqn
end
-- ==== Proof.Choose.Model.lean ====
module

public import proofs.«01_k».proof.Proof.Gen.ChooseIdeal.Skeleton
public import Idealize.ShloMosaic.Lib.Pointwise
public import Idealize.ShloMosaic.Lib.Tactic

@[expose] public section

set_option maxRecDepth 16384

noncomputable section

namespace Cert.Proof.Pick

open Idealize.ShloMosaic Idealize.SL.Sem
open Cert.ChooseIdeal Cert.ChooseIdeal.Gen

variable {F : FTy → Type} [FloatOps F]

/-! ## Ranks of sixteen lanes -/

/-- A test on pairs of lanes: `b j l` is one when lane `j` comes before lane `l`. -/
abbrev Bef : Type := Fin 16 → Fin 16 → BitVec 1

/-- How many of the first `n` lanes come before lane `l`. -/
def cnt (b : Bef) (n : ℕ) (l : Fin 16) : ℕ := (Finset.univ.filter fun j : Fin 16 => j.val < n ∧ b j l = 1#1).card

theorem cnt_zero (b : Bef) (l : Fin 16) : cnt b 0 l = 0 := by simp [cnt]
theorem cnt_succ (b : Bef) (k : Fin 16) (l : Fin 16) : cnt b (k.val + 1) l = cnt b k.val l + if b k l = 1#1 then 1 else 0 := by
  unfold cnt
  by_cases h : b k l = 1#1
  · rw [if_pos h, ← Finset.card_insert_of_notMem (a := k) (by simp)]
    congr 1; ext j
    simp only [Finset.mem_filter, Finset.mem_univ, true_and, Finset.mem_insert]
    constructor
    · rintro ⟨hj, hb⟩
      by_cases e : j = k
      · exact .inl e
      · exact .inr ⟨by have : j.val ≠ k.val := fun q => e (Fin.ext q); omega, hb⟩
    · rintro (rfl | ⟨hj, hb⟩)
      · exact ⟨by omega, h⟩
      · exact ⟨by omega, hb⟩
  · rw [if_neg h]
    refine Eq.trans ?_ (Nat.add_zero _).symm
    refine congrArg Finset.card (Finset.ext fun j => ?_)
    simp only [Finset.mem_filter, Finset.mem_univ, true_and]
    constructor
    · rintro ⟨hj, hb⟩
      refine ⟨?_, hb⟩
      have : j.val ≠ k.val := fun q => h (Fin.ext q ▸ hb)
      omega
    · rintro ⟨hj, hb⟩; exact ⟨by omega, hb⟩
theorem cnt_le (b : Bef) (n : ℕ) (l : Fin 16) : cnt b n l ≤ 16 := by
  unfold cnt; exact (Finset.card_le_univ _).trans (by simp)

/-- The counts as a vector of words. -/
def accV (b : Bef) (n : ℕ) : IVec S16 32 := fun x => BitVec.ofNat 32 (cnt b n (x 0))

/-- The places the lanes go to. -/
def rkV (b : Bef) : IVec S16 32 := k0_pay20 (accV b 16)

theorem rkV_toNat (b : Bef) (l : Fin 16) : (rkV b (ix1 l)).toNat = min (cnt b 16 l) 15 := by
  have h := cnt_le b 16 l
  show (IntOp.minsi (BitVec.ofNat 32 (cnt b 16 l)) 15#32).toNat = _
  unfold IntOp.minsi
  generalize cnt b 16 l = c at *
  interval_cases c <;> rfl

theorem ex1 {n : ℕ} (x : (⟨1, ![n]⟩ : Shape).Idx) : ∃ l : Fin n, x = ix1 l :=
  ⟨x 0, by funext a; rw [Fin.eq_zero a]; rfl⟩

theorem rkV_ok (b : Bef) : ∀ a x, ((![rkV b] : Fin 1 → IVec S16 32) a x).toNat < S16.size a := by
  intro a x
  rw [Fin.eq_zero a]
  obtain ⟨l, rfl⟩ := ex1 x
  show (rkV b (ix1 l)).toNat < 16
  rw [rkV_toNat]; omega

/-- The lanes of `v` put in their places over `z`. -/
def srt {e : EltTy} (b : Bef) (z v : Vec F S16 e) : Vec F S16 e := storeIdx z ![rkV b] v (fun _ => 1#1) false (rkV_ok b)

/-- A comparison's outcome from the keys', the values' and the lanes' comparisons. -/
def lexB (kl ke vl ve : BitVec 1) (j l : Fin 16) : BitVec 1 :=
  IntOp.ori kl (IntOp.andi ke (IntOp.ori vl (IntOp.andi ve (IntOp.cmpi .slt (BitVec.ofNat 32 j.val) (BitVec.ofNat 32 l.val)))))
/-- Before, by a float key and a word value. -/
def befFI (key : Vec F S16 .f32) (val : IVec S16 32) : Bef := fun j l =>
  lexB (FloatOps.cmpf .olt (key (ix1 j)) (key (ix1 l))) (FloatOps.cmpf .oeq (key (ix1 j)) (key (ix1 l)))
    (IntOp.cmpi .slt (val (ix1 j)) (val (ix1 l))) (IntOp.cmpi .eq (val (ix1 j)) (val (ix1 l))) j l
/-- Before, by a word key and a float value. -/
def befIF (key : IVec S16 32) (val : Vec F S16 .f32) : Bef := fun j l =>
  lexB (IntOp.cmpi .slt (key (ix1 j)) (key (ix1 l))) (IntOp.cmpi .eq (key (ix1 j)) (key (ix1 l)))
    (FloatOps.cmpf .olt (val (ix1 j)) (val (ix1 l))) (FloatOps.cmpf .oeq (val (ix1 j)) (val (ix1 l))) j l
/-- Before, by a word key and a word value. -/
def befII (key val : IVec S16 32) : Bef := fun j l =>
  lexB (IntOp.cmpi .slt (key (ix1 j)) (key (ix1 l))) (IntOp.cmpi .eq (key (ix1 j)) (key (ix1 l)))
    (IntOp.cmpi .slt (val (ix1 j)) (val (ix1 l))) (IntOp.cmpi .eq (val (ix1 j)) (val (ix1 l))) j l

/-- The lane numbers. -/
def lanes : IVec S16 32 := iota .scVector S16 32 [0] iota_S16_d0_w32_scVector
theorem lanes_apply (l : Fin 16) : lanes (ix1 l) = BitVec.ofNat 32 l.val := by unfold lanes; pointwise

/-! ## The index vectors of a ranking trip -/

theorem iv_eq (n : ℕ) : Scf.iv 0#32 1#32 n = BitVec.ofNat 32 n := by
  unfold Scf.iv; apply BitVec.eq_of_toNat_eq; simp

theorem pay4_eq (k : Fin k0_t2_loop.trips) : k0_pay4 k = fun _ => BitVec.ofNat 32 k.val := by
  funext x; show IntOp.addi 0#32 (Scf.iv 0#32 1#32 k) = _
  rw [iv_eq]; simp [IntOp.addi]

theorem trips16 : k0_t2_loop.trips = 16 := by decide

theorem ix_ok (n : ℕ) (hn : n < 16) : ∀ a x, ((![fun _ => BitVec.ofNat 32 n] : Fin 1 → IVec S16 32) a x).toNat < S16.size a := by
  intro a x
  rw [Fin.eq_zero a]
  show (BitVec.ofNat 32 n).toNat < 16
  simp; omega

theorem load_one {e : EltTy} (f : Vec F S16 e) (k : Fin 16) (i : IVec S16 32) (hi : i = fun _ => BitVec.ofNat 32 k.val)
    (h : ∀ a x, ((![i] : Fin 1 → IVec S16 32) a x).toNat < S16.size a) : loadIdx f ![i] h = fun _ => f (ix1 k) := by
  subst hi
  funext x
  unfold loadIdx
  congr 1
  funext a; rw [Fin.eq_zero a]
  apply Fin.ext
  show (BitVec.ofNat 32 k.val).toNat = k.val
  simp; omega

theorem acc_step (b : Bef) (k : Fin 16) (u : Fin 16 → BitVec 1) (hu : ∀ l, u l = b k l) (l : Fin 16) :
    IntOp.addi (accV b k.val (ix1 l)) (Scalar.select (u l) 1#32 0#32) = accV b (k.val + 1) (ix1 l) := by
  show IntOp.addi (BitVec.ofNat 32 (cnt b k.val l)) (Scalar.select (u l) 1#32 0#32) = BitVec.ofNat 32 (cnt b (k.val + 1) l)
  rw [cnt_succ, hu]
  show IntOp.addi _ (if b k l = 1#1 then 1#32 else 0#32) = _
  by_cases h : b k l = 1#1
  · rw [if_pos h, if_pos h]; apply BitVec.eq_of_toNat_eq; simp [IntOp.addi]
  · rw [if_neg h, if_neg h]; apply BitVec.eq_of_toNat_eq; simp [IntOp.addi]

theorem pay19_step (key : Vec F S16 .f32) (val : IVec S16 32) (k : Fin k0_t5_loop.trips) (k' : Fin 16) (hk : k'.val = k.val) :
    k0_pay19 (F := F) key val k (accV (befFI key val) k.val) (fun _ => key (ix1 k')) (fun _ => val (ix1 k')) = accV (befFI key val) (k.val + 1) := by
  funext x
  obtain ⟨l, rfl⟩ := ex1 x
  rw [← hk, ← acc_step (befFI key val) k' _ (fun _ => rfl) l]
  unfold k0_pay19 befFI lexB
  pointwise
  rw [iv_eq, hk]
theorem pay6_step (v2 : IVec S16 32) (m : IVec S16 1) (val : Vec F S16 .f32) (k : Fin k0_t2_loop.trips) (k' : Fin 16) (hk : k'.val = k.val) :
    k0_pay6 (F := F) v2 val m k (accV (befIF (k0_pay2 v2 m) val) k.val) (fun _ => k0_pay2 v2 m (ix1 k')) (fun _ => val (ix1 k'))
      = accV (befIF (k0_pay2 v2 m) val) (k.val + 1) := by
  funext x
  obtain ⟨l, rfl⟩ := ex1 x
  rw [← hk, ← acc_step (befIF (k0_pay2 v2 m) val) k' _ (fun _ => rfl) l]
  unfold k0_pay6 befIF lexB
  pointwise
  rw [iv_eq, hk]
theorem pay14_step (v2 : IVec S16 32) (c : BitVec 32) (m : IVec S16 1) (k : Fin k0_t3_loop.trips) (k' : Fin 16) (hk : k'.val = k.val) :
    k0_pay14 (F := F) v2 c m k (accV (befII (k0_pay2 v2 m) (k0_pay10 v2 c)) k.val) (fun _ => k0_pay2 v2 m (ix1 k')) (fun _ => k0_pay10 v2 c (ix1 k'))
      = accV (befII (k0_pay2 v2 m) (k0_pay10 v2 c)) (k.val + 1) := by
  funext x
  obtain ⟨l, rfl⟩ := ex1 x
  rw [← hk, ← acc_step (befII (k0_pay2 v2 m) (k0_pay10 v2 c)) k' _ (fun _ => rfl) l]
  unfold k0_pay14 befII lexB
  pointwise
  rw [iv_eq, hk]
theorem pay127_step (v : IVec S16 32) (k : Fin k0_t12_loop.trips) (k' : Fin 16) (hk : k'.val = k.val) :
    k0_pay127 (F := F) v lanes k (accV (befII v v) k.val) (fun _ => v (ix1 k')) (fun _ => v (ix1 k')) = accV (befII v v) (k.val + 1) := by
  funext x
  obtain ⟨l, rfl⟩ := ex1 x
  rw [← hk, ← acc_step (befII v v) k' _ (fun _ => rfl) l]
  unfold k0_pay127 befII lexB lanes
  pointwise
  rw [iv_eq, hk]

theorem pay_ix_eq (n : ℕ) : (fun _ : S16.Idx => IntOp.addi 0#32 (Scf.iv 0#32 1#32 n)) = fun _ => BitVec.ofNat 32 n := by
  funext x; rw [iv_eq]; simp [IntOp.addi]

/-! ## The row's three phases -/

/-- Sixteen elements of `f` from `o`. -/
def sub {e : EltTy} {N : ℕ} (f : Vec F ⟨1, ![N]⟩ e) (o : ℕ) (h : ∀ l : Fin 16, o + l.val < N) : Vec F S16 e := fun l => f (ix1 ⟨o + (l 0).val, h (l 0)⟩)
/-- `f` with sixteen elements from `o` replaced. -/
def put {e : EltTy} {N : ℕ} (f : Vec F ⟨1, ![N]⟩ e) (o : ℕ) (w : Vec F S16 e) : Vec F ⟨1, ![N]⟩ e := fun i =>
  if h : o ≤ (i 0).val ∧ (i 0).val < o + 16 then w (ix1 (⟨(i 0).val - o, by omega⟩ : Fin 16)) else f i

/-- The sixteen costs of chunk `c`. -/
def chunk (x : Vec F S8400 .f32) (c : ℕ) : Vec F S16 .f32 := fun l => if h : 16 * c + (l 0).val < 8400 then x (ix1 ⟨16 * c + (l 0).val, h⟩) else x (ix1 0)

/-- How many of sixteen costs are candidates, as a word. -/
def pcW (v : Vec F S16 .f32) : BitVec 32 := extractAt ![0] (k0_pay98 v) inpos_S1_p0
/-- The keys a chunk is compacted by. -/
def keyW (v : Vec F S16 .f32) : IVec S16 32 := k0_pay2 lanes (k0_pay97 v)
/-- The chunk's costs compacted. -/
def cvs (v : Vec F S16 .f32) : Vec F S16 .f32 := srt (befIF (keyW v) v) k0_pay9 v
/-- The chunk's column numbers compacted. -/
def cis (v : Vec F S16 .f32) (c : ℕ) : IVec S16 32 := srt (F := F) (e := .i32) (befII (keyW v) (k0_pay10 lanes (BitVec.ofNat 32 c))) k0_pay100 (k0_pay10 lanes (BitVec.ofNat 32 c))

/-- The state of the first phase: the count, the compacted costs and the compacted columns. -/
structure St (F : FTy → Type) where
  off : BitVec 32
  ck : Vec F S8416 .f32
  ci : Vec F S8416 .i32

/-- One chunk. -/
def St.step (s : St F) (v : Vec F S16 .f32) (c : ℕ) : St F :=
  if k0_cond1 (pcW v) = 1#1 then ⟨IntOp.addi s.off (pcW v), put s.ck s.off.toNat (cvs v), put s.ci s.off.toNat (cis v c)⟩ else s
/-- After `n` chunks. -/
def st (x : Vec F S8400 .f32) (g6 : Vec F S8416 .f32) (g7 : Vec F S8416 .i32) : ℕ → St F
  | 0 => ⟨0#32, g6, g7⟩
  | n + 1 => (st x g6 g7 n).step (chunk x n) n

/-- The padded lists. -/
def ckP (s : St F) : Vec F S8416 .f32 := put s.ck s.off.toNat (k0_pay101 (F := F))
def ciP (s : St F) : Vec F S8416 .i32 := put s.ci s.off.toNat k0_pay102

/-- Sixteen elements from `16 c`. -/
def subc {e : EltTy} (f : Vec F S8416 e) (c : ℕ) : Vec F S16 e := fun l => if h : 16 * c + (l 0).val < 8416 then f (ix1 ⟨16 * c + (l 0).val, h⟩) else f (ix1 0)

/-- The lanes in reverse. -/
def rv {e : EltTy} (v : Vec F S16 e) : Vec F S16 e := fun l => v (ix1 ⟨15 - (l 0).val, by omega⟩)

/-- One merge. -/
def mrg (r : FVec F S16 .f32 × IVec S16 32) (k : Vec F S16 .f32) (i : IVec S16 32) : FVec F S16 .f32 × IVec S16 32 :=
  let k1 := srt (befFI k i) (k0_pay21 (F := F)) k
  let i1 := srt (F := F) (e := .i32) (befFI k i) k0_pay22 i
  let lk := k0_pay106 r.1 (rv k1)
  let li := k0_pay107 r.1 r.2 (rv k1) (rv (F := F) (e := .i32) i1)
  (srt (befFI lk li) (k0_pay113 (F := F)) lk, srt (F := F) (e := .i32) (befFI lk li) k0_pay114 li)

/-- The sixteen best after `n` merges. -/
def best (ck : Vec F S8416 .f32) (ci : Vec F S8416 .i32) : ℕ → FVec F S16 .f32 × IVec S16 32
  | 0 => (k0_pay103 (F := F), k0_pay104)
  | n + 1 => mrg (best ck ci n) (subc ck n) (subc (F := F) (e := .i32) ci n)

/-- The lanewise minimum with its column, after `n` chunks. -/
def lmin (x : Vec F S8400 .f32) : ℕ → FVec F S16 .f32 × IVec S16 32
  | 0 => (k0_pay34 (F := F), k0_pay35)
  | n + 1 => if h : n < k0_t10_loop.trips then
      (k0_pay38 lanes ⟨n, h⟩ (lmin x n).1 (lmin x n).2 (chunk x n), k0_pay39 lanes ⟨n, h⟩ (lmin x n).1 (lmin x n).2 (chunk x n)) else lmin x n

/-- The column of the row's minimum. -/
def fbW (x : Vec F S8400 .f32) : BitVec 32 :=
  let r := lmin x 525
  let mi := k0_pay47 r.1 r.2 (srt (befFI r.1 r.2) (k0_pay45 (F := F)) r.1)
  extractAt ![0] (k0_pay131 (F := F) (srt (F := F) (e := .i32) (befII mi mi) k0_pay129 mi)) inpos_S1_p0

/-- What a row with this first phase gives. -/
def tkOf (x : Vec F S8400 .f32) (s : St F) : IVec S16 32 :=
  k0_pay133 k0_pay96 s.off (best (ckP s) (ciP s) ((s.off.toNat + 15) / 16)).2 (if k0_cond2 s.off = 1#1 then fbW x else 0#32)
def kkOf (s : St F) : IVec S16 32 := k0_pay135 (k0_pay132 k0_pay96 s.off) 10#32 k0_pay134

/-- A row's results, whatever the scratch held. -/
def tkRow (x : Vec F S8400 .f32) : IVec S16 32 := tkOf x (st x (fun _ => x (ix1 0)) (fun _ => 0#32) 525)
def kkRow (x : Vec F S8400 .f32) : IVec S16 32 := kkOf (st x (fun _ => x (ix1 0)) (fun _ => 0#32) 525)

end Cert.Proof.Pick
end
-- ==== Proof.Choose.Setup.lean ====
module

public import proofs.«01_k».proof.Defs
public import proofs.«01_k».proof.Proof.Choose.Model
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Pick

open Cert.ChooseIdeal Cert.ChooseIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

local notation "xV" => (Memref.whole Cert.ChooseIdeal.main_arg0_scv : Memref Cert.ChooseIdeal.sig Kind.scVector Space.hbm Cert.ChooseIdeal.S64x8400 EltTy.f32)
local notation "tkV" => (Memref.whole Cert.ChooseIdeal.main_v0_0_scv : Memref Cert.ChooseIdeal.sig Kind.scVector Space.hbm Cert.ChooseIdeal.S64x16 EltTy.i32)
local notation "kkV" => (Memref.whole Cert.ChooseIdeal.main_v0_1_scv : Memref Cert.ChooseIdeal.sig Kind.scVector Space.hbm Cert.ChooseIdeal.S64x16 EltTy.i32)
local notation "b0" => (Memref.whole Cert.ChooseIdeal.cc0_scratch0 : Memref Cert.ChooseIdeal.sig Kind.scVector Space.vmem Cert.ChooseIdeal.S8400 EltTy.f32)
local notation "b1" => (Memref.whole Cert.ChooseIdeal.cc0_scratch1 : Memref Cert.ChooseIdeal.sig Kind.scVector Space.vmem Cert.ChooseIdeal.S8416 EltTy.f32)
local notation "b2" => (Memref.whole Cert.ChooseIdeal.cc0_scratch2 : Memref Cert.ChooseIdeal.sig Kind.scVector Space.vmem Cert.ChooseIdeal.S8416 EltTy.i32)
local notation "b3" => (Memref.whole Cert.ChooseIdeal.cc0_scratch3 : Memref Cert.ChooseIdeal.sig Kind.scVector Space.vmem Cert.ChooseIdeal.S16 EltTy.i32)
local notation "b4" => (Memref.whole Cert.ChooseIdeal.cc0_scratch4 : Memref Cert.ChooseIdeal.sig Kind.scVector Space.vmem Cert.ChooseIdeal.S16 EltTy.i32)
local notation "b5" => (Memref.whole Cert.ChooseIdeal.cc0_scratch5 : Memref Cert.ChooseIdeal.sig Kind.scVector Space.vmem Cert.ChooseIdeal.S16 EltTy.f32)
local notation "b6" => (Memref.whole Cert.ChooseIdeal.cc0_scratch6 : Memref Cert.ChooseIdeal.sig Kind.scVector Space.vmem Cert.ChooseIdeal.S16 EltTy.f32)
local notation "b7" => (Memref.whole Cert.ChooseIdeal.cc0_scratch7 : Memref Cert.ChooseIdeal.sig Kind.scVector Space.vmem Cert.ChooseIdeal.S16 EltTy.i32)
local notation "b8" => (Memref.whole Cert.ChooseIdeal.cc0_scratch8 : Memref Cert.ChooseIdeal.sig Kind.scVector Space.vmem Cert.ChooseIdeal.S16 EltTy.i32)

abbrev xLoc (d : Dev nD) : Loc nD τ sig := (SparseCore.T d).loc main_arg0
abbrev tkLoc (d : Dev nD) : Loc nD τ sig := (SparseCore.T d).loc main_v0_0
abbrev kkLoc (d : Dev nD) : Loc nD τ sig := (SparseCore.T d).loc main_v0_1

theorem hdivX : 64 ∣ S64x8400.size 0 := ⟨1, rfl⟩
theorem hdivT : 64 ∣ S64x16.size 0 := ⟨1, rfl⟩
/-- Row `r` of the costs. -/
abbrev partX (r : Fin 64) : Rect S64x8400 := Rect.part (s := S64x8400) (a₀ := 0) hdivX r
abbrev setX (r : Fin 64) : Finset S64x8400.Idx := ((xV).view.slice (partX r)).set
/-- Row `r` of a result. -/
abbrev partT (r : Fin 64) : Rect S64x16 := Rect.part (s := S64x16) (a₀ := 0) hdivT r
abbrev setT (r : Fin 64) : Finset S64x16.Idx := ((tkV).view.slice (partT r)).set
abbrev setK (r : Fin 64) : Finset S64x16.Idx := ((kkV).view.slice (partT r)).set

variable (A : Dev nD → Valuation τ sig (Elt F))

/-- The costs. -/
abbrev xA (d : Dev nD) : Vec F S64x8400 .f32 := A d (Proc.devRef .tc (main_arg0 : Ref sig .tc))
/-- A row of them. -/
def xRow (d : Dev nD) (r : Fin 64) : Vec F S8400 .f32 := fun n => xA A d (ix2 r (n 0))

variable [FloatOps F]

/-- The two arrays the call leaves. -/
def tkG (d : Dev nD) : Vec F S64x16 .i32 := fun i => tkRow (F := F) (xRow A d (i 0)) (ix1 (i 1))
def kkG (d : Dev nD) : Vec F S64x16 .i32 := fun i => kkRow (F := F) (xRow A d (i 0)) (ix1 (i 1))

/-! ## What one task is handed and hands back -/

/-- A row of the costs and the same row of both results, as handed to a task. -/
def row0 (d : Dev nD) (r : Fin 64) : sProp 𝕄 :=
  iprop((xLoc d ↦[setX r]{fullShare} xA A d) ∗ (tkLoc d ↦[setT r]{fullShare} A d (Proc.devRef .tc (main_v0_0 : Ref sig .tc)))
    ∗ (kkLoc d ↦[setK r]{fullShare} A d (Proc.devRef .tc (main_v0_1 : Ref sig .tc))))
/-- The row as the task leaves it. -/
def row1 (d : Dev nD) (r : Fin 64) : sProp 𝕄 :=
  iprop((xLoc d ↦[setX r]{fullShare} xA A d) ∗ (tkLoc d ↦[setT r]{fullShare} tkG A d) ∗ (kkLoc d ↦[setK r]{fullShare} kkG A d))

theorem wid_lt (c : Fin 2) (i : Fin 16) : 2 * i.val + c.val < 32 := by omega
/-- Core `c`'s task `i` is number `2 i + c`. -/
abbrev wid (c : Fin 2) (i : Fin 16) : Fin 32 := ⟨2 * i.val + c.val, wid_lt c i⟩
/-- The two rows of task `w`. -/
abbrev rowA (w : Fin 32) : Fin 64 := ⟨2 * w.val, by omega⟩
abbrev rowB (w : Fin 32) : Fin 64 := ⟨2 * w.val + 1, by omega⟩

def goP (d : Dev nD) (w : Fin 32) : sProp 𝕄 := iprop(row0 A d (rowA w) ∗ row0 A d (rowB w))
def tdP (d : Dev nD) (w : Fin 32) : sProp 𝕄 := iprop(row1 A d (rowA w) ∗ row1 A d (rowB w))

instance goP_storable (d : Dev nD) (w : Fin 32) : BI.Storable (upEmb : UEmb _ 𝕄) (goP A d w) := by unfold goP row0; infer_instance
instance tdP_storable (d : Dev nD) (w : Fin 32) : BI.Storable (upEmb : UEmb _ 𝕄) (tdP A d w) := by unfold tdP row1; infer_instance

theorem nCore_zero : (K (F := F)).nCore 0 = 2 := rfl

/-- The call hands each core its sixteen tasks' rows. -/
def P : (K (F := F)).Pay (nD := nD) (Val := Elt F) (Name := ℕ) (U := UU) where
  st := fun q d c => match q with | 0 => bigSep Finset.univ fun i : Fin 16 => goP A d (wid (Fin.cast nCore_zero c) i)
  dn := fun q d c => match q with | 0 => bigSep Finset.univ fun i : Fin 16 => tdP A d (wid (Fin.cast nCore_zero c) i)
  go := fun q d c i => match q with | 0 => goP A d (wid (Fin.cast nCore_zero c) (Fin.cast nSub_zero i))
  td := fun q d c i => match q with | 0 => tdP A d (wid (Fin.cast nCore_zero c) (Fin.cast nSub_zero i))
  x := fun _ _ => iprop(emp)

instance P_storable : (P (F := F) A).IsStorable where
  st q d c := match q with
    | 0 => (inferInstance : BI.Storable (upEmb : UEmb _ 𝕄) (bigSep Finset.univ fun i : Fin 16 => goP A d (wid (Fin.cast nCore_zero c) i)))
  dn q d c := match q with
    | 0 => (inferInstance : BI.Storable (upEmb : UEmb _ 𝕄) (bigSep Finset.univ fun i : Fin 16 => tdP A d (wid (Fin.cast nCore_zero c) i)))
  go q d c i := match q with
    | 0 => (inferInstance : BI.Storable (upEmb : UEmb _ 𝕄) (goP A d (wid (Fin.cast nCore_zero c) (Fin.cast nSub_zero i))))
  td q d c i := match q with
    | 0 => (inferInstance : BI.Storable (upEmb : UEmb _ 𝕄) (tdP A d (wid (Fin.cast nCore_zero c) (Fin.cast nSub_zero i))))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The number of the task at `L`. -/
abbrev wL (L : grid0.Coords) : Fin 32 := ⟨2 * (L 1).val + (L 0).val, wid_lt (Fin.cast bound_zero (L 0)) (Fin.cast bound_one (L 1))⟩

omit [FloatOps F] in
theorem unit_part8400 (off : Fin 2 → ℕ) (inb : ∀ a, off a + S1x8400.size a ≤ S64x8400.size a) (r : Fin 64) (h : off = ![r.val, 0]) :
    Rect.unit (s := S64x8400) off S1x8400.size inb = partX r := by
  subst h
  unfold partX Rect.part Rect.block
  congr 1 <;> funext a
  · match a with
    | 0 => simp [Shape.partIx, Shape.partSize] <;> omega
    | 1 => simp [Shape.partIx, Shape.partSize] <;> omega
  · match a with
    | 0 => simp [Shape.partSize]
    | 1 => simp [Shape.partSize]
omit [FloatOps F] in
theorem unit_part16 (off : Fin 2 → ℕ) (inb : ∀ a, off a + S1x16.size a ≤ S64x16.size a) (r : Fin 64) (h : off = ![r.val, 0]) :
    Rect.unit (s := S64x16) off S1x16.size inb = partT r := by
  subst h
  unfold partT Rect.part Rect.block
  congr 1 <;> funext a
  · match a with
    | 0 => simp [Shape.partIx, Shape.partSize] <;> omega
    | 1 => simp [Shape.partIx, Shape.partSize] <;> omega
  · match a with
    | 0 => simp [Shape.partSize]
    | 1 => simp [Shape.partSize]
abbrev rectXA (L : grid0.Coords) : Rect S64x8400 := Rect.unit (s := S64x8400) (k0_off1 L) S1x8400.size (k0_off1_inb L)
abbrev memXA (L : grid0.Coords) : Memref sig .scVector .hbm S8400 .f32 := ((xV).slice (rectXA L) (fun _ => rfl)).squeeze S8400 squeezes_S1x8400_S8400
omit [FloatOps F] in
theorem rectXA_eq : rectXA L = partX (rowA (wL L)) :=
  unit_part8400 _ _ _ (by rw [k0_off1_eq]; funext a; match a with | 0 => (simp <;> omega) | 1 => rfl)
omit [FloatOps F] in
theorem set_memXA : (memXA L).view.set = setX (rowA (wL L)) := by
  show (((xV).view.slice (rectXA L)).reshape S8400 squeezes_S1x8400_S8400.numel_eq).set = ((xV).view.slice (partX (rowA (wL L)))).set
  rw [View.set_reshape]
  exact rectXA_eq L ▸ rfl
omit [FloatOps F] in
theorem pts_memXA (f : Buf (Elt F) (xLoc d)) :
    ((memXA L).view.loc (V d (cV L) (jV L)) ↦[(memXA L).view.set]{fullShare} f : sProp 𝕄) = xLoc d ↦[setX (rowA (wL L))]{fullShare} f := by
  rw [set_memXA]
abbrev rectXB (L : grid0.Coords) : Rect S64x8400 := Rect.unit (s := S64x8400) (k0_off9 L) S1x8400.size (k0_off9_inb L)
abbrev memXB (L : grid0.Coords) : Memref sig .scVector .hbm S8400 .f32 := ((xV).slice (rectXB L) (fun _ => rfl)).squeeze S8400 squeezes_S1x8400_S8400
omit [FloatOps F] in
theorem rectXB_eq : rectXB L = partX (rowB (wL L)) :=
  unit_part8400 _ _ _ (by rw [k0_off9_eq]; funext a; match a with | 0 => (simp <;> omega) | 1 => rfl)
omit [FloatOps F] in
theorem set_memXB : (memXB L).view.set = setX (rowB (wL L)) := by
  show (((xV).view.slice (rectXB L)).reshape S8400 squeezes_S1x8400_S8400.numel_eq).set = ((xV).view.slice (partX (rowB (wL L)))).set
  rw [View.set_reshape]
  exact rectXB_eq L ▸ rfl
omit [FloatOps F] in
theorem pts_memXB (f : Buf (Elt F) (xLoc d)) :
    ((memXB L).view.loc (V d (cV L) (jV L)) ↦[(memXB L).view.set]{fullShare} f : sProp 𝕄) = xLoc d ↦[setX (rowB (wL L))]{fullShare} f := by
  rw [set_memXB]
abbrev rectTA (L : grid0.Coords) : Rect S64x16 := Rect.unit (s := S64x16) (k0_off8 L) S1x16.size (k0_off8_inb L)
abbrev memTA (L : grid0.Coords) : Memref sig .scVector .hbm S16 .i32 := ((tkV).slice (rectTA L) (fun _ => rfl)).squeeze S16 squeezes_S1x16_S16
omit [FloatOps F] in
theorem rectTA_eq : rectTA L = partT (rowA (wL L)) :=
  unit_part16 _ _ _ (by rw [k0_off8_eq]; funext a; match a with | 0 => (simp <;> omega) | 1 => rfl)
omit [FloatOps F] in
theorem set_memTA : (memTA L).view.set = setT (rowA (wL L)) := by
  show (((tkV).view.slice (rectTA L)).reshape S16 squeezes_S1x16_S16.numel_eq).set = ((tkV).view.slice (partT (rowA (wL L)))).set
  rw [View.set_reshape]
  exact rectTA_eq L ▸ rfl
omit [FloatOps F] in
theorem pts_memTA (f : Buf (Elt F) (tkLoc d)) :
    ((memTA L).view.loc (V d (cV L) (jV L)) ↦[(memTA L).view.set]{fullShare} f : sProp 𝕄) = tkLoc d ↦[setT (rowA (wL L))]{fullShare} f := by
  rw [set_memTA]
abbrev rectTB (L : grid0.Coords) : Rect S64x16 := Rect.unit (s := S64x16) (k0_off16 L) S1x16.size (k0_off16_inb L)
abbrev memTB (L : grid0.Coords) : Memref sig .scVector .hbm S16 .i32 := ((tkV).slice (rectTB L) (fun _ => rfl)).squeeze S16 squeezes_S1x16_S16
omit [FloatOps F] in
theorem rectTB_eq : rectTB L = partT (rowB (wL L)) :=
  unit_part16 _ _ _ (by rw [k0_off16_eq]; funext a; match a with | 0 => (simp <;> omega) | 1 => rfl)
omit [FloatOps F] in
theorem set_memTB : (memTB L).view.set = setT (rowB (wL L)) := by
  show (((tkV).view.slice (rectTB L)).reshape S16 squeezes_S1x16_S16.numel_eq).set = ((tkV).view.slice (partT (rowB (wL L)))).set
  rw [View.set_reshape]
  exact rectTB_eq L ▸ rfl
omit [FloatOps F] in
theorem pts_memTB (f : Buf (Elt F) (tkLoc d)) :
    ((memTB L).view.loc (V d (cV L) (jV L)) ↦[(memTB L).view.set]{fullShare} f : sProp 𝕄) = tkLoc d ↦[setT (rowB (wL L))]{fullShare} f := by
  rw [set_memTB]
abbrev rectKA (L : grid0.Coords) : Rect S64x16 := Rect.unit (s := S64x16) (k0_off8 L) S1x16.size (k0_off8_inb L)
abbrev memKA (L : grid0.Coords) : Memref sig .scVector .hbm S16 .i32 := ((kkV).slice (rectKA L) (fun _ => rfl)).squeeze S16 squeezes_S1x16_S16
omit [FloatOps F] in
theorem rectKA_eq : rectKA L = partT (rowA (wL L)) :=
  unit_part16 _ _ _ (by rw [k0_off8_eq]; funext a; match a with | 0 => (simp <;> omega) | 1 => rfl)
omit [FloatOps F] in
theorem set_memKA : (memKA L).view.set = setK (rowA (wL L)) := by
  show (((kkV).view.slice (rectKA L)).reshape S16 squeezes_S1x16_S16.numel_eq).set = ((kkV).view.slice (partT (rowA (wL L)))).set
  rw [View.set_reshape]
  exact rectKA_eq L ▸ rfl
omit [FloatOps F] in
theorem pts_memKA (f : Buf (Elt F) (kkLoc d)) :
    ((memKA L).view.loc (V d (cV L) (jV L)) ↦[(memKA L).view.set]{fullShare} f : sProp 𝕄) = kkLoc d ↦[setK (rowA (wL L))]{fullShare} f := by
  rw [set_memKA]
abbrev rectKB (L : grid0.Coords) : Rect S64x16 := Rect.unit (s := S64x16) (k0_off16 L) S1x16.size (k0_off16_inb L)
abbrev memKB (L : grid0.Coords) : Memref sig .scVector .hbm S16 .i32 := ((kkV).slice (rectKB L) (fun _ => rfl)).squeeze S16 squeezes_S1x16_S16
omit [FloatOps F] in
theorem rectKB_eq : rectKB L = partT (rowB (wL L)) :=
  unit_part16 _ _ _ (by rw [k0_off16_eq]; funext a; match a with | 0 => (simp <;> omega) | 1 => rfl)
omit [FloatOps F] in
theorem set_memKB : (memKB L).view.set = setK (rowB (wL L)) := by
  show (((kkV).view.slice (rectKB L)).reshape S16 squeezes_S1x16_S16.numel_eq).set = ((kkV).view.slice (partT (rowB (wL L)))).set
  rw [View.set_reshape]
  exact rectKB_eq L ▸ rfl
omit [FloatOps F] in
theorem pts_memKB (f : Buf (Elt F) (kkLoc d)) :
    ((memKB L).view.loc (V d (cV L) (jV L)) ↦[(memKB L).view.set]{fullShare} f : sProp 𝕄) = kkLoc d ↦[setK (rowB (wL L))]{fullShare} f := by
  rw [set_memKB]
omit [FloatOps F] in
theorem pts_b0 (f : Buf (Elt F) ((V d (cV L) (jV L)).loc cc0_scratch0)) :
    ((b0).view.loc (V d (cV L) (jV L)) ↦{fullShare} f : sProp 𝕄) = (V d (cV L) (jV L)).loc cc0_scratch0 ↦{fullShare} f := rfl
omit [FloatOps F] in
theorem pts_b1 (f : Buf (Elt F) ((V d (cV L) (jV L)).loc cc0_scratch1)) :
    ((b1).view.loc (V d (cV L) (jV L)) ↦{fullShare} f : sProp 𝕄) = (V d (cV L) (jV L)).loc cc0_scratch1 ↦{fullShare} f := rfl
omit [FloatOps F] in
theorem pts_b2 (f : Buf (Elt F) ((V d (cV L) (jV L)).loc cc0_scratch2)) :
    ((b2).view.loc (V d (cV L) (jV L)) ↦{fullShare} f : sProp 𝕄) = (V d (cV L) (jV L)).loc cc0_scratch2 ↦{fullShare} f := rfl
omit [FloatOps F] in
theorem pts_b3 (f : Buf (Elt F) ((V d (cV L) (jV L)).loc cc0_scratch3)) :
    ((b3).view.loc (V d (cV L) (jV L)) ↦{fullShare} f : sProp 𝕄) = (V d (cV L) (jV L)).loc cc0_scratch3 ↦{fullShare} f := rfl
omit [FloatOps F] in
theorem pts_b4 (f : Buf (Elt F) ((V d (cV L) (jV L)).loc cc0_scratch4)) :
    ((b4).view.loc (V d (cV L) (jV L)) ↦{fullShare} f : sProp 𝕄) = (V d (cV L) (jV L)).loc cc0_scratch4 ↦{fullShare} f := rfl
omit [FloatOps F] in
theorem pts_b5 (f : Buf (Elt F) ((V d (cV L) (jV L)).loc cc0_scratch5)) :
    ((b5).view.loc (V d (cV L) (jV L)) ↦{fullShare} f : sProp 𝕄) = (V d (cV L) (jV L)).loc cc0_scratch5 ↦{fullShare} f := rfl
omit [FloatOps F] in
theorem pts_b6 (f : Buf (Elt F) ((V d (cV L) (jV L)).loc cc0_scratch6)) :
    ((b6).view.loc (V d (cV L) (jV L)) ↦{fullShare} f : sProp 𝕄) = (V d (cV L) (jV L)).loc cc0_scratch6 ↦{fullShare} f := rfl
omit [FloatOps F] in
theorem pts_b7 (f : Buf (Elt F) ((V d (cV L) (jV L)).loc cc0_scratch7)) :
    ((b7).view.loc (V d (cV L) (jV L)) ↦{fullShare} f : sProp 𝕄) = (V d (cV L) (jV L)).loc cc0_scratch7 ↦{fullShare} f := rfl
omit [FloatOps F] in
theorem pts_b8 (f : Buf (Elt F) ((V d (cV L) (jV L)).loc cc0_scratch8)) :
    ((b8).view.loc (V d (cV L) (jV L)) ↦{fullShare} f : sProp 𝕄) = (V d (cV L) (jV L)).loc cc0_scratch8 ↦{fullShare} f := rfl

/-- The six transfer cells. -/
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)
abbrev cell4 (d : Dev nD) (c : Fin τ.nSC) (i : Fin τ.nSub) : GSem nD τ sig := (V d c i, .dma cc0_scoped4.sem)
abbrev cell5 (d : Dev nD) (c : Fin τ.nSC) (i : Fin τ.nSub) : GSem nD τ sig := (V d c i, .dma cc0_scoped5.sem)

omit [FloatOps F] in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0
          ∗ bigSep (((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))) fun g => semVal g 0) := by
  unfold SparseCore.Cfg.ownSems0
  rw [SparseCore.bigSep_erase' ((mem_ownCells (g := (cell0 d (cV L) (jV L)))).mpr ⟨rfl, by show (SemLoc.dma cc0_scoped0.sem : SemLoc sig).isScoped .scVector = true; decide⟩),
    SparseCore.bigSep_erase' (Finset.mem_erase.mpr ⟨by simp [cell0, cell1]; decide, (mem_ownCells (g := (cell1 d (cV L) (jV L)))).mpr ⟨rfl, by show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := (cell2 d (cV L) (jV L)))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := (cell3 d (cV L) (jV L)))).mpr ⟨rfl, by show (SemLoc.dma cc0_scoped3.sem : SemLoc sig).isScoped .scVector = true; decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := (cell4 d (cV L) (jV L)))).mpr ⟨rfl, by show (SemLoc.dma cc0_scoped4.sem : SemLoc sig).isScoped .scVector = true; decide⟩⟩⟩⟩⟩),
    SparseCore.bigSep_erase' (Finset.mem_erase.mpr ⟨by simp [cell4, cell5]; decide, Finset.mem_erase.mpr ⟨by simp [cell3, cell5]; decide, Finset.mem_erase.mpr ⟨by simp [cell2, cell5]; decide, Finset.mem_erase.mpr ⟨by simp [cell1, cell5]; decide, Finset.mem_erase.mpr ⟨by simp [cell0, cell5]; decide, (mem_ownCells (g := (cell5 d (cV L) (jV L)))).mpr ⟨rfl, by show (SemLoc.dma cc0_scoped5.sem : SemLoc sig).isScoped .scVector = true; decide⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := ((Proc.scVector (cV L) (jV L)).devRef cc0_scratch8)) rfl⟩⟩⟩⟩⟩⟩⟩⟩)]

end Tile

end Cert.Proof.Pick
end
-- ==== Proof.Choose.Sort.lean ====
module

public import proofs.«01_k».proof.Proof.Choose.Setup
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Pick

open Cert.ChooseIdeal Cert.ChooseIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.ChooseIdeal.main_arg0_scv : Memref Cert.ChooseIdeal.sig Kind.scVector Space.hbm Cert.ChooseIdeal.S64x8400 EltTy.f32)
local notation "tkV" => (Memref.whole Cert.ChooseIdeal.main_v0_0_scv : Memref Cert.ChooseIdeal.sig Kind.scVector Space.hbm Cert.ChooseIdeal.S64x16 EltTy.i32)
local notation "kkV" => (Memref.whole Cert.ChooseIdeal.main_v0_1_scv : Memref Cert.ChooseIdeal.sig Kind.scVector Space.hbm Cert.ChooseIdeal.S64x16 EltTy.i32)
local notation "b0" => (Memref.whole Cert.ChooseIdeal.cc0_scratch0 : Memref Cert.ChooseIdeal.sig Kind.scVector Space.vmem Cert.ChooseIdeal.S8400 EltTy.f32)
local notation "b1" => (Memref.whole Cert.ChooseIdeal.cc0_scratch1 : Memref Cert.ChooseIdeal.sig Kind.scVector Space.vmem Cert.ChooseIdeal.S8416 EltTy.f32)
local notation "b2" => (Memref.whole Cert.ChooseIdeal.cc0_scratch2 : Memref Cert.ChooseIdeal.sig Kind.scVector Space.vmem Cert.ChooseIdeal.S8416 EltTy.i32)
local notation "b3" => (Memref.whole Cert.ChooseIdeal.cc0_scratch3 : Memref Cert.ChooseIdeal.sig Kind.scVector Space.vmem Cert.ChooseIdeal.S16 EltTy.i32)
local notation "b4" => (Memref.whole Cert.ChooseIdeal.cc0_scratch4 : Memref Cert.ChooseIdeal.sig Kind.scVector Space.vmem Cert.ChooseIdeal.S16 EltTy.i32)
local notation "b5" => (Memref.whole Cert.ChooseIdeal.cc0_scratch5 : Memref Cert.ChooseIdeal.sig Kind.scVector Space.vmem Cert.ChooseIdeal.S16 EltTy.f32)
local notation "b6" => (Memref.whole Cert.ChooseIdeal.cc0_scratch6 : Memref Cert.ChooseIdeal.sig Kind.scVector Space.vmem Cert.ChooseIdeal.S16 EltTy.f32)
local notation "b7" => (Memref.whole Cert.ChooseIdeal.cc0_scratch7 : Memref Cert.ChooseIdeal.sig Kind.scVector Space.vmem Cert.ChooseIdeal.S16 EltTy.i32)
local notation "b8" => (Memref.whole Cert.ChooseIdeal.cc0_scratch8 : Memref Cert.ChooseIdeal.sig Kind.scVector Space.vmem Cert.ChooseIdeal.S16 EltTy.i32)

variable [FloatOps F] (d : Dev nD) (L : grid0.Coords)

/-- A weakest precondition on a task. -/
local notation "wpT" => wp frame (wpE (defs₀ (F := F)) 𝒱₀ (V d (cV L) (jV L)) none) Set.univ

/-! ## The sixteen-word scratches, held whole -/

theorem st_b5 {α : Type} {Q : α → sProp 𝕄} {idxs : Fin S16.rank → IVec S16 32} {w : Vec F S16 .f32} {mask : IVec S16 1} {add : Bool} {h : ∀ a x, (idxs a x).toNat < S16.size a}
    {hs : ((b5).access (.whole S16)).Stores Finset.univ}
    {kk : PUnit → Prog (TpuEff nD τ sig (Elt F) Λ₀ (.scVector (cV L) (jV L))) α} {f : Vec F S16 .f32} :
    ((b5).view.loc (V d (cV L) (jV L)) ↦{fullShare} f : sProp 𝕄)
      ⊢ iprop((((b5).view.loc (V d (cV L) (jV L)) ↦{fullShare} (storeIdx f idxs w mask add h : Vec F S16 .f32)) -∗ wpT (kk ⟨⟩) Q)
        -∗ wpT (SparseCore.vectorStoreIdx b5 idxs w mask add h hs >>= kk) Q) := by
  have key := SparseCore.wp_vectorStoreIdx (defs := defs₀ (F := F)) 𝒱₀ (V d (cV L) (jV L)) none Set.univ (Q := Q) (base := b5) (idxs := idxs) (v := w) (mask := mask) (add := add) (h := h) (hs := hs) (k := kk) (f := f)
  rw [Memref.set_access_whole (cc0_scratch5 : Ref sig .scVector), Memref.write_access_whole_univ (Elt F) (cc0_scratch5 : Ref sig .scVector), Memref.read_access_whole (Elt F) (cc0_scratch5 : Ref sig .scVector)] at key
  exact key
theorem ld_b5 {α : Type} {Q : α → sProp 𝕄} {idxs : Fin S16.rank → IVec S16 32} {h : ∀ a x, (idxs a x).toNat < S16.size a}
    {hl : (b5).view.Loads}
    {kk : Vec F S16 .f32 → Prog (TpuEff nD τ sig (Elt F) Λ₀ (.scVector (cV L) (jV L))) α} {f : Vec F S16 .f32} :
    ((b5).view.loc (V d (cV L) (jV L)) ↦{fullShare} f : sProp 𝕄)
      ⊢ iprop((((b5).view.loc (V d (cV L) (jV L)) ↦{fullShare} f) -∗ wpT (kk (loadIdx f idxs h)) Q)
        -∗ wpT (SparseCore.vectorLoadIdx b5 idxs h hl >>= kk) Q) := by
  have key := SparseCore.wp_vectorLoadIdx (defs := defs₀ (F := F)) 𝒱₀ (V d (cV L) (jV L)) none Set.univ (Q := Q) (base := b5) (idxs := idxs) (h := h) (hl := hl) (k := kk) (f := f) (q := fullShare) (S := Finset.univ) (Finset.subset_univ _)
  rw [Memref.read_access_whole (Elt F) (cc0_scratch5 : Ref sig .scVector)] at key
  exact key
theorem st_b6 {α : Type} {Q : α → sProp 𝕄} {idxs : Fin S16.rank → IVec S16 32} {w : Vec F S16 .f32} {mask : IVec S16 1} {add : Bool} {h : ∀ a x, (idxs a x).toNat < S16.size a}
    {hs : ((b6).access (.whole S16)).Stores Finset.univ}
    {kk : PUnit → Prog (TpuEff nD τ sig (Elt F) Λ₀ (.scVector (cV L) (jV L))) α} {f : Vec F S16 .f32} :
    ((b6).view.loc (V d (cV L) (jV L)) ↦{fullShare} f : sProp 𝕄)
      ⊢ iprop((((b6).view.loc (V d (cV L) (jV L)) ↦{fullShare} (storeIdx f idxs w mask add h : Vec F S16 .f32)) -∗ wpT (kk ⟨⟩) Q)
        -∗ wpT (SparseCore.vectorStoreIdx b6 idxs w mask add h hs >>= kk) Q) := by
  have key := SparseCore.wp_vectorStoreIdx (defs := defs₀ (F := F)) 𝒱₀ (V d (cV L) (jV L)) none Set.univ (Q := Q) (base := b6) (idxs := idxs) (v := w) (mask := mask) (add := add) (h := h) (hs := hs) (k := kk) (f := f)
  rw [Memref.set_access_whole (cc0_scratch6 : Ref sig .scVector), Memref.write_access_whole_univ (Elt F) (cc0_scratch6 : Ref sig .scVector), Memref.read_access_whole (Elt F) (cc0_scratch6 : Ref sig .scVector)] at key
  exact key
theorem ld_b6 {α : Type} {Q : α → sProp 𝕄} {idxs : Fin S16.rank → IVec S16 32} {h : ∀ a x, (idxs a x).toNat < S16.size a}
    {hl : (b6).view.Loads}
    {kk : Vec F S16 .f32 → Prog (TpuEff nD τ sig (Elt F) Λ₀ (.scVector (cV L) (jV L))) α} {f : Vec F S16 .f32} :
    ((b6).view.loc (V d (cV L) (jV L)) ↦{fullShare} f : sProp 𝕄)
      ⊢ iprop((((b6).view.loc (V d (cV L) (jV L)) ↦{fullShare} f) -∗ wpT (kk (loadIdx f idxs h)) Q)
        -∗ wpT (SparseCore.vectorLoadIdx b6 idxs h hl >>= kk) Q) := by
  have key := SparseCore.wp_vectorLoadIdx (defs := defs₀ (F := F)) 𝒱₀ (V d (cV L) (jV L)) none Set.univ (Q := Q) (base := b6) (idxs := idxs) (h := h) (hl := hl) (k := kk) (f := f) (q := fullShare) (S := Finset.univ) (Finset.subset_univ _)
  rw [Memref.read_access_whole (Elt F) (cc0_scratch6 : Ref sig .scVector)] at key
  exact key
theorem st_b7 {α : Type} {Q : α → sProp 𝕄} {idxs : Fin S16.rank → IVec S16 32} {w : Vec F S16 .i32} {mask : IVec S16 1} {add : Bool} {h : ∀ a x, (idxs a x).toNat < S16.size a}
    {hs : ((b7).access (.whole S16)).Stores Finset.univ}
    {kk : PUnit → Prog (TpuEff nD τ sig (Elt F) Λ₀ (.scVector (cV L) (jV L))) α} {f : Vec F S16 .i32} :
    ((b7).view.loc (V d (cV L) (jV L)) ↦{fullShare} f : sProp 𝕄)
      ⊢ iprop((((b7).view.loc (V d (cV L) (jV L)) ↦{fullShare} (storeIdx f idxs w mask add h : Vec F S16 .i32)) -∗ wpT (kk ⟨⟩) Q)
        -∗ wpT (SparseCore.vectorStoreIdx b7 idxs w mask add h hs >>= kk) Q) := by
  have key := SparseCore.wp_vectorStoreIdx (defs := defs₀ (F := F)) 𝒱₀ (V d (cV L) (jV L)) none Set.univ (Q := Q) (base := b7) (idxs := idxs) (v := w) (mask := mask) (add := add) (h := h) (hs := hs) (k := kk) (f := f)
  rw [Memref.set_access_whole (cc0_scratch7 : Ref sig .scVector), Memref.write_access_whole_univ (Elt F) (cc0_scratch7 : Ref sig .scVector), Memref.read_access_whole (Elt F) (cc0_scratch7 : Ref sig .scVector)] at key
  exact key
theorem ld_b7 {α : Type} {Q : α → sProp 𝕄} {idxs : Fin S16.rank → IVec S16 32} {h : ∀ a x, (idxs a x).toNat < S16.size a}
    {hl : (b7).view.Loads}
    {kk : Vec F S16 .i32 → Prog (TpuEff nD τ sig (Elt F) Λ₀ (.scVector (cV L) (jV L))) α} {f : Vec F S16 .i32} :
    ((b7).view.loc (V d (cV L) (jV L)) ↦{fullShare} f : sProp 𝕄)
      ⊢ iprop((((b7).view.loc (V d (cV L) (jV L)) ↦{fullShare} f) -∗ wpT (kk (loadIdx f idxs h)) Q)
        -∗ wpT (SparseCore.vectorLoadIdx b7 idxs h hl >>= kk) Q) := by
  have key := SparseCore.wp_vectorLoadIdx (defs := defs₀ (F := F)) 𝒱₀ (V d (cV L) (jV L)) none Set.univ (Q := Q) (base := b7) (idxs := idxs) (h := h) (hl := hl) (k := kk) (f := f) (q := fullShare) (S := Finset.univ) (Finset.subset_univ _)
  rw [Memref.read_access_whole (Elt F) (cc0_scratch7 : Ref sig .scVector)] at key
  exact key
theorem st_b8 {α : Type} {Q : α → sProp 𝕄} {idxs : Fin S16.rank → IVec S16 32} {w : Vec F S16 .i32} {mask : IVec S16 1} {add : Bool} {h : ∀ a x, (idxs a x).toNat < S16.size a}
    {hs : ((b8).access (.whole S16)).Stores Finset.univ}
    {kk : PUnit → Prog (TpuEff nD τ sig (Elt F) Λ₀ (.scVector (cV L) (jV L))) α} {f : Vec F S16 .i32} :
    ((b8).view.loc (V d (cV L) (jV L)) ↦{fullShare} f : sProp 𝕄)
      ⊢ iprop((((b8).view.loc (V d (cV L) (jV L)) ↦{fullShare} (storeIdx f idxs w mask add h : Vec F S16 .i32)) -∗ wpT (kk ⟨⟩) Q)
        -∗ wpT (SparseCore.vectorStoreIdx b8 idxs w mask add h hs >>= kk) Q) := by
  have key := SparseCore.wp_vectorStoreIdx (defs := defs₀ (F := F)) 𝒱₀ (V d (cV L) (jV L)) none Set.univ (Q := Q) (base := b8) (idxs := idxs) (v := w) (mask := mask) (add := add) (h := h) (hs := hs) (k := kk) (f := f)
  rw [Memref.set_access_whole (cc0_scratch8 : Ref sig .scVector), Memref.write_access_whole_univ (Elt F) (cc0_scratch8 : Ref sig .scVector), Memref.read_access_whole (Elt F) (cc0_scratch8 : Ref sig .scVector)] at key
  exact key
theorem ld_b8 {α : Type} {Q : α → sProp 𝕄} {idxs : Fin S16.rank → IVec S16 32} {h : ∀ a x, (idxs a x).toNat < S16.size a}
    {hl : (b8).view.Loads}
    {kk : Vec F S16 .i32 → Prog (TpuEff nD τ sig (Elt F) Λ₀ (.scVector (cV L) (jV L))) α} {f : Vec F S16 .i32} :
    ((b8).view.loc (V d (cV L) (jV L)) ↦{fullShare} f : sProp 𝕄)
      ⊢ iprop((((b8).view.loc (V d (cV L) (jV L)) ↦{fullShare} f) -∗ wpT (kk (loadIdx f idxs h)) Q)
        -∗ wpT (SparseCore.vectorLoadIdx b8 idxs h hl >>= kk) Q) := by
  have key := SparseCore.wp_vectorLoadIdx (defs := defs₀ (F := F)) 𝒱₀ (V d (cV L) (jV L)) none Set.univ (Q := Q) (base := b8) (idxs := idxs) (h := h) (hl := hl) (k := kk) (f := f) (q := fullShare) (S := Finset.univ) (Finset.subset_univ _)
  rw [Memref.read_access_whole (Elt F) (cc0_scratch8 : Ref sig .scVector)] at key
  exact key

/-! ## One trip of a ranking loop -/

/-- A trip of a loop that ranks a scratch's lanes by another's. -/
def invIF (key : Vec F S16 .i32) (val : Vec F S16 .f32) (n : ℕ) (acc : IVec S16 32) : sProp 𝕄 :=
  iprop(((b7).view.loc (V d (cV L) (jV L)) ↦{fullShare} key) ∗ ((b6).view.loc (V d (cV L) (jV L)) ↦{fullShare} val) ∗ ⌜acc = accV (befIF (F := F) key val) n⌝)
def invII (key : Vec F S16 .i32) (val : Vec F S16 .i32) (n : ℕ) (acc : IVec S16 32) : sProp 𝕄 :=
  iprop(((b7).view.loc (V d (cV L) (jV L)) ↦{fullShare} key) ∗ ((b8).view.loc (V d (cV L) (jV L)) ↦{fullShare} val) ∗ ⌜acc = accV (befII key val) n⌝)
def invFI (key : Vec F S16 .f32) (val : Vec F S16 .i32) (n : ℕ) (acc : IVec S16 32) : sProp 𝕄 :=
  iprop(((b5).view.loc (V d (cV L) (jV L)) ↦{fullShare} key) ∗ ((b8).view.loc (V d (cV L) (jV L)) ↦{fullShare} val) ∗ ⌜acc = accV (befFI (F := F) key val) n⌝)

theorem trip_t2 (v2 : IVec S16 32) (c : BitVec 32) (v : Vec F S16 .f32) (m : IVec S16 1) (pc : BitVec 32) (h : k0_cond1 pc = 1#1) (k : Fin k0_t2_loop.trips) (acc : IVec S16 32) :
    invIF (F := F) d L (k0_pay2 v2 m) v k.val acc
      ⊢ wpT (k0_t2_body L xV (Memref.isWhole_whole _) tkV (Memref.isWhole_whole _) kkV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 v2 c v m pc h k acc)
          fun acc' => invIF (F := F) d L (k0_pay2 v2 m) v (k.val + 1) acc' := by
  unfold invIF
  iintro ⟨H1, H2, %ha⟩
  sl_unfold [k0_t2_body]
  sl_open_parts
  have hk : k.val < 16 := lt_of_lt_of_eq k.isLt (by decide)
  have a1 : k0_chk1 pc (k0_pay4 k) := by intro _ a x; rw [Fin.eq_zero a]; exact lt_of_eq_of_lt (congrArg BitVec.toNat (congrFun (pay_ix_eq k.val) x)) (by rw [BitVec.toNat_ofNat, Nat.mod_eq_of_lt (by omega)]; exact hk)
  have a2 : k0_chk2 pc (k0_pay5 k) := by intro _ a x; rw [Fin.eq_zero a]; exact lt_of_eq_of_lt (congrArg BitVec.toNat (congrFun (pay_ix_eq k.val) x)) (by rw [BitVec.toNat_ofNat, Nat.mod_eq_of_lt (by omega)]; exact hk)
  rw [wp_bind]
  sl_exec
  iapply (ld_b7 d L) $$ H1
  iintro H1
  sl_exec
  iapply (ld_b6 d L) $$ H2
  iintro H2
  sl_unfold_words
  sl_step
  iframe H1 H2
  ipureintro
  subst ha
  have e1 := pay_ix_eq k.val
  exact (congrArg₂ (fun p q => k0_pay6 v2 v m k _ p q) (load_one (F := F) (e := .i32) (k0_pay2 v2 m) ⟨k.val, hk⟩ _ e1 _) (load_one (F := F) (e := .f32) v ⟨k.val, hk⟩ _ e1 _)).trans (pay6_step v2 m v k ⟨k.val, hk⟩ rfl)

theorem trip_t3 (v2 : IVec S16 32) (c : BitVec 32) (v : Vec F S16 .f32) (m : IVec S16 1) (pc : BitVec 32) (h : k0_cond1 pc = 1#1) (k : Fin k0_t3_loop.trips) (acc : IVec S16 32) :
    invII (F := F) d L (k0_pay2 v2 m) (k0_pay10 v2 c) k.val acc
      ⊢ wpT (k0_t3_body L xV (Memref.isWhole_whole _) tkV (Memref.isWhole_whole _) kkV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 v2 c v m pc h k acc)
          fun acc' => invII (F := F) d L (k0_pay2 v2 m) (k0_pay10 v2 c) (k.val + 1) acc' := by
  unfold invII
  iintro ⟨H1, H2, %ha⟩
  sl_unfold [k0_t3_body]
  sl_open_parts
  have hk : k.val < 16 := lt_of_lt_of_eq k.isLt (by decide)
  have a1 : k0_chk4 pc (k0_pay12 k) := by intro _ a x; rw [Fin.eq_zero a]; exact lt_of_eq_of_lt (congrArg BitVec.toNat (congrFun (pay_ix_eq k.val) x)) (by rw [BitVec.toNat_ofNat, Nat.mod_eq_of_lt (by omega)]; exact hk)
  have a2 : k0_chk5 pc (k0_pay13 k) := by intro _ a x; rw [Fin.eq_zero a]; exact lt_of_eq_of_lt (congrArg BitVec.toNat (congrFun (pay_ix_eq k.val) x)) (by rw [BitVec.toNat_ofNat, Nat.mod_eq_of_lt (by omega)]; exact hk)
  rw [wp_bind]
  sl_exec
  iapply (ld_b7 d L) $$ H1
  iintro H1
  sl_exec
  iapply (ld_b8 d L) $$ H2
  iintro H2
  sl_unfold_words
  sl_step
  iframe H1 H2
  ipureintro
  subst ha
  have e1 := pay_ix_eq k.val
  exact (congrArg₂ (fun p q => k0_pay14 (F := F) v2 c m k _ p q) (load_one (F := F) (e := .i32) (k0_pay2 v2 m) ⟨k.val, hk⟩ _ e1 _) (load_one (F := F) (e := .i32) (k0_pay10 v2 c) ⟨k.val, hk⟩ _ e1 _)).trans (pay14_step (F := F) v2 c m k ⟨k.val, hk⟩ rfl)

theorem trip_t5 (v7 : BitVec 32) (h8 : k0_chk8 v7) (c0 c1 : BitVec 32) (k4 : Fin (k0_t4_loop v7).trips) (key : Vec F S16 .f32) (val : IVec S16 32) (k : Fin k0_t5_loop.trips) (acc : IVec S16 32) :
    invFI (F := F) d L key val k.val acc
      ⊢ wpT (k0_t5_body L xV (Memref.isWhole_whole _) tkV (Memref.isWhole_whole _) kkV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 v7 h8 c0 c1 k4 key val k acc)
          fun acc' => invFI (F := F) d L key val (k.val + 1) acc' := by
  unfold invFI
  iintro ⟨H1, H2, %ha⟩
  sl_unfold [k0_t5_body]
  sl_open_parts
  have hk : k.val < 16 := lt_of_lt_of_eq k.isLt (by decide)
  have a1 : k0_chk9 (k0_pay17 k) := by intro a x; rw [Fin.eq_zero a]; exact lt_of_eq_of_lt (congrArg BitVec.toNat (congrFun (pay_ix_eq k.val) x)) (by rw [BitVec.toNat_ofNat, Nat.mod_eq_of_lt (by omega)]; exact hk)
  have a2 : k0_chk10 (k0_pay18 k) := by intro a x; rw [Fin.eq_zero a]; exact lt_of_eq_of_lt (congrArg BitVec.toNat (congrFun (pay_ix_eq k.val) x)) (by rw [BitVec.toNat_ofNat, Nat.mod_eq_of_lt (by omega)]; exact hk)
  rw [wp_bind]
  sl_exec
  iapply (ld_b5 d L) $$ H1
  iintro H1
  sl_exec
  iapply (ld_b8 d L) $$ H2
  iintro H2
  sl_unfold_words
  sl_step
  iframe H1 H2
  ipureintro
  subst ha
  have e1 := pay_ix_eq k.val
  exact (congrArg₂ (fun p q => k0_pay19 (F := F) key val k _ p q) (load_one (F := F) (e := .f32) key ⟨k.val, hk⟩ _ e1 _) (load_one (F := F) (e := .i32) val ⟨k.val, hk⟩ _ e1 _)).trans (pay19_step (F := F) key val k ⟨k.val, hk⟩ rfl)

theorem trip_t11 (v2 : IVec S16 32) (v7 : BitVec 32) (h2 : k0_cond2 v7 = 1#1) (key : Vec F S16 .f32) (val : IVec S16 32) (k : Fin k0_t11_loop.trips) (acc : IVec S16 32) :
    invFI (F := F) d L key val k.val acc
      ⊢ wpT (k0_t11_body L xV (Memref.isWhole_whole _) tkV (Memref.isWhole_whole _) kkV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 v2 v7 h2 key val k acc)
          fun acc' => invFI (F := F) d L key val (k.val + 1) acc' := by
  unfold invFI
  iintro ⟨H1, H2, %ha⟩
  sl_unfold [k0_t11_body]
  sl_open_parts
  have hk : k.val < 16 := lt_of_lt_of_eq k.isLt (by decide)
  have a1 : k0_chk25 v7 (k0_pay41 k) := by intro _ a x; rw [Fin.eq_zero a]; exact lt_of_eq_of_lt (congrArg BitVec.toNat (congrFun (pay_ix_eq k.val) x)) (by rw [BitVec.toNat_ofNat, Nat.mod_eq_of_lt (by omega)]; exact hk)
  have a2 : k0_chk26 v7 (k0_pay42 k) := by intro _ a x; rw [Fin.eq_zero a]; exact lt_of_eq_of_lt (congrArg BitVec.toNat (congrFun (pay_ix_eq k.val) x)) (by rw [BitVec.toNat_ofNat, Nat.mod_eq_of_lt (by omega)]; exact hk)
  rw [wp_bind]
  sl_exec
  iapply (ld_b5 d L) $$ H1
  iintro H1
  sl_exec
  iapply (ld_b8 d L) $$ H2
  iintro H2
  sl_unfold_words
  sl_step
  iframe H1 H2
  ipureintro
  subst ha
  have e1 := pay_ix_eq k.val
  exact (congrArg₂ (fun p q => k0_pay19 (F := F) key val k _ p q) (load_one (F := F) (e := .f32) key ⟨k.val, hk⟩ _ e1 _) (load_one (F := F) (e := .i32) val ⟨k.val, hk⟩ _ e1 _)).trans (pay19_step (F := F) key val k ⟨k.val, hk⟩ rfl)

theorem trip_t12 (v2 v3 : IVec S16 32) (v7 : BitVec 32) (h8 : k0_chk8 v7) (v14 v15 c16 v20 v22 : BitVec 32) (v23 : BitVec 1) (h2 : k0_cond2 v7 = 1#1) (key : IVec S16 32) (k : Fin k0_t12_loop.trips) (acc : IVec S16 32) :
    invII (F := F) d L key key k.val acc
      ⊢ wpT (k0_t12_body L xV (Memref.isWhole_whole _) tkV (Memref.isWhole_whole _) kkV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 v2 v3 v7 h8 v14 c16 v15 v20 v22 v23 h2 key lanes k0_pay48 k acc)
          fun acc' => invII (F := F) d L key key (k.val + 1) acc' := by
  unfold invII
  iintro ⟨H1, H2, %ha⟩
  sl_unfold [k0_t12_body]
  sl_open_parts
  have hk : k.val < 16 := lt_of_lt_of_eq k.isLt (by decide)
  have a1 : k0_chk28 v7 (k0_pay125 k0_pay48 k) := by intro _ a x; rw [Fin.eq_zero a]; exact lt_of_eq_of_lt (congrArg BitVec.toNat (congrFun (pay_ix_eq k.val) x)) (by rw [BitVec.toNat_ofNat, Nat.mod_eq_of_lt (by omega)]; exact hk)
  have a2 : k0_chk29 v7 (k0_pay126 k0_pay48 k) := by intro _ a x; rw [Fin.eq_zero a]; exact lt_of_eq_of_lt (congrArg BitVec.toNat (congrFun (pay_ix_eq k.val) x)) (by rw [BitVec.toNat_ofNat, Nat.mod_eq_of_lt (by omega)]; exact hk)
  rw [wp_bind]
  sl_exec
  iapply (ld_b7 d L) $$ H1
  iintro H1
  sl_exec
  iapply (ld_b8 d L) $$ H2
  iintro H2
  sl_unfold_words
  sl_step
  iframe H1 H2
  ipureintro
  subst ha
  have e1 := pay_ix_eq k.val
  exact (congrArg₂ (fun p q => k0_pay127 (F := F) key lanes k _ p q) (load_one (F := F) (e := .i32) key ⟨k.val, hk⟩ _ e1 _) (load_one (F := F) (e := .i32) key ⟨k.val, hk⟩ _ e1 _)).trans (pay127_step (F := F) key k ⟨k.val, hk⟩ rfl)

end Cert.Proof.Pick
end
-- ==== Proof.Choose.Count.lean ====
module

public import proofs.«01_k».proof.Proof.Choose.Sort
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Pick

open Cert.ChooseIdeal Cert.ChooseIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.ChooseIdeal.main_arg0_scv : Memref Cert.ChooseIdeal.sig Kind.scVector Space.hbm Cert.ChooseIdeal.S64x8400 EltTy.f32)
local notation "tkV" => (Memref.whole Cert.ChooseIdeal.main_v0_0_scv : Memref Cert.ChooseIdeal.sig Kind.scVector Space.hbm Cert.ChooseIdeal.S64x16 EltTy.i32)
local notation "kkV" => (Memref.whole Cert.ChooseIdeal.main_v0_1_scv : Memref Cert.ChooseIdeal.sig Kind.scVector Space.hbm Cert.ChooseIdeal.S64x16 EltTy.i32)
local notation "b0" => (Memref.whole Cert.ChooseIdeal.cc0_scratch0 : Memref Cert.ChooseIdeal.sig Kind.scVector Space.vmem Cert.ChooseIdeal.S8400 EltTy.f32)
local notation "b1" => (Memref.whole Cert.ChooseIdeal.cc0_scratch1 : Memref Cert.ChooseIdeal.sig Kind.scVector Space.vmem Cert.ChooseIdeal.S8416 EltTy.f32)
local notation "b2" => (Memref.whole Cert.ChooseIdeal.cc0_scratch2 : Memref Cert.ChooseIdeal.sig Kind.scVector Space.vmem Cert.ChooseIdeal.S8416 EltTy.i32)
local notation "b3" => (Memref.whole Cert.ChooseIdeal.cc0_scratch3 : Memref Cert.ChooseIdeal.sig Kind.scVector Space.vmem Cert.ChooseIdeal.S16 EltTy.i32)
local notation "b4" => (Memref.whole Cert.ChooseIdeal.cc0_scratch4 : Memref Cert.ChooseIdeal.sig Kind.scVector Space.vmem Cert.ChooseIdeal.S16 EltTy.i32)
local notation "b5" => (Memref.whole Cert.ChooseIdeal.cc0_scratch5 : Memref Cert.ChooseIdeal.sig Kind.scVector Space.vmem Cert.ChooseIdeal.S16 EltTy.f32)
local notation "b6" => (Memref.whole Cert.ChooseIdeal.cc0_scratch6 : Memref Cert.ChooseIdeal.sig Kind.scVector Space.vmem Cert.ChooseIdeal.S16 EltTy.f32)
local notation "b7" => (Memref.whole Cert.ChooseIdeal.cc0_scratch7 : Memref Cert.ChooseIdeal.sig Kind.scVector Space.vmem Cert.ChooseIdeal.S16 EltTy.i32)
local notation "b8" => (Memref.whole Cert.ChooseIdeal.cc0_scratch8 : Memref Cert.ChooseIdeal.sig Kind.scVector Space.vmem Cert.ChooseIdeal.S16 EltTy.i32)

variable [FloatOps F] (d : Dev nD) (L : grid0.Coords)

/-- A weakest precondition on a task. -/
local notation "wpT" => wp frame (wpE (defs₀ (F := F)) 𝒱₀ (V d (cV L) (jV L)) none) Set.univ

/-! ## The number of candidates of a chunk -/

/-- The number of candidates of a chunk. -/
def nc (v : Vec F S16 .f32) : ℕ := (Finset.univ.filter fun l : Fin 16 => k0_pay97 v (ix1 l) = 1#1).card
omit d L in
theorem nc_le (v : Vec F S16 .f32) : nc v ≤ 16 := (Finset.card_le_univ _).trans (by simp)

omit d L in
theorem scan_last (u : IVec S16 32) : scan .sum u (ix1 15)
    = ((List.finRange 16).filter fun k => decide (0 < k.val ∧ k.val ≤ 15)).foldl (fun r k => IntOp.addi r (u (ix1 k))) (u (ix1 0)) := by
  have ho : ∀ k : Fin 16, (Shape.ofLane (d := ![16]) k : S16.Idx) = ix1 k := by intro k; funext a; rw [Fin.eq_zero a]; rfl
  unfold scan
  refine congrArg₂ (fun (g : BitVec 32 → Fin 16 → BitVec 32) (z : BitVec 32) => ((List.finRange 16).filter fun k => decide (0 < k.val ∧ k.val ≤ 15)).foldl g z) ?_ (congrArg u (ho 0))
  funext r k
  exact congrArg (IntOp.addi r) (congrArg u (ho k))

omit d L in
theorem pcW_eq (v : Vec F S16 .f32) : pcW v = BitVec.ofNat 32 (nc v) := by
  have key : ∀ c : Fin 16 → BitVec 1,
      ((List.finRange 16).filter fun k => decide (0 < k.val ∧ k.val ≤ 15)).foldl (fun r k => IntOp.addi r (Scalar.select (c k) 1#32 0#32)) (Scalar.select (c 0) 1#32 0#32)
        = BitVec.ofNat 32 (Finset.univ.filter fun l : Fin 16 => c l = 1#1).card := by
    intro c
    have hs : ∀ b : BitVec 1, (Scalar.select b 1#32 0#32 : BitVec 32) = BitVec.ofNat 32 (if b = 1#1 then 1 else 0) := by
      intro b; show (if b = 1#1 then _ else _) = _; split <;> rfl
    have ha : ∀ a b : ℕ, IntOp.addi (BitVec.ofNat 32 a) (BitVec.ofNat 32 b) = BitVec.ofNat 32 (a + b) := by
      intro a b; apply BitVec.eq_of_toNat_eq; simp [IntOp.addi]
    have hf : ∀ (L : List (Fin 16)) (a : ℕ), L.foldl (fun r k => IntOp.addi r (Scalar.select (c k) 1#32 0#32)) (BitVec.ofNat 32 a)
        = BitVec.ofNat 32 (a + (L.map fun k => if c k = 1#1 then 1 else 0).sum) := by
      intro L
      induction L with
      | nil => intro a; rfl
      | cons k L ih => intro a; rw [List.foldl_cons, hs, ha, ih, List.map_cons, List.sum_cons, Nat.add_assoc]
    have hl : List.finRange 16 = 0 :: ((List.finRange 16).filter fun k => decide (0 < k.val ∧ k.val ≤ 15)) := by decide
    rw [hs (c 0), hf, Finset.card_filter, Fin.sum_univ_def, hl, List.map_cons, List.sum_cons, ← hl]
  have e : pcW v = scan .sum (select (k0_pay97 v) (broadcast S16 1#32) (broadcast S16 0#32)) (ix1 15) := by
    unfold pcW extractAt k0_pay98
    show scan .sum _ _ = _
    congr 1
    funext a; rw [Fin.eq_zero a]; rfl
  rw [e, scan_last]
  exact key fun l => k0_pay97 v (ix1 l)

omit d L in
theorem cond1_iff (n : ℕ) (hn : n ≤ 16) : k0_cond1 (BitVec.ofNat 32 n) = 1#1 ↔ 0 < n := by
  interval_cases n <;> decide

omit d L in
theorem st_off (x : Vec F S8400 .f32) (g6 : Vec F S8416 .f32) (g7 : Vec F S8416 .i32) (n : ℕ) (hn : n ≤ 525) : (st x g6 g7 n).off.toNat ≤ 16 * n := by
  induction n with
  | zero => exact Nat.le_refl 0
  | succ n ih =>
    have h := ih (by omega)
    show ((st x g6 g7 n).step (chunk x n) n).off.toNat ≤ _
    unfold St.step
    have hp := nc_le (chunk x n)
    split
    · rw [pcW_eq]
      show (_ + _ : BitVec 32).toNat ≤ _
      rw [BitVec.toNat_add, BitVec.toNat_ofNat]
      omega
    · omega

/-! ## The first phase's trip -/

omit d L in
theorem put_eq {e : EltTy} {N : ℕ} {κ : Kind} {sp : Space} (v : View sig κ sp ⟨1, ![N]⟩ e) (f : v.ty.Contents (Elt F)) (off : Fin 1 → ℕ) (inb : ∀ a, off a + S16.size a ≤ (⟨1, ![N]⟩ : Shape).size a)
    (w : Vec F S16 e) (o : ℕ) (ho : off = ![o]) :
    v.read (Elt F) (v.writes (Elt F) f [⟨Rect.unit (s := ⟨1, ![N]⟩) off S16.size inb, w⟩]) = put (F := F) (v.read (Elt F) f) o w := by
  funext i
  obtain ⟨q, rfl⟩ := ex1 i
  subst ho
  unfold put
  by_cases h : o ≤ q.val ∧ q.val < o + 16
  · refine Eq.trans ?_ (dif_pos (c := o ≤ ((ix1 q : (⟨1, ![N]⟩ : Shape).Idx) 0).val ∧ ((ix1 q : (⟨1, ![N]⟩ : Shape).Idx) 0).val < o + 16) h).symm
    exact View.read_writes_cons_unit_of_mem v f inb w [] (ix1 q) (ix1 (⟨q.val - o, by omega⟩ : Fin 16)) rfl fun a => by
      match a with
      | 0 => show q.val = o + (q.val - o); omega
  · refine Eq.trans ?_ (dif_neg (c := o ≤ ((ix1 q : (⟨1, ![N]⟩ : Shape).Idx) 0).val ∧ ((ix1 q : (⟨1, ![N]⟩ : Shape).Idx) 0).val < o + 16) h).symm
    exact View.read_writes_cons_unit_of_not_mem v f inb w [] (ix1 q) rfl 0 (show q.val < o ∨ o + 16 ≤ q.val by omega)

omit d L in
theorem get_eq {e : EltTy} {N : ℕ} {κ : Kind} {sp : Space} (v : View sig κ sp ⟨1, ![N]⟩ e) (f : v.ty.Contents (Elt F)) (off : Fin 1 → ℕ) (inb : ∀ a, off a + S16.size a ≤ (⟨1, ![N]⟩ : Shape).size a)
    (o : ℕ) (ho : off = ![o]) (l : Fin 16) (q : Fin N) (hq : q.val = o + l.val) :
    (v.readAt (Elt F) (Rect.unit (s := ⟨1, ![N]⟩) off S16.size inb).toLoadRect f : Vec F S16 e) (ix1 l) = v.read (Elt F) f (ix1 q) := by
  subst ho
  show v.read (Elt F) f _ = _
  congr 1
  funext a
  apply Fin.ext
  match a with
  | 0 => show o + 1 * l.val = q.val; omega

omit d L in
theorem put16 {e : EltTy} (f w : Vec F S16 e) : put (F := F) (N := 16) f 0 w = w := by
  funext i
  obtain ⟨q, rfl⟩ := ex1 i
  unfold put
  rw [dif_pos (show 0 ≤ ((ix1 q : S16.Idx) 0).val ∧ ((ix1 q : S16.Idx) 0).val < 0 + 16 from ⟨Nat.zero_le _, by have := q.isLt; show q.val < 0 + 16; omega⟩)]
  rfl

omit d L in
/-- A store over all of a sixteen-word scratch. -/
theorem fill {e : EltTy} {κ : Kind} {sp : Space} (v : View sig κ sp S16 e) (f : v.ty.Contents (Elt F)) (inb : ∀ a, (![0] : Fin 1 → ℕ) a + S16.size a ≤ S16.size a) (w : Vec F S16 e) :
    v.read (Elt F) (v.writes (Elt F) f [⟨Rect.unit (s := S16) ![0] S16.size inb, w⟩]) = w :=
  (put_eq v f ![0] inb w 0 rfl).trans (put16 _ _)
omit d L in
/-- A load of all of it. -/
theorem all16 {e : EltTy} {κ : Kind} {sp : Space} (v : View sig κ sp S16 e) (f : v.ty.Contents (Elt F)) (inb : ∀ a, (![0] : Fin 1 → ℕ) a + S16.size a ≤ S16.size a) :
    (v.readAt (Elt F) (Rect.unit (s := S16) ![0] S16.size inb).toLoadRect f : Vec F S16 e) = v.read (Elt F) f := by
  funext i
  obtain ⟨q, rfl⟩ := ex1 i
  exact get_eq v f ![0] inb 0 rfl q q (by omega)

omit d L in
theorem trips525 : k0_t1_loop.trips = 525 := by decide

omit d L in
theorem chunk_eq (x : Vec F S8400 .f32) (k : Fin k0_t1_loop.trips) :
    ((b0).view.readAt (Elt F) (Rect.unit (s := S8400) (k0_off2 k) S16.size (k0_off2_inb k)).toLoadRect x : Vec F S16 .f32) = chunk x k.val := by
  have hk : k.val < 525 := lt_of_lt_of_eq k.isLt trips525
  funext i
  obtain ⟨l, rfl⟩ := ex1 i
  rw [get_eq (b0).view x (k0_off2 k) (k0_off2_inb k) (16 * k.val) (k0_off2_eq k) l ⟨16 * k.val + l.val, by omega⟩ rfl]
  unfold chunk
  rw [dif_pos (show 16 * k.val + ((ix1 l : S16.Idx) 0).val < 8400 by show 16 * k.val + l.val < 8400; omega)]
  rfl

end Cert.Proof.Pick
end
-- ==== Proof.Choose.Phase1.lean ====
module

public import proofs.«01_k».proof.Proof.Choose.Count
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Pick

open Cert.ChooseIdeal Cert.ChooseIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.ChooseIdeal.main_arg0_scv : Memref Cert.ChooseIdeal.sig Kind.scVector Space.hbm Cert.ChooseIdeal.S64x8400 EltTy.f32)
local notation "tkV" => (Memref.whole Cert.ChooseIdeal.main_v0_0_scv : Memref Cert.ChooseIdeal.sig Kind.scVector Space.hbm Cert.ChooseIdeal.S64x16 EltTy.i32)
local notation "kkV" => (Memref.whole Cert.ChooseIdeal.main_v0_1_scv : Memref Cert.ChooseIdeal.sig Kind.scVector Space.hbm Cert.ChooseIdeal.S64x16 EltTy.i32)
local notation "b0" => (Memref.whole Cert.ChooseIdeal.cc0_scratch0 : Memref Cert.ChooseIdeal.sig Kind.scVector Space.vmem Cert.ChooseIdeal.S8400 EltTy.f32)
local notation "b1" => (Memref.whole Cert.ChooseIdeal.cc0_scratch1 : Memref Cert.ChooseIdeal.sig Kind.scVector Space.vmem Cert.ChooseIdeal.S8416 EltTy.f32)
local notation "b2" => (Memref.whole Cert.ChooseIdeal.cc0_scratch2 : Memref Cert.ChooseIdeal.sig Kind.scVector Space.vmem Cert.ChooseIdeal.S8416 EltTy.i32)
local notation "b3" => (Memref.whole Cert.ChooseIdeal.cc0_scratch3 : Memref Cert.ChooseIdeal.sig Kind.scVector Space.vmem Cert.ChooseIdeal.S16 EltTy.i32)
local notation "b4" => (Memref.whole Cert.ChooseIdeal.cc0_scratch4 : Memref Cert.ChooseIdeal.sig Kind.scVector Space.vmem Cert.ChooseIdeal.S16 EltTy.i32)
local notation "b5" => (Memref.whole Cert.ChooseIdeal.cc0_scratch5 : Memref Cert.ChooseIdeal.sig Kind.scVector Space.vmem Cert.ChooseIdeal.S16 EltTy.f32)
local notation "b6" => (Memref.whole Cert.ChooseIdeal.cc0_scratch6 : Memref Cert.ChooseIdeal.sig Kind.scVector Space.vmem Cert.ChooseIdeal.S16 EltTy.f32)
local notation "b7" => (Memref.whole Cert.ChooseIdeal.cc0_scratch7 : Memref Cert.ChooseIdeal.sig Kind.scVector Space.vmem Cert.ChooseIdeal.S16 EltTy.i32)
local notation "b8" => (Memref.whole Cert.ChooseIdeal.cc0_scratch8 : Memref Cert.ChooseIdeal.sig Kind.scVector Space.vmem Cert.ChooseIdeal.S16 EltTy.i32)

variable [FloatOps F] (d : Dev nD) (L : grid0.Coords)

local notation "wpT" => wp frame (wpE (defs₀ (F := F)) 𝒱₀ (V d (cV L) (jV L)) none) Set.univ

/-- Stores over whole scratches, as the run writes them. -/
theorem fil5 (f w : Vec F S16 .f32) : (b5).view.writes (Elt F) f [⟨Rect.unit (s := S16) ![0] S16.size inb_S16_S16_0, w⟩] = w := fill (b5).view f _ w
theorem fil6 (f w : Vec F S16 .f32) : (b6).view.writes (Elt F) f [⟨Rect.unit (s := S16) ![0] S16.size inb_S16_S16_0, w⟩] = w := fill (b6).view f _ w
theorem fil7 (f w : Vec F S16 .i32) : (b7).view.writes (Elt F) f [⟨Rect.unit (s := S16) ![0] S16.size inb_S16_S16_0, w⟩] = w := fill (b7).view f _ w
theorem fil8 (f w : Vec F S16 .i32) : (b8).view.writes (Elt F) f [⟨Rect.unit (s := S16) ![0] S16.size inb_S16_S16_0, w⟩] = w := fill (b8).view f _ w

theorem bounded {b : Bef} {a : IVec S16 32} (h : a = accV b 16) : ∀ (c : Fin 1) (x : S16.Idx), ((![k0_pay20 a] : Fin 1 → IVec S16 32) c x).toNat < S16.size c := by
  subst h; exact rkV_ok b

def inv1 (x : Vec F S8400 .f32) (g6 : Vec F S8416 .f32) (g7 : Vec F S8416 .i32) (n : ℕ) (off : BitVec 32) : sProp 𝕄 :=
  iprop(((b0).view.loc (V d (cV L) (jV L)) ↦{fullShare} x) ∗ ((b1).view.loc (V d (cV L) (jV L)) ↦{fullShare} (st x g6 g7 n).ck)
    ∗ ((b2).view.loc (V d (cV L) (jV L)) ↦{fullShare} (st x g6 g7 n).ci) ∗ (∃ f, (b6).view.loc (V d (cV L) (jV L)) ↦{fullShare} f)
    ∗ (∃ f, (b7).view.loc (V d (cV L) (jV L)) ↦{fullShare} f) ∗ (∃ f, (b8).view.loc (V d (cV L) (jV L)) ↦{fullShare} f) ∗ ⌜off = (st x g6 g7 n).off⌝)

set_option maxHeartbeats 8000000 in
theorem trip_t1 (x : Vec F S8400 .f32) (g6 : Vec F S8416 .f32) (g7 : Vec F S8416 .i32) (k : Fin k0_t1_loop.trips) (acc : BitVec 32) :
    inv1 d L x g6 g7 k.val acc
      ⊢ wpT (k0_t1_body L xV (Memref.isWhole_whole _) tkV (Memref.isWhole_whole _) kkV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 lanes k acc)
          fun acc' => inv1 d L x g6 g7 (k.val + 1) acc' := by
  unfold inv1
  have hk : k.val < 525 := lt_of_lt_of_eq k.isLt trips525
  have ho := st_off x g6 g7 k.val (by omega)
  rw [show st x g6 g7 (k.val + 1) = (st x g6 g7 k.val).step (chunk x k.val) k.val from rfl]
  generalize st x g6 g7 k.val = s at ho ⊢
  have ec := chunk_eq x k
  have a7 : k0_chk7 s.off (extractAt ![0] (k0_pay98 (chunk x k.val)) inpos_S1_p0) := by
    intro _ a
    rw [Fin.eq_zero a]
    show s.off.toNat + 16 ≤ 8416
    omega
  iintro ⟨H0, H1, H2, ⟨%f6, H6⟩, ⟨%f7, H7⟩, ⟨%f8, H8⟩, %ha⟩
  subst ha
  sl_unfold [k0_t1_body]
  sl_open_parts
  sl_exec
  by_cases h1 : k0_cond1 (extractAt ![0] (k0_pay98 (chunk x k.val)) inpos_S1_p0) = 1#1
  · beta_reduce
    rw [dif_pos h1]
    sl_exec
    sl_unfold_words
    rw [fil6, fil7]
    rw [wp_bind]
    sl_for (invIF (F := F) d L (keyW (chunk x k.val)) (chunk x k.val)) $$ [H6 H7]
    case region =>
      intro k' a
      exact trip_t2 d L _ _ _ _ _ h1 k' a
    · unfold invIF
      isplitl [H7]
      · iexact H7
      isplitl [H6]
      · iexact H6
      · ipureintro; rfl
    unfold invIF
    iintro %v136 ⟨H7, H6, %e136⟩
    rw [show Scf.trips k0_t2_loop.lb k0_t2_loop.ub k0_t2_loop.st = 16 from trips16] at e136
    have a3 : k0_chk3 (extractAt ![0] (k0_pay98 (chunk x k.val)) inpos_S1_p0) (k0_pay7 v136) := ⟨fun _ => bounded e136, fun _ => bounded e136⟩
    sl_exec
    iapply (st_b7 d L) $$ H7
    iintro H7
    iapply (st_b6 d L) $$ H6
    iintro H6
    sl_exec
    sl_unfold_words
    rw [fil6, fil7, fil8]
    sl_for (invII (F := F) d L (keyW (chunk x k.val)) (k0_pay10 lanes (Scf.iv 0#32 1#32 k.val))) $$ [H7 H8]
    case region =>
      intro k' a
      exact trip_t3 d L _ _ _ _ _ h1 k' a
    · unfold invII
      isplitl [H7]
      · iexact H7
      isplitl [H8]
      · iexact H8
      · ipureintro; rfl
    unfold invII
    iintro %v153 ⟨H7, H8, %e153⟩
    rw [show Scf.trips k0_t3_loop.lb k0_t3_loop.ub k0_t3_loop.st = 16 from trips16] at e153
    have a6 : k0_chk6 (extractAt ![0] (k0_pay98 (chunk x k.val)) inpos_S1_p0) (minsi v153 k0_pay15) := ⟨fun _ => bounded e153, fun _ => bounded e153⟩
    sl_exec
    iapply (st_b7 d L) $$ H7
    iintro H7
    iapply (st_b8 d L) $$ H8
    iintro H8
    sl_exec
    sl_unfold_words
    rw [fil7, fil8]
    sl_step
    subst e136 e153
    have w1 : (b1).view.writes (Elt F) s.ck [⟨Rect.unit (s := S8416) (k0_off3 s.off) S16.size (k0_off3_inb s.off _ a7 h1), View.readAt (Elt F) (b6).view (Rect.unit (s := S16) ![0] S16.size inb_S16_S16_0).toLoadRect (cvs (chunk x k.val))⟩]
        = put s.ck s.off.toNat (cvs (chunk x k.val)) :=
      (put_eq (b1).view s.ck _ _ _ s.off.toNat rfl).trans (congrArg (put s.ck s.off.toNat) (all16 (b6).view (cvs (chunk x k.val)) _))
    have w2 : (b2).view.writes (Elt F) s.ci [⟨Rect.unit (s := S8416) (k0_off3 s.off) S16.size (k0_off3_inb s.off _ a7 h1), View.readAt (Elt F) (b8).view (Rect.unit (s := S16) ![0] S16.size inb_S16_S16_0).toLoadRect (cis (F := F) (chunk x k.val) k.val)⟩]
        = put (F := F) (e := .i32) s.ci s.off.toNat (cis (chunk x k.val) k.val) :=
      (put_eq (b2).view s.ci _ _ _ s.off.toNat rfl).trans (congrArg (put (F := F) (e := .i32) s.ci s.off.toNat) (all16 (b8).view (cis (F := F) (chunk x k.val) k.val) _))
    have hc : cis (F := F) (chunk x k.val) k.val = srt (F := F) (e := .i32) (befII (keyW (chunk x k.val)) (k0_pay10 lanes (Scf.iv 0#32 1#32 k.val))) k0_pay100 (k0_pay10 lanes (Scf.iv 0#32 1#32 k.val)) := by
      rw [iv_eq]; rfl
    unfold St.step
    rw [if_pos (show k0_cond1 (pcW (chunk x k.val)) = 1#1 from h1)]
    rw [← w1, ← w2, hc]
    isplitl [H0]
    · iexact H0
    isplitl [H1]
    · iexact H1
    isplitl [H2]
    · iexact H2
    isplitl [H6]
    · iexists _; iexact H6
    isplitl [H7]
    · iexists _; iexact H7
    isplitl [H8]
    · iexists _; iexact H8
    ipureintro
    rfl
  · beta_reduce
    rw [dif_neg h1]
    sl_exec
    sl_step
    unfold St.step
    rw [if_neg (show ¬ k0_cond1 (pcW (chunk x k.val)) = 1#1 from h1)]
    iframe H0 H1 H2
    isplitl [H6]
    · iexists f6; iexact H6
    isplitl [H7]
    · iexists f7; iexact H7
    isplitl [H8]
    · iexists f8; iexact H8
    ipureintro
    rfl

end Cert.Proof.Pick
end
-- ==== Proof.Choose.Words.lean ====
module

public import proofs.«01_k».proof.Proof.Choose.Count
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Pick

open Cert.ChooseIdeal Cert.ChooseIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The second phase's bounds -/

def wordsOK (n : ℕ) : Bool :=
  decide ((k0_t4_loop (BitVec.ofNat 32 n)).trips = (n + 15) / 16 ∧ (k0_t7_loop (BitVec.ofNat 32 n)).trips = 0
    ∧ (k0_t4_loop (BitVec.ofNat 32 n)).OK ∧ (k0_t7_loop (BitVec.ofNat 32 n)).OK)
theorem words_all : ∀ n : Fin 8401, wordsOK n.val = true := by decide +kernel
theorem words (v : BitVec 32) (h : v.toNat ≤ 8400) : (k0_t4_loop v).trips = (v.toNat + 15) / 16 ∧ (k0_t7_loop v).trips = 0
    ∧ (k0_t4_loop v).OK ∧ (k0_t7_loop v).OK := by
  have := of_decide_eq_true (words_all ⟨v.toNat, by omega⟩)
  rwa [show BitVec.ofNat 32 v.toNat = v by simp] at this

theorem off5_eq (v : BitVec 32) (k : Fin (k0_t4_loop v).trips) (hk : k.val < 1000) : k0_off5 v k = ![16 * k.val] := by
  unfold k0_off5
  funext a
  rw [Fin.eq_zero a]
  show (Scalar.indexCast (Scalar.muli (Scf.iv 0#32 1#32 k) 16#32) : Index).toNat = 16 * k.val
  rw [iv_eq]
  show (BitVec.ofNat 32 k.val * 16#32 : BitVec 32).toNat = 16 * k.val
  rw [BitVec.toNat_mul, BitVec.toNat_ofNat, BitVec.toNat_ofNat]
  omega

theorem chk8_ok (v : BitVec 32) (h : v.toNat ≤ 8400) : k0_chk8 v := by
  obtain ⟨h4, h7, o4, o7⟩ := words v h
  refine ⟨?_, o4, ?_, o7, ?_⟩
  · intro a; rw [Fin.eq_zero a]; show v.toNat + 16 ≤ 8416; omega
  · intro k a
    have hk : k.val < (v.toNat + 15) / 16 := lt_of_lt_of_eq k.isLt h4
    rw [off5_eq v k (by omega), Fin.eq_zero a]
    show 16 * k.val + 16 ≤ 8416
    omega
  · intro k; exact absurd (lt_of_lt_of_eq k.isLt h7) (Nat.not_lt_zero _)

theorem cond2_iff (v : BitVec 32) (h : v.toNat ≤ 8400) : k0_cond2 v = 1#1 ↔ v.toNat = 0 := by
  have key : ∀ n : Fin 8401, k0_cond2 (BitVec.ofNat 32 n.val) = 1#1 ↔ n.val = 0 := by decide +kernel
  have := key ⟨v.toNat, by omega⟩
  rwa [show BitVec.ofNat 32 v.toNat = v by simp] at this

end Cert.Proof.Pick
end
-- ==== Proof.Choose.Phase2.lean ====
module

public import proofs.«01_k».proof.Proof.Choose.Phase1
public import proofs.«01_k».proof.Proof.Choose.Words
public import proofs.«01_k».proof.Proof.Choose.Sort
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Pick

open Cert.ChooseIdeal Cert.ChooseIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.ChooseIdeal.main_arg0_scv : Memref Cert.ChooseIdeal.sig Kind.scVector Space.hbm Cert.ChooseIdeal.S64x8400 EltTy.f32)
local notation "tkV" => (Memref.whole Cert.ChooseIdeal.main_v0_0_scv : Memref Cert.ChooseIdeal.sig Kind.scVector Space.hbm Cert.ChooseIdeal.S64x16 EltTy.i32)
local notation "kkV" => (Memref.whole Cert.ChooseIdeal.main_v0_1_scv : Memref Cert.ChooseIdeal.sig Kind.scVector Space.hbm Cert.ChooseIdeal.S64x16 EltTy.i32)
local notation "b0" => (Memref.whole Cert.ChooseIdeal.cc0_scratch0 : Memref Cert.ChooseIdeal.sig Kind.scVector Space.vmem Cert.ChooseIdeal.S8400 EltTy.f32)
local notation "b1" => (Memref.whole Cert.ChooseIdeal.cc0_scratch1 : Memref Cert.ChooseIdeal.sig Kind.scVector Space.vmem Cert.ChooseIdeal.S8416 EltTy.f32)
local notation "b2" => (Memref.whole Cert.ChooseIdeal.cc0_scratch2 : Memref Cert.ChooseIdeal.sig Kind.scVector Space.vmem Cert.ChooseIdeal.S8416 EltTy.i32)
local notation "b3" => (Memref.whole Cert.ChooseIdeal.cc0_scratch3 : Memref Cert.ChooseIdeal.sig Kind.scVector Space.vmem Cert.ChooseIdeal.S16 EltTy.i32)
local notation "b4" => (Memref.whole Cert.ChooseIdeal.cc0_scratch4 : Memref Cert.ChooseIdeal.sig Kind.scVector Space.vmem Cert.ChooseIdeal.S16 EltTy.i32)
local notation "b5" => (Memref.whole Cert.ChooseIdeal.cc0_scratch5 : Memref Cert.ChooseIdeal.sig Kind.scVector Space.vmem Cert.ChooseIdeal.S16 EltTy.f32)
local notation "b6" => (Memref.whole Cert.ChooseIdeal.cc0_scratch6 : Memref Cert.ChooseIdeal.sig Kind.scVector Space.vmem Cert.ChooseIdeal.S16 EltTy.f32)
local notation "b7" => (Memref.whole Cert.ChooseIdeal.cc0_scratch7 : Memref Cert.ChooseIdeal.sig Kind.scVector Space.vmem Cert.ChooseIdeal.S16 EltTy.i32)
local notation "b8" => (Memref.whole Cert.ChooseIdeal.cc0_scratch8 : Memref Cert.ChooseIdeal.sig Kind.scVector Space.vmem Cert.ChooseIdeal.S16 EltTy.i32)

variable [FloatOps F] (d : Dev nD) (L : grid0.Coords)

local notation "wpT" => wp frame (wpE (defs₀ (F := F)) 𝒱₀ (V d (cV L) (jV L)) none) Set.univ

theorem sr_b5 (bf : Bef) {α : Type} {Q : α → sProp 𝕄} {z w : Vec F S16 .f32} {h : ∀ a x, ((![rkV bf] : Fin 1 → IVec S16 32) a x).toNat < S16.size a}
    {hs : ((b5).access (.whole S16)).Stores Finset.univ} {kk : PUnit → Prog (TpuEff nD τ sig (Elt F) Λ₀ (.scVector (cV L) (jV L))) α} :
    ((b5).view.loc (V d (cV L) (jV L)) ↦{fullShare} z : sProp 𝕄)
      ⊢ iprop((((b5).view.loc (V d (cV L) (jV L)) ↦{fullShare} (srt bf z w)) -∗ wpT (kk ⟨⟩) Q)
        -∗ wpT (SparseCore.vectorStoreIdx b5 ![rkV bf] w (fun _ => 1#1) false h hs >>= kk) Q) := st_b5 d L

theorem sr_b7 (bf : Bef) {α : Type} {Q : α → sProp 𝕄} {z w : Vec F S16 .i32} {h : ∀ a x, ((![rkV bf] : Fin 1 → IVec S16 32) a x).toNat < S16.size a}
    {hs : ((b7).access (.whole S16)).Stores Finset.univ} {kk : PUnit → Prog (TpuEff nD τ sig (Elt F) Λ₀ (.scVector (cV L) (jV L))) α} :
    ((b7).view.loc (V d (cV L) (jV L)) ↦{fullShare} z : sProp 𝕄)
      ⊢ iprop((((b7).view.loc (V d (cV L) (jV L)) ↦{fullShare} (srt (F := F) (e := .i32) bf z w)) -∗ wpT (kk ⟨⟩) Q)
        -∗ wpT (SparseCore.vectorStoreIdx b7 ![rkV bf] w (fun _ => 1#1) false h hs >>= kk) Q) := st_b7 d L

theorem sr_b8 (bf : Bef) {α : Type} {Q : α → sProp 𝕄} {z w : Vec F S16 .i32} {h : ∀ a x, ((![rkV bf] : Fin 1 → IVec S16 32) a x).toNat < S16.size a}
    {hs : ((b8).access (.whole S16)).Stores Finset.univ} {kk : PUnit → Prog (TpuEff nD τ sig (Elt F) Λ₀ (.scVector (cV L) (jV L))) α} :
    ((b8).view.loc (V d (cV L) (jV L)) ↦{fullShare} z : sProp 𝕄)
      ⊢ iprop((((b8).view.loc (V d (cV L) (jV L)) ↦{fullShare} (srt (F := F) (e := .i32) bf z w)) -∗ wpT (kk ⟨⟩) Q)
        -∗ wpT (SparseCore.vectorStoreIdx b8 ![rkV bf] w (fun _ => 1#1) false h hs >>= kk) Q) := st_b8 d L

omit [FloatOps F] d L in
theorem rev_ok : ∀ (a : Fin 1) (x : S16.Idx), ((![k0_pay23] : Fin 1 → IVec S16 32) a x).toNat < S16.size a := by
  intro a x
  rw [Fin.eq_zero a]
  obtain ⟨l, rfl⟩ := ex1 x
  revert l; decide +kernel
omit [FloatOps F] d L in
theorem rev_eq {e : EltTy} (f : Vec F S16 e) (h : ∀ a x, ((![k0_pay23] : Fin 1 → IVec S16 32) a x).toNat < S16.size a) : loadIdx f ![k0_pay23] h = rv f := by
  funext x
  obtain ⟨l, rfl⟩ := ex1 x
  unfold loadIdx rv
  congr 1
  funext a; rw [Fin.eq_zero a]
  apply Fin.ext
  show (k0_pay23 (ix1 l)).toNat = 15 - l.val
  revert l; decide +kernel

theorem lr_b5 {α : Type} {Q : α → sProp 𝕄} {h : ∀ a x, ((![k0_pay23] : Fin 1 → IVec S16 32) a x).toNat < S16.size a}
    {hl : (b5).view.Loads} {kk : Vec F S16 .f32 → Prog (TpuEff nD τ sig (Elt F) Λ₀ (.scVector (cV L) (jV L))) α} {f : Vec F S16 .f32} :
    ((b5).view.loc (V d (cV L) (jV L)) ↦{fullShare} f : sProp 𝕄)
      ⊢ iprop((((b5).view.loc (V d (cV L) (jV L)) ↦{fullShare} f) -∗ wpT (kk (rv f)) Q)
        -∗ wpT (SparseCore.vectorLoadIdx b5 ![k0_pay23] h hl >>= kk) Q) := by
  have key := ld_b5 d L (Q := Q) (idxs := ![k0_pay23]) (h := h) (hl := hl) (kk := kk) (f := f)
  rwa [rev_eq] at key

theorem lr_b8 {α : Type} {Q : α → sProp 𝕄} {h : ∀ a x, ((![k0_pay23] : Fin 1 → IVec S16 32) a x).toNat < S16.size a}
    {hl : (b8).view.Loads} {kk : Vec F S16 .i32 → Prog (TpuEff nD τ sig (Elt F) Λ₀ (.scVector (cV L) (jV L))) α} {f : Vec F S16 .i32} :
    ((b8).view.loc (V d (cV L) (jV L)) ↦{fullShare} f : sProp 𝕄)
      ⊢ iprop((((b8).view.loc (V d (cV L) (jV L)) ↦{fullShare} f) -∗ wpT (kk (rv (F := F) (e := .i32) f)) Q)
        -∗ wpT (SparseCore.vectorLoadIdx b8 ![k0_pay23] h hl >>= kk) Q) := by
  have key := ld_b8 d L (Q := Q) (idxs := ![k0_pay23]) (h := h) (hl := hl) (kk := kk) (f := f)
  rwa [rev_eq] at key

theorem lw5 (f : Vec F S16 .f32) : ((b5).view.readAt (Elt F) (Rect.unit (s := S16) ![0] S16.size inb_S16_S16_0).toLoadRect f : Vec F S16 .f32) = f := all16 (b5).view f _
theorem lw7 (f : Vec F S16 .i32) : ((b7).view.readAt (Elt F) (Rect.unit (s := S16) ![0] S16.size inb_S16_S16_0).toLoadRect f : Vec F S16 .i32) = f := all16 (b7).view f _
theorem lw8 (f : Vec F S16 .i32) : ((b8).view.readAt (Elt F) (Rect.unit (s := S16) ![0] S16.size inb_S16_S16_0).toLoadRect f : Vec F S16 .i32) = f := all16 (b8).view f _

theorem subc_eq1 (v : BitVec 32) (h8 : k0_chk8 v) (hv : v.toNat ≤ 8400) (k : Fin (k0_t4_loop v).trips) (f : Vec F S8416 .f32) :
    ((b1).view.readAt (Elt F) (Rect.unit (s := S8416) (k0_off5 v k) S16.size (k0_off5_inb v h8 k)).toLoadRect f : Vec F S16 .f32) = subc f k.val := by
  have hk : k.val < (v.toNat + 15) / 16 := lt_of_lt_of_eq k.isLt (words v hv).1
  funext i
  obtain ⟨l, rfl⟩ := ex1 i
  rw [get_eq (b1).view f (k0_off5 v k) (k0_off5_inb v h8 k) (16 * k.val) (off5_eq v k (by omega)) l ⟨16 * k.val + l.val, by omega⟩ rfl]
  unfold subc
  rw [dif_pos (show 16 * k.val + ((ix1 l : S16.Idx) 0).val < 8416 by show 16 * k.val + l.val < 8416; omega)]
  rfl
theorem subc_eq2 (v : BitVec 32) (h8 : k0_chk8 v) (hv : v.toNat ≤ 8400) (k : Fin (k0_t4_loop v).trips) (f : Vec F S8416 .i32) :
    ((b2).view.readAt (Elt F) (Rect.unit (s := S8416) (k0_off5 v k) S16.size (k0_off5_inb v h8 k)).toLoadRect f : Vec F S16 .i32) = subc (F := F) (e := .i32) f k.val := by
  have hk : k.val < (v.toNat + 15) / 16 := lt_of_lt_of_eq k.isLt (words v hv).1
  funext i
  obtain ⟨l, rfl⟩ := ex1 i
  rw [get_eq (b2).view f (k0_off5 v k) (k0_off5_inb v h8 k) (16 * k.val) (off5_eq v k (by omega)) l ⟨16 * k.val + l.val, by omega⟩ rfl]
  unfold subc
  rw [dif_pos (show 16 * k.val + ((ix1 l : S16.Idx) 0).val < 8416 by show 16 * k.val + l.val < 8416; omega)]
  rfl

def inv4 (ck : Vec F S8416 .f32) (ci : Vec F S8416 .i32) (n : ℕ) (acc : FVec F S16 .f32 × IVec S16 32) : sProp 𝕄 :=
  iprop(((b1).view.loc (V d (cV L) (jV L)) ↦{fullShare} ck) ∗ ((b2).view.loc (V d (cV L) (jV L)) ↦{fullShare} ci)
    ∗ (∃ f, (b5).view.loc (V d (cV L) (jV L)) ↦{fullShare} f) ∗ (∃ f, (b8).view.loc (V d (cV L) (jV L)) ↦{fullShare} f) ∗ ⌜acc = best ck ci n⌝)

set_option maxHeartbeats 8000000 in
theorem trip_t4 (v2 v3 : IVec S16 32) (v7 : BitVec 32) (h8 : k0_chk8 v7) (v14 c16 v15 v20 v22 : BitVec 32) (v23 : BitVec 1) (hv : v7.toNat ≤ 8400)
    (ck : Vec F S8416 .f32) (ci : Vec F S8416 .i32) (k : Fin (k0_t4_loop v7).trips) (acc : FVec F S16 .f32 × IVec S16 32) :
    inv4 d L ck ci k.val acc
      ⊢ wpT (k0_t4_body L xV (Memref.isWhole_whole _) tkV (Memref.isWhole_whole _) kkV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 v2 v3 v7 h8 v14 c16 v15 v20 v22 v23 k acc)
          fun acc' => inv4 d L ck ci (k.val + 1) acc' := by
  unfold inv4
  rw [show best ck ci (k.val + 1) = mrg (best ck ci k.val) (subc ck k.val) (subc (F := F) (e := .i32) ci k.val) from rfl]
  generalize best ck ci k.val = r
  have e1 := subc_eq1 v7 h8 hv k ck
  have e2 := subc_eq2 v7 h8 hv k ci
  generalize subc ck k.val = key at e1 ⊢
  generalize subc (F := F) (e := .i32) ci k.val = val at e2 ⊢
  iintro ⟨H1, H2, ⟨%f5, H5⟩, ⟨%f8, H8⟩, %ha⟩
  subst ha
  sl_unfold [k0_t4_body]
  sl_open_parts
  sl_exec
  sl_unfold_words
  rw [fil5, fil8]
  rw [wp_bind]
  sl_for (invFI (F := F) d L key val) $$ [H5 H8]
  case region =>
    intro k' a
    exact trip_t5 d L _ _ _ _ _ _ _ k' a
  · unfold invFI
    isplitl [H5]
    · iexact H5
    isplitl [H8]
    · iexact H8
    · ipureintro; rfl
  unfold invFI
  iintro %v123 ⟨H5, H8, %e5⟩
  rw [show Scf.trips k0_t5_loop.lb k0_t5_loop.ub k0_t5_loop.st = 16 from trips16] at e5
  subst e5
  have a11 : k0_chk11 (k0_pay20 (accV (befFI (F := F) key val) 16)) := ⟨rkV_ok _, rkV_ok _⟩
  have a12 : k0_chk12 k0_pay23 := rev_ok
  have a13 : k0_chk13 k0_pay24 := rev_ok
  sl_exec
  sl_unfold_words
  rw [fil5, fil8]
  iapply (sr_b5 d L (befFI (F := F) key val)) $$ H5
  iintro H5
  iapply (sr_b8 d L (befFI (F := F) key val)) $$ H8
  iintro H8
  sl_exec
  sl_unfold_words
  rw [fil5, lw5]
  iapply (lr_b5 d L) $$ H5
  iintro H5
  sl_exec
  sl_unfold_words
  rw [fil8, lw8]
  iapply (lr_b8 d L) $$ H8
  iintro H8
  sl_exec
  sl_unfold_words
  rw [fil5, fil8]
  generalize hlk : k0_pay106 acc.1 (rv (srt (befFI (F := F) key val) (k0_pay21 (F := F)) key)) = lk
  generalize hli : k0_pay107 acc.1 acc.2 (rv (srt (befFI (F := F) key val) (k0_pay21 (F := F)) key)) (rv (F := F) (e := .i32) (srt (F := F) (e := .i32) (befFI (F := F) key val) k0_pay22 val)) = li
  sl_for (invFI (F := F) d L lk li) $$ [H5 H8]
  case region =>
    intro k' a
    subst hlk hli
    exact trip_t5 d L v7 h8 0#32 1#32 k _ _ k' a
  · unfold invFI
    isplitl [H5]
    · iexact H5
    isplitl [H8]
    · iexact H8
    · ipureintro; rfl
  unfold invFI
  iintro %v150 ⟨H5, H8, %e6⟩
  rw [show Scf.trips k0_t6_loop.lb k0_t6_loop.ub k0_t6_loop.st = 16 from trips16] at e6
  subst e6
  have a16 : k0_chk16 (k0_pay112 (accV (befFI (F := F) lk li) 16)) := ⟨rkV_ok _, rkV_ok _⟩
  sl_exec
  sl_unfold_words
  rw [fil5, fil8]
  iapply (sr_b5 d L (befFI (F := F) lk li)) $$ H5
  iintro H5
  iapply (sr_b8 d L (befFI (F := F) lk li)) $$ H8
  iintro H8
  sl_exec
  sl_unfold_words
  rw [lw5, lw8]
  sl_step
  unfold mrg
  subst hlk hli
  isplitl [H1]
  · iexact H1
  isplitl [H2]
  · iexact H2
  isplitl [H5]
  · iexists _; iexact H5
  isplitl [H8]
  · iexists _; iexact H8
  ipureintro
  rfl

end Cert.Proof.Pick
end
-- ==== Proof.Choose.Phase3.lean ====
module

public import proofs.«01_k».proof.Proof.Choose.Phase2
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Pick

open Cert.ChooseIdeal Cert.ChooseIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.ChooseIdeal.main_arg0_scv : Memref Cert.ChooseIdeal.sig Kind.scVector Space.hbm Cert.ChooseIdeal.S64x8400 EltTy.f32)
local notation "tkV" => (Memref.whole Cert.ChooseIdeal.main_v0_0_scv : Memref Cert.ChooseIdeal.sig Kind.scVector Space.hbm Cert.ChooseIdeal.S64x16 EltTy.i32)
local notation "kkV" => (Memref.whole Cert.ChooseIdeal.main_v0_1_scv : Memref Cert.ChooseIdeal.sig Kind.scVector Space.hbm Cert.ChooseIdeal.S64x16 EltTy.i32)
local notation "b0" => (Memref.whole Cert.ChooseIdeal.cc0_scratch0 : Memref Cert.ChooseIdeal.sig Kind.scVector Space.vmem Cert.ChooseIdeal.S8400 EltTy.f32)
local notation "b1" => (Memref.whole Cert.ChooseIdeal.cc0_scratch1 : Memref Cert.ChooseIdeal.sig Kind.scVector Space.vmem Cert.ChooseIdeal.S8416 EltTy.f32)
local notation "b2" => (Memref.whole Cert.ChooseIdeal.cc0_scratch2 : Memref Cert.ChooseIdeal.sig Kind.scVector Space.vmem Cert.ChooseIdeal.S8416 EltTy.i32)
local notation "b3" => (Memref.whole Cert.ChooseIdeal.cc0_scratch3 : Memref Cert.ChooseIdeal.sig Kind.scVector Space.vmem Cert.ChooseIdeal.S16 EltTy.i32)
local notation "b4" => (Memref.whole Cert.ChooseIdeal.cc0_scratch4 : Memref Cert.ChooseIdeal.sig Kind.scVector Space.vmem Cert.ChooseIdeal.S16 EltTy.i32)
local notation "b5" => (Memref.whole Cert.ChooseIdeal.cc0_scratch5 : Memref Cert.ChooseIdeal.sig Kind.scVector Space.vmem Cert.ChooseIdeal.S16 EltTy.f32)
local notation "b6" => (Memref.whole Cert.ChooseIdeal.cc0_scratch6 : Memref Cert.ChooseIdeal.sig Kind.scVector Space.vmem Cert.ChooseIdeal.S16 EltTy.f32)
local notation "b7" => (Memref.whole Cert.ChooseIdeal.cc0_scratch7 : Memref Cert.ChooseIdeal.sig Kind.scVector Space.vmem Cert.ChooseIdeal.S16 EltTy.i32)
local notation "b8" => (Memref.whole Cert.ChooseIdeal.cc0_scratch8 : Memref Cert.ChooseIdeal.sig Kind.scVector Space.vmem Cert.ChooseIdeal.S16 EltTy.i32)

variable [FloatOps F] (d : Dev nD) (L : grid0.Coords)

local notation "wpT" => wp frame (wpE (defs₀ (F := F)) 𝒱₀ (V d (cV L) (jV L)) none) Set.univ

theorem trips10 : k0_t10_loop.trips = 525 := by decide

theorem chunk_eq7 (x : Vec F S8400 .f32) (k : Fin k0_t10_loop.trips) :
    ((b0).view.readAt (Elt F) (Rect.unit (s := S8400) (k0_off7 k) S16.size (k0_off7_inb k)).toLoadRect x : Vec F S16 .f32) = chunk x k.val := by
  have hk : k.val < 525 := lt_of_lt_of_eq k.isLt trips10
  funext i
  obtain ⟨l, rfl⟩ := ex1 i
  rw [get_eq (b0).view x (k0_off7 k) (k0_off7_inb k) (16 * k.val) (k0_off7_eq k) l ⟨16 * k.val + l.val, by omega⟩ rfl]
  unfold chunk
  rw [dif_pos (show 16 * k.val + ((ix1 l : S16.Idx) 0).val < 8400 by show 16 * k.val + l.val < 8400; omega)]
  rfl

def inv10 (x : Vec F S8400 .f32) (n : ℕ) (acc : FVec F S16 .f32 × IVec S16 32) : sProp 𝕄 :=
  iprop(((b0).view.loc (V d (cV L) (jV L)) ↦{fullShare} x) ∗ ⌜acc = lmin x n⌝)

theorem trip_t10 (v7 : BitVec 32) (h2 : k0_cond2 v7 = 1#1) (x : Vec F S8400 .f32) (k : Fin k0_t10_loop.trips) (acc : FVec F S16 .f32 × IVec S16 32) :
    inv10 d L x k.val acc ⊢ wpT (k0_t10_body L xV (Memref.isWhole_whole _) tkV (Memref.isWhole_whole _) kkV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 lanes v7 h2 k acc) fun acc' => inv10 d L x (k.val + 1) acc' := by
  unfold inv10
  have e1 := chunk_eq7 x k
  rw [show lmin x (k.val + 1) = (k0_pay38 lanes k (lmin x k.val).1 (lmin x k.val).2 (chunk x k.val), k0_pay39 lanes k (lmin x k.val).1 (lmin x k.val).2 (chunk x k.val)) from dif_pos k.isLt]
  generalize lmin x k.val = r
  iintro ⟨H0, %ha⟩
  subst ha
  sl_unfold [k0_t10_body]
  sl_exec
  sl_step
  isplitl [H0]
  · iexact H0
  ipureintro
  rfl

/-- What the search for the row's minimum holds. -/
def fbP (x : Vec F S8400 .f32) : sProp 𝕄 :=
  iprop(((b0).view.loc (V d (cV L) (jV L)) ↦{fullShare} x) ∗ (∃ f, (b5).view.loc (V d (cV L) (jV L)) ↦{fullShare} f)
    ∗ (∃ f, (b7).view.loc (V d (cV L) (jV L)) ↦{fullShare} f) ∗ (∃ f, (b8).view.loc (V d (cV L) (jV L)) ↦{fullShare} f))

/-- The search, as the kernel has it for a row without candidates. -/
def fbRun (v3 : IVec S16 32) (v7 : BitVec 32) (h8 : k0_chk8 v7) (v14 c16 v15 v20 v22 : BitVec 32) (v23 : BitVec 1) (h2 : k0_cond2 v7 = 1#1)
    {α : Type} (kk : BitVec 32 → Prog (TpuEff nD τ sig (Elt F) Λ₀ (.scVector (cV L) (jV L))) α) : Prog (TpuEff nD τ sig (Elt F) Λ₀ (.scVector (cV L) (jV L))) α := do
  let ⟨w, l, z⟩ : Σ' (_ : IVec S16 32) (_ : IVec S16 32), IVec S16 32 ← k0_part4 L xV (Memref.isWhole_whole _) tkV (Memref.isWhole_whole _) kkV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 lanes v7 h2
  Prog.lift (.store b7 (Rect.unit (s := S16) ![0] S16.size inb_S16_S16_0) w Finset.univ (View.stores_vmem_bits_univ h_S16 rfl) (.inl rfl))
  let _ : Vec F S16 .i32 ← Prog.lift (.load b8 (Rect.unit (s := S16) ![0] S16.size inb_S16_S16_0).toLoadRect (View.loadsAt_vmem h_S16))
  Prog.lift (.store b8 (Rect.unit (s := S16) ![0] S16.size inb_S16_S16_0) w Finset.univ (View.stores_vmem_bits_univ h_S16 rfl) (.inl rfl))
  let a : IVec S16 32 ← Scf.Loop.for k0_t12_loop k0_t12_ok z (k0_t12_body L xV (Memref.isWhole_whole _) tkV (Memref.isWhole_whole _) kkV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 lanes v3 v7 h8 v14 c16 v15 v20 v22 v23 h2 w l z)
  have ix : IVec S16 32 := k0_pay128 a
  have hw : k0_chk30 v7 ix := (← Prog.lift (TpuEff.assume (k0_chk30 v7 ix) (k0_chk30.dec v7 ix))).down
  let _ : Vec F S16 .i32 ← Prog.lift (.load b7 (Rect.unit (s := S16) ![0] S16.size inb_S16_S16_0).toLoadRect (View.loadsAt_vmem h_S16))
  Prog.lift (.store b7 (Rect.unit (s := S16) ![0] S16.size inb_S16_S16_0) k0_pay129 Finset.univ (View.stores_vmem_bits_univ h_S16 rfl) (.inl rfl))
  let _ : Vec F S16 .i32 ← Prog.lift (.load b8 (Rect.unit (s := S16) ![0] S16.size inb_S16_S16_0).toLoadRect (View.loadsAt_vmem h_S16))
  Prog.lift (.store b8 (Rect.unit (s := S16) ![0] S16.size inb_S16_S16_0) k0_pay130 Finset.univ (View.stores_vmem_bits_univ h_S16 rfl) (.inl rfl))
  SparseCore.vectorStoreIdx b7 ![ix] w (fun _ => 1#1) false (k0_idx35_inb v7 ix hw h2) (View.stores_vmem_bits_univ h_S16 rfl)
  SparseCore.vectorStoreIdx b8 ![ix] w (fun _ => 1#1) false (k0_idx36_inb v7 ix hw h2) (View.stores_vmem_bits_univ h_S16 rfl)
  let r : Vec F S16 .i32 ← Prog.lift (.load b7 (Rect.unit (s := S16) ![0] S16.size inb_S16_S16_0).toLoadRect (View.loadsAt_vmem h_S16))
  let _ : Vec F S16 .i32 ← Prog.lift (.load b8 (Rect.unit (s := S16) ![0] S16.size inb_S16_S16_0).toLoadRect (View.loadsAt_vmem h_S16))
  kk (extractAt ![0] (k0_pay131 r) inpos_S1_p0)

set_option maxHeartbeats 8000000 in
theorem fb_run (v3 : IVec S16 32) (v7 : BitVec 32) (h8 : k0_chk8 v7) (v14 c16 v15 v20 v22 : BitVec 32) (v23 : BitVec 1) (h2 : k0_cond2 v7 = 1#1) (x : Vec F S8400 .f32)
    {α : Type} (kk : BitVec 32 → Prog (TpuEff nD τ sig (Elt F) Λ₀ (.scVector (cV L) (jV L))) α) (Q : α → sProp 𝕄) :
    fbP d L x ⊢ iprop((∀ w, fbP d L x ∗ ⌜w = fbW x⌝ -∗ wpT (kk w) Q) -∗ wpT (fbRun (F := F) L v3 v7 h8 v14 c16 v15 v20 v22 v23 h2 kk) Q) := by
  unfold fbP
  iintro ⟨H0, ⟨%f5, H5⟩, ⟨%f7, H7⟩, ⟨%f8, H8⟩⟩ Hk
  unfold fbRun
  sl_open_parts
  rw [wp_bind]
  sl_for (inv10 (F := F) d L x) $$ [H0]
  case region =>
    intro k a
    exact trip_t10 d L v7 h2 x k a
  · unfold inv10
    isplitl [H0]
    · iexact H0
    · ipureintro; rfl
  unfold inv10
  iintro %r ⟨H0, %er⟩
  rw [show Scf.trips k0_t10_loop.lb k0_t10_loop.ub k0_t10_loop.st = 525 from trips10] at er
  sl_exec
  sl_unfold_words
  rw [fil5, fil8]
  sl_for (invFI (F := F) d L r.1 r.2) $$ [H5 H8]
  case region =>
    intro k a
    exact trip_t11 d L _ _ _ _ _ k a
  · unfold invFI
    isplitl [H5]
    · iexact H5
    isplitl [H8]
    · iexact H8
    · ipureintro; rfl
  unfold invFI
  iintro %a1 ⟨H5, H8, %e5⟩
  rw [show Scf.trips k0_t11_loop.lb k0_t11_loop.ub k0_t11_loop.st = 16 from trips16] at e5
  subst e5
  have a27 : k0_chk27 v7 (k0_pay44 (accV (befFI (F := F) r.1 r.2) 16)) := ⟨fun _ => rkV_ok _, fun _ => rkV_ok _⟩
  sl_exec
  sl_unfold_words
  rw [fil5, fil8]
  iapply (sr_b5 d L (befFI (F := F) r.1 r.2)) $$ H5
  iintro H5
  iapply (sr_b8 d L (befFI (F := F) r.1 r.2)) $$ H8
  iintro H8
  sl_exec
  sl_unfold_words
  rw [fil7, fil8, lw5]
  generalize hw : k0_pay47 r.1 r.2 (srt (befFI (F := F) r.1 r.2) (k0_pay45 (F := F)) r.1) = w
  sl_for (invII (F := F) d L w w) $$ [H7 H8]
  case region =>
    intro k a
    exact trip_t12 d L _ _ _ _ _ _ _ _ _ _ _ _ k a
  · unfold invII
    isplitl [H7]
    · iexact H7
    isplitl [H8]
    · iexact H8
    · ipureintro; rfl
  unfold invII
  iintro %a2 ⟨H7, H8, %e6⟩
  rw [show Scf.trips k0_t12_loop.lb k0_t12_loop.ub k0_t12_loop.st = 16 from trips16] at e6
  subst e6
  have a30 : k0_chk30 v7 (k0_pay128 (accV (befII w w) 16)) := ⟨fun _ => rkV_ok _, fun _ => rkV_ok _⟩
  sl_exec
  sl_unfold_words
  rw [fil7, fil8]
  iapply (sr_b7 d L (befII w w)) $$ H7
  iintro H7
  iapply (sr_b8 d L (befII w w)) $$ H8
  iintro H8
  sl_exec
  sl_unfold_words
  rw [lw7]
  subst hw er
  iapply Hk
  isplitl [H0 H5 H7 H8]
  · isplitl [H0]
    · iexact H0
    isplitl [H5]
    · iexists _; iexact H5
    isplitl [H7]
    · iexists _; iexact H7
    · iexists _; iexact H8
  ipureintro
  rfl

end Cert.Proof.Pick
end
-- ==== Proof.Choose.Indep.lean ====
module

public import proofs.«01_k».proof.Proof.Choose.Count
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Pick

open Cert.ChooseIdeal Cert.ChooseIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.ChooseIdeal.main_arg0_scv : Memref Cert.ChooseIdeal.sig Kind.scVector Space.hbm Cert.ChooseIdeal.S64x8400 EltTy.f32)
local notation "tkV" => (Memref.whole Cert.ChooseIdeal.main_v0_0_scv : Memref Cert.ChooseIdeal.sig Kind.scVector Space.hbm Cert.ChooseIdeal.S64x16 EltTy.i32)
local notation "kkV" => (Memref.whole Cert.ChooseIdeal.main_v0_1_scv : Memref Cert.ChooseIdeal.sig Kind.scVector Space.hbm Cert.ChooseIdeal.S64x16 EltTy.i32)
local notation "b0" => (Memref.whole Cert.ChooseIdeal.cc0_scratch0 : Memref Cert.ChooseIdeal.sig Kind.scVector Space.vmem Cert.ChooseIdeal.S8400 EltTy.f32)
local notation "b1" => (Memref.whole Cert.ChooseIdeal.cc0_scratch1 : Memref Cert.ChooseIdeal.sig Kind.scVector Space.vmem Cert.ChooseIdeal.S8416 EltTy.f32)
local notation "b2" => (Memref.whole Cert.ChooseIdeal.cc0_scratch2 : Memref Cert.ChooseIdeal.sig Kind.scVector Space.vmem Cert.ChooseIdeal.S8416 EltTy.i32)
local notation "b3" => (Memref.whole Cert.ChooseIdeal.cc0_scratch3 : Memref Cert.ChooseIdeal.sig Kind.scVector Space.vmem Cert.ChooseIdeal.S16 EltTy.i32)
local notation "b4" => (Memref.whole Cert.ChooseIdeal.cc0_scratch4 : Memref Cert.ChooseIdeal.sig Kind.scVector Space.vmem Cert.ChooseIdeal.S16 EltTy.i32)
local notation "b5" => (Memref.whole Cert.ChooseIdeal.cc0_scratch5 : Memref Cert.ChooseIdeal.sig Kind.scVector Space.vmem Cert.ChooseIdeal.S16 EltTy.f32)
local notation "b6" => (Memref.whole Cert.ChooseIdeal.cc0_scratch6 : Memref Cert.ChooseIdeal.sig Kind.scVector Space.vmem Cert.ChooseIdeal.S16 EltTy.f32)
local notation "b7" => (Memref.whole Cert.ChooseIdeal.cc0_scratch7 : Memref Cert.ChooseIdeal.sig Kind.scVector Space.vmem Cert.ChooseIdeal.S16 EltTy.i32)
local notation "b8" => (Memref.whole Cert.ChooseIdeal.cc0_scratch8 : Memref Cert.ChooseIdeal.sig Kind.scVector Space.vmem Cert.ChooseIdeal.S16 EltTy.i32)

variable [FloatOps F]

/-! ## The results do not depend on what the scratch held -/

theorem put_in {N : ℕ} {e : EltTy} (f g : Vec F ⟨1, ![N]⟩ e) (o : ℕ) (w : Vec F S16 e) (n : ℕ) (hn : n ≤ o + 16)
    (h : ∀ i : Fin N, i.val < o → f (ix1 i) = g (ix1 i)) (i : Fin N) (hi : i.val < n) : put (F := F) f o w (ix1 i) = put (F := F) g o w (ix1 i) := by
  unfold put
  by_cases c : o ≤ ((ix1 i : (⟨1, ![N]⟩ : Shape).Idx) 0).val ∧ ((ix1 i : (⟨1, ![N]⟩ : Shape).Idx) 0).val < o + 16
  · rw [dif_pos c, dif_pos c]
  · rw [dif_neg c, dif_neg c]
    have : ¬ (o ≤ i.val ∧ i.val < o + 16) := c
    exact h i (by omega)

/-- Agreement below the count. -/
def Agree (s s' : St F) : Prop :=
  s.off = s'.off ∧ (∀ i : Fin 8416, i.val < s.off.toNat → s.ck (ix1 i) = s'.ck (ix1 i)) ∧ (∀ i : Fin 8416, i.val < s.off.toNat → s.ci (ix1 i) = s'.ci (ix1 i))

theorem st_agree (x : Vec F S8400 .f32) (g6 h6 : Vec F S8416 .f32) (g7 h7 : Vec F S8416 .i32) :
    ∀ n, n ≤ 525 → Agree (st x g6 g7 n) (st x h6 h7 n)
  | 0, _ => ⟨rfl, fun i hi => absurd hi (Nat.not_lt_zero _), fun i hi => absurd hi (Nat.not_lt_zero _)⟩
  | n + 1, hn => by
    have ih := st_agree x g6 h6 g7 h7 n (by omega)
    have ho := st_off x g6 g7 n (by omega)
    show Agree ((st x g6 g7 n).step (chunk x n) n) ((st x h6 h7 n).step (chunk x n) n)
    generalize st x g6 g7 n = s at ih ho ⊢
    generalize st x h6 h7 n = s' at ih ⊢
    obtain ⟨i1, i2, i3⟩ := ih
    unfold St.step
    by_cases c : k0_cond1 (pcW (chunk x n)) = 1#1
    · rw [if_pos c, if_pos c]
      have hb : (IntOp.addi s.off (pcW (chunk x n)) : BitVec 32).toNat ≤ s.off.toNat + 16 := by
        rw [pcW_eq]
        show (s.off + BitVec.ofNat 32 (nc (chunk x n)) : BitVec 32).toNat ≤ _
        rw [BitVec.toNat_add, BitVec.toNat_ofNat]
        have := nc_le (chunk x n)
        omega
      refine ⟨by rw [i1], ?_, ?_⟩
      · intro i hi
        show put s.ck s.off.toNat _ (ix1 i) = put s'.ck s'.off.toNat _ (ix1 i)
        rw [← i1]
        exact put_in _ _ _ _ _ hb i2 i hi
      · intro i hi
        show put (F := F) (e := .i32) s.ci s.off.toNat _ (ix1 i) = put (F := F) (e := .i32) s'.ci s'.off.toNat _ (ix1 i)
        rw [← i1]
        exact put_in (F := F) (e := .i32) _ _ _ _ _ hb i3 i hi
    · rw [if_neg c, if_neg c]
      exact ⟨i1, i2, i3⟩

theorem subc_in {e : EltTy} (f g : Vec F S8416 e) (n m : ℕ) (h : ∀ i : Fin 8416, i.val < m → f (ix1 i) = g (ix1 i)) (hn : 16 * n + 16 ≤ m) (hm : m ≤ 8416) :
    subc f n = subc g n := by
  funext l
  unfold subc
  have hl := (l 0).isLt
  have hl' : (l 0).val < 16 := hl
  rw [dif_pos (by omega), dif_pos (by omega)]
  exact h _ (by show 16 * n + (l 0).val < m; omega)

theorem best_in (ck ck' : Vec F S8416 .f32) (ci ci' : Vec F S8416 .i32) (m : ℕ) (hm : m ≤ 8416)
    (h : ∀ i : Fin 8416, i.val < m → ck (ix1 i) = ck' (ix1 i)) (h' : ∀ i : Fin 8416, i.val < m → ci (ix1 i) = ci' (ix1 i)) :
    ∀ n, 16 * n ≤ m → best ck ci n = best ck' ci' n
  | 0, _ => rfl
  | n + 1, hn => by
    show mrg (best ck ci n) (subc ck n) (subc (F := F) (e := .i32) ci n) = mrg (best ck' ci' n) (subc ck' n) (subc (F := F) (e := .i32) ci' n)
    rw [best_in ck ck' ci ci' m hm h h' n (by omega), subc_in ck ck' n m h (by omega) hm, subc_in (F := F) (e := .i32) ci ci' n m h' (by omega) hm]

theorem row_indep (x : Vec F S8400 .f32) (g6 h6 : Vec F S8416 .f32) (g7 h7 : Vec F S8416 .i32) :
    tkOf x (st x g6 g7 525) = tkOf x (st x h6 h7 525) ∧ kkOf (st x g6 g7 525) = kkOf (st x h6 h7 525) := by
  have ih := st_agree x g6 h6 g7 h7 525 (by omega)
  have ho := st_off x g6 g7 525 (by omega)
  generalize st x g6 g7 525 = s at ih ho ⊢
  generalize st x h6 h7 525 = s' at ih ⊢
  obtain ⟨i1, i2, i3⟩ := ih
  unfold tkOf kkOf
  rw [← i1]
  refine ⟨?_, rfl⟩
  rw [best_in (ckP s) (ckP s') (ciP s) (ciP s') (s.off.toNat + 16) (by omega) ?_ ?_ _ (by omega)]
  · intro i hi
    unfold ckP
    rw [← i1]
    exact put_in _ _ _ _ _ (le_refl _) i2 i hi
  · intro i hi
    unfold ciP
    rw [← i1]
    exact put_in (F := F) (e := .i32) _ _ _ _ _ (le_refl _) i3 i hi

end Cert.Proof.Pick
end
-- ==== Proof.Choose.Rows.lean ====
module

public import proofs.«01_k».proof.Proof.Choose.Setup
public import proofs.«01_k».proof.Proof.Choose.Indep
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Pick

open Cert.ChooseIdeal Cert.ChooseIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.ChooseIdeal.main_arg0_scv : Memref Cert.ChooseIdeal.sig Kind.scVector Space.hbm Cert.ChooseIdeal.S64x8400 EltTy.f32)
local notation "tkV" => (Memref.whole Cert.ChooseIdeal.main_v0_0_scv : Memref Cert.ChooseIdeal.sig Kind.scVector Space.hbm Cert.ChooseIdeal.S64x16 EltTy.i32)
local notation "kkV" => (Memref.whole Cert.ChooseIdeal.main_v0_1_scv : Memref Cert.ChooseIdeal.sig Kind.scVector Space.hbm Cert.ChooseIdeal.S64x16 EltTy.i32)
local notation "b0" => (Memref.whole Cert.ChooseIdeal.cc0_scratch0 : Memref Cert.ChooseIdeal.sig Kind.scVector Space.vmem Cert.ChooseIdeal.S8400 EltTy.f32)
local notation "b1" => (Memref.whole Cert.ChooseIdeal.cc0_scratch1 : Memref Cert.ChooseIdeal.sig Kind.scVector Space.vmem Cert.ChooseIdeal.S8416 EltTy.f32)
local notation "b2" => (Memref.whole Cert.ChooseIdeal.cc0_scratch2 : Memref Cert.ChooseIdeal.sig Kind.scVector Space.vmem Cert.ChooseIdeal.S8416 EltTy.i32)
local notation "b3" => (Memref.whole Cert.ChooseIdeal.cc0_scratch3 : Memref Cert.ChooseIdeal.sig Kind.scVector Space.vmem Cert.ChooseIdeal.S16 EltTy.i32)
local notation "b4" => (Memref.whole Cert.ChooseIdeal.cc0_scratch4 : Memref Cert.ChooseIdeal.sig Kind.scVector Space.vmem Cert.ChooseIdeal.S16 EltTy.i32)
local notation "b5" => (Memref.whole Cert.ChooseIdeal.cc0_scratch5 : Memref Cert.ChooseIdeal.sig Kind.scVector Space.vmem Cert.ChooseIdeal.S16 EltTy.f32)
local notation "b6" => (Memref.whole Cert.ChooseIdeal.cc0_scratch6 : Memref Cert.ChooseIdeal.sig Kind.scVector Space.vmem Cert.ChooseIdeal.S16 EltTy.f32)
local notation "b7" => (Memref.whole Cert.ChooseIdeal.cc0_scratch7 : Memref Cert.ChooseIdeal.sig Kind.scVector Space.vmem Cert.ChooseIdeal.S16 EltTy.i32)
local notation "b8" => (Memref.whole Cert.ChooseIdeal.cc0_scratch8 : Memref Cert.ChooseIdeal.sig Kind.scVector Space.vmem Cert.ChooseIdeal.S16 EltTy.i32)

variable (A : Dev nD → Valuation τ sig (Elt F)) (d : Dev nD) (L : grid0.Coords)

theorem cells_agree {κ : Kind} {sp : Space} {s : Shape} {e : EltTy} (v : View sig κ sp s e) (f G : v.ty.Contents (Elt F)) (w : s.Idx → Elt F e)
    (h : ∀ y : s.Idx, w y = v.read (Elt F) G y) : ∀ x ∈ v.set, v.writes (Elt F) f [⟨Rect.whole s, w⟩] x = G x := by
  intro x hx
  obtain ⟨y, -, rfl⟩ := Finset.mem_map.mp hx
  refine (cast_inj _).mp (?_ : v.read (Elt F) _ y = v.read (Elt F) G y)
  rw [← h y]
  exact View.read_writes_cons_hit v f (Rect.whole s) w [] y y (Rect.emb_whole_apply _ y)

theorem read_memXA (f : Vec F S64x8400 .f32) (l : Fin 8400) : ((memXA L).view.read (Elt F) f : Vec F S8400 .f32) (ix1 l) = f (ix2 (rowA (wL L)) l) := by
  have hc : (rectXA L).shape.ShapeCasts S8400 := (show S1x8400.ShapeCasts S8400 by decide)
  rw [Memref.read_squeeze_slice (xV) (rectXA L) (fun _ => rfl) squeezes_S1x8400_S8400 hc f]
  have : shapeCast (s := ⟨2, ![1, 8400]⟩) S8400 ((xV).view.readAt (Elt F) (rectXA L).toLoadRect f) hc (ix1 l) = (xV).view.readAt (Elt F) (rectXA L).toLoadRect f (ix2 0 l) := by
    pointwise
  refine this.trans ?_
  show f _ = f _
  congr 1
  funext a
  apply Fin.ext
  match a with
  | 0 => show (k0_off1 L) 0 + 1 * 0 = _; rw [k0_off1_eq]; (simp <;> omega)
  | 1 => show (k0_off1 L) 1 + 1 * l.val = _; rw [k0_off1_eq]; show 0 + 1 * l.val = l.val; omega

theorem read_memXB (f : Vec F S64x8400 .f32) (l : Fin 8400) : ((memXB L).view.read (Elt F) f : Vec F S8400 .f32) (ix1 l) = f (ix2 (rowB (wL L)) l) := by
  have hc : (rectXB L).shape.ShapeCasts S8400 := (show S1x8400.ShapeCasts S8400 by decide)
  rw [Memref.read_squeeze_slice (xV) (rectXB L) (fun _ => rfl) squeezes_S1x8400_S8400 hc f]
  have : shapeCast (s := ⟨2, ![1, 8400]⟩) S8400 ((xV).view.readAt (Elt F) (rectXB L).toLoadRect f) hc (ix1 l) = (xV).view.readAt (Elt F) (rectXB L).toLoadRect f (ix2 0 l) := by
    pointwise
  refine this.trans ?_
  show f _ = f _
  congr 1
  funext a
  apply Fin.ext
  match a with
  | 0 => show (k0_off9 L) 0 + 1 * 0 = _; rw [k0_off9_eq]; (simp <;> omega)
  | 1 => show (k0_off9 L) 1 + 1 * l.val = _; rw [k0_off9_eq]; show 0 + 1 * l.val = l.val; omega

theorem read_memTA (f : Vec F S64x16 .i32) (l : Fin 16) : ((memTA L).view.read (Elt F) f : Vec F S16 .i32) (ix1 l) = f (ix2 (rowA (wL L)) l) := by
  have hc : (rectTA L).shape.ShapeCasts S16 := (show S1x16.ShapeCasts S16 by decide)
  rw [Memref.read_squeeze_slice (tkV) (rectTA L) (fun _ => rfl) squeezes_S1x16_S16 hc f]
  have : shapeCast (s := ⟨2, ![1, 16]⟩) S16 ((tkV).view.readAt (Elt F) (rectTA L).toLoadRect f) hc (ix1 l) = (tkV).view.readAt (Elt F) (rectTA L).toLoadRect f (ix2 0 l) := by
    pointwise
  refine this.trans ?_
  show f _ = f _
  congr 1
  funext a
  apply Fin.ext
  match a with
  | 0 => show (k0_off8 L) 0 + 1 * 0 = _; rw [k0_off8_eq]; (simp <;> omega)
  | 1 => show (k0_off8 L) 1 + 1 * l.val = _; rw [k0_off8_eq]; show 0 + 1 * l.val = l.val; omega

theorem read_memTB (f : Vec F S64x16 .i32) (l : Fin 16) : ((memTB L).view.read (Elt F) f : Vec F S16 .i32) (ix1 l) = f (ix2 (rowB (wL L)) l) := by
  have hc : (rectTB L).shape.ShapeCasts S16 := (show S1x16.ShapeCasts S16 by decide)
  rw [Memref.read_squeeze_slice (tkV) (rectTB L) (fun _ => rfl) squeezes_S1x16_S16 hc f]
  have : shapeCast (s := ⟨2, ![1, 16]⟩) S16 ((tkV).view.readAt (Elt F) (rectTB L).toLoadRect f) hc (ix1 l) = (tkV).view.readAt (Elt F) (rectTB L).toLoadRect f (ix2 0 l) := by
    pointwise
  refine this.trans ?_
  show f _ = f _
  congr 1
  funext a
  apply Fin.ext
  match a with
  | 0 => show (k0_off16 L) 0 + 1 * 0 = _; rw [k0_off16_eq]; (simp <;> omega)
  | 1 => show (k0_off16 L) 1 + 1 * l.val = _; rw [k0_off16_eq]; show 0 + 1 * l.val = l.val; omega

theorem read_memKA (f : Vec F S64x16 .i32) (l : Fin 16) : ((memKA L).view.read (Elt F) f : Vec F S16 .i32) (ix1 l) = f (ix2 (rowA (wL L)) l) := by
  have hc : (rectKA L).shape.ShapeCasts S16 := (show S1x16.ShapeCasts S16 by decide)
  rw [Memref.read_squeeze_slice (kkV) (rectKA L) (fun _ => rfl) squeezes_S1x16_S16 hc f]
  have : shapeCast (s := ⟨2, ![1, 16]⟩) S16 ((kkV).view.readAt (Elt F) (rectKA L).toLoadRect f) hc (ix1 l) = (kkV).view.readAt (Elt F) (rectKA L).toLoadRect f (ix2 0 l) := by
    pointwise
  refine this.trans ?_
  show f _ = f _
  congr 1
  funext a
  apply Fin.ext
  match a with
  | 0 => show (k0_off8 L) 0 + 1 * 0 = _; rw [k0_off8_eq]; (simp <;> omega)
  | 1 => show (k0_off8 L) 1 + 1 * l.val = _; rw [k0_off8_eq]; show 0 + 1 * l.val = l.val; omega

theorem read_memKB (f : Vec F S64x16 .i32) (l : Fin 16) : ((memKB L).view.read (Elt F) f : Vec F S16 .i32) (ix1 l) = f (ix2 (rowB (wL L)) l) := by
  have hc : (rectKB L).shape.ShapeCasts S16 := (show S1x16.ShapeCasts S16 by decide)
  rw [Memref.read_squeeze_slice (kkV) (rectKB L) (fun _ => rfl) squeezes_S1x16_S16 hc f]
  have : shapeCast (s := ⟨2, ![1, 16]⟩) S16 ((kkV).view.readAt (Elt F) (rectKB L).toLoadRect f) hc (ix1 l) = (kkV).view.readAt (Elt F) (rectKB L).toLoadRect f (ix2 0 l) := by
    pointwise
  refine this.trans ?_
  show f _ = f _
  congr 1
  funext a
  apply Fin.ext
  match a with
  | 0 => show (k0_off16 L) 0 + 1 * 0 = _; rw [k0_off16_eq]; (simp <;> omega)
  | 1 => show (k0_off16 L) 1 + 1 * l.val = _; rw [k0_off16_eq]; show 0 + 1 * l.val = l.val; omega

end Cert.Proof.Pick
end
-- ==== Proof.Choose.Body.lean ====
module

public import proofs.«01_k».proof.Proof.Choose.Phase3
public import proofs.«01_k».proof.Proof.Choose.Rows
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Tactic

@[expose] public section

set_option maxRecDepth 16384

noncomputable section

namespace Cert.Proof.Pick

open Cert.ChooseIdeal Cert.ChooseIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.ChooseIdeal.main_arg0_scv : Memref Cert.ChooseIdeal.sig Kind.scVector Space.hbm Cert.ChooseIdeal.S64x8400 EltTy.f32)
local notation "tkV" => (Memref.whole Cert.ChooseIdeal.main_v0_0_scv : Memref Cert.ChooseIdeal.sig Kind.scVector Space.hbm Cert.ChooseIdeal.S64x16 EltTy.i32)
local notation "kkV" => (Memref.whole Cert.ChooseIdeal.main_v0_1_scv : Memref Cert.ChooseIdeal.sig Kind.scVector Space.hbm Cert.ChooseIdeal.S64x16 EltTy.i32)
local notation "b0" => (Memref.whole Cert.ChooseIdeal.cc0_scratch0 : Memref Cert.ChooseIdeal.sig Kind.scVector Space.vmem Cert.ChooseIdeal.S8400 EltTy.f32)
local notation "b1" => (Memref.whole Cert.ChooseIdeal.cc0_scratch1 : Memref Cert.ChooseIdeal.sig Kind.scVector Space.vmem Cert.ChooseIdeal.S8416 EltTy.f32)
local notation "b2" => (Memref.whole Cert.ChooseIdeal.cc0_scratch2 : Memref Cert.ChooseIdeal.sig Kind.scVector Space.vmem Cert.ChooseIdeal.S8416 EltTy.i32)
local notation "b3" => (Memref.whole Cert.ChooseIdeal.cc0_scratch3 : Memref Cert.ChooseIdeal.sig Kind.scVector Space.vmem Cert.ChooseIdeal.S16 EltTy.i32)
local notation "b4" => (Memref.whole Cert.ChooseIdeal.cc0_scratch4 : Memref Cert.ChooseIdeal.sig Kind.scVector Space.vmem Cert.ChooseIdeal.S16 EltTy.i32)
local notation "b5" => (Memref.whole Cert.ChooseIdeal.cc0_scratch5 : Memref Cert.ChooseIdeal.sig Kind.scVector Space.vmem Cert.ChooseIdeal.S16 EltTy.f32)
local notation "b6" => (Memref.whole Cert.ChooseIdeal.cc0_scratch6 : Memref Cert.ChooseIdeal.sig Kind.scVector Space.vmem Cert.ChooseIdeal.S16 EltTy.f32)
local notation "b7" => (Memref.whole Cert.ChooseIdeal.cc0_scratch7 : Memref Cert.ChooseIdeal.sig Kind.scVector Space.vmem Cert.ChooseIdeal.S16 EltTy.i32)
local notation "b8" => (Memref.whole Cert.ChooseIdeal.cc0_scratch8 : Memref Cert.ChooseIdeal.sig Kind.scVector Space.vmem Cert.ChooseIdeal.S16 EltTy.i32)

variable [FloatOps F] (A : Dev nD → Valuation τ sig (Elt F)) (d : Dev nD) (L : grid0.Coords)

local notation "wpT" => wp frame (wpE (defs₀ (F := F)) 𝒱₀ (V d (cV L) (jV L)) none) Set.univ

theorem fb_if (v3 : IVec S16 32) (v7 : BitVec 32) (h8 : k0_chk8 v7) (v14 c16 v15 v20 v22 : BitVec 32) (v23 : BitVec 1) (x : Vec F S8400 .f32)
    {α : Type} (kk : BitVec 32 → Prog (TpuEff nD τ sig (Elt F) Λ₀ (.scVector (cV L) (jV L))) α) (Q : α → sProp 𝕄) :
    fbP d L x ⊢ iprop((∀ w, fbP d L x ∗ ⌜w = if k0_cond2 v7 = 1#1 then fbW x else 0#32⌝ -∗ wpT (kk w) Q)
      -∗ wpT (if h2 : k0_cond2 v7 = 1#1 then fbRun (F := F) L v3 v7 h8 v14 c16 v15 v20 v22 v23 h2 kk else kk 0#32) Q) := by
  by_cases h2 : k0_cond2 v7 = 1#1
  · rw [dif_pos h2, if_pos h2]
    exact fb_run d L v3 v7 h8 v14 c16 v15 v20 v22 v23 h2 x kk Q
  · rw [dif_neg h2, if_neg h2]
    iintro H Hk
    iapply Hk
    isplitl [H]
    · iexact H
    ipureintro
    rfl

/-- The padded lists, as the run leaves them. -/
theorem pad1 (f : Vec F S8416 .f32) (off : Fin 1 → ℕ) (inb : ∀ a, off a + S16.size a ≤ S8416.size a) (w : Vec F S16 .f32) (o : ℕ) (ho : off = ![o]) :
    (b1).view.writes (Elt F) f [⟨Rect.unit (s := S8416) off S16.size inb, w⟩] = put f o w := put_eq (b1).view f off inb w o ho
theorem pad2 (f : Vec F S8416 .i32) (off : Fin 1 → ℕ) (inb : ∀ a, off a + S16.size a ≤ S8416.size a) (w : Vec F S16 .i32) (o : ℕ) (ho : off = ![o]) :
    (b2).view.writes (Elt F) f [⟨Rect.unit (s := S8416) off S16.size inb, w⟩] = put (F := F) (e := .i32) f o w := put_eq (b2).view f off inb w o ho

theorem lw3 (g : Vec F S16 .i32) (w : Vec F S16 .i32) : ((b3).view.read (Elt F) ((b3).view.writes (Elt F) g [⟨Rect.unit (s := S16) ![0] S16.size inb_S16_S16_0, w⟩]) : Vec F S16 .i32) = w := fil7 g w
theorem lw4 (g : Vec F S16 .i32) (w : Vec F S16 .i32) : ((b4).view.read (Elt F) ((b4).view.writes (Elt F) g [⟨Rect.unit (s := S16) ![0] S16.size inb_S16_S16_0, w⟩]) : Vec F S16 .i32) = w := fil7 g w

/-- The first row's last steps: its chosen columns stored and copied out. -/
def endA (v3 : IVec S16 32) (v7 : BitVec 32) (r2 : IVec S16 32) (w : BitVec 32) :
    Prog (TpuEff nD τ sig (Elt F) Λ₀ (.scVector (cV L) (jV L))) (Σ' (_ : IVec S16 32) (_ : BitVec 32), IVec S16 32) := do
  let _ : Vec F S16 .i32 ← Prog.lift (.load b3 (Rect.unit (s := S16) ![0] S16.size inb_S16_S16_0).toLoadRect (View.loadsAt_vmem h_S16))
  Prog.lift (.store b3 (Rect.unit (s := S16) ![0] S16.size inb_S16_S16_0) (k0_pay133 v3 v7 r2 w) Finset.univ (View.stores_vmem_bits_univ h_S16 rfl) (.inl rfl))
  Prog.lift (.enqueueDma b3 (.here (memTA L)) (.dma cc0_scoped1.sem) (Memref.isWhole_whole _).wordExact ((View.wordExact_bits rfl).reshape _ _) ⟨Or.inl rfl, trivial⟩)
  Prog.lift (.waitDma2 cc0_scoped1.sem b3 (memTA L) (Memref.isWhole_whole _).wordExact ((View.wordExact_bits rfl).reshape _ _))
  pure ⟨k0_pay132 v3 v7, 10#32, k0_pay134⟩

/-- The second row's last step in its own part: its chosen columns stored. -/
def endB (v3 : IVec S16 32) (v7 : BitVec 32) (r2 : IVec S16 32) (w : BitVec 32) :
    Prog (TpuEff nD τ sig (Elt F) Λ₀ (.scVector (cV L) (jV L))) (IVec S16 32) := do
  let _ : Vec F S16 .i32 ← Prog.lift (.load b3 (Rect.unit (s := S16) ![0] S16.size inb_S16_S16_0).toLoadRect (View.loadsAt_vmem h_S16))
  Prog.lift (.store b3 (Rect.unit (s := S16) ![0] S16.size inb_S16_S16_0) (k0_pay172 v3 v7 r2 w) Finset.univ (View.stores_vmem_bits_univ h_S16 rfl) (.inl rfl))
  pure (k0_pay171 v3 v7)

set_option maxHeartbeats 16000000 in
theorem tile_body (hF : (K (F := F)).Facts) (O : CellTallies nD τ sig (HIx 1)) (W : Waits sig (HIx 1)) (hO : ∀ g, O g none = 0) :
    iprop(levAts (K (F := F)).L (K (F := F)).lev ∗ emp ∗ goP A d (wL L)
        ∗ scopedBufs (V d (cV L) (jV L)) ∗ scopedSems0 (V d (cV L) (jV L)) ∗ owes (V d (cV L) (jV L)) O W)
      ⊢ wpT (cc0__topk_body L xV (Memref.isWhole_whole _) tkV (Memref.isWhole_whole _) kkV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5)
          fun _ => iprop(tdP A d (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold goP tdP row0 row1
  iintro ⟨#Hlv, -, ⟨⟨HxA, HtA, HkA⟩, ⟨HxB, HtB, HkB⟩⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, Hbufs⟩, ⟨G0, G1, G2, G3, G4, G5, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave HxA := (Entails.of_eq (pts_memXA (F := F) d L _).symm) $$ HxA
  ihave HxB := (Entails.of_eq (pts_memXB (F := F) d L _).symm) $$ HxB
  ihave HtA := (Entails.of_eq (pts_memTA (F := F) d L _).symm) $$ HtA
  ihave HtB := (Entails.of_eq (pts_memTB (F := F) d L _).symm) $$ HtB
  ihave HkA := (Entails.of_eq (pts_memKA (F := F) d L _).symm) $$ HkA
  ihave HkB := (Entails.of_eq (pts_memKB (F := F) d L _).symm) $$ HkB
  ihave H0 := (Entails.of_eq (pts_b0 (F := F) d L _).symm) $$ H0
  ihave H1 := (Entails.of_eq (pts_b1 (F := F) d L _).symm) $$ H1
  ihave H2 := (Entails.of_eq (pts_b2 (F := F) d L _).symm) $$ H2
  ihave H3 := (Entails.of_eq (pts_b3 (F := F) d L _).symm) $$ H3
  ihave H4 := (Entails.of_eq (pts_b4 (F := F) d L _).symm) $$ H4
  ihave H5 := (Entails.of_eq (pts_b5 (F := F) d L _).symm) $$ H5
  ihave H6 := (Entails.of_eq (pts_b6 (F := F) d L _).symm) $$ H6
  ihave H7 := (Entails.of_eq (pts_b7 (F := F) d L _).symm) $$ H7
  ihave H8 := (Entails.of_eq (pts_b8 (F := F) d L _).symm) $$ H8
  sl_unfold [cc0__topk_body]
  sl_open_parts
  clear hF hO
  sl_exec (disch := exact View.amount_pos _ _ (show 0 < S8400.numel by decide))
  have e0 : View.write (Elt F) (b0).view f0 (tile_body.sl.dma0 A d L) Finset.univ = xRow A d (rowA (wL L)) := by
    sl_unfold_words
    simp only [Memref.view_whole, View.write_whole_univ]
    funext i
    obtain ⟨l, rfl⟩ := ex1 i
    exact read_memXA L (xA A d) l
  rw [e0]
  clear e0
  rw [wp_bind]
  sl_for (inv1 (F := F) d L (xRow A d (rowA (wL L))) f1 f2) $$ [H0 H1 H2 H6 H7 H8]
  case region =>
    intro k a
    exact trip_t1 d L _ _ _ k a
  · unfold inv1
    isplitl [H0]; · iexact H0
    isplitl [H1]; · iexact H1
    isplitl [H2]; · iexact H2
    isplitl [H6]; · iexists _; iexact H6
    isplitl [H7]; · iexists _; iexact H7
    isplitl [H8]; · iexists _; iexact H8
    ipureintro; rfl
  unfold inv1
  iintro %offA ⟨H0, H1, H2, ⟨%y6, H6⟩, ⟨%y7, H7⟩, ⟨%y8, H8⟩, %eA⟩
  rw [show Scf.trips k0_t1_loop.lb k0_t1_loop.ub k0_t1_loop.st = 525 from trips525] at eA
  rw [show Scf.trips k0_t1_loop.lb k0_t1_loop.ub k0_t1_loop.st = 525 from trips525]
  subst eA
  have oA := st_off (xRow A d (rowA (wL L))) f1 f2 525 (by omega)
  have rA := row_indep (xRow A d (rowA (wL L))) f1 (fun _ => xRow A d (rowA (wL L)) (ix1 0)) f2 (fun _ => 0#32)
  generalize st (xRow A d (rowA (wL L))) f1 f2 525 = sA at oA rA ⊢
  have a8 := chk8_ok sA.off oA
  sl_exec
  rw [pad1 _ (k0_off4 sA.off) _ _ sA.off.toNat rfl, pad2 _ (k0_off4 sA.off) _ _ sA.off.toNat rfl]
  rw [wp_bind]
  sl_for (inv4 (F := F) d L (ckP sA) (ciP sA)) $$ [H1 H2 H5 H8]
  case region =>
    intro k a
    exact trip_t4 d L _ _ _ _ _ _ _ _ _ _ oA _ _ k a
  · unfold inv4
    isplitl [H1]; · iexact H1
    isplitl [H2]; · iexact H2
    isplitl [H5]; · iexists _; iexact H5
    isplitl [H8]; · iexists _; iexact H8
    ipureintro; rfl
  unfold inv4
  iintro %rsA ⟨H1, H2, ⟨%y5, H5⟩, ⟨%z8, H8⟩, %eB⟩
  rw [show Scf.trips (k0_t4_loop sA.off).lb (k0_t4_loop sA.off).ub (k0_t4_loop sA.off).st = (sA.off.toNat + 15) / 16 from (words _ oA).1] at eB
  sl_exec
  sl_for (fun (_ : ℕ) (a : FVec F S16 .f32 × IVec S16 32) => (iprop(⌜a = (rsA.1, rsA.2)⌝) : sProp 𝕄)) $$ []
  case region =>
    intro k a
    exact absurd (lt_of_lt_of_eq k.isLt (words _ oA).2.1) (Nat.not_lt_zero _)
  · ipureintro; rfl
  iintro %rtA %eC
  subst eC
  subst eB
  iapply (fb_if (F := F) d L k0_pay96 sA.off a8 _ _ _ _ _ _ (xRow A d (rowA (wL L))) (endA (F := F) L k0_pay96 sA.off (best (ckP sA) (ciP sA) ((sA.off.toNat + 15) / 16)).2) _) $$ [H0 H5 H7 H8]
  · unfold fbP
    isplitl [H0]; · iexact H0
    isplitl [H5]; · iexists _; iexact H5
    isplitl [H7]; · iexists _; iexact H7
    iexists _; iexact H8
  unfold fbP
  iintro %wA ⟨⟨H0, ⟨%q5, H5⟩, ⟨%q7, H7⟩, ⟨%q8, H8⟩⟩, %eD⟩
  subst eD
  sl_exec (disch := first | exact View.amount_pos _ _ (show 0 < S16.numel by decide) | exact View.amount_pos _ _ (show 0 < S8400.numel by decide))
  have e1 : View.write (Elt F) (b0).view (xRow A d (rowA (wL L))) (tile_body.sl.dma4_1 A d L) Finset.univ = xRow A d (rowB (wL L)) := by
    sl_unfold_words
    simp only [Memref.view_whole, View.write_whole_univ]
    funext i
    obtain ⟨l, rfl⟩ := ex1 i
    exact read_memXB L (xA A d) l
  rw [e1]
  clear e1
  rw [wp_bind]
  sl_for (inv1 (F := F) d L (xRow A d (rowB (wL L))) (ckP sA) (ciP sA)) $$ [H0 H1 H2 H6 H7 H8]
  case region =>
    intro k a
    exact trip_t1 d L _ _ _ k a
  · unfold inv1
    isplitl [H0]; · iexact H0
    isplitl [H1]; · iexact H1
    isplitl [H2]; · iexact H2
    isplitl [H6]; · iexists _; iexact H6
    isplitl [H7]; · iexists _; iexact H7
    isplitl [H8]; · iexists _; iexact H8
    ipureintro; rfl
  unfold inv1
  iintro %offB ⟨H0, H1, H2, ⟨%u6, H6⟩, ⟨%u7, H7⟩, ⟨%u8, H8⟩, %eA⟩
  rw [show Scf.trips k0_t13_loop.lb k0_t13_loop.ub k0_t13_loop.st = 525 from trips525] at eA
  rw [show Scf.trips k0_t13_loop.lb k0_t13_loop.ub k0_t13_loop.st = 525 from trips525]
  subst eA
  have oB := st_off (xRow A d (rowB (wL L))) (ckP sA) (ciP sA) 525 (by omega)
  have rB := row_indep (xRow A d (rowB (wL L))) (ckP sA) (fun _ => xRow A d (rowB (wL L)) (ix1 0)) (ciP sA) (fun _ => 0#32)
  generalize st (xRow A d (rowB (wL L))) (ckP sA) (ciP sA) 525 = sB at oB rB ⊢
  have a38 : k0_chk38 sB.off := chk8_ok sB.off oB
  sl_exec
  rw [pad1 _ (k0_off12 sB.off) _ _ sB.off.toNat rfl, pad2 _ (k0_off12 sB.off) _ _ sB.off.toNat rfl]
  rw [wp_bind]
  sl_for (inv4 (F := F) d L (ckP sB) (ciP sB)) $$ [H1 H2 H5 H8]
  case region =>
    intro k a
    exact trip_t4 d L lanes k0_pay96 sB.off a38 0 0 0 0 0 0 oB _ _ k a
  · unfold inv4
    isplitl [H1]; · iexact H1
    isplitl [H2]; · iexact H2
    isplitl [H5]; · iexists _; iexact H5
    isplitl [H8]; · iexists _; iexact H8
    ipureintro; rfl
  unfold inv4
  iintro %rsB ⟨H1, H2, ⟨%t5, H5⟩, ⟨%t8, H8⟩, %eB⟩
  rw [show Scf.trips (k0_t16_loop sB.off).lb (k0_t16_loop sB.off).ub (k0_t16_loop sB.off).st = (sB.off.toNat + 15) / 16 from (words _ oB).1] at eB
  sl_exec
  sl_for (fun (_ : ℕ) (a : FVec F S16 .f32 × IVec S16 32) => (iprop(⌜a = (rsB.1, rsB.2)⌝) : sProp 𝕄)) $$ []
  case region =>
    intro k a
    exact absurd (lt_of_lt_of_eq k.isLt (words _ oB).2.1) (Nat.not_lt_zero _)
  · ipureintro; rfl
  iintro %rtB %eC
  subst eC
  subst eB
  iapply (fb_if (F := F) d L k0_pay96 sB.off a38 0 0 0 0 0 0 (xRow A d (rowB (wL L))) (endB (F := F) L k0_pay96 sB.off (best (ckP sB) (ciP sB) ((sB.off.toNat + 15) / 16)).2) _) $$ [H0 H5 H7 H8]
  · unfold fbP
    isplitl [H0]; · iexact H0
    isplitl [H5]; · iexists _; iexact H5
    isplitl [H7]; · iexists _; iexact H7
    iexists _; iexact H8
  unfold fbP
  iintro %wB ⟨⟨H0, ⟨%p5, H5⟩, ⟨%p7, H7⟩, ⟨%p8, H8⟩⟩, %eD⟩
  subst eD
  sl_exec (disch := first | exact View.amount_pos _ _ (show 0 < S16.numel by decide) | exact View.amount_pos _ _ (show 0 < S8400.numel by decide))
  sl_step
  ihave HtA := (Entails.of_eq ((pointsTo_congr (cells_agree (memTA L).view _ (tkG A d) _ fun y => by
    obtain ⟨l, rfl⟩ := ex1 y
    sl_unfold_words
    rw [read_memTA]
    refine (congrFun (lw3 _ _) (ix1 l)).trans ?_
    exact congrFun rA.1 (ix1 l))).trans (pts_memTA (F := F) d L (tkG A d)))) $$ HtA
  ihave HkA := (Entails.of_eq ((pointsTo_congr (cells_agree (memKA L).view _ (kkG A d) _ fun y => by
    obtain ⟨l, rfl⟩ := ex1 y
    sl_unfold_words
    rw [read_memKA]
    refine (congrFun (lw4 _ _) (ix1 l)).trans ?_
    exact congrFun rA.2 (ix1 l))).trans (pts_memKA (F := F) d L (kkG A d)))) $$ HkA
  ihave HtB := (Entails.of_eq ((pointsTo_congr (cells_agree (memTB L).view _ (tkG A d) _ fun y => by
    obtain ⟨l, rfl⟩ := ex1 y
    sl_unfold_words
    rw [read_memTB]
    refine (congrFun (lw3 _ _) (ix1 l)).trans ?_
    exact congrFun rB.1 (ix1 l))).trans (pts_memTB (F := F) d L (tkG A d)))) $$ HtB
  ihave HkB := (Entails.of_eq ((pointsTo_congr (cells_agree (memKB L).view _ (kkG A d) _ fun y => by
    obtain ⟨l, rfl⟩ := ex1 y
    sl_unfold_words
    rw [read_memKB]
    refine (congrFun (lw4 _ _) (ix1 l)).trans ?_
    exact congrFun rB.2 (ix1 l))).trans (pts_memKB (F := F) d L (kkG A d)))) $$ HkB
  ihave HxA := (Entails.of_eq (pts_memXA (F := F) d L _)) $$ HxA
  ihave HxB := (Entails.of_eq (pts_memXB (F := F) d L _)) $$ HxB
  isplitl [HxA HtA HkA HxB HtB HkB]
  · isplitl [HxA HtA HkA]
    · isplitl [HxA]; · iexact HxA
      isplitl [HtA]; · iexact HtA
      iexact HkA
    isplitl [HxB]; · iexact HxB
    isplitl [HtB]; · iexact HtB
    iexact HkB
  isplitl [H0 H1 H2 H3 H4 H5 H6 H7 H8 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexact Hbufs
  isplitl [G0 G1 G2 G3 G4 G5 Hsems]
  · isplitl [G0]; · iexact G0
    isplitl [G1]; · iexact G1
    isplitl [G2]; · iexact G2
    isplitl [G3]; · iexact G3
    isplitl [G4]; · iexact G4
    isplitl [G5]; · iexact G5
    iexact Hsems
  iexists _
  isplitr [HO]
  rotate_left
  · iexact HO
  · ipureintro
    intro p hp
    simp only [Finset.mem_insert] at hp
    rcases hp with rfl | rfl | rfl | rfl | rfl | rfl | hp
    all_goals first | exact .inl hp | exact .inr (.inl rfl)

end Cert.Proof.Pick
end
-- ==== Proof.Choose.Launch.lean ====
module

public import proofs.«01_k».proof.Proof.Choose.Body
public import Idealize.ShloMosaic.Lib.SparseCore.Quiescent
public import Idealize.ShloMosaic.Lib.SparseCore.Ops
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Claim
public import Idealize.ShloMosaic.Lib.Tactic

@[expose] public section

set_option maxRecDepth 16384

noncomputable section

namespace Cert.Proof.Pick

open Cert.ChooseIdeal Cert.ChooseIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_sub_split held_congr)

variable {F : FTy → Type}

local notation "𝕄" => MT nD τ sig (HIx 1) (Elt F) ℕ UU ℕ

local notation "xV" => (Memref.whole Cert.ChooseIdeal.main_arg0_scv : Memref Cert.ChooseIdeal.sig Kind.scVector Space.hbm Cert.ChooseIdeal.S64x8400 EltTy.f32)
local notation "tkV" => (Memref.whole Cert.ChooseIdeal.main_v0_0_scv : Memref Cert.ChooseIdeal.sig Kind.scVector Space.hbm Cert.ChooseIdeal.S64x16 EltTy.i32)
local notation "kkV" => (Memref.whole Cert.ChooseIdeal.main_v0_1_scv : Memref Cert.ChooseIdeal.sig Kind.scVector Space.hbm Cert.ChooseIdeal.S64x16 EltTy.i32)
local notation "b0" => (Memref.whole Cert.ChooseIdeal.cc0_scratch0 : Memref Cert.ChooseIdeal.sig Kind.scVector Space.vmem Cert.ChooseIdeal.S8400 EltTy.f32)
local notation "b1" => (Memref.whole Cert.ChooseIdeal.cc0_scratch1 : Memref Cert.ChooseIdeal.sig Kind.scVector Space.vmem Cert.ChooseIdeal.S8416 EltTy.f32)
local notation "b2" => (Memref.whole Cert.ChooseIdeal.cc0_scratch2 : Memref Cert.ChooseIdeal.sig Kind.scVector Space.vmem Cert.ChooseIdeal.S8416 EltTy.i32)
local notation "b3" => (Memref.whole Cert.ChooseIdeal.cc0_scratch3 : Memref Cert.ChooseIdeal.sig Kind.scVector Space.vmem Cert.ChooseIdeal.S16 EltTy.i32)
local notation "b4" => (Memref.whole Cert.ChooseIdeal.cc0_scratch4 : Memref Cert.ChooseIdeal.sig Kind.scVector Space.vmem Cert.ChooseIdeal.S16 EltTy.i32)
local notation "b5" => (Memref.whole Cert.ChooseIdeal.cc0_scratch5 : Memref Cert.ChooseIdeal.sig Kind.scVector Space.vmem Cert.ChooseIdeal.S16 EltTy.f32)
local notation "b6" => (Memref.whole Cert.ChooseIdeal.cc0_scratch6 : Memref Cert.ChooseIdeal.sig Kind.scVector Space.vmem Cert.ChooseIdeal.S16 EltTy.f32)
local notation "b7" => (Memref.whole Cert.ChooseIdeal.cc0_scratch7 : Memref Cert.ChooseIdeal.sig Kind.scVector Space.vmem Cert.ChooseIdeal.S16 EltTy.i32)
local notation "b8" => (Memref.whole Cert.ChooseIdeal.cc0_scratch8 : Memref Cert.ChooseIdeal.sig Kind.scVector Space.vmem Cert.ChooseIdeal.S16 EltTy.i32)

variable [FloatOps F]

section Task

variable (A : Dev nD → Valuation τ sig (Elt F))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__topk_body (coordsV c s) xV (Memref.isWhole_whole _) tkV (Memref.isWhole_whole _) kkV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5) ⟨⟩ c s := rfl

theorem tileObl (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (coordsV ⟨_, hci.1⟩ ⟨_, hci.2⟩) hF O W hO

/-! ## The rows dealt out and gathered again -/

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P A) 0 := by
  intro d c
  show (bigSep Finset.univ fun i : Fin 16 => goP A d (wid (Fin.cast nCore_zero c) i)) ⊢ |={Set.univ}=> iprop(
      (bigSep Finset.univ fun i : Fin ((K (F := F)).nSub 0) => goP A d (wid (Fin.cast nCore_zero c) (Fin.cast nSub_zero i)))
      ∗ ((bigSep Finset.univ fun i : Fin ((K (F := F)).nSub 0) => tdP A d (wid (Fin.cast nCore_zero c) (Fin.cast nSub_zero i)))
          -∗ bigSep Finset.univ fun i : Fin 16 => tdP A d (wid (Fin.cast nCore_zero c) i)))
  rw [bigSep_subs (F := F) (fun i => goP A d (wid (Fin.cast nCore_zero c) i)),
    bigSep_subs (F := F) (fun i => tdP A d (wid (Fin.cast nCore_zero c) i))]
  iintro H; imodintro
  isplitl [H]; · iexact H
  iintro H; iexact H

/-- The task numbers are the pairs of a core and a subcore. -/
def widEquiv : Fin 2 × Fin 16 ≃ Fin 32 where
  toFun p := wid p.1 p.2
  invFun w := (⟨w.val % 2, Nat.mod_lt _ (by decide)⟩, ⟨w.val / 2, by omega⟩)
  left_inv p := by ext <;> simp <;> omega
  right_inv w := by ext; simp; omega

/-- The rows are the pairs of a task and one of its two. -/
def rowEquiv : Fin 32 × Fin 2 ≃ Fin 64 where
  toFun p := ⟨2 * p.1.val + p.2.val, by omega⟩
  invFun r := (⟨r.val / 2, by omega⟩, ⟨r.val % 2, Nat.mod_lt _ (by decide)⟩)
  left_inv p := by ext <;> simp <;> omega
  right_inv w := by ext; simp; omega

omit [FloatOps F] in
theorem bigSep_wid (Φ : Fin 32 → sProp 𝕄) :
    (bigSep Finset.univ fun c : Fin 2 => bigSep Finset.univ fun i : Fin 16 => Φ (wid c i)) = bigSep Finset.univ Φ := by
  rw [bigSep_univ_equiv widEquiv Φ, bigSep_univ_prod]; rfl

omit [FloatOps F] in
theorem bigSep_rows (Φ : Fin 64 → sProp 𝕄) :
    (bigSep Finset.univ fun w : Fin 32 => iprop(Φ (rowA w) ∗ Φ (rowB w))) = bigSep Finset.univ Φ := by
  rw [bigSep_univ_equiv rowEquiv Φ, bigSep_univ_prod]
  refine bigSep_congr fun w _ => ?_
  rw [show (Finset.univ : Finset (Fin 2)) = {0, 1} from rfl, SparseCore.bigSep_insert' (by decide), bigSep_singleton]
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P A).st 0 d c) = bigSep Finset.univ fun w : Fin 32 => goP A d w :=
  (bigSep_cores (F := F) fun c => bigSep Finset.univ fun i : Fin 16 => goP A d (wid c i)).trans (bigSep_wid (fun w => goP A d w))
theorem dn0_eq (d : Dev nD) :
    (bigSep Finset.univ fun c : Fin ((K (F := F)).nCore 0) => (P A).dn 0 d c) = bigSep Finset.univ fun w : Fin 32 => tdP A d w :=
  (bigSep_cores (F := F) fun c => bigSep Finset.univ fun i : Fin 16 => tdP A d (wid c i)).trans (bigSep_wid (fun w => tdP A d w))

omit [FloatOps F] in
theorem x_parts (d : Dev nD) (f : Buf (Elt F) (xLoc d)) :
    (xLoc d ↦{fullShare} f : sProp 𝕄) = bigSep Finset.univ fun r : Fin 64 => xLoc d ↦[setX r]{fullShare} f := by
  have hs : ∀ r, setX r = (partX r).set := fun r => by
    show ((View.whole (main_arg0_scv : Ref sig .scVector)).slice (partX r)).set = _
    rw [View.set_slice]; exact Finset.map_refl
  rw [← pointsTo_biUnion Finset.univ (ℓ := xLoc d) setX (fun i _ j _ h => by rw [hs, hs]; exact Rect.part_disjoint hdivX h),
    show (Finset.univ : Finset (Fin 64)).biUnion setX = Finset.univ from (Finset.biUnion_congr rfl fun i _ => hs i).trans (Rect.biUnion_part hdivX)]
omit [FloatOps F] in
theorem tk_parts (d : Dev nD) (f : Buf (Elt F) (tkLoc d)) :
    (tkLoc d ↦{fullShare} f : sProp 𝕄) = bigSep Finset.univ fun r : Fin 64 => tkLoc d ↦[setT r]{fullShare} f := by
  have hs : ∀ r, setT r = (partT r).set := fun r => by
    show ((View.whole (main_v0_0_scv : Ref sig .scVector)).slice (partT r)).set = _
    rw [View.set_slice]; exact Finset.map_refl
  rw [← pointsTo_biUnion Finset.univ (ℓ := tkLoc d) setT (fun i _ j _ h => by rw [hs, hs]; exact Rect.part_disjoint hdivT h),
    show (Finset.univ : Finset (Fin 64)).biUnion setT = Finset.univ from (Finset.biUnion_congr rfl fun i _ => hs i).trans (Rect.biUnion_part hdivT)]
omit [FloatOps F] in
theorem kk_parts (d : Dev nD) (f : Buf (Elt F) (kkLoc d)) :
    (kkLoc d ↦{fullShare} f : sProp 𝕄) = bigSep Finset.univ fun r : Fin 64 => kkLoc d ↦[setK r]{fullShare} f := by
  have hs : ∀ r, setK r = (partT r).set := fun r => by
    show ((View.whole (main_v0_1_scv : Ref sig .scVector)).slice (partT r)).set = _
    rw [View.set_slice]; exact Finset.map_refl
  rw [← pointsTo_biUnion Finset.univ (ℓ := kkLoc d) setK (fun i _ j _ h => by rw [hs, hs]; exact Rect.part_disjoint hdivT h),
    show (Finset.univ : Finset (Fin 64)).biUnion setK = Finset.univ from (Finset.biUnion_congr rfl fun i _ => hs i).trans (Rect.biUnion_part hdivT)]

theorem go_all (d : Dev nD) :
    (bigSep Finset.univ fun w : Fin 32 => goP A d w : sProp 𝕄)
      = iprop((xLoc d ↦{fullShare} xA A d) ∗ (tkLoc d ↦{fullShare} A d (Proc.devRef .tc (main_v0_0 : Ref sig .tc)))
        ∗ (kkLoc d ↦{fullShare} A d (Proc.devRef .tc (main_v0_1 : Ref sig .tc)))) := by
  unfold goP
  rw [bigSep_rows (F := F) (row0 A d)]
  unfold row0
  rw [bigSep_sep', bigSep_sep', ← x_parts, ← tk_parts, ← kk_parts]
theorem td_all (d : Dev nD) :
    (bigSep Finset.univ fun w : Fin 32 => tdP A d w : sProp 𝕄)
      = iprop((xLoc d ↦{fullShare} xA A d) ∗ (tkLoc d ↦{fullShare} tkG A d) ∗ (kkLoc d ↦{fullShare} kkG A d)) := by
  unfold tdP
  rw [bigSep_rows (F := F) (row1 A d)]
  unfold row1
  rw [bigSep_sep', bigSep_sep', ← x_parts, ← tk_parts, ← kk_parts]

/-! ## The launch element -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_nothing]
  iempintro

end Task

section Host

variable (m : (ℓ : Loc nD τ sig) → Buf (Elt F) ℓ) (ρ : Dev nD → PrngReg)

/-- The memory a device starts at. -/
def V0 (d : Dev nD) : Valuation τ sig (Elt F) := fun b => m (d, b)
/-- What the arrays hold after the call. -/
def fin (d : Dev nD) : Valuation τ sig (Elt F) :=
  Function.update (Function.update (V0 m d) (Proc.devRef .tc (main_v0_0 : Ref sig .tc)) (tkG (V0 m) d)) (Proc.devRef .tc (main_v0_1 : Ref sig .tc)) (kkG (V0 m) d)

abbrev arrays : Finset (DevRef τ sig) := Pipeline.ucRefs τ sig

/-- The arrays the call is handed. -/
abbrev callRefs : Finset (DevRef τ sig) :=
  {Proc.devRef .tc (main_arg0 : Ref sig .tc), Proc.devRef .tc (main_v0_0 : Ref sig .tc), Proc.devRef .tc (main_v0_1 : Ref sig .tc)}

theorem callRefs_sub : callRefs ⊆ arrays :=
  Finset.insert_subset (Pipeline.devRef_mem_ucRefs rfl) <| Finset.insert_subset (Pipeline.devRef_mem_ucRefs rfl) <|
  Finset.singleton_subset_iff.mpr (Pipeline.devRef_mem_ucRefs rfl)

omit [FloatOps F] in
theorem held_call (d : Dev nD) (W : Valuation τ sig (Elt F)) :
    (held (T d) callRefs W : sProp 𝕄)
      = iprop((xLoc d ↦{fullShare} W (Proc.devRef .tc (main_arg0 : Ref sig .tc))) ∗ (tkLoc d ↦{fullShare} W (Proc.devRef .tc (main_v0_0 : Ref sig .tc)))
        ∗ (kkLoc d ↦{fullShare} W (Proc.devRef .tc (main_v0_1 : Ref sig .tc)))) := by
  unfold held callRefs
  rw [SparseCore.bigSep_insert' (by decide), SparseCore.bigSep_insert' (by decide), bigSep_singleton]

theorem fin_tk (d : Dev nD) : fin m d (Proc.devRef .tc (main_v0_0 : Ref sig .tc)) = tkG (V0 m) d := by
  unfold fin; rw [Function.update_of_ne (by decide), Function.update_self]
theorem fin_kk (d : Dev nD) : fin m d (Proc.devRef .tc (main_v0_1 : Ref sig .tc)) = kkG (V0 m) d := by
  unfold fin; rw [Function.update_self]
theorem fin_ne (d : Dev nD) (b : DevRef τ sig) (h0 : b ≠ Proc.devRef .tc (main_v0_0 : Ref sig .tc)) (h1 : b ≠ Proc.devRef .tc (main_v0_1 : Ref sig .tc)) :
    fin m d b = V0 m d b := by
  unfold fin; rw [Function.update_of_ne h1, Function.update_of_ne h0]

theorem held_rest (d : Dev nD) : (held (T d) (arrays \ callRefs) (V0 m d) : sProp 𝕄) = held (T d) (arrays \ callRefs) (fin m d) :=
  held_congr (T d) fun b hb => (fin_ne m d b
    (fun h => (Finset.mem_sdiff.mp hb).2 (h ▸ by simp [callRefs]))
    (fun h => (Finset.mem_sdiff.mp hb).2 (h ▸ by simp [callRefs]))).symm

/-- What the call is handed, apart from the rest. -/
theorem held_start (d : Dev nD) :
    (held (T d) arrays (V0 m d) : sProp 𝕄) = iprop(held (T d) callRefs (V0 m d) ∗ held (T d) (arrays \ callRefs) (fin m d)) := by
  rw [← held_rest m d]; exact held_sub_split (T d) callRefs_sub (V0 m d)

/-- The arrays, every one at its last contents. -/
abbrev FIN (d : Dev nD) : sProp 𝕄 := held (T d) arrays (fin m d)

theorem hmain (κ : GSem nD τ sig → ℕ) (d : Dev nD) :
    iprop((K (F := F)).ctx EH (P (V0 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) arrays (V0 m d) from Pipeline.unscopedBufs_held d (V0 m d)]
  simp only [main, wp_bind, wp_pure]
  iintro ⟨#Hctx, Hst, ⟨Hb, Hheld, Hts, -⟩, -⟩
  ihave Hh := (Entails.of_eq (held_start m d)) $$ Hheld
  icases Hh with ⟨Hcall, Hrest⟩
  ihave Hcall := (Entails.of_eq (held_call d (V0 m d))) $$ Hcall
  icases Hcall with ⟨Hx, Htk, Hkk⟩
  iapply ((K (F := F)).wp_run (D (F := F)) 𝒱 (EH := EH) (P := P (V0 m)) κ d 0) $$ [Hst Hx Htk Hkk Hrest Hb Hts]
  isplitr; · iexact Hctx
  isplitl [Hst]; · iexact Hst
  isplitl [Hx Htk Hkk]
  · rw [st0_eq, go_all]
    isplitl [Hx]; · iexact Hx
    isplitl [Htk]; · iexact Htk
    iexact Hkk
  iintro ⟨Hst, Hdn⟩
  ihave Hdn' := (Entails.of_eq ((dn0_eq (V0 m) d).trans (td_all (V0 m) d))) $$ Hdn
  icases Hdn' with ⟨Hx, Htk, Hkk⟩
  imodintro
  isplitl [Hst]; · iexact Hst
  isplitl [Hx Htk Hkk Hrest]
  · unfold FIN
    rw [held_sub_split (T d) callRefs_sub (fin m d)]
    isplitr [Hrest]
    · rw [held_call, fin_tk, fin_kk, fin_ne m d _ (by decide) (by decide)]
      isplitl [Hx]; · iexact Hx
      isplitl [Htk]; · iexact Htk
      iexact Hkk
    iexact Hrest
  isplitl [Hb] <;> iassumption

def fq (d : Dev nD) (s' : Phys nD τ sig (Elt F)) : Prop := ∀ b ∈ arrays, s'.mem.mem (d, b) = fin m d b

theorem hfin (d : Dev nD) (s' : Phys nD τ sig (Elt F)) : iprop(FIN m d ∗ SI s') ⊢ (⌜fq m d s'⌝ : sProp 𝕄) := by
  unfold FIN held fq
  iintro ⟨H, HSI⟩
  iapply (SI_pointsTo_bufs_agree (st := s') (c := d) (B := arrays) (qs := fun _ => fullShare) (F := fin m d)) $$ [H HSI]
  isplitl [HSI]; · iexact HSI
  iexact H

/-! ## The program's run -/

def QC : PUnit × MemSt nD τ sig (Elt F) → Prop := fun r => (∀ c : Dev nD, ∀ b ∈ arrays, r.2.mem (c, b) = fin m c b) ∧ r.2.sem = fun _ => 0

theorem run_main [∀ e, Nonempty (Elt F e)] :
    θ_run (Cert.ChooseIdeal.defs (F := F)) (Cert.ChooseIdeal.threads (F := F)) ⟨m, fun _ => 0, ρ⟩ (QC m) :=
  SparseCore.Cfg.θ_run_sc_quiescent (K := K (F := F)) (D := D (F := F)) (𝒱 := 𝒱) (EH := EH) (P := P (V0 m)) (A := ∅) facts v₀
    (fun q hq => match q with | 0 => nomatch hq)
    (fun q _ => match q with | 0 => tileObl (V0 m) facts)
    (fun q _ => match q with | 0 => SparseCore.Cfg.VecSplit.of_plain (vecSplit (V0 m)))
    m ρ main (fun _ => iprop(emp)) (FIN m) (u₀ (F := F)) (sep_elim_left.trans (hu₀ (V0 m))) (hmain m ρ) (fq m) (hfin m) (QC m) (fun _ h hz => ⟨h, hz⟩)

/-- The program runs, the costs end unchanged and every counter reads zero. -/
theorem frame [∀ e, Nonempty (Elt F e)] :
    θ_run (Cert.ChooseIdeal.defs (F := F)) (Cert.ChooseIdeal.threads (F := F)) ⟨m, fun _ => 0, ρ⟩ (fun r => (∀ c : Dev nD,
      r.2.mem ((c.tc : Thread nD τ).loc main_arg0) = m ((c.tc : Thread nD τ).loc main_arg0)) ∧ r.2.sem = fun _ => 0) := by
  refine (θ_run _ _ _).mono ?_ (run_main m ρ)
  intro r h
  refine ⟨fun c => ?_, h.2⟩
  exact (h.1 c _ (Pipeline.devRef_mem_ucRefs rfl)).trans (fin_ne m c _ (by decide) (by decide))

/-- The two results at the program's end. -/
theorem results [∀ e, Nonempty (Elt F e)] :
    θ_run (Cert.ChooseIdeal.defs (F := F)) (Cert.ChooseIdeal.threads (F := F)) ⟨m, fun _ => 0, ρ⟩ (fun r => ∀ c : Dev nD,
      r.2.mem ((c.tc : Thread nD τ).loc main_v0_0) = tkG (V0 m) c ∧ r.2.mem ((c.tc : Thread nD τ).loc main_v0_1) = kkG (V0 m) c) := by
  refine (θ_run _ _ _).mono ?_ (run_main m ρ)
  intro r h c
  exact ⟨(h.1 c _ (Pipeline.devRef_mem_ucRefs rfl)).trans (fin_tk m c), (h.1 c _ (Pipeline.devRef_mem_ucRefs rfl)).trans (fin_kk m c)⟩

end Host

end Cert.Proof.Pick
end
-- ==== Proof.Choose.Order.lean ====
/-
  Sixteen lanes put in the places their ranks say.
-/
module

public import proofs.«01_k».proof.Proof.Choose.Model

@[expose] public section

set_option maxRecDepth 16384

noncomputable section

namespace Cert.Proof.Pick

open Idealize.ShloMosaic Cert.ChooseIdeal Cert.ChooseIdeal.Gen

variable {F : FTy → Type} [FloatOps F] {α : Type} [LinearOrder α]

/-- The test orders the lanes by `e`, and equal ones by their numbers. -/
def Orders (b : Bef) (e : Fin 16 → α) : Prop := ∀ j l, b j l = 1#1 ↔ e j < e l ∨ (e j = e l ∧ j < l)

theorem cnt_all (b : Bef) (l : Fin 16) : cnt b 16 l = (Finset.univ.filter fun j : Fin 16 => b j l = 1#1).card := by
  unfold cnt; congr 1; ext j; simp

/-- Elements written one by one at different places are all there. -/
theorem fold_put {β : Type} (p : Fin 16 → ℕ) (hp : Function.Injective p) (w : Fin 16 → β) (L : List (Fin 16)) (g : S16.Idx → β) (l : Fin 16)
    (i : S16.Idx) (hi : (i 0).val = p l) (hg : l ∈ L ∨ g i = w l) :
    L.foldl (fun g k => fun j : S16.Idx => if (j 0).val = p k then w k else g j) g i = w l := by
  induction L generalizing g with
  | nil => rcases hg with hg | hg
           · exact absurd hg (by simp)
           · exact hg
  | cons k L ih =>
    rw [List.foldl_cons]
    refine ih _ ?_
    by_cases hlk : l = k
    · subst hlk; exact .inr (if_pos hi)
    · rcases hg with hg | hg
      · rcases List.mem_cons.mp hg with q | q
        · exact absurd q hlk
        · exact .inl q
      · exact .inr ((if_neg fun q => hlk (hp (hi.symm.trans q))).trans hg)

theorem srt_fold {ty : EltTy} (b : Bef) (z v : Vec F S16 ty) :
    srt b z v = (List.finRange 16).foldl (fun g k => fun j : S16.Idx => if (j 0).val = (rkV b (ix1 k)).toNat then v (ix1 k) else g j) z := by
  unfold srt storeIdx
  show List.foldl _ z (List.finRange 16) = _
  congr 1
  funext g k j
  have hk : (Shape.ofLane k : S16.Idx) = ix1 k := by funext a; rw [Fin.eq_zero a]; rfl
  refine (congrFun (if_pos rfl) j).trans ?_
  rw [hk]
  by_cases q : (j 0).val = (rkV b (ix1 k)).toNat
  · rw [if_pos q]
    exact if_pos fun a => by rw [Fin.eq_zero a]; exact q
  · rw [if_neg q]
    exact if_neg fun r => q (r 0)

section
variable {b : Bef} {e : Fin 16 → α} (h : Orders b e)
include h

theorem cnt_lt (l : Fin 16) : cnt b 16 l < 16 := by
  rw [cnt_all]
  refine lt_of_lt_of_eq (Finset.card_lt_card (t := Finset.univ) ?_) (by simp)
  rw [Finset.filter_ssubset]
  exact ⟨l, Finset.mem_univ _, fun q => by rcases (h l l).mp q with q | q <;> exact absurd q (by simp)⟩

theorem cnt_mono {l l' : Fin 16} (hb : e l < e l' ∨ (e l = e l' ∧ l < l')) : cnt b 16 l < cnt b 16 l' := by
  rw [cnt_all, cnt_all]
  refine Finset.card_lt_card (Finset.ssubset_iff_of_subset ?_ |>.mpr ⟨l, ?_, ?_⟩)
  · intro j hj
    simp only [Finset.mem_filter, Finset.mem_univ, true_and] at hj ⊢
    rw [h] at hj ⊢
    rcases hj with hj | ⟨hj, hl⟩ <;> rcases hb with hb | ⟨hb, hl'⟩
    · exact .inl (hj.trans hb)
    · exact .inl (hb ▸ hj)
    · exact .inl (hj ▸ hb)
    · exact .inr ⟨hj.trans hb, hl.trans hl'⟩
  · simp only [Finset.mem_filter, Finset.mem_univ, true_and]; exact (h _ _).mpr hb
  · simp only [Finset.mem_filter, Finset.mem_univ, true_and]
    intro q; rcases (h l l).mp q with q | q <;> exact absurd q (by simp)

theorem cnt_inj : Function.Injective (cnt b 16) := by
  intro l l' hl
  by_contra hne
  have two : (e l < e l' ∨ (e l = e l' ∧ l < l')) ∨ (e l' < e l ∨ (e l' = e l ∧ l' < l)) := by
    rcases lt_trichotomy (e l) (e l') with q | q | q
    · exact .inl (.inl q)
    · rcases lt_or_gt_of_ne hne with r | r
      · exact .inl (.inr ⟨q, r⟩)
      · exact .inr (.inr ⟨q.symm, r⟩)
    · exact .inr (.inl q)
  rcases two with q | q
  · have := cnt_mono h q; omega
  · have := cnt_mono h q; omega

/-- Where a lane's element stands. -/
theorem srt_at {ty : EltTy} (z v : Vec F S16 ty) (l : Fin 16) : srt b z v (ix1 ⟨cnt b 16 l, cnt_lt h l⟩) = v (ix1 l) := by
  rw [srt_fold]
  refine fold_put (fun k => (rkV b (ix1 k)).toNat) ?_ (fun k => v (ix1 k)) _ z l _ ?_ (.inl (List.mem_finRange l))
  · intro k k' q
    have q' : (rkV b (ix1 k)).toNat = (rkV b (ix1 k')).toNat := q
    rw [rkV_toNat, rkV_toNat] at q'
    have := cnt_lt h k; have := cnt_lt h k'
    exact cnt_inj h (by omega)
  · show cnt b 16 l = (rkV b (ix1 l)).toNat
    rw [rkV_toNat]; have := cnt_lt h l; omega

/-- The lane whose element stands at a place. -/
theorem place (i : Fin 16) : ∃ l, cnt b 16 l = i.val := by
  have inj : Function.Injective (fun l : Fin 16 => (⟨cnt b 16 l, cnt_lt h l⟩ : Fin 16)) := fun l l' q => cnt_inj h (Fin.mk.inj q)
  obtain ⟨l, hl⟩ := (Finite.injective_iff_surjective.mp inj) i
  exact ⟨l, by rw [← hl]⟩

theorem srt_place {ty : EltTy} (z v : Vec F S16 ty) (i l : Fin 16) (hl : cnt b 16 l = i.val) : srt b z v (ix1 i) = v (ix1 l) := by
  have : i = ⟨cnt b 16 l, cnt_lt h l⟩ := Fin.ext hl.symm
  rw [this]; exact srt_at h z v l

/-- The elements of a down-closed set come first. -/
theorem down_iff (D : α → Prop) [DecidablePred D] (hD : ∀ a c, a ≤ c → D c → D a) (l : Fin 16) :
    D (e l) ↔ cnt b 16 l < (Finset.univ.filter fun j => D (e j)).card := by
  rw [cnt_all]
  constructor
  · intro hl
    refine Finset.card_lt_card (Finset.ssubset_iff_of_subset ?_ |>.mpr ⟨l, ?_, ?_⟩)
    · intro j hj
      simp only [Finset.mem_filter, Finset.mem_univ, true_and] at hj ⊢
      rcases (h j l).mp hj with q | q
      · exact hD _ _ q.le hl
      · exact hD _ _ q.1.le hl
    · simpa using hl
    · simp only [Finset.mem_filter, Finset.mem_univ, true_and]
      intro q; rcases (h l l).mp q with q | q <;> exact absurd q (by simp)
  · intro hc
    by_contra hl
    refine absurd hc (not_lt.mpr (Finset.card_le_card ?_))
    intro j hj
    simp only [Finset.mem_filter, Finset.mem_univ, true_and] at hj ⊢
    refine (h j l).mpr (.inl (lt_of_not_ge fun q => hl (hD _ _ q hj)))

end

/-! ## The three tests -/

theorem toInt_inj {a c : BitVec 32} : a.toInt = c.toInt ↔ a = c := ⟨BitVec.eq_of_toInt_eq, fun q => q ▸ rfl⟩
theorem slt_iff (a c : BitVec 32) : IntOp.cmpi .slt a c = 1#1 ↔ a.toInt < c.toInt := by
  rw [← BitVec.slt_iff_toInt_lt]; show BitVec.ofBool (a.slt c) = 1#1 ↔ _; cases a.slt c <;> decide
theorem eq_iff (a c : BitVec 32) : IntOp.cmpi .eq a c = 1#1 ↔ a.toInt = c.toInt := by
  rw [toInt_inj]; show BitVec.ofBool (a == c) = 1#1 ↔ _
  by_cases h : a = c
  · subst h; simp
  · have : (a == c) = false := by simpa using h
    rw [this]; simp [h]
theorem flt_iff (a c : Ideal .f32) : FloatOps.cmpf .olt a c = 1#1 ↔ (show EReal from a) < (show EReal from c) := by
  show BitVec.ofBool (decide _) = 1#1 ↔ _
  by_cases h : (show EReal from a) < (show EReal from c) <;> simp [h]
theorem feq_iff (a c : Ideal .f32) : FloatOps.cmpf .oeq a c = 1#1 ↔ (show EReal from a) = (show EReal from c) := by
  show BitVec.ofBool (decide _) = 1#1 ↔ _
  by_cases h : (show EReal from a) = (show EReal from c) <;> simp [h]

theorem lane_iff (j l : Fin 16) : IntOp.cmpi .slt (BitVec.ofNat 32 j.val) (BitVec.ofNat 32 l.val) = 1#1 ↔ j < l := by
  revert j l; decide

theorem lexB_iff {α β : Type} [LinearOrder α] [LinearOrder β] {kl ke vl ve : BitVec 1} {j l : Fin 16} {a c : α} {p q : β}
    (h1 : kl = 1#1 ↔ a < c) (h2 : ke = 1#1 ↔ a = c) (h3 : vl = 1#1 ↔ p < q) (h4 : ve = 1#1 ↔ p = q) :
    lexB kl ke vl ve j l = 1#1 ↔ toLex (a, p) < toLex (c, q) ∨ (toLex (a, p) = toLex (c, q) ∧ j < l) := by
  have or1 : ∀ c d : BitVec 1, IntOp.ori c d = 1#1 ↔ c = 1#1 ∨ d = 1#1 := by decide
  have and1 : ∀ c d : BitVec 1, IntOp.andi c d = 1#1 ↔ c = 1#1 ∧ d = 1#1 := by decide
  unfold lexB
  rw [or1, and1, or1, and1, h1, h2, h3, h4, lane_iff, Prod.Lex.toLex_lt_toLex, toLex_inj, Prod.mk.injEq]
  tauto

/-- A float and a word, in order. -/
abbrev FI : Type := EReal ×ₗ ℤ
def fi (k : Vec Ideal S16 .f32) (v : IVec S16 32) (l : Fin 16) : FI := toLex ((show EReal from k (ix1 l)), (v (ix1 l)).toInt)
theorem ordFI (k : Vec Ideal S16 .f32) (v : IVec S16 32) : Orders (befFI k v) (fi k v) := fun j l =>
  lexB_iff (flt_iff _ _) (feq_iff _ _) (slt_iff _ _) (eq_iff _ _)
theorem ordIF (k : IVec S16 32) (v : Vec Ideal S16 .f32) :
    Orders (befIF k v) (fun l => (toLex ((k (ix1 l)).toInt, (show EReal from v (ix1 l))) : ℤ ×ₗ EReal)) := fun j l =>
  lexB_iff (slt_iff _ _) (eq_iff _ _) (flt_iff _ _) (feq_iff _ _)
theorem ordII (k v : IVec S16 32) : Orders (befII k v) (fun l => (toLex ((k (ix1 l)).toInt, (v (ix1 l)).toInt) : ℤ ×ₗ ℤ)) := fun j l =>
  lexB_iff (slt_iff _ _) (eq_iff _ _) (slt_iff _ _) (eq_iff _ _)

end Cert.Proof.Pick
end
-- ==== Proof.Choose.Compact.lean ====
/-
  What the first phase leaves: the candidates in the order of their columns.
-/
module

public import proofs.«01_k».proof.Proof.Choose.Order
public import proofs.«01_k».proof.Proof.Choose.Words

@[expose] public section

set_option maxRecDepth 16384

noncomputable section

namespace Cert.Proof.Pick

open Idealize.ShloMosaic Cert.ChooseIdeal Cert.ChooseIdeal.Gen

/-- The bound below which a cost is a candidate's. -/
def T : EReal := (Scalar.ofBits .f32 0x4E6E6B28#32 : Ideal .f32)
/-- The cost of column `m`. -/
def co (x : Vec Ideal S8400 .f32) (m : ℕ) : EReal := if h : m < 8400 then x (ix1 ⟨m, h⟩) else ⊤
/-- Column `m` is a candidate. -/
def Cd (x : Vec Ideal S8400 .f32) (m : ℕ) : Prop := co x m < T
instance (x : Vec Ideal S8400 .f32) : DecidablePred (Cd x) := fun _ => Classical.propDecidable _
/-- How many candidates there are before column `m`. -/
def C (x : Vec Ideal S8400 .f32) (m : ℕ) : ℕ := ((Finset.range m).filter (Cd x)).card

variable (x : Vec Ideal S8400 .f32)

theorem Cd_lt {m : ℕ} (h : Cd x m) : m < 8400 := by
  by_contra hm
  unfold Cd co at h
  rw [dif_neg hm] at h
  exact absurd h (not_lt.mpr le_top)
theorem C_zero : C x 0 = 0 := rfl
theorem C_succ (m : ℕ) : C x (m + 1) = C x m + if Cd x m then 1 else 0 := by
  unfold C
  rw [Finset.range_add_one, Finset.filter_insert]
  split
  · rw [Finset.card_insert_of_notMem (by simp)]
  · rfl
theorem C_le (m : ℕ) : C x m ≤ m := (Finset.card_filter_le _ _).trans (by simp)
theorem C_mono {m m' : ℕ} (h : m ≤ m') : C x m ≤ C x m' :=
  Finset.card_le_card (Finset.filter_subset_filter _ (Finset.range_mono h))
theorem C_lt {m m' : ℕ} (h : m < m') (hm : Cd x m) : C x m < C x m' := by
  have h1 := C_mono x (show m + 1 ≤ m' from h)
  rw [C_succ, if_pos hm] at h1; omega
theorem C_inj {m m' : ℕ} (hm : Cd x m) (hm' : Cd x m') (h : C x m = C x m') : m = m' := by
  rcases lt_trichotomy m m' with q | q | q
  · have := C_lt x q hm; omega
  · exact q
  · have := C_lt x q hm'; omega

/-- Each place below the count is a candidate's. -/
theorem C_surj (k p : ℕ) (hp : p < C x k) : ∃ m, m < k ∧ Cd x m ∧ C x m = p := by
  induction k with
  | zero => exact absurd hp (by simp [C_zero])
  | succ k ih =>
    rw [C_succ] at hp
    by_cases hk : Cd x k
    · rw [if_pos hk] at hp
      by_cases hpk : p < C x k
      · obtain ⟨m, h1, h2, h3⟩ := ih hpk; exact ⟨m, by omega, h2, h3⟩
      · exact ⟨k, by omega, hk, by omega⟩
    · rw [if_neg hk] at hp
      obtain ⟨m, h1, h2, h3⟩ := ih hp; exact ⟨m, by omega, h2, h3⟩

theorem C_chunk (a : ℕ) (k : ℕ) (hk : k ≤ 16) :
    C x (a + k) = C x a + (Finset.univ.filter fun l : Fin 16 => l.val < k ∧ Cd x (a + l.val)).card := by
  induction k with
  | zero => simp
  | succ k ih =>
    rw [← Nat.add_assoc, C_succ, ih (by omega)]
    have hset : (Finset.univ.filter fun l : Fin 16 => l.val < k + 1 ∧ Cd x (a + l.val))
        = if Cd x (a + k) then insert (⟨k, by omega⟩ : Fin 16) (Finset.univ.filter fun l : Fin 16 => l.val < k ∧ Cd x (a + l.val))
          else Finset.univ.filter fun l : Fin 16 => l.val < k ∧ Cd x (a + l.val) := by
      ext j
      by_cases hc : Cd x (a + k)
      · rw [if_pos hc]
        simp only [Finset.mem_filter, Finset.mem_univ, true_and, Finset.mem_insert]
        constructor
        · rintro ⟨h1, h2⟩
          by_cases e : j.val = k
          · exact .inl (Fin.ext e)
          · exact .inr ⟨by omega, h2⟩
        · rintro (rfl | ⟨h1, h2⟩)
          · exact ⟨by simp, hc⟩
          · exact ⟨by omega, h2⟩
      · rw [if_neg hc]
        simp only [Finset.mem_filter, Finset.mem_univ, true_and]
        constructor
        · rintro ⟨h1, h2⟩
          refine ⟨?_, h2⟩
          have : j.val ≠ k := fun e => hc (e ▸ h2)
          omega
        · rintro ⟨h1, h2⟩; exact ⟨by omega, h2⟩
    rw [hset]
    split
    · rw [Finset.card_insert_of_notMem (by simp)]; omega
    · omega

theorem chunk_at (n : ℕ) (hn : n < 525) (l : Fin 16) : (chunk x n (ix1 l) : EReal) = co x (16 * n + l.val) := by
  have h : 16 * n + l.val < 8400 := by have := l.isLt; omega
  have e : co x (16 * n + l.val) = x (ix1 ⟨16 * n + l.val, h⟩) := dif_pos h
  rw [e]
  exact dif_pos h

theorem cand_iff (n : ℕ) (hn : n < 525) (l : Fin 16) : k0_pay97 (chunk x n) (ix1 l) = 1#1 ↔ Cd x (16 * n + l.val) := by
  unfold Cd; rw [← chunk_at x n hn l]
  exact flt_iff _ _

theorem key_toInt (v : Vec Ideal S16 .f32) (l : Fin 16) : (keyW v (ix1 l)).toInt = if k0_pay97 v (ix1 l) = 1#1 then (l.val : ℤ) else 16 + l.val := by
  have h : keyW v (ix1 l) = if k0_pay97 v (ix1 l) = 1#1 then BitVec.ofNat 32 l.val else IntOp.addi 16#32 (BitVec.ofNat 32 l.val) := by
    rw [← lanes_apply]; rfl
  rw [h]
  have k1 : ∀ l : Fin 16, (BitVec.ofNat 32 l.val).toInt = (l.val : ℤ) := by decide
  have k2 : ∀ l : Fin 16, (IntOp.addi 16#32 (BitVec.ofNat 32 l.val)).toInt = 16 + (l.val : ℤ) := by decide
  split
  · exact k1 l
  · exact k2 l

/-- Where a candidate goes. -/
theorem cnt_cand {β : Type} [LinearOrder β] (v : Vec Ideal S16 .f32) (w : Fin 16 → β) (b : Bef)
    (hb : Orders b (fun l => (toLex ((keyW v (ix1 l)).toInt, w l) : ℤ ×ₗ β))) (l : Fin 16) (hl : k0_pay97 v (ix1 l) = 1#1) :
    cnt b 16 l = (Finset.univ.filter fun j : Fin 16 => j.val < l.val ∧ k0_pay97 v (ix1 j) = 1#1).card := by
  rw [cnt_all]
  congr 1; ext j
  simp only [Finset.mem_filter, Finset.mem_univ, true_and]
  rw [hb, Prod.Lex.toLex_lt_toLex, toLex_inj, Prod.mk.injEq, key_toInt, key_toInt, if_pos hl]
  by_cases hj : k0_pay97 v (ix1 j) = 1#1
  · rw [if_pos hj]
    constructor
    · rintro ((q | ⟨q, r⟩) | ⟨⟨q, -⟩, r⟩)
      · exact ⟨by omega, hj⟩
      · have : j = l := Fin.ext (by omega)
        subst this; exact absurd r (lt_irrefl _)
      · exact ⟨r, hj⟩
    · rintro ⟨q, -⟩; exact .inl (.inl (by omega))
  · rw [if_neg hj]
    have := j.isLt; have := l.isLt
    constructor
    · rintro ((q | ⟨q, r⟩) | ⟨⟨q, -⟩, r⟩)
      · omega
      · omega
      · omega
    · rintro ⟨-, q⟩; exact absurd q hj

theorem cvs_at (v : Vec Ideal S16 .f32) (l i : Fin 16) (hl : k0_pay97 v (ix1 l) = 1#1)
    (hi : i.val = (Finset.univ.filter fun j : Fin 16 => j.val < l.val ∧ k0_pay97 v (ix1 j) = 1#1).card) : cvs v (ix1 i) = v (ix1 l) :=
  srt_place (ordIF (keyW v) v) _ _ i l ((cnt_cand v _ _ (ordIF (keyW v) v) l hl).trans hi.symm)

theorem cis_at (v : Vec Ideal S16 .f32) (n : ℕ) (l i : Fin 16) (hl : k0_pay97 v (ix1 l) = 1#1)
    (hi : i.val = (Finset.univ.filter fun j : Fin 16 => j.val < l.val ∧ k0_pay97 v (ix1 j) = 1#1).card) :
    cis v n (ix1 i) = BitVec.ofNat 32 (16 * n + l.val) := by
  refine (srt_place (F := Ideal) (ty := .i32) (ordII (keyW v) _) _ _ i l ((cnt_cand v _ _ (ordII (keyW v) _) l hl).trans hi.symm)).trans ?_
  show IntOp.addi (IntOp.muli (BitVec.ofNat 32 n) 16#32) (lanes (ix1 l)) = _
  rw [lanes_apply]
  apply BitVec.eq_of_toNat_eq
  simp [IntOp.addi, IntOp.muli]
  omega

/-- What holds after `n` chunks. -/
structure P1 (s : St Ideal) (n : ℕ) : Prop where
  off : s.off.toNat = C x (16 * n)
  ck : ∀ m, m < 16 * n → Cd x m → ∀ q : Fin 8416, q.val = C x m → (s.ck (ix1 q) : EReal) = co x m
  ci : ∀ m, m < 16 * n → Cd x m → ∀ q : Fin 8416, q.val = C x m → s.ci (ix1 q) = BitVec.ofNat 32 m

theorem put_lane {e : EltTy} {N : ℕ} (f : Vec Ideal ⟨1, ![N]⟩ e) (o : ℕ) (w : Vec Ideal S16 e) (q : Fin N) (i : Fin 16) (h : q.val = o + i.val) :
    put f o w (ix1 q) = w (ix1 i) := by
  unfold put
  refine (dif_pos (show o ≤ q.val ∧ q.val < o + 16 by have := i.isLt; omega)).trans ?_
  congr 2; apply Fin.ext; show q.val - o = i.val; omega
theorem put_out {e : EltTy} {N : ℕ} (f : Vec Ideal ⟨1, ![N]⟩ e) (o : ℕ) (w : Vec Ideal S16 e) (q : Fin N) (h : q.val < o) :
    put f o w (ix1 q) = f (ix1 q) := by
  unfold put
  exact dif_neg (show ¬ (o ≤ q.val ∧ q.val < o + 16) by omega)

theorem P1_st (g6 : Vec Ideal S8416 .f32) (g7 : Vec Ideal S8416 .i32) (n : ℕ) (hn : n ≤ 525) : P1 x (st x g6 g7 n) n := by
  induction n with
  | zero => exact ⟨rfl, fun m h => absurd h (by omega), fun m h => absurd h (by omega)⟩
  | succ n ih =>
    have hi := ih (by omega)
    have hnc : nc (chunk x n) = (Finset.univ.filter fun l : Fin 16 => l.val < 16 ∧ Cd x (16 * n + l.val)).card := by
      unfold nc; congr 1; ext l
      simp only [Finset.mem_filter, Finset.mem_univ, true_and, cand_iff x n (by omega) l]
      exact ⟨fun q => ⟨l.isLt, q⟩, fun q => q.2⟩
    have hC : C x (16 * (n + 1)) = C x (16 * n) + nc (chunk x n) := by
      rw [hnc, show 16 * (n + 1) = 16 * n + 16 by omega]; exact C_chunk x (16 * n) 16 (le_refl _)
    have hrank : ∀ l : Fin 16, C x (16 * n + l.val)
        = C x (16 * n) + (Finset.univ.filter fun j : Fin 16 => j.val < l.val ∧ k0_pay97 (chunk x n) (ix1 j) = 1#1).card := by
      intro l
      rw [C_chunk x (16 * n) l.val l.isLt.le]
      congr 2; ext j
      simp only [Finset.mem_filter, Finset.mem_univ, true_and, cand_iff x n (by omega) j]
    have hle := nc_le (chunk x n)
    have hCle := C_le x (16 * n)
    show P1 x ((st x g6 g7 n).step (chunk x n) n) (n + 1)
    generalize st x g6 g7 n = s at hi
    unfold St.step
    by_cases hc : k0_cond1 (pcW (chunk x n)) = 1#1
    · rw [if_pos hc]
      have old : ∀ m, m < 16 * n → Cd x m → C x m < s.off.toNat := fun m hm hd => hi.off ▸ C_lt x hm hd
      have split : ∀ m, m < 16 * (n + 1) → ¬ m < 16 * n → ∃ l : Fin 16, m = 16 * n + l.val := fun m h h' =>
        ⟨⟨m - 16 * n, by omega⟩, by show m = 16 * n + (m - 16 * n); omega⟩
      have new : ∀ (l : Fin 16) (q : Fin 8416), Cd x (16 * n + l.val) → q.val = C x (16 * n + l.val) →
          ∃ i : Fin 16, q.val = s.off.toNat + i.val ∧ k0_pay97 (chunk x n) (ix1 l) = 1#1 ∧
            i.val = (Finset.univ.filter fun j : Fin 16 => j.val < l.val ∧ k0_pay97 (chunk x n) (ix1 j) = 1#1).card := by
        intro l q hd hq
        have hr := hrank l
        have hlt := C_lt x (show 16 * n + l.val < 16 * (n + 1) by have := l.isLt; omega) hd
        refine ⟨⟨q.val - s.off.toNat, by rw [hi.off]; omega⟩, ?_, (cand_iff x n (by omega) l).mpr hd, ?_⟩
        · show q.val = _ + (q.val - _); rw [hi.off]; omega
        · show q.val - _ = _; rw [hi.off]; omega
      refine ⟨?_, ?_, ?_⟩
      · show (IntOp.addi s.off (pcW (chunk x n))).toNat = _
        rw [pcW_eq, hC]
        show (s.off + BitVec.ofNat 32 (nc (chunk x n))).toNat = _
        rw [BitVec.toNat_add, BitVec.toNat_ofNat, hi.off]
        omega
      · intro m hm hd q hq
        by_cases hmn : m < 16 * n
        · exact (put_out _ _ _ q (hq ▸ old m hmn hd)).trans (hi.ck m hmn hd q hq)
        · obtain ⟨l, rfl⟩ := split m hm hmn
          obtain ⟨i, h1, h2, h3⟩ := new l q hd hq
          exact ((put_lane _ _ _ q i h1).trans (cvs_at _ l i h2 h3)).trans (chunk_at x n (by omega) l)
      · intro m hm hd q hq
        by_cases hmn : m < 16 * n
        · exact (put_out (e := .i32) _ _ _ q (hq ▸ old m hmn hd)).trans (hi.ci m hmn hd q hq)
        · obtain ⟨l, rfl⟩ := split m hm hmn
          obtain ⟨i, h1, h2, h3⟩ := new l q hd hq
          exact (put_lane (e := .i32) _ _ _ q i h1).trans (cis_at _ n l i h2 h3)
    · rw [if_neg hc]
      rw [pcW_eq, cond1_iff _ hle] at hc
      have hz : nc (chunk x n) = 0 := by omega
      have none : ∀ m, m < 16 * (n + 1) → Cd x m → m < 16 * n := by
        intro m hm hd
        by_contra h
        have := C_lt x hm hd
        have := C_mono x (show 16 * n ≤ m by omega)
        omega
      refine ⟨by rw [hi.off]; omega, fun m hm hd => hi.ck m (none m hm hd) hd, fun m hm hd => hi.ci m (none m hm hd) hd⟩

end Cert.Proof.Pick
end
-- ==== Proof.Choose.Merge.lean ====
/-
  The sixteen least of a list of entries, by merging sixteen at a time.
-/
module

public import proofs.«01_k».proof.Proof.Choose.Compact

@[expose] public section

set_option maxRecDepth 16384

noncomputable section

namespace Cert.Proof.Pick

open Idealize.ShloMosaic Cert.ChooseIdeal Cert.ChooseIdeal.Gen

/-- Down-closed. -/
def Down (D : FI → Prop) : Prop := ∀ a c, a ≤ c → D c → D a

theorem card_both (P Q : ℕ) (hQ : Q ≤ 16) (i : Fin 16) :
    i.val < (Finset.univ.filter fun j : Fin 16 => j.val < P ∨ 15 - j.val < Q).card ↔ i.val < P + Q := by
  have key : ∀ P Q : Fin 17, (Finset.univ.filter fun j : Fin 16 => j.val < P.val ∨ 15 - j.val < Q.val).card = min 16 (P.val + Q.val) := by
    decide +kernel
  have h := key ⟨min P 16, by omega⟩ ⟨Q, by omega⟩
  have e : (Finset.univ.filter fun j : Fin 16 => j.val < P ∨ 15 - j.val < Q)
      = Finset.univ.filter fun j : Fin 16 => j.val < min P 16 ∨ 15 - j.val < Q := by
    ext j
    simp only [Finset.mem_filter, Finset.mem_univ, true_and]
    have := j.isLt; omega
  rw [e]
  have := i.isLt
  show _ < Finset.card _ ↔ _
  rw [show (Finset.univ.filter fun j : Fin 16 => j.val < min P 16 ∨ 15 - j.val < Q).card = min 16 (min P 16 + Q) from h]
  omega

theorem card_chunk (P : ℕ → Prop) [DecidablePred P] (a : ℕ) :
    ((Finset.range (a + 16)).filter P).card = ((Finset.range a).filter P).card + (Finset.univ.filter fun l : Fin 16 => P (a + l.val)).card := by
  rw [Finset.card_filter, Finset.card_filter, Finset.card_filter, Finset.sum_range_add]
  exact congrArg _ (Finset.sum_range fun l => if P (a + l) then 1 else 0)

theorem fi_inj {k k' : Vec Ideal S16 .f32} {v v' : IVec S16 32} {l l' : Fin 16} (h1 : k (ix1 l) = k' (ix1 l')) (h2 : v (ix1 l) = v' (ix1 l')) :
    fi k v l = fi k' v' l' := by unfold fi; rw [h1, h2]

section
variable (r : FVec Ideal S16 .f32 × IVec S16 32) (k : Vec Ideal S16 .f32) (i : IVec S16 32)

/-- The lesser of each pair of lanes. -/
def lowK : Vec Ideal S16 .f32 := k0_pay106 r.1 (rv (srt (befFI k i) (k0_pay21 (F := Ideal)) k))
def lowI : IVec S16 32 :=
  k0_pay107 (F := Ideal) r.1 r.2 (rv (srt (befFI k i) (k0_pay21 (F := Ideal)) k)) (rv (F := Ideal) (e := .i32) (srt (F := Ideal) (e := .i32) (befFI k i) k0_pay22 i))

variable (H : ∀ j l : Fin 16, (r.1 (ix1 j) : EReal) = k (ix1 l) → (r.2 (ix1 j)).toInt ≤ (i (ix1 l)).toInt)

include H in
theorem low_eq (j t : Fin 16) (ht : cnt (befFI k i) 16 t = 15 - j.val) : fi (lowK r k i) (lowI r k i) j = min (fi r.1 r.2 j) (fi k i t) := by
  have hk : rv (srt (befFI k i) (k0_pay21 (F := Ideal)) k) (ix1 j) = k (ix1 t) :=
    srt_place (ordFI k i) _ _ ⟨15 - j.val, by omega⟩ t ht
  have hv : rv (F := Ideal) (e := .i32) (srt (F := Ideal) (e := .i32) (befFI k i) k0_pay22 i) (ix1 j) = i (ix1 t) :=
    srt_place (F := Ideal) (ty := .i32) (ordFI k i) _ _ ⟨15 - j.val, by omega⟩ t ht
  have eK : lowK r k i (ix1 j) = Scalar.select (FloatOps.cmpf .olt (k (ix1 t)) (r.1 (ix1 j))) (k (ix1 t)) (r.1 (ix1 j)) := by rw [← hk]; rfl
  have eI : lowI r k i (ix1 j) = Scalar.select (FloatOps.cmpf .olt (k (ix1 t)) (r.1 (ix1 j))) (i (ix1 t)) (r.2 (ix1 j)) := by rw [← hk, ← hv]; rfl
  by_cases hlt : FloatOps.cmpf .olt (k (ix1 t)) (r.1 (ix1 j)) = 1#1
  · have hlt' := (flt_iff _ _).mp hlt
    rw [hlt] at eK eI
    rw [min_eq_right]
    · exact fi_inj eK eI
    · exact (Prod.Lex.toLex_lt_toLex.mpr (.inl hlt')).le
  · have hge := mt (flt_iff _ _).mpr hlt
    rw [show FloatOps.cmpf .olt (k (ix1 t)) (r.1 (ix1 j)) = 0#1 from by
      revert hlt; generalize FloatOps.cmpf .olt (k (ix1 t)) (r.1 (ix1 j)) = c; revert c; decide] at eK eI
    rw [min_eq_left]
    · exact fi_inj eK eI
    · rcases (not_lt.mp hge).lt_or_eq with q | q
      · exact (Prod.Lex.toLex_lt_toLex.mpr (.inl q)).le
      · exact Prod.Lex.toLex_le_toLex.mpr (.inr ⟨q, H j t q⟩)

theorem mrg_place (a s : Fin 16) (hs : cnt (befFI (lowK r k i) (lowI r k i)) 16 s = a.val) :
    fi (mrg r k i).1 (mrg r k i).2 a = fi (lowK r k i) (lowI r k i) s :=
  fi_inj (srt_place (ordFI _ _) _ (lowK r k i) a s hs) (srt_place (F := Ideal) (ty := .i32) (ordFI _ _) _ (lowI r k i) a s hs)

include H in
theorem mrg_mem (a : Fin 16) : ∃ j, fi (mrg r k i).1 (mrg r k i).2 a = fi r.1 r.2 j ∨ fi (mrg r k i).1 (mrg r k i).2 a = fi k i j := by
  obtain ⟨s, hs⟩ := place (ordFI (lowK r k i) (lowI r k i)) a
  obtain ⟨t, ht⟩ := place (ordFI k i) (⟨15 - s.val, by omega⟩ : Fin 16)
  rw [mrg_place r k i a s hs, low_eq r k i H s t ht]
  rcases min_choice (fi r.1 r.2 s) (fi k i t) with q | q
  · exact ⟨s, .inl q⟩
  · exact ⟨t, .inr q⟩

include H in
theorem mrg_down (D : FI → Prop) [DecidablePred D] (hD : Down D) (P : ℕ) (hP : ∀ j : Fin 16, D (fi r.1 r.2 j) ↔ j.val < P) (a : Fin 16) :
    D (fi (mrg r k i).1 (mrg r k i).2 a) ↔ a.val < P + (Finset.univ.filter fun l : Fin 16 => D (fi k i l)).card := by
  obtain ⟨s, hs⟩ := place (ordFI (lowK r k i) (lowI r k i)) a
  rw [mrg_place r k i a s hs, down_iff (ordFI (lowK r k i) (lowI r k i)) D hD s, hs]
  rw [← card_both P _ ((Finset.card_le_univ _).trans (by simp)) a]
  have e : (Finset.univ.filter fun j : Fin 16 => D (fi (lowK r k i) (lowI r k i) j))
      = Finset.univ.filter fun j : Fin 16 => j.val < P ∨ 15 - j.val < (Finset.univ.filter fun l : Fin 16 => D (fi k i l)).card := by
    ext j
    simp only [Finset.mem_filter, Finset.mem_univ, true_and]
    obtain ⟨t, ht⟩ := place (ordFI k i) (⟨15 - j.val, by omega⟩ : Fin 16)
    rw [low_eq r k i H j t ht, ← hP j]
    have hb := down_iff (ordFI k i) D hD t
    rw [ht] at hb
    rw [← hb]
    constructor
    · intro q
      rcases min_choice (fi r.1 r.2 j) (fi k i t) with c | c
      · exact .inl (c ▸ q)
      · exact .inr (c ▸ q)
    · rintro (q | q)
      · exact hD _ _ (min_le_left _ _) q
      · exact hD _ _ (min_le_right _ _) q
  rw [e]
end

/-! ## All the merges -/

/-- The key that fills up. -/
def PADK : EReal := (Scalar.ofBits .f32 0x7F61B1E6#32 : Ideal .f32)
def pad : FI := toLex (PADK, -1)

variable (ck : Vec Ideal S8416 .f32) (ci : Vec Ideal S8416 .i32)

/-- The entry at a place of the list. -/
def ent (p : ℕ) : FI := if h : p < 8416 then toLex ((ck (ix1 ⟨p, h⟩) : EReal), (show BitVec 32 from ci (ix1 ⟨p, h⟩)).toInt) else pad

theorem ent_chunk (n : ℕ) (hn : 16 * n + 16 ≤ 8416) (l : Fin 16) :
    fi (subc ck n) (subc (F := Ideal) (e := .i32) ci n) l = ent ck ci (16 * n + l.val) := by
  have h : 16 * n + l.val < 8416 := by have := l.isLt; omega
  have e1 : subc ck n (ix1 l) = ck (ix1 ⟨16 * n + l.val, h⟩) := dif_pos h
  have e2 : subc (F := Ideal) (e := .i32) ci n (ix1 l) = ci (ix1 ⟨16 * n + l.val, h⟩) := dif_pos h
  unfold ent fi
  rw [dif_pos h, e1, e2]

/-- The sixteen best as entries. -/
def bs (n : ℕ) (a : Fin 16) : FI := fi (best ck ci n).1 (best ck ci n).2 a

structure B2 (n : ℕ) : Prop where
  mem : ∀ a, bs ck ci n a = pad ∨ ∃ p, p < 16 * n ∧ bs ck ci n a = ent ck ci p
  down : ∀ (D : FI → Prop) [DecidablePred D], Down D → ¬ D pad → ∀ a : Fin 16,
    D (bs ck ci n a) ↔ a.val < ((Finset.range (16 * n)).filter fun p => D (ent ck ci p)).card

theorem B2_best (N : ℕ) (hN : 16 * N ≤ 8416)
    (H1 : ∀ p q, p < q → q < 16 * N → (ofLex (ent ck ci p)).1 = (ofLex (ent ck ci q)).1 → (ofLex (ent ck ci p)).2 ≤ (ofLex (ent ck ci q)).2)
    (H2 : ∀ q, q < 16 * N → (-1 : ℤ) ≤ (ofLex (ent ck ci q)).2) (n : ℕ) (hn : n ≤ N) : B2 ck ci n := by
  induction n with
  | zero =>
    have h0 : ∀ a, bs ck ci 0 a = pad := fun a => rfl
    refine ⟨fun a => .inl (h0 a), fun D _ hD hp a => ?_⟩
    rw [h0]
    simp [hp]
  | succ n ih =>
    have hb := ih (by omega)
    have hc : 16 * n + 16 ≤ 8416 := by omega
    have H : ∀ j l : Fin 16, ((best ck ci n).1 (ix1 j) : EReal) = subc ck n (ix1 l) →
        ((best ck ci n).2 (ix1 j)).toInt ≤ (show BitVec 32 from subc (F := Ideal) (e := .i32) ci n (ix1 l)).toInt := by
      intro j l he
      have hl := l.isLt
      have h2 := ent_chunk ck ci n hc l
      have e1 : (ofLex (bs ck ci n j)).1 = (ofLex (ent ck ci (16 * n + l.val))).1 := by rw [← h2]; exact he
      have goal : (ofLex (bs ck ci n j)).2 ≤ (ofLex (ent ck ci (16 * n + l.val))).2 := by
        rcases hb.mem j with q | ⟨p, hp, q⟩
        · rw [q]; exact H2 _ (by omega)
        · rw [q] at e1 ⊢; exact H1 p _ (by omega) (by omega) e1
      rw [← h2] at goal
      exact goal
    refine ⟨fun a => ?_, fun D _ hD hp a => ?_⟩
    · obtain ⟨j, q⟩ := mrg_mem (best ck ci n) (subc ck n) (subc (F := Ideal) (e := .i32) ci n) H a
      have q' : bs ck ci (n + 1) a = bs ck ci n j ∨ bs ck ci (n + 1) a = ent ck ci (16 * n + j.val) := q.imp id fun q => q.trans (ent_chunk ck ci n hc j)
      rcases q' with q' | q'
      · rcases hb.mem j with e | ⟨p, hp, e⟩
        · exact .inl (q'.trans e)
        · exact .inr ⟨p, by omega, q'.trans e⟩
      · exact .inr ⟨_, by have := j.isLt; omega, q'⟩
    · have := mrg_down (best ck ci n) (subc ck n) (subc (F := Ideal) (e := .i32) ci n) H D hD _ (fun j => hb.down D hD hp j) a
      rw [show 16 * (n + 1) = 16 * n + 16 by omega, card_chunk (fun p => D (ent ck ci p))]
      simp only [ent_chunk ck ci n hc] at this
      exact this

end Cert.Proof.Pick
end
-- ==== Proof.Choose.Chosen.lean ====
/-
  The row's sixteen best are the candidates in order of cost and column.
-/
module

public import proofs.«01_k».proof.Proof.Choose.Merge

@[expose] public section

set_option maxRecDepth 16384

noncomputable section

namespace Cert.Proof.Pick

open Idealize.ShloMosaic Cert.ChooseIdeal Cert.ChooseIdeal.Gen

theorem T_lt_PADK : T < PADK := by
  unfold T PADK
  show Ideal.ofBits .f32 0x4E6E6B28#32 < Ideal.ofBits .f32 0x7F61B1E6#32
  simp [Ideal.ofBits, Ideal.ieee, -EReal.coe_mul]
  norm_num

variable (x : Vec Ideal S8400 .f32)

/-- Column `m` with its cost. -/
def em (m : ℕ) : FI := toLex (co x m, (m : ℤ))
instance : DecidableLT FI := fun _ _ => Classical.propDecidable _
instance : DecidableLE FI := fun _ _ => Classical.propDecidable _
/-- How many columns come before column `m`. -/
def rank (m : ℕ) : ℕ := ((Finset.range 8400).filter fun q => em x q < em x m).card

variable (g6 : Vec Ideal S8416 .f32) (g7 : Vec Ideal S8416 .i32)

/-- The first phase's result and the lists it leaves. -/
def s1 : St Ideal := st x g6 g7 525
def K1 : Vec Ideal S8416 .f32 := ckP (s1 x g6 g7)
def I1 : Vec Ideal S8416 .i32 := ciP (s1 x g6 g7)
def N1 : ℕ := ((s1 x g6 g7).off.toNat + 15) / 16

theorem off_eq : (s1 x g6 g7).off.toNat = C x 8400 := (P1_st x g6 g7 525 (le_refl _)).off

theorem ent_cand (m : ℕ) (hm : Cd x m) : ent (K1 x g6 g7) (I1 x g6 g7) (C x m) = em x m := by
  have h8 := Cd_lt x hm
  have h := P1_st x g6 g7 525 (le_refl _)
  have hlt : C x m < (s1 x g6 g7).off.toNat := by rw [off_eq]; exact C_lt x h8 hm
  have hle := C_le x m
  have hp : C x m < 8416 := by omega
  unfold ent
  rw [dif_pos hp]
  have e1 : K1 x g6 g7 (ix1 ⟨C x m, hp⟩) = (s1 x g6 g7).ck (ix1 ⟨C x m, hp⟩) := put_out _ _ _ _ hlt
  have e2 : I1 x g6 g7 (ix1 ⟨C x m, hp⟩) = (s1 x g6 g7).ci (ix1 ⟨C x m, hp⟩) := put_out (e := .i32) _ _ _ _ hlt
  rw [e1, e2]
  have e3 := h.ck m (by omega) hm ⟨C x m, hp⟩ rfl
  have e4 := h.ci m (by omega) hm ⟨C x m, hp⟩ rfl
  unfold s1
  rw [e3, e4]
  unfold em
  have e5 : (BitVec.ofNat 32 m).toInt = (m : ℤ) := by
    rw [BitVec.toInt_eq_toNat_cond, BitVec.toNat_ofNat, Nat.mod_eq_of_lt (by omega), if_pos (by omega)]
  exact congrArg (fun z : ℤ => (toLex (co x m, z) : FI)) e5

theorem ent_pad (p : ℕ) (h1 : C x 8400 ≤ p) (h2 : p < C x 8400 + 16) : ent (K1 x g6 g7) (I1 x g6 g7) p = pad := by
  have ho := off_eq x g6 g7
  have hle := C_le x 8400
  have hp : p < 8416 := by omega
  unfold ent
  rw [dif_pos hp]
  have e1 : K1 x g6 g7 (ix1 ⟨p, hp⟩) = k0_pay101 (F := Ideal) (ix1 ⟨p - C x 8400, by omega⟩) :=
    put_lane _ _ _ ⟨p, hp⟩ ⟨p - C x 8400, by omega⟩ (by show p = _ + (p - _); rw [ho]; omega)
  have e2 : I1 x g6 g7 (ix1 ⟨p, hp⟩) = k0_pay102 (ix1 ⟨p - C x 8400, by omega⟩) :=
    put_lane (e := .i32) _ _ _ ⟨p, hp⟩ ⟨p - C x 8400, by omega⟩ (by show p = _ + (p - _); rw [ho]; omega)
  rw [e1, e2]
  rfl

theorem N1_bounds : C x 8400 ≤ 16 * N1 x g6 g7 ∧ 16 * N1 x g6 g7 < C x 8400 + 16 ∧ 16 * N1 x g6 g7 ≤ 8416 := by
  unfold N1; rw [off_eq]
  have := C_le x 8400
  omega

/-- Each entry is a candidate or fills up. -/
theorem ent_cases (p : ℕ) (hp : p < 16 * N1 x g6 g7) :
    (∃ m, Cd x m ∧ C x m = p ∧ ent (K1 x g6 g7) (I1 x g6 g7) p = em x m) ∨ (C x 8400 ≤ p ∧ ent (K1 x g6 g7) (I1 x g6 g7) p = pad) := by
  have hN := N1_bounds x g6 g7
  by_cases h : p < C x 8400
  · obtain ⟨m, -, h2, h3⟩ := C_surj x 8400 p h
    exact .inl ⟨m, h2, h3, h3 ▸ ent_cand x g6 g7 m h2⟩
  · exact .inr ⟨by omega, ent_pad x g6 g7 p (by omega) (by omega)⟩

theorem best_ok : B2 (K1 x g6 g7) (I1 x g6 g7) (N1 x g6 g7) := by
  have hN := N1_bounds x g6 g7
  refine B2_best _ _ (N1 x g6 g7) hN.2.2 ?_ ?_ _ (le_refl _)
  · intro p q hpq hq he
    rcases ent_cases x g6 g7 p (by omega) with ⟨m, m1, m2, m3⟩ | ⟨m1, m2⟩
    · rcases ent_cases x g6 g7 q hq with ⟨k, k1, k2, k3⟩ | ⟨k1, k2⟩
      · rw [m3, k3]
        show (m : ℤ) ≤ (k : ℤ)
        by_contra hmk
        have := C_mono x (show k ≤ m by omega)
        omega
      · rw [m3, k2] at he
        have h1 : co x m < T := m1
        have he' : co x m = PADK := he
        exact absurd (h1.trans T_lt_PADK) (he' ▸ lt_irrefl _)
    · rcases ent_cases x g6 g7 q hq with ⟨k, k1, k2, k3⟩ | ⟨k1, k2⟩
      · have := C_lt x (Cd_lt x k1) k1; omega
      · rw [m2, k2]
  · intro q hq
    rcases ent_cases x g6 g7 q hq with ⟨k, k1, k2, k3⟩ | ⟨k1, k2⟩
    · rw [k3]; show (-1 : ℤ) ≤ (k : ℤ); omega
    · rw [k2]; exact le_refl _

/-- Entries of a set without the filling are candidates of it. -/
theorem card_ent (D : FI → Prop) [DecidablePred D] (hp : ¬ D pad) :
    ((Finset.range (16 * N1 x g6 g7)).filter fun p => D (ent (K1 x g6 g7) (I1 x g6 g7) p)).card
      = ((Finset.range 8400).filter fun m => Cd x m ∧ D (em x m)).card := by
  have hN := N1_bounds x g6 g7
  symm
  refine Finset.card_bij (fun m _ => C x m) ?_ ?_ ?_
  · intro m hm
    simp only [Finset.mem_filter, Finset.mem_range] at hm ⊢
    have := C_lt x hm.1 hm.2.1
    exact ⟨by omega, by rw [ent_cand x g6 g7 m hm.2.1]; exact hm.2.2⟩
  · intro m hm m' hm' h
    simp only [Finset.mem_filter, Finset.mem_range] at hm hm'
    exact C_inj x hm.2.1 hm'.2.1 h
  · intro p hp'
    simp only [Finset.mem_filter, Finset.mem_range] at hp'
    rcases ent_cases x g6 g7 p hp'.1 with ⟨m, m1, m2, m3⟩ | ⟨-, m2⟩
    · refine ⟨m, ?_, m2⟩
      simp only [Finset.mem_filter, Finset.mem_range]
      exact ⟨Cd_lt x m1, m1, m3 ▸ hp'.2⟩
    · exact absurd (m2 ▸ hp'.2) hp

theorem best_down (D : FI → Prop) [DecidablePred D] (hD : Down D) (hp : ¬ D pad) (a : Fin 16) :
    D (bs (K1 x g6 g7) (I1 x g6 g7) (N1 x g6 g7) a) ↔ a.val < ((Finset.range 8400).filter fun m => Cd x m ∧ D (em x m)).card := by
  rw [← card_ent x g6 g7 D hp]
  exact (best_ok x g6 g7).down D hD hp a

theorem key_le {a c : FI} (h : a ≤ c) : (ofLex a).1 ≤ (ofLex c).1 := by
  rcases Prod.Lex.toLex_le_toLex.mp (show toLex (ofLex a) ≤ toLex (ofLex c) from h) with q | q
  · exact q.le
  · exact q.1.le

instance : DecidablePred fun e : FI => (ofLex e).1 < T := fun _ => Classical.propDecidable _

theorem best_cand (a : Fin 16) : (ofLex (bs (K1 x g6 g7) (I1 x g6 g7) (N1 x g6 g7) a)).1 < T ↔ a.val < C x 8400 := by
  have hp : ¬ (ofLex pad).1 < T := not_lt.mpr T_lt_PADK.le
  refine (best_down x g6 g7 (fun e => (ofLex e).1 < T) (fun a c h q => (key_le h).trans_lt q) hp a).trans ?_
  unfold C
  have e : ((Finset.range 8400).filter fun m => Cd x m ∧ (ofLex (em x m)).1 < T) = (Finset.range 8400).filter (Cd x) :=
    Finset.filter_congr fun m _ => ⟨fun q => q.1, fun q => ⟨q, q⟩⟩
  rw [e]

/-- Past the candidates there is the filling. -/
theorem best_past (a : Fin 16) (h : C x 8400 ≤ a.val) : bs (K1 x g6 g7) (I1 x g6 g7) (N1 x g6 g7) a = pad := by
  have hn := mt (best_cand x g6 g7 a).mp (by omega)
  rcases (best_ok x g6 g7).mem a with q | ⟨p, hp, q⟩
  · exact q
  · rcases ent_cases x g6 g7 p hp with ⟨m, m1, m2, m3⟩ | ⟨-, m2⟩
    · rw [q, m3] at hn; exact absurd m1 hn
    · exact q.trans m2

/-- Before it there is the candidate of that rank. -/
theorem best_at (a : Fin 16) (h : a.val < C x 8400) :
    ∃ m, m < 8400 ∧ rank x m = a.val ∧ bs (K1 x g6 g7) (I1 x g6 g7) (N1 x g6 g7) a = em x m := by
  have hc := (best_cand x g6 g7 a).mpr h
  have hB := best_ok x g6 g7
  obtain ⟨m, m1, hm⟩ : ∃ m, Cd x m ∧ bs (K1 x g6 g7) (I1 x g6 g7) (N1 x g6 g7) a = em x m := by
    rcases hB.mem a with q | ⟨p, hp, q⟩
    · rw [q] at hc; exact absurd hc (not_lt.mpr T_lt_PADK.le)
    · rcases ent_cases x g6 g7 p hp with ⟨m, m1, m2, m3⟩ | ⟨-, m2⟩
      · exact ⟨m, m1, q.trans m3⟩
      · rw [q, m2] at hc; exact absurd hc (not_lt.mpr T_lt_PADK.le)
  have m1' : co x m < T := m1
  have hpad : em x m < pad := Prod.Lex.toLex_lt_toLex.mpr (.inl (m1'.trans T_lt_PADK))
  have h1 := best_down x g6 g7 (fun e => e < em x m) (fun a c h q => h.trans_lt q) (fun q => lt_irrefl _ (hpad.trans q)) a
  have h2 := best_down x g6 g7 (fun e => e ≤ em x m) (fun a c h q => h.trans q) (fun q => lt_irrefl _ (hpad.trans_le q)) a
  rw [hm] at h1 h2
  have c1 := mt h1.mpr (lt_irrefl _)
  have c2 := h2.mp (le_refl _)
  have e1 : ((Finset.range 8400).filter fun q => Cd x q ∧ em x q < em x m) = (Finset.range 8400).filter fun q => em x q < em x m :=
    Finset.filter_congr fun q _ => ⟨fun r => r.2, fun r => ⟨(key_le r.le).trans_lt m1', r⟩⟩
  have e2 : ((Finset.range 8400).filter fun q => Cd x q ∧ em x q ≤ em x m)
      ⊆ insert m ((Finset.range 8400).filter fun q => em x q < em x m) := by
    intro q hq
    simp only [Finset.mem_filter, Finset.mem_range, Finset.mem_insert] at hq ⊢
    rcases hq.2.2.lt_or_eq with r | r
    · exact .inr ⟨hq.1, r⟩
    · have r' : (q : ℤ) = (m : ℤ) := congrArg (fun e : FI => (ofLex e).2) r
      exact .inl (by omega)
  rw [e1] at c1
  have c3 := (Finset.card_le_card e2).trans (Finset.card_insert_le _ _)
  refine ⟨m, Cd_lt x m1, ?_, hm⟩
  unfold rank
  omega

end Cert.Proof.Pick
end
-- ==== Proof.Choose.Least.lean ====
/-
  The column of a row's least cost, as the row with no candidate finds it.
-/
module

public import proofs.«01_k».proof.Proof.Choose.Chosen

@[expose] public section

set_option maxRecDepth 16384

noncomputable section

namespace Cert.Proof.Pick

open Idealize.ShloMosaic Cert.ChooseIdeal Cert.ChooseIdeal.Gen

theorem tripsL : k0_t10_loop.trips = 525 := by decide

/-- The lane nothing comes before is the least. -/
theorem least_lane {α : Type} [LinearOrder α] {b : Bef} {e : Fin 16 → α} (h : Orders b e) (s : Fin 16) (hs : cnt b 16 s = 0) (l : Fin 16) : e s ≤ e l := by
  by_contra hl
  rw [cnt_all, Finset.card_eq_zero, Finset.filter_eq_empty_iff] at hs
  exact hs (Finset.mem_univ l) ((h l s).mpr (.inl (not_le.mp hl)))

variable (x : Vec Ideal S8400 .f32)

/-- The least so far of each lane, with its column. -/
def lm (n : ℕ) (l : Fin 16) : FI := fi (lmin x n).1 (lmin x n).2 l

theorem toInt_small (m : ℕ) (h : m < 2 ^ 31) : (BitVec.ofNat 32 m).toInt = (m : ℤ) := by
  rw [BitVec.toInt_eq_toNat_cond, BitVec.toNat_ofNat, Nat.mod_eq_of_lt (by omega), if_pos (by omega)]

theorem top_bits : (Scalar.ofBits .f32 0x7F800000#32 : Ideal .f32) = (⊤ : EReal) := by
  show Ideal.ofBits .f32 0x7F800000#32 = ⊤
  simp [Ideal.ofBits, Ideal.ieee]
theorem zero_bits : (Scalar.ofBits .f32 0x00000000#32 : Ideal .f32) = (0 : EReal) := by
  show Ideal.ofBits .f32 0x00000000#32 = 0
  simp [Ideal.ofBits, Ideal.ieee]

theorem lm_zero (l : Fin 16) : lm x 0 l = toLex (⊤, 1073741824) := by
  have e : ((k0_pay34 (F := Ideal)) (ix1 l) : EReal) = ⊤ := top_bits
  unfold lm fi
  show (toLex ((k0_pay34 (F := Ideal)) (ix1 l), _) : FI) = _
  rw [e]; rfl

theorem col_word (n : ℕ) (hn : n < 525) (l : Fin 16) : IntOp.addi (IntOp.muli (Scf.iv 0#32 1#32 n) 16#32) (lanes (ix1 l)) = BitVec.ofNat 32 (16 * n + l.val) := by
  rw [iv_eq, lanes_apply]
  apply BitVec.eq_of_toNat_eq
  simp [IntOp.addi, IntOp.muli]
  omega

theorem lm_succ (n : ℕ) (hn : n < 525) (l : Fin 16) : lm x (n + 1) l = min (em x (16 * n + l.val)) (lm x n l) := by
  have h : n < k0_t10_loop.trips := tripsL.symm ▸ hn
  have hl := l.isLt
  have e0 : lmin x (n + 1) = (k0_pay38 lanes ⟨n, h⟩ (lmin x n).1 (lmin x n).2 (chunk x n), k0_pay39 lanes ⟨n, h⟩ (lmin x n).1 (lmin x n).2 (chunk x n)) := dif_pos h
  have e1 := chunk_at x n hn l
  have e2 := col_word n hn l
  unfold lm
  rw [e0]
  generalize lmin x n = r
  let c : BitVec 1 := IntOp.ori (FloatOps.cmpf .olt (chunk x n (ix1 l)) (r.1 (ix1 l)))
    (IntOp.andi (FloatOps.cmpf .oeq (chunk x n (ix1 l)) (r.1 (ix1 l)))
      (IntOp.cmpi .slt (IntOp.addi (IntOp.muli (Scf.iv 0#32 1#32 n) 16#32) (lanes (ix1 l))) (r.2 (ix1 l))))
  have or1 : ∀ c d : BitVec 1, IntOp.ori c d = 1#1 ↔ c = 1#1 ∨ d = 1#1 := by decide
  have and1 : ∀ c d : BitVec 1, IntOp.andi c d = 1#1 ↔ c = 1#1 ∧ d = 1#1 := by decide
  have hc : c = 1#1 ↔ em x (16 * n + l.val) < fi r.1 r.2 l := by
    show IntOp.ori _ _ = 1#1 ↔ _
    rw [or1, and1, flt_iff, feq_iff, slt_iff, e2, toInt_small _ (by omega)]
    show _ ↔ toLex _ < toLex _
    rw [Prod.Lex.toLex_lt_toLex]
    rw [← e1]
  have k1 : k0_pay38 lanes ⟨n, h⟩ r.1 r.2 (chunk x n) (ix1 l) = Scalar.select c (chunk x n (ix1 l)) (r.1 (ix1 l)) := rfl
  have k2 : k0_pay39 lanes ⟨n, h⟩ r.1 r.2 (chunk x n) (ix1 l) = Scalar.select c (BitVec.ofNat 32 (16 * n + l.val)) (r.2 (ix1 l)) := by
    rw [← e2]; rfl
  by_cases hq : c = 1#1
  · rw [min_eq_left (hc.mp hq).le]
    rw [hq] at k1 k2
    have f1 : (k0_pay38 lanes ⟨n, h⟩ r.1 r.2 (chunk x n) (ix1 l) : EReal) = co x (16 * n + l.val) := k1.trans e1
    have f2 : (k0_pay39 lanes ⟨n, h⟩ r.1 r.2 (chunk x n) (ix1 l)).toInt = ((16 * n + l.val : ℕ) : ℤ) := by
      rw [k2]; exact toInt_small _ (by omega)
    exact congrArg₂ (fun (a : EReal) (b : ℤ) => (toLex (a, b) : FI)) f1 f2
  · rw [min_eq_right (not_lt.mp (mt hc.mpr hq))]
    have hq0 : c = 0#1 := by revert hq; generalize c = c; revert c; decide
    rw [hq0] at k1 k2
    exact fi_inj k1 k2

theorem lm_le (n : ℕ) (hn : n ≤ 525) (l : Fin 16) : ∀ k, k < n → lm x n l ≤ em x (16 * k + l.val) := by
  induction n with
  | zero => intro k hk; exact absurd hk (by omega)
  | succ n ih =>
    intro k hk
    rw [lm_succ x n (by omega)]
    by_cases e : k = n
    · subst e; exact min_le_left _ _
    · exact (min_le_right _ _).trans (ih (by omega) k (by omega))

theorem lm_mem (n : ℕ) (hn : n ≤ 525) (l : Fin 16) : lm x n l = toLex (⊤, 1073741824) ∨ ∃ k, k < n ∧ lm x n l = em x (16 * k + l.val) := by
  induction n with
  | zero => exact .inl (lm_zero x l)
  | succ n ih =>
    rw [lm_succ x n (by omega)]
    rcases min_choice (em x (16 * n + l.val)) (lm x n l) with q | q
    · exact .inr ⟨n, by omega, q⟩
    · rw [q]
      rcases ih (by omega) with r | ⟨k, hk, r⟩
      · exact .inl r
      · exact .inr ⟨k, by omega, r⟩

theorem lm_col (l : Fin 16) : ∃ m, m < 8400 ∧ lm x 525 l = em x m := by
  have hl := l.isLt
  rcases lm_mem x 525 (le_refl _) l with q | ⟨k, hk, q⟩
  · have h := lm_le x 525 (le_refl _) l 0 (by omega)
    rw [q] at h
    rcases Prod.Lex.toLex_le_toLex.mp h with r | ⟨-, r⟩
    · exact absurd r (not_lt.mpr le_top)
    · have r' : (1073741824 : ℤ) ≤ ((16 * 0 + l.val : ℕ) : ℤ) := r
      omega
  · exact ⟨_, by omega, q⟩

theorem pay47_at (k : FVec Ideal S16 .f32) (v : IVec S16 32) (w : Vec Ideal S16 .f32) (l : Fin 16) : k0_pay47 k v w (ix1 l)
    = Scalar.select (FloatOps.cmpf .oeq (k (ix1 l)) (FloatOps.addf (Scalar.ofBits .f32 0x00000000#32 : Ideal .f32) (w (ix1 0)))) (v (ix1 l)) 1073741824#32 := by
  unfold k0_pay47; pointwise
theorem pay131_at (u : IVec S16 32) : extractAt ![0] (k0_pay131 (F := Ideal) u) inpos_S1_p0 = u (ix1 0) := by
  unfold k0_pay131; pointwise

theorem fb_of (r : FVec Ideal S16 .f32 × IVec S16 32) (p : ℕ) (hp : p < 8400) (s : Fin 16) (hs : cnt (befFI (F := Ideal) r.1 r.2) 16 s = (0 : Fin 16).val)
    (hsp : fi r.1 r.2 s = em x p) (hmin : ∀ l, fi r.1 r.2 s ≤ fi r.1 r.2 l) :
    extractAt ![0] (k0_pay131 (F := Ideal) (srt (F := Ideal) (e := .i32)
      (befII (k0_pay47 r.1 r.2 (srt (F := Ideal) (e := .f32) (befFI (F := Ideal) r.1 r.2) (k0_pay45 (F := Ideal)) r.1)) (k0_pay47 r.1 r.2 (srt (F := Ideal) (e := .f32) (befFI (F := Ideal) r.1 r.2) (k0_pay45 (F := Ideal)) r.1))) k0_pay129
      (k0_pay47 r.1 r.2 (srt (F := Ideal) (e := .f32) (befFI (F := Ideal) r.1 r.2) (k0_pay45 (F := Ideal)) r.1)))) inpos_S1_p0 = BitVec.ofNat 32 p := by
  have hord := ordFI r.1 r.2
  have ks : (r.1 (ix1 s) : EReal) = co x p := congrArg (fun e : FI => (ofLex e).1) hsp
  have is : (r.2 (ix1 s)).toInt = (p : ℤ) := congrArg (fun e : FI => (ofLex e).2) hsp
  have first : srt (F := Ideal) (e := .f32) (befFI (F := Ideal) r.1 r.2) (k0_pay45 (F := Ideal)) r.1 (ix1 0) = r.1 (ix1 s) :=
    srt_place hord _ _ 0 s hs
  have idxs : ∀ l, (r.1 (ix1 l) : EReal) = co x p → (p : ℤ) ≤ (r.2 (ix1 l)).toInt := by
    intro l he
    have h := hmin l
    rw [hsp] at h
    rcases Prod.Lex.toLex_le_toLex.mp h with q | ⟨-, q⟩
    · exact absurd (show co x p < r.1 (ix1 l) from q) (he ▸ lt_irrefl _)
    · exact q
  generalize srt (F := Ideal) (e := .f32) (befFI (F := Ideal) r.1 r.2) (k0_pay45 (F := Ideal)) r.1 = w at *
  have hmi : ∀ l, k0_pay47 r.1 r.2 w (ix1 l) = Scalar.select (FloatOps.cmpf .oeq (r.1 (ix1 l)) (FloatOps.addf (Scalar.ofBits .f32 0x00000000#32 : Ideal .f32) (w (ix1 0)))) (r.2 (ix1 l)) 1073741824#32 := by
    exact pay47_at r.1 r.2 w
  have hadd : (FloatOps.addf (Scalar.ofBits .f32 0x00000000#32 : Ideal .f32) (w (ix1 0)) : EReal) = co x p := by
    rw [first, ← ks, zero_bits]
    exact zero_add _
  rw [hadd] at hmi
  show extractAt ![0] (k0_pay131 (F := Ideal) (srt (F := Ideal) (e := .i32) (befII (k0_pay47 r.1 r.2 w) (k0_pay47 r.1 r.2 w)) k0_pay129 (k0_pay47 r.1 r.2 w))) inpos_S1_p0 = _
  have hge : ∀ l, (p : ℤ) ≤ (k0_pay47 r.1 r.2 w (ix1 l)).toInt := by
    intro l
    rw [hmi]
    by_cases hq : FloatOps.cmpf .oeq (r.1 (ix1 l)) (co x p : Ideal .f32) = 1#1
    · rw [hq]; exact idxs l ((feq_iff _ _).mp hq)
    · have h0 : FloatOps.cmpf .oeq (r.1 (ix1 l)) (co x p : Ideal .f32) = 0#1 := by
        revert hq; generalize FloatOps.cmpf .oeq (r.1 (ix1 l)) (co x p : Ideal .f32) = c; revert c; decide
      rw [h0]; show (p : ℤ) ≤ 1073741824; omega
  have hat : (k0_pay47 r.1 r.2 w (ix1 s)).toInt = p := by
    rw [hmi, (feq_iff _ _).mpr ks]; exact is
  generalize k0_pay47 r.1 r.2 w = mi at *
  have ho := ordII mi mi
  obtain ⟨t, ht⟩ := place ho 0
  have hle := least_lane ho t ht s
  have hval : extractAt ![0] (k0_pay131 (F := Ideal) (srt (F := Ideal) (e := .i32) (befII mi mi) k0_pay129 mi)) inpos_S1_p0 = mi (ix1 t) := by
    rw [← srt_place (F := Ideal) (ty := .i32) ho k0_pay129 mi 0 t ht]
    exact pay131_at _
  rw [hval]
  have hle' : (mi (ix1 t)).toInt ≤ (mi (ix1 s)).toInt := by
    rcases Prod.Lex.toLex_le_toLex.mp hle with q | q
    · exact q.le
    · exact q.1.le
  have := hge t
  rw [← toInt_inj, toInt_small p (by omega)]
  omega

/-- The word the search for the least column gives. -/
theorem fbW_eq : ∃ p, p < 8400 ∧ rank x p = 0 ∧ fbW x = BitVec.ofNat 32 p := by
  have hord := ordFI (lmin x 525).1 (lmin x 525).2
  obtain ⟨s, hs⟩ := place hord 0
  have hmin : ∀ l, lm x 525 s ≤ lm x 525 l := least_lane hord s hs
  obtain ⟨p, hp, hsp⟩ := lm_col x s
  refine ⟨p, hp, ?_, ?_⟩
  · unfold rank
    rw [Finset.card_eq_zero, Finset.filter_eq_empty_iff]
    intro q hq
    rw [Finset.mem_range] at hq
    have h := (hmin ⟨q % 16, by omega⟩).trans (lm_le x 525 (le_refl _) ⟨q % 16, by omega⟩ (q / 16) (by omega))
    rw [hsp, show 16 * (q / 16) + (⟨q % 16, by omega⟩ : Fin 16).val = q from by show 16 * (q / 16) + q % 16 = q; omega] at h
    exact not_lt.mpr h
  · exact fb_of x (lmin x 525) p hp s hs hsp hmin

end Cert.Proof.Pick
end
-- ==== Proof.Choose.Rank.lean ====
/-
  The place of a column in the reference's order is the number of columns before it.
-/
module

public import proofs.«01_k».proof.Proof.Choose.Least
public import Idealize.ShloMosaic.Lib.SortPrefix
public import Idealize.ShloMosaic.Lib.SortFacts

@[expose] public section

set_option maxRecDepth 16384

noncomputable section

namespace Cert.Proof.Pick

open Idealize.ShloMosaic Cert.ChooseIdeal Cert.ChooseIdeal.Gen

/-- Sorting the positions in their own order asks only whether a later one comes before an earlier one. -/
theorem sortedFrom_later {n : ℕ} (R B : Fin n → Fin n → Bool) (h : ∀ a b, a < b → R b a = B b a) : sortedFrom R = sortedFrom B := by
  have key : ∀ l : List (Fin n), l.Pairwise (· < ·) → stableSort R l = stableSort B l := by
    intro l
    induction l with
    | nil => intro _; rfl
    | cons a l ih =>
      intro hl
      obtain ⟨ha, hl'⟩ := List.pairwise_cons.mp hl
      unfold stableSort
      rw [ih hl']
      exact insertBefore_congr R B a _ fun b hb => h a b (ha b ((perm_stableSort B l).mem_iff.mp hb))
  funext k
  unfold sortedFrom
  rw [List.get_of_eq (show sortPositions n R = sortPositions n B from key _ (List.pairwise_lt_finRange n))]
  rfl

variable (x : Vec Ideal S8400 .f32)

/-- Cost first, then column. -/
def befB (q p : Fin 8400) : Bool := decide (em x q.val < em x p.val)

theorem em_inj {m m' : ℕ} (h : em x m = em x m') : m = m' := by
  have := congrArg (fun e => (ofLex e).2) h
  exact Int.ofNat.inj this

theorem sorted_strict (i j : Fin 8400) (h : i < j) : em x (sortedFrom (befB x) i).val < em x (sortedFrom (befB x) j).val := by
  have h1 := sortedFrom_noInversion (befB x) (befB x) (fun a b hab => by
      unfold befB at hab ⊢
      exact decide_eq_false (not_lt_of_gt (of_decide_eq_true hab)))
    (fun _ _ h => h)
    (fun a b c hab hbc => by
      unfold befB at hab hbc ⊢
      have h1 := not_lt.mp (of_decide_eq_false hab)
      have h2 := not_lt.mp (of_decide_eq_false hbc)
      refine decide_eq_false (not_lt.mpr ?_)
      first | exact h2.trans h1 | exact h1.trans h2) i j h
  unfold befB at h1
  have h2 := not_lt.mp (of_decide_eq_false h1)
  refine lt_of_le_of_ne h2 fun e => ?_
  exact absurd (sortedFrom_injective _ (Fin.ext (em_inj x e))) (ne_of_lt h)

theorem rank_sorted (k : Fin 8400) : rank x (sortedFrom (befB x) k).val = k.val := by
  unfold rank
  have hs : ((Finset.range 8400).filter fun q => em x q < em x (sortedFrom (befB x) k).val)
      = (Finset.univ.filter fun i : Fin 8400 => i < k).image fun i => (sortedFrom (befB x) i).val := by
    ext q
    simp only [Finset.mem_filter, Finset.mem_range, Finset.mem_image, Finset.mem_univ, true_and]
    constructor
    · rintro ⟨hq, hlt⟩
      obtain ⟨i, hi⟩ := sortedFrom_surjective (befB x) ⟨q, hq⟩
      have hv : (sortedFrom (befB x) i).val = q := congrArg Fin.val hi
      refine ⟨i, ?_, hv⟩
      by_contra hn
      rcases lt_or_eq_of_le (not_lt.mp hn) with h | h
      · exact absurd (hlt.trans (hv ▸ sorted_strict x k i h)) (lt_irrefl _)
      · subst h
        rw [hv] at hlt
        exact lt_irrefl _ hlt
    · rintro ⟨i, hi, rfl⟩
      exact ⟨(sortedFrom (befB x) i).isLt, sorted_strict x i k hi⟩
  rw [hs, Finset.card_image_of_injective _ (fun a b h => sortedFrom_injective _ (Fin.ext h))]
  have e : (Finset.univ.filter fun i : Fin 8400 => i < k) = Finset.Iio k := by
    ext i; rw [Finset.mem_filter, Finset.mem_Iio]; exact ⟨fun h => h.2, fun h => ⟨Finset.mem_univ _, h⟩⟩
  rw [e, Fin.card_Iio]

/-- A column with `k` columns before it is the one at place `k`. -/
theorem sorted_of_rank (k : Fin 8400) (m : ℕ) (hm : m < 8400) (h : rank x m = k.val) : (sortedFrom (befB x) k).val = m := by
  obtain ⟨i, hi⟩ := sortedFrom_surjective (befB x) ⟨m, hm⟩
  have hv : (sortedFrom (befB x) i).val = m := congrArg Fin.val hi
  have h1 := rank_sorted x i
  rw [hv, h] at h1
  rw [Fin.ext h1, hv]

end Cert.Proof.Pick
end
-- ==== Proof.Choose.Ref.lean ====
/-
  What the reference of the choice leaves in its two results.
-/
module

public import proofs.«01_k».proof.Defs
public import Idealize.ShloMosaic.Lib.Claim
public import Idealize.ShloMosaic.Lib.StableHlo.RunRead

@[expose] public section

set_option maxRecDepth 16384

noncomputable section

namespace Cert.Proof.PickRef
open Idealize.ShloMosaic Idealize.SL.Sem Cert.ChooseReferenceIdeal

theorem bcast_S_S64x8400 : S_.BroadcastsInDim S64x8400 (![] : Fin 0 → Fin S64x8400.rank) := by decide
theorem natLt_1_32 : 1 < 32 := by decide
theorem reducesTo_S64x8400_S64_d1 : S64x8400.ReducesTo [1] S64 := by decide
theorem h_S_ : 0 < S_.numel := by decide
theorem bcast_S64_S64x1_0 : S64.BroadcastsInDim S64x1 (![0] : Fin 1 → Fin S64x1.rank) := by decide
theorem sliceFits_S64x8400_S64x16 : S64x8400.Slices (fun _ => 0) S64x16 := by decide
theorem bcast_S_S64x1 : S_.BroadcastsInDim S64x1 (![] : Fin 0 → Fin S64x1.rank) := by decide
theorem bcast_S16_S1x16_1 : S16.BroadcastsInDim S1x16 (![1] : Fin 1 → Fin S1x16.rank) := by decide
theorem bcast_S1x16_S64x16_0_1 : S1x16.BroadcastsInDim S64x16 (![0, 1] : Fin 2 → Fin S64x16.rank) := by decide
theorem bcast_S64x1_S64x16_0_1 : S64x1.BroadcastsInDim S64x16 (![0, 1] : Fin 2 → Fin S64x16.rank) := by decide
theorem bcast_S_S64x16 : S_.BroadcastsInDim S64x16 (![] : Fin 0 → Fin S64x16.rank) := by decide
theorem slices_S64x16_S64x1_0_0 : S64x16.Slices ![0, 0] S64x1 := by decide

instance refFacts₀ : Cert.ChooseReferenceIdeal.Facts₀ where
  bcast_S_S64x8400 := bcast_S_S64x8400
  natLt_1_32 := natLt_1_32
  reducesTo_S64x8400_S64_d1 := reducesTo_S64x8400_S64_d1
  h_S_ := h_S_
  bcast_S64_S64x1_0 := bcast_S64_S64x1_0
  sliceFits_S64x8400_S64x16 := sliceFits_S64x8400_S64x16
  bcast_S_S64x1 := bcast_S_S64x1
  bcast_S16_S1x16_1 := bcast_S16_S1x16_1
  bcast_S1x16_S64x16_0_1 := bcast_S1x16_S64x16_0_1
  bcast_S64x1_S64x16_0_1 := bcast_S64x1_S64x16_0_1
  bcast_S_S64x16 := bcast_S_S64x16
  slices_S64x16_S64x1_0_0 := slices_S64x16_S64x1_0_0

instance refFacts : Cert.ChooseReferenceIdeal.Facts where

variable {F : FTy → Type} [FloatOps F]

/-- How many costs of each row are candidates. -/
def num (x : FVec F S64x8400 .f32) : IVec S64x1 32 :=
  broadcastInDim S64x1 ![0] bcast_S64_S64x1_0
    (Host.reduce IntOp.addi (extui 32 (cmpf .olt x (broadcastInDim S64x8400 ![] bcast_S_S64x8400 (constant S_ .f32 0x4E6E6B28#32))) natLt_1_32)
      (constantI S_ 32 0#32) reducesTo_S64x8400_S64_d1 h_S_)
/-- Each row's sixteen least costs' columns. -/
def idx (x : FVec F S64x8400 .f32) : IVec S64x16 32 :=
  (Host.topK S64x16 1 (FloatOps.cmpfTotal .gt) (Host.negf x) sliceFits_S64x8400_S64x16).2
def tkV (n : IVec S64x1 32) (i : IVec S64x16 32) : IVec S64x16 32 :=
  select (broadcastInDim S64x16 ![0, 1] bcast_S64x1_S64x16_0_1 (cmpi .sgt n (broadcastInDim S64x1 ![] bcast_S_S64x1 (constantI S_ 32 0#32))))
    (select
      (cmpi .slt (broadcastInDim S64x16 ![0, 1] bcast_S1x16_S64x16_0_1 (broadcastInDim S1x16 ![1] bcast_S16_S1x16_1 (iotaInDim S16 32 0)))
        (broadcastInDim S64x16 ![0, 1] bcast_S64x1_S64x16_0_1 n))
      i (broadcastInDim S64x16 ![] bcast_S_S64x16 (constantI S_ 32 4294967295#32)))
    (broadcastInDim S64x16 ![0, 1] bcast_S64x1_S64x16_0_1 (extractStridedSlice S64x1 ![0, 0] i slices_S64x16_S64x1_0_0))
def kkV (n : IVec S64x1 32) : IVec S64x16 32 :=
  broadcastInDim S64x16 ![0, 1] bcast_S64x1_S64x16_0_1
    (minsi (broadcastInDim S64x1 ![] bcast_S_S64x1 (constantI S_ 32 10#32)) (maxsi (broadcastInDim S64x1 ![] bcast_S_S64x1 (constantI S_ 32 1#32)) n))

section Run
open StableHlo

private theorem after_join {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Part 1 of the operations. -/
abbrev ops1 : List (HloOp τ sig (Elt F)) := [
  StableHlo.nullary main_cst (constant S_ .f32 0x4E6E6B28#32),
  StableHlo.unary main_cst main_v0 (broadcastInDim S64x8400 ![] bcast_S_S64x8400 : (⟨S_, .f32⟩ : BufTy).Contents (Elt F) → (⟨S64x8400, .f32⟩ : BufTy).Contents (Elt F)),
  StableHlo.binary main_arg0 main_v0 main_v1 (cmpf .olt : (⟨S64x8400, .f32⟩ : BufTy).Contents (Elt F) → (⟨S64x8400, .f32⟩ : BufTy).Contents (Elt F) → (⟨S64x8400, .i1⟩ : BufTy).Contents (Elt F)),
  StableHlo.unary main_v1 main_v2 ((extui 32 · natLt_1_32) : (⟨S64x8400, .i1⟩ : BufTy).Contents (Elt F) → (⟨S64x8400, .i32⟩ : BufTy).Contents (Elt F)),
  StableHlo.nullary main_c (constantI S_ 32 0#32),
  StableHlo.binary main_v2 main_c main_v3 ((fun x v => Host.reduce IntOp.addi x v reducesTo_S64x8400_S64_d1 h_S_) : (⟨S64x8400, .i32⟩ : BufTy).Contents (Elt F) → (⟨S_, .i32⟩ : BufTy).Contents (Elt F) → (⟨S64, .i32⟩ : BufTy).Contents (Elt F)),
  StableHlo.unary main_v3 main_v4 (broadcastInDim S64x1 ![0] bcast_S64_S64x1_0 : (⟨S64, .i32⟩ : BufTy).Contents (Elt F) → (⟨S64x1, .i32⟩ : BufTy).Contents (Elt F))]
abbrev wr1 : List (Ref sig .tc) := [main_cst, main_v0, main_v1, main_v2, main_c, main_v3, main_v4]
theorem keep1 (V : Valuation τ sig (Elt F)) {r : Ref sig .tc} (hr : r ∉ wr1) : after ops1 V (Proc.devRef .tc r) = V (Proc.devRef .tc r) :=
  after_unwritten wr1 rfl hr V

/-- Part 2 of the operations. -/
abbrev ops2 : List (HloOp τ sig (Elt F)) := [
  StableHlo.unary main_arg0 main_v5 (Host.negf : (⟨S64x8400, .f32⟩ : BufTy).Contents (Elt F) → (⟨S64x8400, .f32⟩ : BufTy).Contents (Elt F)),
  StableHlo.unary main_v5 main_values ((fun x => (Host.topK S64x16 1 (FloatOps.cmpfTotal .gt) x sliceFits_S64x8400_S64x16).1) : (⟨S64x8400, .f32⟩ : BufTy).Contents (Elt F) → (⟨S64x16, .f32⟩ : BufTy).Contents (Elt F)),
  StableHlo.unary main_v5 main_indices ((fun x => (Host.topK S64x16 1 (FloatOps.cmpfTotal .gt) x sliceFits_S64x8400_S64x16).2) : (⟨S64x8400, .f32⟩ : BufTy).Contents (Elt F) → (⟨S64x16, .i32⟩ : BufTy).Contents (Elt F))]
abbrev wr2 : List (Ref sig .tc) := [main_v5, main_values, main_indices]
theorem keep2 (V : Valuation τ sig (Elt F)) {r : Ref sig .tc} (hr : r ∉ wr2) : after ops2 V (Proc.devRef .tc r) = V (Proc.devRef .tc r) :=
  after_unwritten wr2 rfl hr V

/-- Part 3 of the operations. -/
abbrev ops3 : List (HloOp τ sig (Elt F)) := [
  StableHlo.nullary main_v6 (iotaInDim S16 32 0),
  StableHlo.nullary main_c_0 (constantI S_ 32 0#32),
  StableHlo.unary main_c_0 main_v7 (broadcastInDim S64x1 ![] bcast_S_S64x1 : (⟨S_, .i32⟩ : BufTy).Contents (Elt F) → (⟨S64x1, .i32⟩ : BufTy).Contents (Elt F)),
  StableHlo.binary main_v4 main_v7 main_v8 (cmpi .sgt : (⟨S64x1, .i32⟩ : BufTy).Contents (Elt F) → (⟨S64x1, .i32⟩ : BufTy).Contents (Elt F) → (⟨S64x1, .i1⟩ : BufTy).Contents (Elt F)),
  StableHlo.unary main_v6 main_v9 (broadcastInDim S1x16 ![1] bcast_S16_S1x16_1 : (⟨S16, .i32⟩ : BufTy).Contents (Elt F) → (⟨S1x16, .i32⟩ : BufTy).Contents (Elt F)),
  StableHlo.unary main_v9 main_v10 (broadcastInDim S64x16 ![0, 1] bcast_S1x16_S64x16_0_1 : (⟨S1x16, .i32⟩ : BufTy).Contents (Elt F) → (⟨S64x16, .i32⟩ : BufTy).Contents (Elt F)),
  StableHlo.unary main_v4 main_v11 (broadcastInDim S64x16 ![0, 1] bcast_S64x1_S64x16_0_1 : (⟨S64x1, .i32⟩ : BufTy).Contents (Elt F) → (⟨S64x16, .i32⟩ : BufTy).Contents (Elt F)),
  StableHlo.binary main_v10 main_v11 main_v12 (cmpi .slt : (⟨S64x16, .i32⟩ : BufTy).Contents (Elt F) → (⟨S64x16, .i32⟩ : BufTy).Contents (Elt F) → (⟨S64x16, .i1⟩ : BufTy).Contents (Elt F)),
  StableHlo.nullary main_c_1 (constantI S_ 32 4294967295#32),
  StableHlo.TRef.unary (.of main_c_1 : StableHlo.TRef sig ⟨S_, .i32⟩) (.of main_call0_v0 : StableHlo.TRef sig ⟨S_, .i32⟩) id,
  StableHlo.TRef.unary (.of main_call0_v0 : StableHlo.TRef sig ⟨S_, .i32⟩) (.of main_call0_v1 : StableHlo.TRef sig ⟨S64x16, .i32⟩) (broadcastInDim S64x16 ![] bcast_S_S64x16),
  StableHlo.TRef.ternary (.of main_v12 : StableHlo.TRef sig ⟨S64x16, .i1⟩) (.of main_indices : StableHlo.TRef sig ⟨S64x16, .i32⟩) (.of main_call0_v1 : StableHlo.TRef sig ⟨S64x16, .i32⟩) (.of main_v13 : StableHlo.TRef sig ⟨S64x16, .i32⟩) select,
  StableHlo.unary main_indices main_v14 ((extractStridedSlice S64x1 ![0, 0] · slices_S64x16_S64x1_0_0) : (⟨S64x16, .i32⟩ : BufTy).Contents (Elt F) → (⟨S64x1, .i32⟩ : BufTy).Contents (Elt F)),
  StableHlo.TRef.unary (.of main_v8 : StableHlo.TRef sig ⟨S64x1, .i1⟩) (.of main_call1_v0 : StableHlo.TRef sig ⟨S64x16, .i1⟩) (broadcastInDim S64x16 ![0, 1] bcast_S64x1_S64x16_0_1),
  StableHlo.TRef.unary (.of main_v14 : StableHlo.TRef sig ⟨S64x1, .i32⟩) (.of main_call1_v1 : StableHlo.TRef sig ⟨S64x16, .i32⟩) (broadcastInDim S64x16 ![0, 1] bcast_S64x1_S64x16_0_1),
  StableHlo.TRef.ternary (.of main_call1_v0 : StableHlo.TRef sig ⟨S64x16, .i1⟩) (.of main_v13 : StableHlo.TRef sig ⟨S64x16, .i32⟩) (.of main_call1_v1 : StableHlo.TRef sig ⟨S64x16, .i32⟩) (.of main_v15 : StableHlo.TRef sig ⟨S64x16, .i32⟩) select]
abbrev wr3 : List (Ref sig .tc) := [main_v6, main_c_0, main_v7, main_v8, main_v9, main_v10, main_v11, main_v12, main_c_1, main_call0_v0, main_call0_v1, main_v13, main_v14, main_call1_v0, main_call1_v1, main_v15]
theorem keep3 (V : Valuation τ sig (Elt F)) {r : Ref sig .tc} (hr : r ∉ wr3) : after ops3 V (Proc.devRef .tc r) = V (Proc.devRef .tc r) :=
  after_unwritten wr3 rfl hr V

/-- Part 4 of the operations. -/
abbrev ops4 : List (HloOp τ sig (Elt F)) := [
  StableHlo.nullary main_c_2 (constantI S_ 32 1#32),
  StableHlo.nullary main_c_3 (constantI S_ 32 10#32),
  StableHlo.TRef.unary (.of main_c_2 : StableHlo.TRef sig ⟨S_, .i32⟩) (.of main_call2_v0 : StableHlo.TRef sig ⟨S_, .i32⟩) id,
  StableHlo.TRef.unary (.of main_call2_v0 : StableHlo.TRef sig ⟨S_, .i32⟩) (.of main_call2_v1 : StableHlo.TRef sig ⟨S64x1, .i32⟩) (broadcastInDim S64x1 ![] bcast_S_S64x1),
  StableHlo.TRef.binary (.of main_call2_v1 : StableHlo.TRef sig ⟨S64x1, .i32⟩) (.of main_v4 : StableHlo.TRef sig ⟨S64x1, .i32⟩) (.of main_call2_v2 : StableHlo.TRef sig ⟨S64x1, .i32⟩) maxsi,
  StableHlo.TRef.unary (.of main_c_3 : StableHlo.TRef sig ⟨S_, .i32⟩) (.of main_call2_v3 : StableHlo.TRef sig ⟨S_, .i32⟩) id,
  StableHlo.TRef.unary (.of main_call2_v3 : StableHlo.TRef sig ⟨S_, .i32⟩) (.of main_call2_v4 : StableHlo.TRef sig ⟨S64x1, .i32⟩) (broadcastInDim S64x1 ![] bcast_S_S64x1),
  StableHlo.TRef.binary (.of main_call2_v4 : StableHlo.TRef sig ⟨S64x1, .i32⟩) (.of main_call2_v2 : StableHlo.TRef sig ⟨S64x1, .i32⟩) (.of main_v16 : StableHlo.TRef sig ⟨S64x1, .i32⟩) minsi,
  StableHlo.unary main_v16 main_v17 (broadcastInDim S64x16 ![0, 1] bcast_S64x1_S64x16_0_1 : (⟨S64x1, .i32⟩ : BufTy).Contents (Elt F) → (⟨S64x16, .i32⟩ : BufTy).Contents (Elt F))]
abbrev wr4 : List (Ref sig .tc) := [main_c_2, main_c_3, main_call2_v0, main_call2_v1, main_call2_v2, main_call2_v3, main_call2_v4, main_v16, main_v17]
theorem keep4 (V : Valuation τ sig (Elt F)) {r : Ref sig .tc} (hr : r ∉ wr4) : after ops4 V (Proc.devRef .tc r) = V (Proc.devRef .tc r) :=
  after_unwritten wr4 rfl hr V

theorem at_num (V : Valuation τ sig (Elt F)) : after ops1 V (Proc.devRef .tc main_v4) = num (F := F) (V (Proc.devRef .tc main_arg0)) := by
  after_results_simp
  try simp -implicitDefEqProofs only [StableHlo.TRef.toBuf, StableHlo.TRef.ofBuf, cast_cast, cast_eq]
  try simp only [num]
  try rfl

theorem at_idx (V : Valuation τ sig (Elt F)) : after ops2 V (Proc.devRef .tc main_indices) = idx (F := F) (V (Proc.devRef .tc main_arg0)) := by
  after_results_simp
  try simp -implicitDefEqProofs only [StableHlo.TRef.toBuf, StableHlo.TRef.ofBuf, cast_cast, cast_eq]
  try simp only [idx]
  try rfl

theorem at_tk (V : Valuation τ sig (Elt F)) : after ops3 V (Proc.devRef .tc main_v15) = tkV (V (Proc.devRef .tc main_v4)) (V (Proc.devRef .tc main_indices)) := by
  after_results_simp
  try simp -implicitDefEqProofs only [StableHlo.TRef.toBuf, StableHlo.TRef.ofBuf, cast_cast, cast_eq]
  try simp only [tkV]
  try rfl

theorem at_kk (V : Valuation τ sig (Elt F)) : after ops4 V (Proc.devRef .tc main_v17) = kkV (V (Proc.devRef .tc main_v4)) := by
  after_results_simp
  try simp -implicitDefEqProofs only [StableHlo.TRef.toBuf, StableHlo.TRef.ofBuf, cast_cast, cast_eq]
  try simp only [kkV]
  try rfl

abbrev allOps : List (HloOp τ sig (Elt F)) := ops1 ++ (ops2 ++ (ops3 ++ ops4))

theorem at_tkAll (V : Valuation τ sig (Elt F)) :
    after allOps V (Proc.devRef .tc main_v15) = tkV (num (F := F) (V (Proc.devRef .tc main_arg0))) (idx (F := F) (V (Proc.devRef .tc main_arg0))) := by
  simp only [allOps, after_join]
  rw [keep4 _ (by decide), at_tk, at_idx, keep2 _ (by decide), at_num, keep1 _ (by decide)]
theorem at_kkAll (V : Valuation τ sig (Elt F)) :
    after allOps V (Proc.devRef .tc main_v17) = kkV (num (F := F) (V (Proc.devRef .tc main_arg0))) := by
  simp only [allOps, after_join]
  rw [at_kk, keep3 _ (by decide), keep2 _ (by decide), at_num]
theorem at_argAll (V : Valuation τ sig (Elt F)) : after allOps V (Proc.devRef .tc main_arg0) = V (Proc.devRef .tc main_arg0) := by
  simp only [allOps, after_join]
  rw [keep4 _ (by decide), keep3 _ (by decide), keep2 _ (by decide), keep1 _ (by decide)]

end Run

/-- A run of the reference leaves its results' values in them and its argument as it was. -/
theorem run (m : (ℓ : Loc nD τ sig) → Buf (Elt Ideal) ℓ) (g : Dev nD → PrngReg) :
    θ_run (Cert.ChooseReferenceIdeal.defs (F := Ideal)) (onTc (τ := τ) (Cert.ChooseReferenceIdeal.main (F := Ideal))) ⟨m, fun _ => 0, g⟩ (fun r => ∀ c : Dev nD,
      r.2.mem ((c.tc : Thread nD τ).loc main_v15)
          = tkV (num (F := Ideal) (m ((c.tc : Thread nD τ).loc main_arg0))) (idx (F := Ideal) (m ((c.tc : Thread nD τ).loc main_arg0)))
      ∧ r.2.mem ((c.tc : Thread nD τ).loc main_v17) = kkV (num (F := Ideal) (m ((c.tc : Thread nD τ).loc main_arg0)))
      ∧ r.2.mem ((c.tc : Thread nD τ).loc main_arg0) = m ((c.tc : Thread nD τ).loc main_arg0)) := by
  refine (θ_run _ _ _).mono ?_ (StableHlo.run_hlo _ _ (by hlo_seq) (by decide) (by decide) (by simp)
    (by intro _ h; (repeat (cases h with | head => rfl | tail _ h => ?_)); exact nomatch h) m g)
  intro r h c
  have h' : ∀ b : Ref sig .tc, r.2.mem ((c.tc : Thread nD τ).loc b)
      = StableHlo.after allOps (StableHlo.launchContents m c) (Proc.devRef .tc b) := fun b => h c b
  exact ⟨(h' _).trans (at_tkAll _), (h' _).trans (at_kkAll _), (h' _).trans (at_argAll _)⟩

end Cert.Proof.PickRef
end
-- ==== Proof.Choose.Equation.lean ====
/-
  The two results of the choice, row by row, are the reference's.
-/
module

public import proofs.«01_k».proof.Proof.Choose.Rank
public import proofs.«01_k».proof.Proof.Choose.Ref
public import proofs.«01_k».proof.Proof.Choose.Setup
public import proofs.«01_k».proof.Proof.Choose.Words
public import Idealize.ShloMosaic.Lib.IndicatorCount
public import Idealize.ShloMosaic.Lib.Pointwise
public import Idealize.ShloMosaic.Lib.StableHlo.Predicate
public import Idealize.ShloMosaic.Lib.Routing.Ops

@[expose] public section

set_option maxRecDepth 16384

noncomputable section

namespace Cert.Proof.Pick

open Idealize.ShloMosaic Cert.ChooseIdeal Cert.ChooseIdeal.Gen

/-- A row of the costs. -/
def rowOf (X : FVec Ideal S64x8400 .f32) (r : Fin 64) : Vec Ideal S8400 .f32 := fun n => X (ix2 r (n 0))

variable (X : FVec Ideal S64x8400 .f32) (r : Fin 64)

theorem co_row (n : Fin 8400) : co (rowOf X r) n.val = X (ix2 r n) := by
  unfold co
  rw [dif_pos n.isLt]
  rfl

/-- Greater after negation is less. -/
theorem neg_gt_iff (a c : Ideal .f32) : FloatOps.cmpfTotal .gt (FloatOps.negf a) (FloatOps.negf c) = 1#1 ↔ (show EReal from a) < (show EReal from c) := by
  have h : FloatOps.cmpfTotal .gt (FloatOps.negf a) (FloatOps.negf c) = BitVec.ofBool (decide (-(show EReal from c) < -(show EReal from a))) := rfl
  rw [h]
  by_cases q : (show EReal from a) < (show EReal from c)
  · rw [decide_eq_true (EReal.neg_lt_neg_iff.mpr q)]; simp [q]
  · rw [decide_eq_false (mt EReal.neg_lt_neg_iff.mp q)]; simp [q]

theorem em_lt_of_lt {m m' : Fin 8400} (h : m < m') : em (rowOf X r) m'.val < em (rowOf X r) m.val ↔ (X (ix2 r m') : EReal) < X (ix2 r m) := by
  unfold em
  rw [co_row, co_row, Prod.Lex.toLex_lt_toLex]
  constructor
  · rintro (q | ⟨-, q⟩)
    · exact q
    · have q' : (m'.val : ℤ) < (m.val : ℤ) := q
      have h' : m.val < m'.val := h
      omega
  · exact .inl

/-- The reference's order. -/
theorem idx_at (a : Fin 16) (k : Fin 8400) (hk : k.val = a.val) :
    PickRef.idx (F := Ideal) X (ix2 r a) = BitVec.ofNat 32 (sortedFrom (befB (rowOf X r)) k).val := by
  have hd : 1 < S64x8400.rank := by decide
  have al : ∀ (j : Fin 8400), (ix2 r k : S64x8400.Idx).along ⟨1, hd⟩ j = ix2 r j := fun j => by
    unfold Shape.Idx.along
    funext b
    match b with
    | ⟨0, _⟩ => rfl
    | ⟨1, _⟩ => rfl
  have cut : ∀ (v : IVec S64x8400 32) (h : S64x8400.Slices (fun _ => 0) S64x16), extractStridedSlice S64x16 (fun _ => 0) v h (ix2 r a) = v (ix2 r k) :=
    fun v h => by
      unfold extractStridedSlice
      refine congrArg v (funext fun b => Fin.ext ?_)
      match b with
      | ⟨0, _⟩ => exact Nat.zero_add _
      | ⟨1, _⟩ => exact (Nat.zero_add _).trans hk.symm
  have e1 : PickRef.idx (F := Ideal) X (ix2 r a)
      = (Host.sort2 S64x8400 1 (fun l r => FloatOps.cmpfTotal .gt l.1 r.1) (Host.negf X)
          (fun i => if hd : 1 < S64x8400.rank then iotaInDim S64x8400 32 ⟨1, hd⟩ i else 0#32)).2 (ix2 r k) := by
    exact cut (Host.sort2 S64x8400 1 (fun l r => FloatOps.cmpfTotal .gt l.1 r.1) (Host.negf X)
      (fun i => if hd : 1 < S64x8400.rank then iotaInDim S64x8400 32 ⟨1, hd⟩ i else 0#32)).2 PickRef.sliceFits_S64x8400_S64x16
  let y : IVec S64x8400 32 := fun i => if hd : 1 < S64x8400.rank then iotaInDim S64x8400 32 ⟨1, hd⟩ i else 0#32
  let R : Fin 8400 → Fin 8400 → Bool := fun m m' =>
    FloatOps.cmpfTotal .gt (Host.negf X ((ix2 r k : S64x8400.Idx).along ⟨1, hd⟩ m)) (Host.negf X ((ix2 r k : S64x8400.Idx).along ⟨1, hd⟩ m')) == 1#1
  have hR : sortedFrom R = sortedFrom (befB (rowOf X r)) := by
    refine sortedFrom_later _ _ fun m m' hm => ?_
    have h0 : R m' m = (FloatOps.cmpfTotal .gt (FloatOps.negf (X (ix2 r m'))) (FloatOps.negf (X (ix2 r m))) == 1#1) :=
      congrArg₂ (fun i j => FloatOps.cmpfTotal .gt (Host.negf X i) (Host.negf X j) == 1#1) (al m') (al m)
    rw [h0]
    unfold befB
    have h1 := neg_gt_iff (X (ix2 r m')) (X (ix2 r m))
    have h2 := em_lt_of_lt X r hm
    by_cases q : (X (ix2 r m') : EReal) < X (ix2 r m)
    · rw [decide_eq_true (h2.mpr q)]
      exact beq_iff_eq.mpr (h1.mpr q)
    · rw [decide_eq_false (mt h2.mp q)]
      exact beq_eq_false_iff_ne.mpr (mt h1.mp q)
  rw [e1]
  unfold Host.sort2
  rw [dif_pos hd]
  refine (congrArg (fun c : Fin 8400 => y ((ix2 r k : S64x8400.Idx).along ⟨1, hd⟩ c)) (congrFun hR k)).trans ?_
  refine (congrArg y (al _)).trans ?_
  show (if hd : 1 < S64x8400.rank then iotaInDim S64x8400 32 ⟨1, hd⟩ _ else 0#32) = _
  rw [dif_pos hd]
  rfl

theorem idx_rank (a : Fin 16) (m : ℕ) (hm : m < 8400) (h : rank (rowOf X r) m = a.val) : PickRef.idx (F := Ideal) X (ix2 r a) = BitVec.ofNat 32 m := by
  rw [idx_at X r a ⟨a.val, by omega⟩ rfl, sorted_of_rank (rowOf X r) ⟨a.val, by omega⟩ m hm h]

theorem red1 : S64x8400.Reduces [1] Cert.ChooseReferenceIdeal.S64 := by decide

/-- The reference's count. -/
theorem num_at (z : Fin 1) : PickRef.num (F := Ideal) X (ix2 r z) = BitVec.ofNat 32 (C (rowOf X r) 8400) := by
  have e1 : PickRef.num (F := Ideal) X (ix2 r z)
      = Host.reduce IntOp.addi (extui 32 (cmpf .olt X (broadcastInDim S64x8400 ![] PickRef.bcast_S_S64x8400 (constant S_ .f32 0x4E6E6B28#32))) PickRef.natLt_1_32)
        (constantI S_ 32 0#32) PickRef.reducesTo_S64x8400_S64_d1 PickRef.h_S_ (ix1 r) := by
    unfold PickRef.num
    generalize Host.reduce IntOp.addi (extui 32 (cmpf .olt X (broadcastInDim S64x8400 ![] PickRef.bcast_S_S64x8400 (constant S_ .f32 0x4E6E6B28#32))) PickRef.natLt_1_32)
        (constantI S_ 32 0#32) PickRef.reducesTo_S64x8400_S64_d1 PickRef.h_S_ = w
    pointwise
  rw [e1, Host.reduce_eq_fold_single IntOp.addi _ _ PickRef.reducesTo_S64x8400_S64_d1 red1]
  have hl : ∀ j : Fin 8400, red1.lift (ix1 r) j = ix2 r j := fun j => by
    funext a; apply Fin.ext
    match a with
    | ⟨0, _⟩ => rfl
    | ⟨1, _⟩ => rfl
  let p : Fin 8400 → BitVec 1 := fun j => FloatOps.cmpf .olt (X (ix2 r j)) (Scalar.ofBits .f32 0x4E6E6B28#32 : Ideal .f32)
  have hp : ∀ j, p j = 1#1 ↔ Cd (rowOf X r) j.val := fun j => by
    unfold Cd
    rw [co_row]
    exact flt_iff _ _
  refine Eq.trans (b := (Finset.univ : Finset (Fin 8400)).fold IntOp.addi (0#32) fun j => (p j).setWidth 32) ?_ ?_
  · refine congrArg (fun f => (Finset.univ : Finset (Fin 8400)).fold IntOp.addi (0#32) f) ?_
    funext j
    exact (congrArg (extui 32 (cmpf .olt X (broadcastInDim S64x8400 ![] PickRef.bcast_S_S64x8400 (constant S_ .f32 0x4E6E6B28#32))) PickRef.natLt_1_32) (hl j)).trans rfl
  · rw [IndicatorCount.fold_addi_setWidth_eq_card]
    refine congrArg (BitVec.ofNat 32) ?_
    unfold C
    refine Finset.card_bij (fun j _ => j.val) ?_ ?_ ?_
    · intro j hj
      rw [Finset.mem_filter] at hj ⊢
      exact ⟨Finset.mem_range.mpr j.isLt, (hp j).mp hj.2⟩
    · intro j _ j' _ h
      exact Fin.ext h
    · intro q hq
      rw [Finset.mem_filter] at hq
      exact ⟨⟨q, Finset.mem_range.mp hq.1⟩, Finset.mem_filter.mpr ⟨Finset.mem_univ _, (hp _).mpr hq.2⟩, rfl⟩

/-- The reference's two results at an index. -/
theorem tkV_at (n : IVec Cert.ChooseReferenceIdeal.S64x1 32) (i : IVec S64x16 32) (a : Fin 16) : PickRef.tkV n i (ix2 r a)
    = Scalar.select (IntOp.cmpi .sgt (n (ix2 r 0)) 0#32) (Scalar.select (IntOp.cmpi .slt (BitVec.ofNat 32 a.val) (n (ix2 r 0))) (i (ix2 r a)) 4294967295#32) (i (ix2 r 0)) := by
  unfold PickRef.tkV; pointwise
theorem kkV_at (n : IVec Cert.ChooseReferenceIdeal.S64x1 32) (a : Fin 16) : PickRef.kkV n (ix2 r a) = IntOp.minsi 10#32 (IntOp.maxsi 1#32 (n (ix2 r 0))) := by
  unfold PickRef.kkV; pointwise

theorem pay133_at (v w : BitVec 32) (b : IVec S16 32) (a : Fin 16) : k0_pay133 k0_pay96 v b w (ix1 a)
    = Scalar.select (IntOp.cmpi .sgt (IntOp.addi 0#32 v) 0#32) (b (ix1 a)) (IntOp.addi 0#32 w) := by
  unfold k0_pay133 k0_pay132 k0_pay96; pointwise
theorem pay135_at (v : BitVec 32) (a : Fin 16) : k0_pay135 (k0_pay132 k0_pay96 v) 10#32 k0_pay134 (ix1 a)
    = IntOp.minsi 10#32 (IntOp.maxsi 1#32 (IntOp.addi 0#32 v)) := by
  unfold k0_pay135 k0_pay132 k0_pay134 k0_pay96; pointwise

theorem sgt_iff (a c : BitVec 32) : IntOp.cmpi .sgt a c = 1#1 ↔ c.toInt < a.toInt := by
  rw [← BitVec.slt_iff_toInt_lt]; show BitVec.ofBool (c.slt a) = 1#1 ↔ _; cases c.slt a <;> decide
theorem not_one {c : BitVec 1} (h : ¬ c = 1#1) : c = 0#1 := by revert c; decide

variable (g6 : Vec Ideal S8416 .f32) (g7 : Vec Ideal S8416 .i32)

theorem off_word (x : Vec Ideal S8400 .f32) : (s1 x g6 g7).off = BitVec.ofNat 32 (C x 8400) := by
  have h := C_le x 8400
  apply BitVec.eq_of_toNat_eq
  rw [off_eq, BitVec.toNat_ofNat, Nat.mod_eq_of_lt (by omega)]

theorem second_at (x : Vec Ideal S8400 .f32) (a : Fin 16) (z : ℤ) (h : (ofLex (bs (K1 x g6 g7) (I1 x g6 g7) (N1 x g6 g7) a)).2 = z) :
    ((best (K1 x g6 g7) (I1 x g6 g7) (N1 x g6 g7)).2 (ix1 a)).toInt = z := h

theorem tk_row (a : Fin 16) : tkOf (rowOf X r) (s1 (rowOf X r) g6 g7) (ix1 a) = PickRef.tkV (PickRef.num (F := Ideal) X) (PickRef.idx (F := Ideal) X) (ix2 r a) := by
  have hC := C_le (rowOf X r) 8400
  have ha := a.isLt
  rw [tkV_at, num_at]
  unfold tkOf
  rw [pay133_at]
  have hoff := off_word g6 g7 (rowOf X r)
  have hadd : ∀ w : BitVec 32, IntOp.addi 0#32 w = w := fun w => BitVec.zero_add w
  have hs : IntOp.cmpi .sgt (BitVec.ofNat 32 (C (rowOf X r) 8400)) 0#32 = 1#1 ↔ 0 < C (rowOf X r) 8400 := by
    rw [sgt_iff, toInt_small (C (rowOf X r) 8400) (by omega)]
    show (0 : ℤ) < _ ↔ _
    omega
  rw [hadd, hadd]
  by_cases h0 : 0 < C (rowOf X r) 8400
  · rw [hoff, hs.mpr h0]
    show (best _ _ _).2 (ix1 a) = Scalar.select _ _ _
    have hl : IntOp.cmpi .slt (BitVec.ofNat 32 a.val) (BitVec.ofNat 32 (C (rowOf X r) 8400)) = 1#1 ↔ a.val < C (rowOf X r) 8400 := by
      rw [slt_iff, toInt_small _ (by omega), toInt_small _ (by omega)]
      omega
    rw [← hoff]
    by_cases h1 : a.val < C (rowOf X r) 8400
    · rw [hoff, hl.mpr h1]
      obtain ⟨m, hm, hr, hb⟩ := best_at (rowOf X r) g6 g7 a h1
      show _ = PickRef.idx (F := Ideal) X (ix2 r a)
      rw [idx_rank X r a m hm hr, ← toInt_inj, toInt_small m (by omega), ← hoff]
      exact second_at g6 g7 (rowOf X r) a m (by rw [hb]; rfl)
    · rw [hoff, not_one (mt hl.mp h1)]
      have hb := best_past (rowOf X r) g6 g7 a (by omega)
      show _ = 4294967295#32
      rw [← toInt_inj, ← hoff]
      exact second_at g6 g7 (rowOf X r) a (-1) (by rw [hb]; rfl)
  · have hz : (s1 (rowOf X r) g6 g7).off.toNat = 0 := by rw [off_eq]; omega
    have hc := (cond2_iff (s1 (rowOf X r) g6 g7).off (by omega)).mpr hz
    rw [hoff] at hc
    rw [hoff, not_one (mt hs.mp h0), if_pos hc]
    obtain ⟨p, hp, hr, hf⟩ := fbW_eq (rowOf X r)
    exact hf.trans (idx_rank X r 0 p hp hr).symm

theorem kk_row (a : Fin 16) : kkOf (s1 (rowOf X r) g6 g7) (ix1 a) = PickRef.kkV (PickRef.num (F := Ideal) X) (ix2 r a) := by
  rw [kkV_at, num_at]
  unfold kkOf
  rw [pay135_at, off_word]
  exact congrArg (fun w => IntOp.minsi 10#32 (IntOp.maxsi 1#32 w)) (BitVec.zero_add _)

theorem tkRow_s1 (x : Vec Ideal S8400 .f32) : tkRow x = tkOf x (s1 x (fun _ => x (ix1 0)) (fun _ => 0#32)) := by unfold tkRow s1; exact rfl
theorem kkRow_s1 (x : Vec Ideal S8400 .f32) : kkRow x = kkOf (s1 x (fun _ => x (ix1 0)) (fun _ => 0#32)) := by unfold kkRow s1; exact rfl

theorem two (i : S64x16.Idx) : ix2 (i 0) (i 1) = i := by
  funext b
  match b with
  | ⟨0, _⟩ => rfl
  | ⟨1, _⟩ => rfl

variable (A : Dev nD → Valuation τ sig (Elt Ideal)) (d : Dev nD)

theorem tkG_at (q : Fin 64) (a : Fin 16) (i : S64x16.Idx) (h0 : i 0 = q) (h1 : i 1 = a) : tkG (F := Ideal) A d i = tkRow (rowOf (xA A d) q) (ix1 a) := by
  subst h0 h1; unfold tkG; exact rfl
theorem kkG_at (q : Fin 64) (a : Fin 16) (i : S64x16.Idx) (h0 : i 0 = q) (h1 : i 1 = a) : kkG (F := Ideal) A d i = kkRow (rowOf (xA A d) q) (ix1 a) := by
  subst h0 h1; unfold kkG; exact rfl

theorem tk_eq : tkG (F := Ideal) A d = PickRef.tkV (PickRef.num (F := Ideal) (xA A d)) (PickRef.idx (F := Ideal) (xA A d)) := by
  funext i
  refine (tkG_at A d (i 0) (i 1) i rfl rfl).trans ?_
  rw [tkRow_s1]
  exact (tk_row (xA A d) (i 0) _ _ (i 1)).trans (congrArg (PickRef.tkV _ _) (two i))
theorem kk_eq : kkG (F := Ideal) A d = PickRef.kkV (PickRef.num (F := Ideal) (xA A d)) := by
  funext i
  refine (kkG_at A d (i 0) (i 1) i rfl rfl).trans ?_
  rw [kkRow_s1]
  exact (kk_row (xA A d) (i 0) _ _ (i 1)).trans (congrArg (PickRef.kkV _) (two i))

end Cert.Proof.Pick
end
-- ==== Proof.Costs.Blocks.lean ====
/-
  What the cost call leaves in its result: one value of the whole arguments.
-/
module

public import proofs.«01_k».proof.Proof.Gen.CostsIdeal.Frame
public import Idealize.ShloMosaic.Lib.Pipeline.Value
public import Idealize.ShloMosaic.Lib.Claim
public import Idealize.ShloMosaic.Lib.StableHlo.RunRead

@[expose] public section

set_option maxRecDepth 16384

noncomputable section

namespace Cert.Proof.Costs
open Idealize.ShloMosaic Idealize.SL.Sem Cert.CostsIdeal Cert.CostsIdeal.Gen Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-- The grid's only point. -/
def only : Fin cfg0.N := ⟨0, by decide⟩

/-- The cost matrix of scores, boxes and points given as rows, labels as a row, and ground-truth boxes. -/
def paid (x0 : Vec F S8400x80 .f32) (x1 : Vec F S4x8400 .f32) (x2 : Vec F S2x8400 .f32) (x3 : Vec F S1x64 .i32) (x4 : Vec F S64x4 .f32) : FVec F S64x8400 .f32 :=
  k0_pay11 (k0_pay1 x0 x3) (View.ld x4 r0_6) (View.ld x4 r0_7) (View.ld x4 r0_8) (View.ld x4 r0_9)
    (k0_pay6 (k0_pay2 (View.ld x1 r0_2)) (k0_pay3 (View.ld x1 r0_3)) (k0_pay4 (View.ld x1 r0_4)) (k0_pay5 (View.ld x1 r0_5))
      (View.ld x4 r0_6) (View.ld x4 r0_7) (View.ld x4 r0_8) (View.ld x4 r0_9))
    (k0_pay7 (View.ld x2 r0_10)) (k0_pay8 (View.ld x2 r0_11))
    (k0_pay9 (View.ld x4 r0_6) (View.ld x4 r0_7) (View.ld x4 r0_8) (View.ld x2 r0_10) (View.ld x2 r0_11))
    (k0_pay10 (View.ld x4 r0_9) (View.ld x2 r0_11))

theorem stored (x0 : Vec F S8400x80 .f32) (x1 : Vec F S4x8400 .f32) (x2 : Vec F S2x8400 .f32) (x3 : Vec F S1x64 .i32) (x4 : Vec F S64x4 .f32) :
    out0_5 x0 x1 x2 x3 x4 = paid x0 x1 x2 x3 x4 := by
  have z0 : (![0, 0] : Fin S8400x80.rank → Nat) = fun _ => 0 := funext fun a => by fin_cases a <;> rfl
  have z1 : (![0, 0] : Fin S1x64.rank → Nat) = fun _ => 0 := funext fun a => by fin_cases a <;> rfl
  have z2 : (![0, 0] : Fin S64x8400.rank → Nat) = fun _ => 0 := funext fun a => by fin_cases a <;> rfl
  unfold out0_5 paid
  rw [View.canon_unit_zero z2, View.ld_unit_zero z0, View.ld_unit_zero z1]

theorem entry_boxes (c : Dev nD) : V m c main_v0 = transpose S4x8400 [1, 0] (m ((c : Thread nD τ).loc main_arg1)) transposes_S8400x4_S4x8400_1_0 := by
  unfold V hostOps0
  after_results_simp <;> rfl
theorem entry_points (c : Dev nD) : V m c main_v1 = transpose S2x8400 [1, 0] (m ((c : Thread nD τ).loc main_arg2)) transposes_S8400x2_S2x8400_1_0 := by
  unfold V hostOps0
  after_results_simp <;> rfl
theorem entry_labels (c : Dev nD) : V m c main_v2 = shapeCast S1x64 (m ((c : Thread nD τ).loc main_arg3)) shapeCasts_S64_S1x64 := by
  unfold V hostOps0
  after_results_simp <;> rfl

theorem last_block (c : Dev nD) :
    ((cfg0.win 5).blk only).view.read (Elt F) ((dats m 0 c).arrAt 5 cfg0.N) = (dats m 0 c).flushed 5 only := by
  rw [show cfg0.N = (only : Fin cfg0.N).val + 1 from rfl, (dats m 0 c).arrAt_succ 5 only,
    show (cfg0.win 5).flush only = true from by decide, if_pos rfl]
  exact View.read_write_univ _ _

/-- The result array after the run. -/
theorem result_array (c : Dev nD) :
    (dats m 0 c).arrAt 5 cfg0.N = paid (m ((c : Thread nD τ).loc main_arg0))
      (transpose S4x8400 [1, 0] (m ((c : Thread nD τ).loc main_arg1)) transposes_S8400x4_S4x8400_1_0)
      (transpose S2x8400 [1, 0] (m ((c : Thread nD τ).loc main_arg2)) transposes_S8400x2_S2x8400_1_0)
      (shapeCast S1x64 (m ((c : Thread nD τ).loc main_arg3)) shapeCasts_S64_S1x64) (m ((c : Thread nD τ).loc main_arg4)) := by
  have ho := last_block m c
  have h5 : (fun a => (win0_5.index only) a * main_v3.ty.shape.size a) = fun _ => 0 := funext fun a => by fin_cases a <;> decide
  have r5 := fun f => Memref.read_access_unit_zero (Elt F) main_v3 h5 (fun a => by fin_cases a <;> decide) f
  have h0 : (fun a => (win0_0.index only) a * main_arg0.ty.shape.size a) = fun _ => 0 := funext fun a => by fin_cases a <;> decide
  have r0 := fun f => Memref.read_access_unit_zero (Elt F) main_arg0 h0 (fun a => by fin_cases a <;> decide) f
  have h1 : (fun a => (win0_1.index only) a * main_v0.ty.shape.size a) = fun _ => 0 := funext fun a => by fin_cases a <;> decide
  have r1 := fun f => Memref.read_access_unit_zero (Elt F) main_v0 h1 (fun a => by fin_cases a <;> decide) f
  have h2 : (fun a => (win0_2.index only) a * main_v1.ty.shape.size a) = fun _ => 0 := funext fun a => by fin_cases a <;> decide
  have r2 := fun f => Memref.read_access_unit_zero (Elt F) main_v1 h2 (fun a => by fin_cases a <;> decide) f
  have h3 : (fun a => (win0_3.index only) a * main_v2.ty.shape.size a) = fun _ => 0 := funext fun a => by fin_cases a <;> decide
  have r3 := fun f => Memref.read_access_unit_zero (Elt F) main_v2 h3 (fun a => by fin_cases a <;> decide) f
  have h4 : (fun a => (win0_4.index only) a * main_arg4.ty.shape.size a) = fun _ => 0 := funext fun a => by fin_cases a <;> decide
  have r4 := fun f => Memref.read_access_unit_zero (Elt F) main_arg4 h4 (fun a => by fin_cases a <;> decide) f
  rw [r5] at ho
  rw [ho]
  show (cfg0.win 5).cut _ ((dats m 0 c).after 5 only) = _
  rw [after0_5, stored]
  unfold iblk
  rw [r0, r1, r2, r3, r4]
  refine Eq.trans (b := paid (V m c main_arg0) (V m c main_v0) (V m c main_v1) (V m c main_v2) (V m c main_arg4)) rfl ?_
  rw [V_main_arg0, V_main_arg4, entry_boxes, entry_points, entry_labels]

/-- The run: the result holds the costs of the arguments, and the arguments end unchanged. -/
theorem ran : θ_run defs (onTc (τ := τ) (main (F := F))) ⟨m, fun _ => 0, ρ⟩ fun r => ∀ c : Dev nD,
      r.2.mem ((c : Thread nD τ).loc main_v3) = paid (m ((c : Thread nD τ).loc main_arg0))
        (transpose S4x8400 [1, 0] (m ((c : Thread nD τ).loc main_arg1)) transposes_S8400x4_S4x8400_1_0)
        (transpose S2x8400 [1, 0] (m ((c : Thread nD τ).loc main_arg2)) transposes_S8400x2_S2x8400_1_0)
        (shapeCast S1x64 (m ((c : Thread nD τ).loc main_arg3)) shapeCasts_S64_S1x64) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (result_array m c), h.2 c⟩)
    (θ_run_and (run_main m ρ) (unchanged m ρ))

end Cert.Proof.Costs
end
-- ==== Proof.Costs.Equation.lean ====
/-
  The cost call's matrix is the reference's.
-/
module

public import proofs.«01_k».proof.Proof.Costs.Blocks
public import proofs.«01_k».proof.Proof.Gen.CostsReferenceIdeal.Run
public import Idealize.ShloMosaic.Lib.Pointwise

@[expose] public section

set_option maxRecDepth 16384

noncomputable section

namespace Cert.Proof.Costs
open Idealize.ShloMosaic Idealize.SL.Sem Cert.CostsIdeal Cert.CostsIdeal.Gen Idealize.ShloMosaic.TcCoe

/-- The clip's bound is a real number. -/
theorem bound_real : ∃ r : ℝ, Ideal.ofBits .f32 0xC2C80000#32 = (r : EReal) :=
  ⟨_, by simp only [Ideal.ofBits, Ideal.ieee]; rfl⟩

/-- A logarithm clipped below by a real is real, where its argument is not infinite. -/
theorem clipped_real (y : EReal) (hy : y ≠ ⊤) (r : ℝ) : ∃ a : ℝ, max (Ideal.log y) (r : EReal) = (a : EReal) := by
  induction y with
  | bot => exact ⟨r, by simp⟩
  | top => exact absurd rfl hy
  | coe x =>
    rw [Ideal.log_coe]
    split
    · exact ⟨r, by simp⟩
    · exact ⟨max (Real.log x) r, (EReal.coe_strictMono.monotone.map_max).symm⟩

theorem logistic_real (x : EReal) : ∃ p : ℝ, Ideal.logistic x = (p : EReal) := by
  induction x with
  | bot => exact ⟨0, by simp⟩
  | top => exact ⟨1, by simp⟩
  | coe x => exact ⟨_, Ideal.logistic_coe x⟩

/-- The class cost: a product with the labels' rows less a row sum is the summed cross entropy. -/
theorem class_cost (w : Fin 80 → BitVec 1) (x : Fin 80 → EReal) (C : EReal) (hC : ∃ r : ℝ, C = (r : EReal)) :
    ∑ k, FloatOps.sitofp (F := Ideal) .f32 (BitVec.setWidth 32 (w k)) *
          (max (Ideal.log (1 - Ideal.logistic (x k))) C - max (Ideal.log (Ideal.logistic (x k))) C)
        - ∑ k, max (Ideal.log (1 - Ideal.logistic (x k))) C
      = ∑ k, -(FloatOps.uitofp (F := Ideal) .f32 (w k) * max C (Ideal.log (Ideal.logistic (x k)))
          + (1 - FloatOps.uitofp (F := Ideal) .f32 (w k)) * max C (Ideal.log (1 - Ideal.logistic (x k)))) := by
  obtain ⟨r, rfl⟩ := hC
  have hp := fun k => logistic_real (x k)
  choose p hp using hp
  have ha : ∀ k, ∃ a : ℝ, max (Ideal.log (Ideal.logistic (x k))) (r : EReal) = (a : EReal) := fun k =>
    clipped_real _ (by rw [hp]; exact EReal.coe_ne_top _) r
  have hb : ∀ k, ∃ a : ℝ, max (Ideal.log (1 - Ideal.logistic (x k))) (r : EReal) = (a : EReal) := fun k =>
    clipped_real _ (by rw [hp, ← EReal.coe_one, ← EReal.coe_sub]; exact EReal.coe_ne_top _) r
  choose a ha using ha
  choose b hb using hb
  have hw : ∀ k, FloatOps.sitofp (F := Ideal) .f32 (BitVec.setWidth 32 (w k)) = (((w k).toNat : ℝ) : EReal) := fun k => by
    show ((((BitVec.setWidth 32 (w k)).toInt : ℤ) : ℝ) : EReal) = _
    have : ∀ v : BitVec 1, (BitVec.setWidth 32 v).toInt = (v.toNat : ℤ) := by decide
    rw [this]; norm_cast
  have hu : ∀ k, FloatOps.uitofp (F := Ideal) .f32 (w k) = (((w k).toNat : ℝ) : EReal) := fun k => rfl
  have sums : ∀ f : Fin 80 → ℝ, ∑ k, ((f k : ℝ) : EReal) = ((∑ k, f k : ℝ) : EReal) := fun f =>
    (map_sum (⟨⟨fun r : ℝ => (r : EReal), EReal.coe_zero⟩, EReal.coe_add⟩ : ℝ →+ EReal) f Finset.univ).symm
  have ha' : ∀ k, max (r : EReal) (Ideal.log (Ideal.logistic (x k))) = (a k : EReal) := fun k => (max_comm _ _).trans (ha k)
  have hb' : ∀ k, max (r : EReal) (Ideal.log (1 - Ideal.logistic (x k))) = (b k : EReal) := fun k => (max_comm _ _).trans (hb k)
  simp only [hw, hu, ha, hb, ha', hb']
  simp only [← EReal.coe_one, ← EReal.coe_sub, ← EReal.coe_mul, ← EReal.coe_add, ← EReal.coe_neg, sums]
  congr 1
  rw [← Finset.sum_sub_distrib]
  exact Finset.sum_congr rfl fun k _ => by ring

theorem flag_cost (b : BitVec 1) (X : EReal) : Scalar.select b 0 X = FloatOps.uitofp (F := Ideal) .f32 (~~~b) * X := by
  show _ = ((((~~~b).toNat : ℕ) : ℝ) : EReal) * X
  have : ∀ v : BitVec 1, v = 0#1 ∨ v = 1#1 := by decide
  rcases this b with rfl | rfl
  · rw [show (~~~(0#1)).toNat = 1 from rfl]
    show X = _
    simp
  · rw [show (~~~(1#1)).toNat = 0 from rfl]
    show (0 : EReal) = _
    simp

set_option maxHeartbeats 4000000 in
/-- Entry by entry, the two matrices agree. -/
theorem same_at (m : (ℓ : Loc Cert.CostsReferenceIdeal.nD Cert.CostsReferenceIdeal.τ Cert.CostsReferenceIdeal.sig) → Buf (Elt Ideal) ℓ)
    (c : Dev Cert.CostsReferenceIdeal.nD) (x0 : Vec Ideal S8400x80 .f32) (x1 : Vec Ideal S8400x4 .f32)
    (x2 : Vec Ideal S8400x2 .f32) (l : Vec Ideal S64 .i32) (x4 : Vec Ideal S64x4 .f32)
    (h0 : m ((c.tc : Thread Cert.CostsReferenceIdeal.nD Cert.CostsReferenceIdeal.τ).loc Cert.CostsReferenceIdeal.main_arg0) = x0)
    (h1 : m ((c.tc : Thread Cert.CostsReferenceIdeal.nD Cert.CostsReferenceIdeal.τ).loc Cert.CostsReferenceIdeal.main_arg1) = x1)
    (h2 : m ((c.tc : Thread Cert.CostsReferenceIdeal.nD Cert.CostsReferenceIdeal.τ).loc Cert.CostsReferenceIdeal.main_arg2) = x2)
    (h3 : m ((c.tc : Thread Cert.CostsReferenceIdeal.nD Cert.CostsReferenceIdeal.τ).loc Cert.CostsReferenceIdeal.main_arg3) = l)
    (h4 : m ((c.tc : Thread Cert.CostsReferenceIdeal.nD Cert.CostsReferenceIdeal.τ).loc Cert.CostsReferenceIdeal.main_arg4) = x4)
    (g : Fin 64) (n : Fin 8400) :
    Cert.CostsReferenceIdeal.Value.res_main_v153 m c (ix2 g n)
      = paid x0 (transpose S4x8400 [1, 0] x1 transposes_S8400x4_S4x8400_1_0) (transpose S2x8400 [1, 0] x2 transposes_S8400x2_S2x8400_1_0)
        (shapeCast S1x64 l shapeCasts_S64_S1x64) x4 (ix2 g n) := by
  unfold Cert.CostsReferenceIdeal.Value.res_main_v153
  rw [h0, h1, h2, h3, h4]
  pointwise [paid, k0_pay1, k0_pay2, k0_pay3, k0_pay4, k0_pay5, k0_pay6, k0_pay7, k0_pay8, k0_pay9, k0_pay10, k0_pay11, View.ld_unit]
  refine congrArg₂ (· + ·) (congrArg₂ (· + ·) ?_ ?_) ?_
  · exact (class_cost (fun k => IntOp.cmpi .eq (l (ix1 g)) (BitVec.ofNat 32 k.val)) (fun k => x0 (ix2 n k)) _ bound_real).symm
  · rw [zero_sub]
  · exact (flag_cost _ _).symm

end Cert.Proof.Costs
end
-- ==== Proof.lean ====
/-
  The certificate's claims.
-/
module

public import proofs.«01_k».proof.Defs
public import proofs.«01_k».proof.Proof.Gen.Kernel
public import proofs.«01_k».proof.Proof.Gen.KernelIdeal
public import proofs.«01_k».proof.Proof.Gen.Choose
public import proofs.«01_k».proof.Proof.Gen.ChooseIdeal
public import proofs.«01_k».proof.Proof.Gen.ChooseIdeal.Skeleton
public import proofs.«01_k».proof.Proof.Gen.Costs
public import proofs.«01_k».proof.Proof.Gen.Costs.Frame
public import proofs.«01_k».proof.Proof.Gen.CostsIdeal
public import proofs.«01_k».proof.Proof.Gen.CostsIdeal.Frame
public import proofs.«01_k».proof.Proof.Gen.CostsReferenceIdeal.Run
public import proofs.«01_k».proof.Proof.Result
public import proofs.«01_k».proof.Proof.Equation3
public import proofs.«01_k».proof.Proof.Choose.Launch
public import proofs.«01_k».proof.Proof.Choose.Equation
public import proofs.«01_k».proof.Proof.Costs.Equation
public import Idealize.ShloMosaic.Lib.Claim
public import Idealize.ShloMosaic.Lib.Quiescent

@[expose] public section

set_option maxRecDepth 16384

noncomputable section

namespace Cert.Proof

open Idealize.ShloMosaic Idealize.SL.Sem
open Cert.Proof.RefFacts

theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) := by
  refine (θ_run _ _ _).mono ?_ (Ref.run m g)
  intro r h
  exact ⟨fun c => (h c).2.2.2, sem_eq_zero_of_no_sems (by decide) _⟩

theorem equal : Cert.algebraic_KernelIdeal_ReferenceIdeal (hKernelIdeal := Cert.KernelIdeal.Gen.facts) (hReferenceIdeal := refFacts) (hPre_labels_in_range := preFacts) := by
  intro m g m' g' hpre hagree
  have hgl := Asm.glA_lt m hpre
  have hgl' : ∀ (c : Dev Cert.KernelIdeal.nD) (k : Fin 64),
      ((m ((c.tc : Thread Cert.KernelIdeal.nD Cert.KernelIdeal.τ).loc Cert.KernelIdeal.main_arg3) : IVec Cert.KernelIdeal.S64 32) (ix1 k)).toNat < 80 :=
    fun c k => Asm.label_lt _ _ _ _ _ (hpre c) k
  refine ⟨fun c => Ref.labels (m (c.tc.loc Cert.KernelIdeal.main_arg0)) (m (c.tc.loc Cert.KernelIdeal.main_arg1)) (m (c.tc.loc Cert.KernelIdeal.main_arg3)),
    fun c => Ref.bboxes (F := Ideal) (m (c.tc.loc Cert.KernelIdeal.main_arg0)) (m (c.tc.loc Cert.KernelIdeal.main_arg1)) (m (c.tc.loc Cert.KernelIdeal.main_arg4)),
    fun c => Ref.scores (F := Ideal) (m (c.tc.loc Cert.KernelIdeal.main_arg0)) (m (c.tc.loc Cert.KernelIdeal.main_arg1)) (m (c.tc.loc Cert.KernelIdeal.main_arg2))
      (m (c.tc.loc Cert.KernelIdeal.main_arg3)) (m (c.tc.loc Cert.KernelIdeal.main_arg4)), ?_, ?_⟩
  · refine (θ_run _ _ _).mono ?_ (θ_run_and (Asm.results m g hgl) (Asm.frame m g hgl))
    rintro r ⟨h, hf, -⟩ c
    have h0 : Asm.pre m c (Proc.devRef .tc (Cert.KernelIdeal.main_arg0 : Ref Cert.KernelIdeal.sig .tc)) = m (c.tc.loc Cert.KernelIdeal.main_arg0) := Asm.pre_keep m c (by decide)
    have h1 : Asm.pre m c (Proc.devRef .tc (Cert.KernelIdeal.main_arg1 : Ref Cert.KernelIdeal.sig .tc)) = m (c.tc.loc Cert.KernelIdeal.main_arg1) := Asm.pre_keep m c (by decide)
    have h3 : Asm.pre m c (Proc.devRef .tc (Cert.KernelIdeal.main_arg3 : Ref Cert.KernelIdeal.sig .tc)) = m (c.tc.loc Cert.KernelIdeal.main_arg3) := Asm.pre_keep m c (by decide)
    refine ⟨(h c).1.trans ?_, (h c).2.1.trans ?_, (h c).2.2.trans ?_, hf c⟩
    · exact Eqn.labels_of _ _ _ _ _ _ h0 h1 h3
    · exact Eqn.bboxes_of _ _ _ _ _ _ h0 h1 (Asm.pre_v4 m c)
    · exact Eqn.scores_of _ _ _ _ _ (hgl' c) _ _ _ _ _ h0 h1 (Asm.pre_v3 m c) h3 (Asm.pre_v4 m c)
  · refine (θ_run _ _ _).mono ?_ (Ref.run m' g')
    intro r h c
    obtain ⟨a0, a1, a2, a3, a4⟩ := hagree c
    obtain ⟨r0, r1, r2, rest⟩ := h c
    rw [a0, a1, a3] at r0
    rw [a0, a1, a4] at r1
    rw [a0, a1, a2, a3, a4] at r2
    exact ⟨r0, r1, r2, rest⟩

/-- The program as printed, at words: the same text as the one read over the extended reals, so the same run. -/
theorem frame_words : Cert.quiescent_Kernel (hKernel := Cert.Kernel.Gen.facts) (hPre_labels_in_range := preFacts) :=
  fun m g h => (θ_run (Cert.KernelIdeal.defs (F := Bits)) _ _).mono (fun _ k => k) (Asm.frame (F := Bits) m g (Asm.glA_lt m h))

/-! ## The choice of the candidates -/

theorem choose_words : Cert.quiescent_Choose (hChoose := Cert.Choose.Gen.facts) :=
  fun m g _ => (θ_run (Cert.ChooseIdeal.defs (F := Bits)) _ _).mono (fun _ k => k) (Pick.frame (F := Bits) m g)

theorem choose_reference : Cert.quiescent_ChooseReferenceIdeal (hChooseReferenceIdeal := PickRef.refFacts) := by
  intro m g _
  refine (θ_run _ _ _).mono ?_ (PickRef.run m g)
  intro r h
  exact ⟨fun c => (h c).2.2, sem_eq_zero_of_no_sems (by decide) _⟩

theorem choose_equal : Cert.algebraic_ChooseIdeal_ChooseReferenceIdeal (hChooseIdeal := Cert.ChooseIdeal.Gen.facts) (hChooseReferenceIdeal := PickRef.refFacts) := by
  intro m g m' g' _ hagree
  refine ⟨fun c => PickRef.tkV (PickRef.num (F := Ideal) (m (c.tc.loc Cert.ChooseIdeal.main_arg0))) (PickRef.idx (F := Ideal) (m (c.tc.loc Cert.ChooseIdeal.main_arg0))),
    fun c => PickRef.kkV (PickRef.num (F := Ideal) (m (c.tc.loc Cert.ChooseIdeal.main_arg0))), ?_, ?_⟩
  · refine (θ_run _ _ _).mono ?_ (θ_run_and (Pick.results m g) (Pick.frame m g))
    rintro r ⟨h, hf, -⟩ c
    exact ⟨(h c).1.trans (Pick.tk_eq (Pick.V0 m) c), (h c).2.trans (Pick.kk_eq (Pick.V0 m) c), hf c⟩
  · refine (θ_run _ _ _).mono ?_ (PickRef.run m' g')
    intro r h c
    obtain ⟨r0, r1, rest⟩ := h c
    rw [hagree c] at r0 r1
    exact ⟨r0, r1, rest⟩

/-! ## The cost matrix -/

theorem costs_reference : Cert.quiescent_CostsReferenceIdeal (hCostsReferenceIdeal := Cert.CostsReferenceIdeal.Gen.facts) := by
  intro m g _
  refine (θ_run _ _ _).mono ?_ (Cert.CostsReferenceIdeal.Value.run m g)
  intro r h
  exact ⟨fun c => (h c).2, sem_eq_zero_of_no_sems (by decide) _⟩

theorem costs_equal : Cert.algebraic_CostsIdeal_CostsReferenceIdeal (hCostsIdeal := Cert.CostsIdeal.Gen.facts) (hCostsReferenceIdeal := Cert.CostsReferenceIdeal.Gen.facts) := by
  intro m g m' g' _ hagree
  refine ⟨_, Costs.ran m g, ?_⟩
  refine (θ_run _ _ _).mono ?_ (Cert.CostsReferenceIdeal.Value.run m' g')
  intro r h c
  obtain ⟨a0, a1, a2, a3, a4⟩ := hagree c
  obtain ⟨r0, rest⟩ := h c
  refine ⟨r0.trans (funext fun i => ?_), rest⟩
  have e := Costs.same_at m' c _ _ _ _ _ a0 a1 a2 a3 a4 (i 0) (i 1)
  rwa [ix2_eta (n0 := 64) (n1 := 8400) i] at e

theorem claim : Cert.Claim :=
  ⟨Cert.Kernel.Gen.facts, Cert.KernelIdeal.Gen.facts, refFacts, Cert.Choose.Gen.facts, Cert.ChooseIdeal.Gen.facts, PickRef.refFacts,
    Cert.Costs.Gen.facts, Cert.CostsIdeal.Gen.facts, Cert.CostsReferenceIdeal.Gen.facts, preFacts,
    frame_words,
    fun m g h => Asm.frame m g (Asm.glA_lt m h),
    fun m g _ => reference_frame m g,
    fun m g _ => reference_frame m g,
    choose_words,
    fun m g _ => Pick.frame m g,
    choose_reference,
    fun m g _ => Cert.Costs.Gen.frame m g,
    fun m g _ => Cert.CostsIdeal.Gen.frame m g,
    costs_reference,
    trivial,
    equal,
    trivial,
    choose_equal,
    trivial,
    costs_equal⟩

end Cert.Proof
end
